-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxIdeal_finite4 [hPre_finite4 : Cert.Pre_finite4.Facts] (m : (ℓ : Loc Cert.DownDxIdeal.nD Cert.DownDxIdeal.τ Cert.DownDxIdeal.sig) → Buf (Elt Ideal) ℓ) : Prop :=
  ∀ c : Dev Cert.DownDxIdeal.nD,
    (Cert.Pre_finite4.fn (F := Ideal) (m ((c.tc : Thread Cert.DownDxIdeal.nD Cert.DownDxIdeal.τ).loc Cert.DownDxIdeal.main_arg0)) (m ((c.tc : Thread Cert.DownDxIdeal.nD Cert.DownDxIdeal.τ).loc Cert.DownDxIdeal.main_arg1)) (m ((c.tc : Thread Cert.DownDxIdeal.nD Cert.DownDxIdeal.τ).loc Cert.DownDxIdeal.main_arg2))) = (fun _ => 1#1)

def Pre_DownDxRefIdeal (m : (ℓ : Loc Cert.DownDxRefIdeal.nD Cert.DownDxRefIdeal.τ Cert.DownDxRefIdeal.sig) → Buf (Elt Ideal) ℓ) : Prop :=
  True

def Pre_DownDxRefIdeal_finite4 [hPre_finite4 : Cert.Pre_finite4.Facts] (m : (ℓ : Loc Cert.DownDxRefIdeal.nD Cert.DownDxRefIdeal.τ Cert.DownDxRefIdeal.sig) → Buf (Elt Ideal) ℓ) : Prop :=
  ∀ c : Dev Cert.DownDxRefIdeal.nD,
    (Cert.Pre_finite4.fn (F := Ideal) (m ((c.tc : Thread Cert.DownDxRefIdeal.nD Cert.DownDxRefIdeal.τ).loc Cert.DownDxRefIdeal.main_arg0)) (m ((c.tc : Thread Cert.DownDxRefIdeal.nD Cert.DownDxRefIdeal.τ).loc Cert.DownDxRefIdeal.main_arg1)) (m ((c.tc : Thread Cert.DownDxRefIdeal.nD Cert.DownDxRefIdeal.τ).loc Cert.DownDxRefIdeal.main_arg2))) = (fun _ => 1#1)

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_ConvInDw (m : (ℓ : Loc Cert.ConvInDw.nD Cert.ConvInDw.τ Cert.ConvInDw.sig) → Buf (Elt Bits) ℓ) : Prop :=
  True

def Pre_ConvInDwIdeal (m : (ℓ : Loc Cert.ConvInDwIdeal.nD Cert.ConvInDwIdeal.τ Cert.ConvInDwIdeal.sig) → Buf (Elt Ideal) ℓ) : Prop :=
  True

def Pre_ConvInDwRefIdeal (m : (ℓ : Loc Cert.ConvInDwRefIdeal.nD Cert.ConvInDwRefIdeal.τ Cert.ConvInDwRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Glu (m : (ℓ : Loc Cert.Glu.nD Cert.Glu.τ Cert.Glu.sig) → Buf (Elt Bits) ℓ) : Prop :=
  True

def Pre_GluIdeal (m : (ℓ : Loc Cert.GluIdeal.nD Cert.GluIdeal.τ Cert.GluIdeal.sig) → Buf (Elt Ideal) ℓ) : Prop :=
  True

def Pre_GluRefIdeal (m : (ℓ : Loc Cert.GluRefIdeal.nD Cert.GluRefIdeal.τ Cert.GluRefIdeal.sig) → Buf (Elt Ideal) ℓ) : Prop :=
  True

def Pre_GluDw (m : (ℓ : Loc Cert.GluDw.nD Cert.GluDw.τ Cert.GluDw.sig) → Buf (Elt Bits) ℓ) : Prop :=
  True

def Pre_GluDwIdeal (m : (ℓ : Loc Cert.GluDwIdeal.nD Cert.GluDwIdeal.τ Cert.GluDwIdeal.sig) → Buf (Elt Ideal) ℓ) : Prop :=
  True

def Pre_GluDwRefIdeal (m : (ℓ : Loc Cert.GluDwRefIdeal.nD Cert.GluDwRefIdeal.τ Cert.GluDwRefIdeal.sig) → Buf (Elt Ideal) ℓ) : Prop :=
  True

def Pre_GluDx (m : (ℓ : Loc Cert.GluDx.nD Cert.GluDx.τ Cert.GluDx.sig) → Buf (Elt Bits) ℓ) : Prop :=
  True

def Pre_GluDxIdeal (m : (ℓ : Loc Cert.GluDxIdeal.nD Cert.GluDxIdeal.τ Cert.GluDxIdeal.sig) → Buf (Elt Ideal) ℓ) : Prop :=
  True

def Pre_GluDxRefIdeal (m : (ℓ : Loc Cert.GluDxRefIdeal.nD Cert.GluDxRefIdeal.τ Cert.GluDxRefIdeal.sig) → Buf (Elt Ideal) ℓ) : Prop :=
  True

def Pre_ConvInDx (m : (ℓ : Loc Cert.ConvInDx.nD Cert.ConvInDx.τ Cert.ConvInDx.sig) → Buf (Elt Bits) ℓ) : Prop :=
  True

def Pre_ConvInDxIdeal (m : (ℓ : Loc Cert.ConvInDxIdeal.nD Cert.ConvInDxIdeal.τ Cert.ConvInDxIdeal.sig) → Buf (Elt Ideal) ℓ) : Prop :=
  True

def Pre_ConvInDxRefIdeal (m : (ℓ : Loc Cert.ConvInDxRefIdeal.nD Cert.ConvInDxRefIdeal.τ Cert.ConvInDxRefIdeal.sig) → Buf (Elt Ideal) ℓ) : Prop :=
  True

def Pre_QueryDx (m : (ℓ : Loc Cert.QueryDx.nD Cert.QueryDx.τ Cert.QueryDx.sig) → Buf (Elt Bits) ℓ) : Prop :=
  True

def Pre_QueryDxIdeal (m : (ℓ : Loc Cert.QueryDxIdeal.nD Cert.QueryDxIdeal.τ Cert.QueryDxIdeal.sig) → Buf (Elt Ideal) ℓ) : Prop :=
  True

def Pre_QueryDxRefIdeal (m : (ℓ : Loc Cert.QueryDxRefIdeal.nD Cert.QueryDxRefIdeal.τ Cert.QueryDxRefIdeal.sig) → Buf (Elt Ideal) ℓ) : Prop :=
  True

def Pre_Kv (m : (ℓ : Loc Cert.Kv.nD Cert.Kv.τ Cert.Kv.sig) → Buf (Elt Bits) ℓ) : Prop :=
  True

def Pre_KvIdeal (m : (ℓ : Loc Cert.KvIdeal.nD Cert.KvIdeal.τ Cert.KvIdeal.sig) → Buf (Elt Ideal) ℓ) : Prop :=
  True

def Pre_KvRefIdeal (m : (ℓ : Loc Cert.KvRefIdeal.nD Cert.KvRefIdeal.τ Cert.KvRefIdeal.sig) → Buf (Elt Ideal) ℓ) : Prop :=
  True

def Pre_KvDx (m : (ℓ : Loc Cert.KvDx.nD Cert.KvDx.τ Cert.KvDx.sig) → Buf (Elt Bits) ℓ) : Prop :=
  True

def Pre_KvDxIdeal (m : (ℓ : Loc Cert.KvDxIdeal.nD Cert.KvDxIdeal.τ Cert.KvDxIdeal.sig) → Buf (Elt Ideal) ℓ) : Prop :=
  True

def Pre_KvDxRefIdeal (m : (ℓ : Loc Cert.KvDxRefIdeal.nD Cert.KvDxRefIdeal.τ Cert.KvDxRefIdeal.sig) → Buf (Elt Ideal) ℓ) : Prop :=
  True

def Pre_KvDw (m : (ℓ : Loc Cert.KvDw.nD Cert.KvDw.τ Cert.KvDw.sig) → Buf (Elt Bits) ℓ) : Prop :=
  True

def Pre_KvDwIdeal (m : (ℓ : Loc Cert.KvDwIdeal.nD Cert.KvDwIdeal.τ Cert.KvDwIdeal.sig) → Buf (Elt Ideal) ℓ) : Prop :=
  True

def Pre_KvDwRefIdeal (m : (ℓ : Loc Cert.KvDwRefIdeal.nD Cert.KvDwRefIdeal.τ Cert.KvDwRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1)
      ∧ r.2.mem ((c.tc : Thread Cert.DownDx.nD Cert.DownDx.τ).loc Cert.DownDx.main_arg2) = m ((c.tc : Thread Cert.DownDx.nD Cert.DownDx.τ).loc Cert.DownDx.main_arg2))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxIdeal_pre_finite4 [hDownDxIdeal : Cert.DownDxIdeal.Facts] [hPre_finite4 : Cert.Pre_finite4.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal_finite4 m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
      ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_DownDxRefIdeal_pre_finite4 [hDownDxRefIdeal : Cert.DownDxRefIdeal.Facts] [hPre_finite4 : Cert.Pre_finite4.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal_finite4 m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1)
      ∧ r.2.mem ((c.tc : Thread Cert.DownDxRefIdeal.nD Cert.DownDxRefIdeal.τ).loc Cert.DownDxRefIdeal.main_arg2) = m ((c.tc : Thread Cert.DownDxRefIdeal.nD Cert.DownDxRefIdeal.τ).loc Cert.DownDxRefIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1)
      ∧ r.2.mem ((c.tc : Thread Cert.ConvIn.nD Cert.ConvIn.τ).loc Cert.ConvIn.main_arg2) = m ((c.tc : Thread Cert.ConvIn.nD Cert.ConvIn.τ).loc Cert.ConvIn.main_arg2))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
      ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1)
      ∧ r.2.mem ((c.tc : Thread Cert.ConvInRefIdeal.nD Cert.ConvInRefIdeal.τ).loc Cert.ConvInRefIdeal.main_arg2) = m ((c.tc : Thread Cert.ConvInRefIdeal.nD Cert.ConvInRefIdeal.τ).loc Cert.ConvInRefIdeal.main_arg2))
      ∧ r.2.sem = fun _ => 0)

def quiescent_ConvInDw [hConvInDw : Cert.ConvInDw.Facts] : Prop :=
  ∀ (m : (ℓ : Loc Cert.ConvInDw.nD Cert.ConvInDw.τ Cert.ConvInDw.sig) → Buf (Elt Bits) ℓ) (g : Dev Cert.ConvInDw.nD → PrngReg), Pre_ConvInDw m →
    θ_run (Cert.ConvInDw.defs (F := Bits)) (onTc (τ := Cert.ConvInDw.τ) (Cert.ConvInDw.main (F := Bits))) ⟨m, fun _ => 0, g⟩ (fun r => (∀ c : Dev Cert.ConvInDw.nD,
      r.2.mem ((c.tc : Thread Cert.ConvInDw.nD Cert.ConvInDw.τ).loc Cert.ConvInDw.main_arg0) = m ((c.tc : Thread Cert.ConvInDw.nD Cert.ConvInDw.τ).loc Cert.ConvInDw.main_arg0)
      ∧ r.2.mem ((c.tc : Thread Cert.ConvInDw.nD Cert.ConvInDw.τ).loc Cert.ConvInDw.main_arg1) = m ((c.tc : Thread Cert.ConvInDw.nD Cert.ConvInDw.τ).loc Cert.ConvInDw.main_arg1))
      ∧ r.2.sem = fun _ => 0)

def quiescent_ConvInDwIdeal [hConvInDwIdeal : Cert.ConvInDwIdeal.Facts] : Prop :=
  ∀ (m : (ℓ : Loc Cert.ConvInDwIdeal.nD Cert.ConvInDwIdeal.τ Cert.ConvInDwIdeal.sig) → Buf (Elt Ideal) ℓ) (g : Dev Cert.ConvInDwIdeal.nD → PrngReg), Pre_ConvInDwIdeal m →
    θ_run (Cert.ConvInDwIdeal.defs (F := Ideal)) (onTc (τ := Cert.ConvInDwIdeal.τ) (Cert.ConvInDwIdeal.main (F := Ideal))) ⟨m, fun _ => 0, g⟩ (fun r => (∀ c : Dev Cert.ConvInDwIdeal.nD,
      r.2.mem ((c.tc : Thread Cert.ConvInDwIdeal.nD Cert.ConvInDwIdeal.τ).loc Cert.ConvInDwIdeal.main_arg0) = m ((c.tc : Thread Cert.ConvInDwIdeal.nD Cert.ConvInDwIdeal.τ).loc Cert.ConvInDwIdeal.main_arg0)
      ∧ r.2.mem ((c.tc : Thread Cert.ConvInDwIdeal.nD Cert.ConvInDwIdeal.τ).loc Cert.ConvInDwIdeal.main_arg1) = m ((c.tc : Thread Cert.ConvInDwIdeal.nD Cert.ConvInDwIdeal.τ).loc Cert.ConvInDwIdeal.main_arg1))
      ∧ r.2.sem = fun _ => 0)

def quiescent_ConvInDwRefIdeal [hConvInDwRefIdeal : Cert.ConvInDwRefIdeal.Facts] : Prop :=
  ∀ (m : (ℓ : Loc Cert.ConvInDwRefIdeal.nD Cert.ConvInDwRefIdeal.τ Cert.ConvInDwRefIdeal.sig) → Buf (Elt Ideal) ℓ) (g : Dev Cert.ConvInDwRefIdeal.nD → PrngReg), Pre_ConvInDwRefIdeal m →
    θ_run (Cert.ConvInDwRefIdeal.defs (F := Ideal)) (onTc (τ := Cert.ConvInDwRefIdeal.τ) (Cert.ConvInDwRefIdeal.main (F := Ideal))) ⟨m, fun _ => 0, g⟩ (fun r => (∀ c : Dev Cert.ConvInDwRefIdeal.nD,
      r.2.mem ((c.tc : Thread Cert.ConvInDwRefIdeal.nD Cert.ConvInDwRefIdeal.τ).loc Cert.ConvInDwRefIdeal.main_arg0) = m ((c.tc : Thread Cert.ConvInDwRefIdeal.nD Cert.ConvInDwRefIdeal.τ).loc Cert.ConvInDwRefIdeal.main_arg0)
      ∧ r.2.mem ((c.tc : Thread Cert.ConvInDwRefIdeal.nD Cert.ConvInDwRefIdeal.τ).loc Cert.ConvInDwRefIdeal.main_arg1) = m ((c.tc : Thread Cert.ConvInDwRefIdeal.nD Cert.ConvInDwRefIdeal.τ).loc Cert.ConvInDwRefIdeal.main_arg1))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2))
      ∧ r.2.sem = fun _ => 0)

def quiescent_Glu [hGlu : Cert.Glu.Facts] : Prop :=
  ∀ (m : (ℓ : Loc Cert.Glu.nD Cert.Glu.τ Cert.Glu.sig) → Buf (Elt Bits) ℓ) (g : Dev Cert.Glu.nD → PrngReg), Pre_Glu m →
    θ_run (Cert.Glu.defs (F := Bits)) (onTc (τ := Cert.Glu.τ) (Cert.Glu.main (F := Bits))) ⟨m, fun _ => 0, g⟩ (fun r => (∀ c : Dev Cert.Glu.nD,
      r.2.mem ((c.tc : Thread Cert.Glu.nD Cert.Glu.τ).loc Cert.Glu.main_arg0) = m ((c.tc : Thread Cert.Glu.nD Cert.Glu.τ).loc Cert.Glu.main_arg0)
      ∧ r.2.mem ((c.tc : Thread Cert.Glu.nD Cert.Glu.τ).loc Cert.Glu.main_arg1) = m ((c.tc : Thread Cert.Glu.nD Cert.Glu.τ).loc Cert.Glu.main_arg1)
      ∧ r.2.mem ((c.tc : Thread Cert.Glu.nD Cert.Glu.τ).loc Cert.Glu.main_arg2) = m ((c.tc : Thread Cert.Glu.nD Cert.Glu.τ).loc Cert.Glu.main_arg2))
      ∧ r.2.sem = fun _ => 0)

def quiescent_GluIdeal [hGluIdeal : Cert.GluIdeal.Facts] : Prop :=
  ∀ (m : (ℓ : Loc Cert.GluIdeal.nD Cert.GluIdeal.τ Cert.GluIdeal.sig) → Buf (Elt Ideal) ℓ) (g : Dev Cert.GluIdeal.nD → PrngReg), Pre_GluIdeal m →
    θ_run (Cert.GluIdeal.defs (F := Ideal)) (onTc (τ := Cert.GluIdeal.τ) (Cert.GluIdeal.main (F := Ideal))) ⟨m, fun _ => 0, g⟩ (fun r => (∀ c : Dev Cert.GluIdeal.nD,
      r.2.mem ((c.tc : Thread Cert.GluIdeal.nD Cert.GluIdeal.τ).loc Cert.GluIdeal.main_arg0) = m ((c.tc : Thread Cert.GluIdeal.nD Cert.GluIdeal.τ).loc Cert.GluIdeal.main_arg0)
      ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
      ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ r.2.sem = fun _ => 0)

def quiescent_GluRefIdeal [hGluRefIdeal : Cert.GluRefIdeal.Facts] : Prop :=
  ∀ (m : (ℓ : Loc Cert.GluRefIdeal.nD Cert.GluRefIdeal.τ Cert.GluRefIdeal.sig) → Buf (Elt Ideal) ℓ) (g : Dev Cert.GluRefIdeal.nD → PrngReg), Pre_GluRefIdeal m →
    θ_run (Cert.GluRefIdeal.defs (F := Ideal)) (onTc (τ := Cert.GluRefIdeal.τ) (Cert.GluRefIdeal.main (F := Ideal))) ⟨m, fun _ => 0, g⟩ (fun r => (∀ c : Dev Cert.GluRefIdeal.nD,
      r.2.mem ((c.tc : Thread Cert.GluRefIdeal.nD Cert.GluRefIdeal.τ).loc Cert.GluRefIdeal.main_arg0) = m ((c.tc : Thread Cert.GluRefIdeal.nD Cert.GluRefIdeal.τ).loc Cert.GluRefIdeal.main_arg0)
      ∧ r.2.mem ((c.tc : Thread Cert.GluRefIdeal.nD Cert.GluRefIdeal.τ).loc Cert.GluRefIdeal.main_arg1) = m ((c.tc : Thread Cert.GluRefIdeal.nD Cert.GluRefIdeal.τ).loc Cert.GluRefIdeal.main_arg1)
      ∧ r.2.mem ((c.tc : Thread Cert.GluRefIdeal.nD Cert.GluRefIdeal.τ).loc Cert.GluRefIdeal.main_arg2) = m ((c.tc : Thread Cert.GluRefIdeal.nD Cert.GluRefIdeal.τ).loc Cert.GluRefIdeal.main_arg2))
      ∧ r.2.sem = fun _ => 0)

def quiescent_GluDw [hGluDw : Cert.GluDw.Facts] : Prop :=
  ∀ (m : (ℓ : Loc Cert.GluDw.nD Cert.GluDw.τ Cert.GluDw.sig) → Buf (Elt Bits) ℓ) (g : Dev Cert.GluDw.nD → PrngReg), Pre_GluDw m →
    θ_run (Cert.GluDw.defs (F := Bits)) (onTc (τ := Cert.GluDw.τ) (Cert.GluDw.main (F := Bits))) ⟨m, fun _ => 0, g⟩ (fun r => (∀ c : Dev Cert.GluDw.nD,
      r.2.mem ((c.tc : Thread Cert.GluDw.nD Cert.GluDw.τ).loc Cert.GluDw.main_arg0) = m ((c.tc : Thread Cert.GluDw.nD Cert.GluDw.τ).loc Cert.GluDw.main_arg0)
      ∧ r.2.mem ((c.tc : Thread Cert.GluDw.nD Cert.GluDw.τ).loc Cert.GluDw.main_arg1) = m ((c.tc : Thread Cert.GluDw.nD Cert.GluDw.τ).loc Cert.GluDw.main_arg1))
      ∧ r.2.sem = fun _ => 0)

def quiescent_GluDwIdeal [hGluDwIdeal : Cert.GluDwIdeal.Facts] : Prop :=
  ∀ (m : (ℓ : Loc Cert.GluDwIdeal.nD Cert.GluDwIdeal.τ Cert.GluDwIdeal.sig) → Buf (Elt Ideal) ℓ) (g : Dev Cert.GluDwIdeal.nD → PrngReg), Pre_GluDwIdeal m →
    θ_run (Cert.GluDwIdeal.defs (F := Ideal)) (onTc (τ := Cert.GluDwIdeal.τ) (Cert.GluDwIdeal.main (F := Ideal))) ⟨m, fun _ => 0, g⟩ (fun r => (∀ c : Dev Cert.GluDwIdeal.nD,
      r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
      ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ r.2.sem = fun _ => 0)

def quiescent_GluDwRefIdeal [hGluDwRefIdeal : Cert.GluDwRefIdeal.Facts] : Prop :=
  ∀ (m : (ℓ : Loc Cert.GluDwRefIdeal.nD Cert.GluDwRefIdeal.τ Cert.GluDwRefIdeal.sig) → Buf (Elt Ideal) ℓ) (g : Dev Cert.GluDwRefIdeal.nD → PrngReg), Pre_GluDwRefIdeal m →
    θ_run (Cert.GluDwRefIdeal.defs (F := Ideal)) (onTc (τ := Cert.GluDwRefIdeal.τ) (Cert.GluDwRefIdeal.main (F := Ideal))) ⟨m, fun _ => 0, g⟩ (fun r => (∀ c : Dev Cert.GluDwRefIdeal.nD,
      r.2.mem ((c.tc : Thread Cert.GluDwRefIdeal.nD Cert.GluDwRefIdeal.τ).loc Cert.GluDwRefIdeal.main_arg0) = m ((c.tc : Thread Cert.GluDwRefIdeal.nD Cert.GluDwRefIdeal.τ).loc Cert.GluDwRefIdeal.main_arg0)
      ∧ r.2.mem ((c.tc : Thread Cert.GluDwRefIdeal.nD Cert.GluDwRefIdeal.τ).loc Cert.GluDwRefIdeal.main_arg1) = m ((c.tc : Thread Cert.GluDwRefIdeal.nD Cert.GluDwRefIdeal.τ).loc Cert.GluDwRefIdeal.main_arg1))
      ∧ r.2.sem = fun _ => 0)

def quiescent_GluDx [hGluDx : Cert.GluDx.Facts] : Prop :=
  ∀ (m : (ℓ : Loc Cert.GluDx.nD Cert.GluDx.τ Cert.GluDx.sig) → Buf (Elt Bits) ℓ) (g : Dev Cert.GluDx.nD → PrngReg), Pre_GluDx m →
    θ_run (Cert.GluDx.defs (F := Bits)) (onTc (τ := Cert.GluDx.τ) (Cert.GluDx.main (F := Bits))) ⟨m, fun _ => 0, g⟩ (fun r => (∀ c : Dev Cert.GluDx.nD,
      r.2.mem ((c.tc : Thread Cert.GluDx.nD Cert.GluDx.τ).loc Cert.GluDx.main_arg0) = m ((c.tc : Thread Cert.GluDx.nD Cert.GluDx.τ).loc Cert.GluDx.main_arg0)
      ∧ r.2.mem ((c.tc : Thread Cert.GluDx.nD Cert.GluDx.τ).loc Cert.GluDx.main_arg1) = m ((c.tc : Thread Cert.GluDx.nD Cert.GluDx.τ).loc Cert.GluDx.main_arg1))
      ∧ r.2.sem = fun _ => 0)

def quiescent_GluDxIdeal [hGluDxIdeal : Cert.GluDxIdeal.Facts] : Prop :=
  ∀ (m : (ℓ : Loc Cert.GluDxIdeal.nD Cert.GluDxIdeal.τ Cert.GluDxIdeal.sig) → Buf (Elt Ideal) ℓ) (g : Dev Cert.GluDxIdeal.nD → PrngReg), Pre_GluDxIdeal m →
    θ_run (Cert.GluDxIdeal.defs (F := Ideal)) (onTc (τ := Cert.GluDxIdeal.τ) (Cert.GluDxIdeal.main (F := Ideal))) ⟨m, fun _ => 0, g⟩ (fun r => (∀ c : Dev Cert.GluDxIdeal.nD,
      r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
      ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ r.2.sem = fun _ => 0)

def quiescent_GluDxRefIdeal [hGluDxRefIdeal : Cert.GluDxRefIdeal.Facts] : Prop :=
  ∀ (m : (ℓ : Loc Cert.GluDxRefIdeal.nD Cert.GluDxRefIdeal.τ Cert.GluDxRefIdeal.sig) → Buf (Elt Ideal) ℓ) (g : Dev Cert.GluDxRefIdeal.nD → PrngReg), Pre_GluDxRefIdeal m →
    θ_run (Cert.GluDxRefIdeal.defs (F := Ideal)) (onTc (τ := Cert.GluDxRefIdeal.τ) (Cert.GluDxRefIdeal.main (F := Ideal))) ⟨m, fun _ => 0, g⟩ (fun r => (∀ c : Dev Cert.GluDxRefIdeal.nD,
      r.2.mem ((c.tc : Thread Cert.GluDxRefIdeal.nD Cert.GluDxRefIdeal.τ).loc Cert.GluDxRefIdeal.main_arg0) = m ((c.tc : Thread Cert.GluDxRefIdeal.nD Cert.GluDxRefIdeal.τ).loc Cert.GluDxRefIdeal.main_arg0)
      ∧ r.2.mem ((c.tc : Thread Cert.GluDxRefIdeal.nD Cert.GluDxRefIdeal.τ).loc Cert.GluDxRefIdeal.main_arg1) = m ((c.tc : Thread Cert.GluDxRefIdeal.nD Cert.GluDxRefIdeal.τ).loc Cert.GluDxRefIdeal.main_arg1))
      ∧ r.2.sem = fun _ => 0)

def quiescent_ConvInDx [hConvInDx : Cert.ConvInDx.Facts] : Prop :=
  ∀ (m : (ℓ : Loc Cert.ConvInDx.nD Cert.ConvInDx.τ Cert.ConvInDx.sig) → Buf (Elt Bits) ℓ) (g : Dev Cert.ConvInDx.nD → PrngReg), Pre_ConvInDx m →
    θ_run (Cert.ConvInDx.defs (F := Bits)) (onTc (τ := Cert.ConvInDx.τ) (Cert.ConvInDx.main (F := Bits))) ⟨m, fun _ => 0, g⟩ (fun r => (∀ c : Dev Cert.ConvInDx.nD,
      r.2.mem ((c.tc : Thread Cert.ConvInDx.nD Cert.ConvInDx.τ).loc Cert.ConvInDx.main_arg0) = m ((c.tc : Thread Cert.ConvInDx.nD Cert.ConvInDx.τ).loc Cert.ConvInDx.main_arg0)
      ∧ r.2.mem ((c.tc : Thread Cert.ConvInDx.nD Cert.ConvInDx.τ).loc Cert.ConvInDx.main_arg1) = m ((c.tc : Thread Cert.ConvInDx.nD Cert.ConvInDx.τ).loc Cert.ConvInDx.main_arg1)
      ∧ r.2.mem ((c.tc : Thread Cert.ConvInDx.nD Cert.ConvInDx.τ).loc Cert.ConvInDx.main_arg2) = m ((c.tc : Thread Cert.ConvInDx.nD Cert.ConvInDx.τ).loc Cert.ConvInDx.main_arg2)
      ∧ r.2.mem ((c.tc : Thread Cert.ConvInDx.nD Cert.ConvInDx.τ).loc Cert.ConvInDx.main_arg3) = m ((c.tc : Thread Cert.ConvInDx.nD Cert.ConvInDx.τ).loc Cert.ConvInDx.main_arg3)
      ∧ r.2.mem ((c.tc : Thread Cert.ConvInDx.nD Cert.ConvInDx.τ).loc Cert.ConvInDx.main_arg4) = m ((c.tc : Thread Cert.ConvInDx.nD Cert.ConvInDx.τ).loc Cert.ConvInDx.main_arg4))
      ∧ r.2.sem = fun _ => 0)

def quiescent_ConvInDxIdeal [hConvInDxIdeal : Cert.ConvInDxIdeal.Facts] : Prop :=
  ∀ (m : (ℓ : Loc Cert.ConvInDxIdeal.nD Cert.ConvInDxIdeal.τ Cert.ConvInDxIdeal.sig) → Buf (Elt Ideal) ℓ) (g : Dev Cert.ConvInDxIdeal.nD → PrngReg), Pre_ConvInDxIdeal m →
    θ_run (Cert.ConvInDxIdeal.defs (F := Ideal)) (onTc (τ := Cert.ConvInDxIdeal.τ) (Cert.ConvInDxIdeal.main (F := Ideal))) ⟨m, fun _ => 0, g⟩ (fun r => (∀ c : Dev Cert.ConvInDxIdeal.nD,
      r.2.mem ((c.tc : Thread Cert.ConvInDxIdeal.nD Cert.ConvInDxIdeal.τ).loc Cert.ConvInDxIdeal.main_arg0) = m ((c.tc : Thread Cert.ConvInDxIdeal.nD Cert.ConvInDxIdeal.τ).loc Cert.ConvInDxIdeal.main_arg0)
      ∧ r.2.mem ((c.tc : Thread Cert.ConvInDxIdeal.nD Cert.ConvInDxIdeal.τ).loc Cert.ConvInDxIdeal.main_arg1) = m ((c.tc : Thread Cert.ConvInDxIdeal.nD Cert.ConvInDxIdeal.τ).loc Cert.ConvInDxIdeal.main_arg1)
      ∧ r.2.mem ((c.tc : Thread Cert.ConvInDxIdeal.nD Cert.ConvInDxIdeal.τ).loc Cert.ConvInDxIdeal.main_arg2) = m ((c.tc : Thread Cert.ConvInDxIdeal.nD Cert.ConvInDxIdeal.τ).loc Cert.ConvInDxIdeal.main_arg2)
      ∧ r.2.mem ((c.tc : Thread Cert.ConvInDxIdeal.nD Cert.ConvInDxIdeal.τ).loc Cert.ConvInDxIdeal.main_arg3) = m ((c.tc : Thread Cert.ConvInDxIdeal.nD Cert.ConvInDxIdeal.τ).loc Cert.ConvInDxIdeal.main_arg3)
      ∧ r.2.mem ((c.tc : Thread Cert.ConvInDxIdeal.nD Cert.ConvInDxIdeal.τ).loc Cert.ConvInDxIdeal.main_arg4) = m ((c.tc : Thread Cert.ConvInDxIdeal.nD Cert.ConvInDxIdeal.τ).loc Cert.ConvInDxIdeal.main_arg4))
      ∧ r.2.sem = fun _ => 0)

def quiescent_ConvInDxRefIdeal [hConvInDxRefIdeal : Cert.ConvInDxRefIdeal.Facts] : Prop :=
  ∀ (m : (ℓ : Loc Cert.ConvInDxRefIdeal.nD Cert.ConvInDxRefIdeal.τ Cert.ConvInDxRefIdeal.sig) → Buf (Elt Ideal) ℓ) (g : Dev Cert.ConvInDxRefIdeal.nD → PrngReg), Pre_ConvInDxRefIdeal m →
    θ_run (Cert.ConvInDxRefIdeal.defs (F := Ideal)) (onTc (τ := Cert.ConvInDxRefIdeal.τ) (Cert.ConvInDxRefIdeal.main (F := Ideal))) ⟨m, fun _ => 0, g⟩ (fun r => (∀ c : Dev Cert.ConvInDxRefIdeal.nD,
      r.2.mem ((c.tc : Thread Cert.ConvInDxRefIdeal.nD Cert.ConvInDxRefIdeal.τ).loc Cert.ConvInDxRefIdeal.main_arg0) = m ((c.tc : Thread Cert.ConvInDxRefIdeal.nD Cert.ConvInDxRefIdeal.τ).loc Cert.ConvInDxRefIdeal.main_arg0)
      ∧ r.2.mem ((c.tc : Thread Cert.ConvInDxRefIdeal.nD Cert.ConvInDxRefIdeal.τ).loc Cert.ConvInDxRefIdeal.main_arg1) = m ((c.tc : Thread Cert.ConvInDxRefIdeal.nD Cert.ConvInDxRefIdeal.τ).loc Cert.ConvInDxRefIdeal.main_arg1)
      ∧ r.2.mem ((c.tc : Thread Cert.ConvInDxRefIdeal.nD Cert.ConvInDxRefIdeal.τ).loc Cert.ConvInDxRefIdeal.main_arg2) = m ((c.tc : Thread Cert.ConvInDxRefIdeal.nD Cert.ConvInDxRefIdeal.τ).loc Cert.ConvInDxRefIdeal.main_arg2)
      ∧ r.2.mem ((c.tc : Thread Cert.ConvInDxRefIdeal.nD Cert.ConvInDxRefIdeal.τ).loc Cert.ConvInDxRefIdeal.main_arg3) = m ((c.tc : Thread Cert.ConvInDxRefIdeal.nD Cert.ConvInDxRefIdeal.τ).loc Cert.ConvInDxRefIdeal.main_arg3)
      ∧ r.2.mem ((c.tc : Thread Cert.ConvInDxRefIdeal.nD Cert.ConvInDxRefIdeal.τ).loc Cert.ConvInDxRefIdeal.main_arg4) = m ((c.tc : Thread Cert.ConvInDxRefIdeal.nD Cert.ConvInDxRefIdeal.τ).loc Cert.ConvInDxRefIdeal.main_arg4))
      ∧ r.2.sem = fun _ => 0)

def quiescent_QueryDx [hQueryDx : Cert.QueryDx.Facts] : Prop :=
  ∀ (m : (ℓ : Loc Cert.QueryDx.nD Cert.QueryDx.τ Cert.QueryDx.sig) → Buf (Elt Bits) ℓ) (g : Dev Cert.QueryDx.nD → PrngReg), Pre_QueryDx m →
    θ_run (Cert.QueryDx.defs (F := Bits)) (onTc (τ := Cert.QueryDx.τ) (Cert.QueryDx.main (F := Bits))) ⟨m, fun _ => 0, g⟩ (fun r => (∀ c : Dev Cert.QueryDx.nD,
      r.2.mem ((c.tc : Thread Cert.QueryDx.nD Cert.QueryDx.τ).loc Cert.QueryDx.main_arg0) = m ((c.tc : Thread Cert.QueryDx.nD Cert.QueryDx.τ).loc Cert.QueryDx.main_arg0)
      ∧ r.2.mem ((c.tc : Thread Cert.QueryDx.nD Cert.QueryDx.τ).loc Cert.QueryDx.main_arg1) = m ((c.tc : Thread Cert.QueryDx.nD Cert.QueryDx.τ).loc Cert.QueryDx.main_arg1)
      ∧ r.2.mem ((c.tc : Thread Cert.QueryDx.nD Cert.QueryDx.τ).loc Cert.QueryDx.main_arg2) = m ((c.tc : Thread Cert.QueryDx.nD Cert.QueryDx.τ).loc Cert.QueryDx.main_arg2)
      ∧ r.2.mem ((c.tc : Thread Cert.QueryDx.nD Cert.QueryDx.τ).loc Cert.QueryDx.main_arg3) = m ((c.tc : Thread Cert.QueryDx.nD Cert.QueryDx.τ).loc Cert.QueryDx.main_arg3)
      ∧ r.2.mem ((c.tc : Thread Cert.QueryDx.nD Cert.QueryDx.τ).loc Cert.QueryDx.main_arg4) = m ((c.tc : Thread Cert.QueryDx.nD Cert.QueryDx.τ).loc Cert.QueryDx.main_arg4))
      ∧ r.2.sem = fun _ => 0)

def quiescent_QueryDxIdeal [hQueryDxIdeal : Cert.QueryDxIdeal.Facts] : Prop :=
  ∀ (m : (ℓ : Loc Cert.QueryDxIdeal.nD Cert.QueryDxIdeal.τ Cert.QueryDxIdeal.sig) → Buf (Elt Ideal) ℓ) (g : Dev Cert.QueryDxIdeal.nD → PrngReg), Pre_QueryDxIdeal m →
    θ_run (Cert.QueryDxIdeal.defs (F := Ideal)) (onTc (τ := Cert.QueryDxIdeal.τ) (Cert.QueryDxIdeal.main (F := Ideal))) ⟨m, fun _ => 0, g⟩ (fun r => (∀ c : Dev Cert.QueryDxIdeal.nD,
      r.2.mem ((c.tc : Thread Cert.QueryDxIdeal.nD Cert.QueryDxIdeal.τ).loc Cert.QueryDxIdeal.main_arg0) = m ((c.tc : Thread Cert.QueryDxIdeal.nD Cert.QueryDxIdeal.τ).loc Cert.QueryDxIdeal.main_arg0)
      ∧ r.2.mem ((c.tc : Thread Cert.QueryDxIdeal.nD Cert.QueryDxIdeal.τ).loc Cert.QueryDxIdeal.main_arg1) = m ((c.tc : Thread Cert.QueryDxIdeal.nD Cert.QueryDxIdeal.τ).loc Cert.QueryDxIdeal.main_arg1)
      ∧ r.2.mem ((c.tc : Thread Cert.QueryDxIdeal.nD Cert.QueryDxIdeal.τ).loc Cert.QueryDxIdeal.main_arg2) = m ((c.tc : Thread Cert.QueryDxIdeal.nD Cert.QueryDxIdeal.τ).loc Cert.QueryDxIdeal.main_arg2)
      ∧ r.2.mem ((c.tc : Thread Cert.QueryDxIdeal.nD Cert.QueryDxIdeal.τ).loc Cert.QueryDxIdeal.main_arg3) = m ((c.tc : Thread Cert.QueryDxIdeal.nD Cert.QueryDxIdeal.τ).loc Cert.QueryDxIdeal.main_arg3)
      ∧ r.2.mem ((c.tc : Thread Cert.QueryDxIdeal.nD Cert.QueryDxIdeal.τ).loc Cert.QueryDxIdeal.main_arg4) = m ((c.tc : Thread Cert.QueryDxIdeal.nD Cert.QueryDxIdeal.τ).loc Cert.QueryDxIdeal.main_arg4))
      ∧ r.2.sem = fun _ => 0)

def quiescent_QueryDxRefIdeal [hQueryDxRefIdeal : Cert.QueryDxRefIdeal.Facts] : Prop :=
  ∀ (m : (ℓ : Loc Cert.QueryDxRefIdeal.nD Cert.QueryDxRefIdeal.τ Cert.QueryDxRefIdeal.sig) → Buf (Elt Ideal) ℓ) (g : Dev Cert.QueryDxRefIdeal.nD → PrngReg), Pre_QueryDxRefIdeal m →
    θ_run (Cert.QueryDxRefIdeal.defs (F := Ideal)) (onTc (τ := Cert.QueryDxRefIdeal.τ) (Cert.QueryDxRefIdeal.main (F := Ideal))) ⟨m, fun _ => 0, g⟩ (fun r => (∀ c : Dev Cert.QueryDxRefIdeal.nD,
      r.2.mem ((c.tc : Thread Cert.QueryDxRefIdeal.nD Cert.QueryDxRefIdeal.τ).loc Cert.QueryDxRefIdeal.main_arg0) = m ((c.tc : Thread Cert.QueryDxRefIdeal.nD Cert.QueryDxRefIdeal.τ).loc Cert.QueryDxRefIdeal.main_arg0)
      ∧ r.2.mem ((c.tc : Thread Cert.QueryDxRefIdeal.nD Cert.QueryDxRefIdeal.τ).loc Cert.QueryDxRefIdeal.main_arg1) = m ((c.tc : Thread Cert.QueryDxRefIdeal.nD Cert.QueryDxRefIdeal.τ).loc Cert.QueryDxRefIdeal.main_arg1)
      ∧ r.2.mem ((c.tc : Thread Cert.QueryDxRefIdeal.nD Cert.QueryDxRefIdeal.τ).loc Cert.QueryDxRefIdeal.main_arg2) = m ((c.tc : Thread Cert.QueryDxRefIdeal.nD Cert.QueryDxRefIdeal.τ).loc Cert.QueryDxRefIdeal.main_arg2)
      ∧ r.2.mem ((c.tc : Thread Cert.QueryDxRefIdeal.nD Cert.QueryDxRefIdeal.τ).loc Cert.QueryDxRefIdeal.main_arg3) = m ((c.tc : Thread Cert.QueryDxRefIdeal.nD Cert.QueryDxRefIdeal.τ).loc Cert.QueryDxRefIdeal.main_arg3)
      ∧ r.2.mem ((c.tc : Thread Cert.QueryDxRefIdeal.nD Cert.QueryDxRefIdeal.τ).loc Cert.QueryDxRefIdeal.main_arg4) = m ((c.tc : Thread Cert.QueryDxRefIdeal.nD Cert.QueryDxRefIdeal.τ).loc Cert.QueryDxRefIdeal.main_arg4))
      ∧ r.2.sem = fun _ => 0)

def quiescent_Kv [hKv : Cert.Kv.Facts] : Prop :=
  ∀ (m : (ℓ : Loc Cert.Kv.nD Cert.Kv.τ Cert.Kv.sig) → Buf (Elt Bits) ℓ) (g : Dev Cert.Kv.nD → PrngReg), Pre_Kv m →
    θ_run (Cert.Kv.defs (F := Bits)) (onTc (τ := Cert.Kv.τ) (Cert.Kv.main (F := Bits))) ⟨m, fun _ => 0, g⟩ (fun r => (∀ c : Dev Cert.Kv.nD,
      r.2.mem ((c.tc : Thread Cert.Kv.nD Cert.Kv.τ).loc Cert.Kv.main_arg0) = m ((c.tc : Thread Cert.Kv.nD Cert.Kv.τ).loc Cert.Kv.main_arg0)
      ∧ r.2.mem ((c.tc : Thread Cert.Kv.nD Cert.Kv.τ).loc Cert.Kv.main_arg1) = m ((c.tc : Thread Cert.Kv.nD Cert.Kv.τ).loc Cert.Kv.main_arg1))
      ∧ r.2.sem = fun _ => 0)

def quiescent_KvIdeal [hKvIdeal : Cert.KvIdeal.Facts] : Prop :=
  ∀ (m : (ℓ : Loc Cert.KvIdeal.nD Cert.KvIdeal.τ Cert.KvIdeal.sig) → Buf (Elt Ideal) ℓ) (g : Dev Cert.KvIdeal.nD → PrngReg), Pre_KvIdeal m →
    θ_run (Cert.KvIdeal.defs (F := Ideal)) (onTc (τ := Cert.KvIdeal.τ) (Cert.KvIdeal.main (F := Ideal))) ⟨m, fun _ => 0, g⟩ (fun r => (∀ c : Dev Cert.KvIdeal.nD,
      r.2.mem ((c.tc : Thread Cert.KvIdeal.nD Cert.KvIdeal.τ).loc Cert.KvIdeal.main_arg0) = m ((c.tc : Thread Cert.KvIdeal.nD Cert.KvIdeal.τ).loc Cert.KvIdeal.main_arg0)
      ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ r.2.sem = fun _ => 0)

def quiescent_KvRefIdeal [hKvRefIdeal : Cert.KvRefIdeal.Facts] : Prop :=
  ∀ (m : (ℓ : Loc Cert.KvRefIdeal.nD Cert.KvRefIdeal.τ Cert.KvRefIdeal.sig) → Buf (Elt Ideal) ℓ) (g : Dev Cert.KvRefIdeal.nD → PrngReg), Pre_KvRefIdeal m →
    θ_run (Cert.KvRefIdeal.defs (F := Ideal)) (onTc (τ := Cert.KvRefIdeal.τ) (Cert.KvRefIdeal.main (F := Ideal))) ⟨m, fun _ => 0, g⟩ (fun r => (∀ c : Dev Cert.KvRefIdeal.nD,
      r.2.mem ((c.tc : Thread Cert.KvRefIdeal.nD Cert.KvRefIdeal.τ).loc Cert.KvRefIdeal.main_arg0) = m ((c.tc : Thread Cert.KvRefIdeal.nD Cert.KvRefIdeal.τ).loc Cert.KvRefIdeal.main_arg0)
      ∧ r.2.mem ((c.tc : Thread Cert.KvRefIdeal.nD Cert.KvRefIdeal.τ).loc Cert.KvRefIdeal.main_arg1) = m ((c.tc : Thread Cert.KvRefIdeal.nD Cert.KvRefIdeal.τ).loc Cert.KvRefIdeal.main_arg1))
      ∧ r.2.sem = fun _ => 0)

def quiescent_KvDx [hKvDx : Cert.KvDx.Facts] : Prop :=
  ∀ (m : (ℓ : Loc Cert.KvDx.nD Cert.KvDx.τ Cert.KvDx.sig) → Buf (Elt Bits) ℓ) (g : Dev Cert.KvDx.nD → PrngReg), Pre_KvDx m →
    θ_run (Cert.KvDx.defs (F := Bits)) (onTc (τ := Cert.KvDx.τ) (Cert.KvDx.main (F := Bits))) ⟨m, fun _ => 0, g⟩ (fun r => (∀ c : Dev Cert.KvDx.nD,
      r.2.mem ((c.tc : Thread Cert.KvDx.nD Cert.KvDx.τ).loc Cert.KvDx.main_arg0) = m ((c.tc : Thread Cert.KvDx.nD Cert.KvDx.τ).loc Cert.KvDx.main_arg0)
      ∧ r.2.mem ((c.tc : Thread Cert.KvDx.nD Cert.KvDx.τ).loc Cert.KvDx.main_arg1) = m ((c.tc : Thread Cert.KvDx.nD Cert.KvDx.τ).loc Cert.KvDx.main_arg1))
      ∧ r.2.sem = fun _ => 0)

def quiescent_KvDxIdeal [hKvDxIdeal : Cert.KvDxIdeal.Facts] : Prop :=
  ∀ (m : (ℓ : Loc Cert.KvDxIdeal.nD Cert.KvDxIdeal.τ Cert.KvDxIdeal.sig) → Buf (Elt Ideal) ℓ) (g : Dev Cert.KvDxIdeal.nD → PrngReg), Pre_KvDxIdeal m →
    θ_run (Cert.KvDxIdeal.defs (F := Ideal)) (onTc (τ := Cert.KvDxIdeal.τ) (Cert.KvDxIdeal.main (F := Ideal))) ⟨m, fun _ => 0, g⟩ (fun r => (∀ c : Dev Cert.KvDxIdeal.nD,
      r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
      ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ r.2.sem = fun _ => 0)

def quiescent_KvDxRefIdeal [hKvDxRefIdeal : Cert.KvDxRefIdeal.Facts] : Prop :=
  ∀ (m : (ℓ : Loc Cert.KvDxRefIdeal.nD Cert.KvDxRefIdeal.τ Cert.KvDxRefIdeal.sig) → Buf (Elt Ideal) ℓ) (g : Dev Cert.KvDxRefIdeal.nD → PrngReg), Pre_KvDxRefIdeal m →
    θ_run (Cert.KvDxRefIdeal.defs (F := Ideal)) (onTc (τ := Cert.KvDxRefIdeal.τ) (Cert.KvDxRefIdeal.main (F := Ideal))) ⟨m, fun _ => 0, g⟩ (fun r => (∀ c : Dev Cert.KvDxRefIdeal.nD,
      r.2.mem ((c.tc : Thread Cert.KvDxRefIdeal.nD Cert.KvDxRefIdeal.τ).loc Cert.KvDxRefIdeal.main_arg0) = m ((c.tc : Thread Cert.KvDxRefIdeal.nD Cert.KvDxRefIdeal.τ).loc Cert.KvDxRefIdeal.main_arg0)
      ∧ r.2.mem ((c.tc : Thread Cert.KvDxRefIdeal.nD Cert.KvDxRefIdeal.τ).loc Cert.KvDxRefIdeal.main_arg1) = m ((c.tc : Thread Cert.KvDxRefIdeal.nD Cert.KvDxRefIdeal.τ).loc Cert.KvDxRefIdeal.main_arg1))
      ∧ r.2.sem = fun _ => 0)

def quiescent_KvDw [hKvDw : Cert.KvDw.Facts] : Prop :=
  ∀ (m : (ℓ : Loc Cert.KvDw.nD Cert.KvDw.τ Cert.KvDw.sig) → Buf (Elt Bits) ℓ) (g : Dev Cert.KvDw.nD → PrngReg), Pre_KvDw m →
    θ_run (Cert.KvDw.defs (F := Bits)) (onTc (τ := Cert.KvDw.τ) (Cert.KvDw.main (F := Bits))) ⟨m, fun _ => 0, g⟩ (fun r => (∀ c : Dev Cert.KvDw.nD,
      r.2.mem ((c.tc : Thread Cert.KvDw.nD Cert.KvDw.τ).loc Cert.KvDw.main_arg0) = m ((c.tc : Thread Cert.KvDw.nD Cert.KvDw.τ).loc Cert.KvDw.main_arg0)
      ∧ r.2.mem ((c.tc : Thread Cert.KvDw.nD Cert.KvDw.τ).loc Cert.KvDw.main_arg1) = m ((c.tc : Thread Cert.KvDw.nD Cert.KvDw.τ).loc Cert.KvDw.main_arg1))
      ∧ r.2.sem = fun _ => 0)

def quiescent_KvDwIdeal [hKvDwIdeal : Cert.KvDwIdeal.Facts] : Prop :=
  ∀ (m : (ℓ : Loc Cert.KvDwIdeal.nD Cert.KvDwIdeal.τ Cert.KvDwIdeal.sig) → Buf (Elt Ideal) ℓ) (g : Dev Cert.KvDwIdeal.nD → PrngReg), Pre_KvDwIdeal m →
    θ_run (Cert.KvDwIdeal.defs (F := Ideal)) (onTc (τ := Cert.KvDwIdeal.τ) (Cert.KvDwIdeal.main (F := Ideal))) ⟨m, fun _ => 0, g⟩ (fun r => (∀ c : Dev Cert.KvDwIdeal.nD,
      r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
      ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ r.2.sem = fun _ => 0)

def quiescent_KvDwRefIdeal [hKvDwRefIdeal : Cert.KvDwRefIdeal.Facts] : Prop :=
  ∀ (m : (ℓ : Loc Cert.KvDwRefIdeal.nD Cert.KvDwRefIdeal.τ Cert.KvDwRefIdeal.sig) → Buf (Elt Ideal) ℓ) (g : Dev Cert.KvDwRefIdeal.nD → PrngReg), Pre_KvDwRefIdeal m →
    θ_run (Cert.KvDwRefIdeal.defs (F := Ideal)) (onTc (τ := Cert.KvDwRefIdeal.τ) (Cert.KvDwRefIdeal.main (F := Ideal))) ⟨m, fun _ => 0, g⟩ (fun r => (∀ c : Dev Cert.KvDwRefIdeal.nD,
      r.2.mem ((c.tc : Thread Cert.KvDwRefIdeal.nD Cert.KvDwRefIdeal.τ).loc Cert.KvDwRefIdeal.main_arg0) = m ((c.tc : Thread Cert.KvDwRefIdeal.nD Cert.KvDwRefIdeal.τ).loc Cert.KvDwRefIdeal.main_arg0)
      ∧ r.2.mem ((c.tc : Thread Cert.KvDwRefIdeal.nD Cert.KvDwRefIdeal.τ).loc Cert.KvDwRefIdeal.main_arg1) = m ((c.tc : Thread Cert.KvDwRefIdeal.nD Cert.KvDwRefIdeal.τ).loc Cert.KvDwRefIdeal.main_arg1))
      ∧ r.2.sem = fun _ => 0)

def preserves_Kernel_KernelIdeal : Prop :=
  IdealRules.named_const.Statement Cert.KernelIdeal.κ "gelu_a" .f32 0x3D372713#32 ((8943 / 200000 : ℝ) : EReal)
  ∧ IdealRules.named_const.Statement Cert.KernelIdeal.κ "gelu_3a" .f32 0x3E095D4F#32 ((26829 / 200000 : ℝ) : EReal)

def algebraic_KernelIdeal_ReferenceIdeal_on_grouped_pre_finite [hKernelIdeal : Cert.KernelIdeal.Facts] [hReferenceIdeal : Cert.ReferenceIdeal.Facts] [hPre_finite : Cert.Pre_finite.Facts] [hOn_grouped : Cert.On_grouped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v67_0)) (v1 : (c : Dev Cert.KernelIdeal.nD) → Buf (Elt Ideal) ((c.tc : Thread Cert.KernelIdeal.nD Cert.KernelIdeal.τ).loc Cert.KernelIdeal.main_v67_1)) (v2 : (c : Dev Cert.KernelIdeal.nD) → Buf (Elt Ideal) ((c.tc : Thread Cert.KernelIdeal.nD Cert.KernelIdeal.τ).loc Cert.KernelIdeal.main_v67_2)) (v3 : (c : Dev Cert.KernelIdeal.nD) → Buf (Elt Ideal) ((c.tc : Thread Cert.KernelIdeal.nD Cert.KernelIdeal.τ).loc Cert.KernelIdeal.main_v67_3)) (v4 : (c : Dev Cert.KernelIdeal.nD) → Buf (Elt Ideal) ((c.tc : Thread Cert.KernelIdeal.nD Cert.KernelIdeal.τ).loc Cert.KernelIdeal.main_v67_4)) (v5 : (c : Dev Cert.KernelIdeal.nD) → Buf (Elt Ideal) ((c.tc : Thread Cert.KernelIdeal.nD Cert.KernelIdeal.τ).loc Cert.KernelIdeal.main_v67_5)) (v6 : (c : Dev Cert.KernelIdeal.nD) → Buf (Elt Ideal) ((c.tc : Thread Cert.KernelIdeal.nD Cert.KernelIdeal.τ).loc Cert.KernelIdeal.main_v67_6)) (v7 : (c : Dev Cert.KernelIdeal.nD) → Buf (Elt Ideal) ((c.tc : Thread Cert.KernelIdeal.nD Cert.KernelIdeal.τ).loc Cert.KernelIdeal.main_v67_7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![4096, 1024]⟩ : Shape).Idx, (Cert.On_grouped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.KernelIdeal.nD Cert.KernelIdeal.τ).loc Cert.KernelIdeal.main_v67_0) i = v0 c i)
          ∧ (∀ i : (⟨3, ![8, 128, 512]⟩ : Shape).Idx, (Cert.On_grouped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 i = 1#1 → r.2.mem ((c.tc : Thread Cert.KernelIdeal.nD Cert.KernelIdeal.τ).loc Cert.KernelIdeal.main_v67_1) i = v1 c i)
          ∧ (∀ i : (⟨3, ![8, 128, 512]⟩ : Shape).Idx, (Cert.On_grouped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 i = 1#1 → r.2.mem ((c.tc : Thread Cert.KernelIdeal.nD Cert.KernelIdeal.τ).loc Cert.KernelIdeal.main_v67_2) i = v2 c i)
          ∧ (∀ i : (⟨3, ![8, 512, 128]⟩ : Shape).Idx, (Cert.On_grouped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 i = 1#1 → r.2.mem ((c.tc : Thread Cert.KernelIdeal.nD Cert.KernelIdeal.τ).loc Cert.KernelIdeal.main_v67_3) i = v3 c i)
          ∧ (∀ i : (⟨3, ![8, 512, 128]⟩ : Shape).Idx, (Cert.On_grouped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 i = 1#1 → r.2.mem ((c.tc : Thread Cert.KernelIdeal.nD Cert.KernelIdeal.τ).loc Cert.KernelIdeal.main_v67_4) i = v4 c i)
          ∧ (∀ i : (⟨2, ![1, 4096]⟩ : Shape).Idx, (Cert.On_grouped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 i = 1#1 → r.2.mem ((c.tc : Thread Cert.KernelIdeal.nD Cert.KernelIdeal.τ).loc Cert.KernelIdeal.main_v67_5) i = v5 c i)
          ∧ (∀ i : (⟨2, ![1, 4096]⟩ : Shape).Idx, (Cert.On_grouped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 i = 1#1 → r.2.mem ((c.tc : Thread Cert.KernelIdeal.nD Cert.KernelIdeal.τ).loc Cert.KernelIdeal.main_v67_6) i = v6 c i)
          ∧ (∀ i : (⟨2, ![1, 1024]⟩ : Shape).Idx, (Cert.On_grouped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2 i = 1#1 → r.2.mem ((c.tc : Thread Cert.KernelIdeal.nD Cert.KernelIdeal.τ).loc Cert.KernelIdeal.main_v67_7) i = v7 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![4096, 1024]⟩ : Shape).Idx, (Cert.On_grouped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 i = 1#1 → r.2.mem ((c.tc : Thread Cert.ReferenceIdeal.nD Cert.ReferenceIdeal.τ).loc Cert.ReferenceIdeal.main_v197) i = v0 c i)
          ∧ (∀ i : (⟨3, ![8, 128, 512]⟩ : Shape).Idx, (Cert.On_grouped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 i = 1#1 → r.2.mem ((c.tc : Thread Cert.ReferenceIdeal.nD Cert.ReferenceIdeal.τ).loc Cert.ReferenceIdeal.main_v208) i = v1 c i)
          ∧ (∀ i : (⟨3, ![8, 128, 512]⟩ : Shape).Idx, (Cert.On_grouped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 i = 1#1 → r.2.mem ((c.tc : Thread Cert.ReferenceIdeal.nD Cert.ReferenceIdeal.τ).loc Cert.ReferenceIdeal.main_v219) i = v2 c i)
          ∧ (∀ i : (⟨3, ![8, 512, 128]⟩ : Shape).Idx, (Cert.On_grouped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 i = 1#1 → r.2.mem ((c.tc : Thread Cert.ReferenceIdeal.nD Cert.ReferenceIdeal.τ).loc Cert.ReferenceIdeal.main_v230) i = v3 c i)
          ∧ (∀ i : (⟨3, ![8, 512, 128]⟩ : Shape).Idx, (Cert.On_grouped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.1 i = 1#1 → r.2.mem ((c.tc : Thread Cert.ReferenceIdeal.nD Cert.ReferenceIdeal.τ).loc Cert.ReferenceIdeal.main_v241) i = v4 c i)
          ∧ (∀ i : (⟨2, ![1, 4096]⟩ : Shape).Idx, (Cert.On_grouped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.1 i = 1#1 → r.2.mem ((c.tc : Thread Cert.ReferenceIdeal.nD Cert.ReferenceIdeal.τ).loc Cert.ReferenceIdeal.main_v242) i = v5 c i)
          ∧ (∀ i : (⟨2, ![1, 4096]⟩ : Shape).Idx, (Cert.On_grouped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.1 i = 1#1 → r.2.mem ((c.tc : Thread Cert.ReferenceIdeal.nD Cert.ReferenceIdeal.τ).loc Cert.ReferenceIdeal.main_v243) i = v6 c i)
          ∧ (∀ i : (⟨2, ![1, 1024]⟩ : Shape).Idx, (Cert.On_grouped.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2.2.2.2 i = 1#1 → r.2.mem ((c.tc : Thread Cert.ReferenceIdeal.nD Cert.ReferenceIdeal.τ).loc Cert.ReferenceIdeal.main_v244) i = v7 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v10) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v7) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_DownDx_DownDxIdeal : Prop :=
  True

def algebraic_DownDxIdeal_DownDxRefIdeal_pre_finite4 [hDownDxIdeal : Cert.DownDxIdeal.Facts] [hDownDxRefIdeal : Cert.DownDxRefIdeal.Facts] [hPre_finite4 : Cert.Pre_finite4.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal_finite4 m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)
      ∧ m' ((c.tc : Thread Cert.DownDxRefIdeal.nD Cert.DownDxRefIdeal.τ).loc Cert.DownDxRefIdeal.main_arg2) = m ((c.tc : Thread Cert.DownDxIdeal.nD Cert.DownDxIdeal.τ).loc Cert.DownDxIdeal.main_arg2)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1)
          ∧ r.2.mem ((c.tc : Thread Cert.DownDxIdeal.nD Cert.DownDxIdeal.τ).loc Cert.DownDxIdeal.main_arg2) = m ((c.tc : Thread Cert.DownDxIdeal.nD Cert.DownDxIdeal.τ).loc Cert.DownDxIdeal.main_arg2))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v17) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1)
          ∧ r.2.mem ((c.tc : Thread Cert.DownDxRefIdeal.nD Cert.DownDxRefIdeal.τ).loc Cert.DownDxRefIdeal.main_arg2) = m' ((c.tc : Thread Cert.DownDxRefIdeal.nD Cert.DownDxRefIdeal.τ).loc Cert.DownDxRefIdeal.main_arg2))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)
      ∧ m' ((c.tc : Thread Cert.UpDxRefIdeal.nD Cert.UpDxRefIdeal.τ).loc Cert.UpDxRefIdeal.main_arg4) = m ((c.tc : Thread Cert.UpDxIdeal.nD Cert.UpDxIdeal.τ).loc Cert.UpDxIdeal.main_arg4)) →
    ∃ (v0 : (c : Dev Cert.UpDxIdeal.nD) → Buf (Elt Ideal) ((c.tc : Thread Cert.UpDxIdeal.nD Cert.UpDxIdeal.τ).loc Cert.UpDxIdeal.main_v0_0)) (v1 : (c : Dev Cert.UpDxIdeal.nD) → Buf (Elt Ideal) ((c.tc : Thread Cert.UpDxIdeal.nD Cert.UpDxIdeal.τ).loc Cert.UpDxIdeal.main_v0_1)) (v2 : (c : Dev Cert.UpDxIdeal.nD) → Buf (Elt Ideal) ((c.tc : Thread Cert.UpDxIdeal.nD Cert.UpDxIdeal.τ).loc Cert.UpDxIdeal.main_v0_2)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0_0) = v0 c
          ∧ r.2.mem ((c.tc : Thread Cert.UpDxIdeal.nD Cert.UpDxIdeal.τ).loc Cert.UpDxIdeal.main_v0_1) = v1 c
          ∧ r.2.mem ((c.tc : Thread Cert.UpDxIdeal.nD Cert.UpDxIdeal.τ).loc Cert.UpDxIdeal.main_v0_2) = v2 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v43) = v0 c
          ∧ r.2.mem ((c.tc : Thread Cert.UpDxRefIdeal.nD Cert.UpDxRefIdeal.τ).loc Cert.UpDxRefIdeal.main_v45) = v1 c
          ∧ r.2.mem ((c.tc : Thread Cert.UpDxRefIdeal.nD Cert.UpDxRefIdeal.τ).loc Cert.UpDxRefIdeal.main_v42) = v2 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3)
          ∧ r.2.mem ((c.tc : Thread Cert.UpDxRefIdeal.nD Cert.UpDxRefIdeal.τ).loc Cert.UpDxRefIdeal.main_arg4) = m' ((c.tc : Thread Cert.UpDxRefIdeal.nD Cert.UpDxRefIdeal.τ).loc Cert.UpDxRefIdeal.main_arg4))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)) (v2 : (c : Dev Cert.UpIdeal.nD) → Buf (Elt Ideal) ((c.tc : Thread Cert.UpIdeal.nD Cert.UpIdeal.τ).loc Cert.UpIdeal.main_v0_2)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0_0) = v0 c
          ∧ r.2.mem ((c.tc : Thread Cert.UpIdeal.nD Cert.UpIdeal.τ).loc Cert.UpIdeal.main_v0_1) = v1 c
          ∧ r.2.mem ((c.tc : Thread Cert.UpIdeal.nD Cert.UpIdeal.τ).loc Cert.UpIdeal.main_v0_2) = v2 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v17) = v0 c
          ∧ r.2.mem ((c.tc : Thread Cert.UpRefIdeal.nD Cert.UpRefIdeal.τ).loc Cert.UpRefIdeal.main_v22) = v1 c
          ∧ r.2.mem ((c.tc : Thread Cert.UpRefIdeal.nD Cert.UpRefIdeal.τ).loc Cert.UpRefIdeal.main_v23) = v2 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v5) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)) →
    ∃ (v0 : (c : Dev Cert.ProjDxIdeal.nD) → Buf (Elt Ideal) ((c.tc : Thread Cert.ProjDxIdeal.nD Cert.ProjDxIdeal.τ).loc Cert.ProjDxIdeal.main_v0)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v5) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v6) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1))

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)
      ∧ m' ((c.tc : Thread Cert.ConvInRefIdeal.nD Cert.ConvInRefIdeal.τ).loc Cert.ConvInRefIdeal.main_arg2) = m ((c.tc : Thread Cert.ConvInIdeal.nD Cert.ConvInIdeal.τ).loc Cert.ConvInIdeal.main_arg2)) →
    ∃ (v0 : (c : Dev Cert.ConvInIdeal.nD) → Buf (Elt Ideal) ((c.tc : Thread Cert.ConvInIdeal.nD Cert.ConvInIdeal.τ).loc Cert.ConvInIdeal.main_v0_0)) (v1 : (c : Dev Cert.ConvInIdeal.nD) → Buf (Elt Ideal) ((c.tc : Thread Cert.ConvInIdeal.nD Cert.ConvInIdeal.τ).loc Cert.ConvInIdeal.main_v0_1)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v0_0) = v0 c
          ∧ r.2.mem ((c.tc : Thread Cert.ConvInIdeal.nD Cert.ConvInIdeal.τ).loc Cert.ConvInIdeal.main_v0_1) = v1 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
          ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v16) = v0 c
          ∧ r.2.mem ((c.tc : Thread Cert.ConvInRefIdeal.nD Cert.ConvInRefIdeal.τ).loc Cert.ConvInRefIdeal.main_v17) = v1 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1)
          ∧ r.2.mem ((c.tc : Thread Cert.ConvInRefIdeal.nD Cert.ConvInRefIdeal.τ).loc Cert.ConvInRefIdeal.main_arg2) = m' ((c.tc : Thread Cert.ConvInRefIdeal.nD Cert.ConvInRefIdeal.τ).loc Cert.ConvInRefIdeal.main_arg2))

def preserves_ConvInDw_ConvInDwIdeal : Prop :=
  True

def algebraic_ConvInDwIdeal_ConvInDwRefIdeal [hConvInDwIdeal : Cert.ConvInDwIdeal.Facts] [hConvInDwRefIdeal : Cert.ConvInDwRefIdeal.Facts] : Prop :=
  ∀ (m : (ℓ : Loc Cert.ConvInDwIdeal.nD Cert.ConvInDwIdeal.τ Cert.ConvInDwIdeal.sig) → Buf (Elt Ideal) ℓ) (g : Dev Cert.ConvInDwIdeal.nD → PrngReg)
    (m' : (ℓ : Loc Cert.ConvInDwRefIdeal.nD Cert.ConvInDwRefIdeal.τ Cert.ConvInDwRefIdeal.sig) → Buf (Elt Ideal) ℓ) (g' : Dev Cert.ConvInDwRefIdeal.nD → PrngReg), Pre_ConvInDwIdeal m →
    (∀ c : Dev Cert.ConvInDwIdeal.nD,
      m' ((c.tc : Thread Cert.ConvInDwRefIdeal.nD Cert.ConvInDwRefIdeal.τ).loc Cert.ConvInDwRefIdeal.main_arg0) = m ((c.tc : Thread Cert.ConvInDwIdeal.nD Cert.ConvInDwIdeal.τ).loc Cert.ConvInDwIdeal.main_arg0)
      ∧ m' ((c.tc : Thread Cert.ConvInDwRefIdeal.nD Cert.ConvInDwRefIdeal.τ).loc Cert.ConvInDwRefIdeal.main_arg1) = m ((c.tc : Thread Cert.ConvInDwIdeal.nD Cert.ConvInDwIdeal.τ).loc Cert.ConvInDwIdeal.main_arg1)) →
    ∃ (v0 : (c : Dev Cert.ConvInDwIdeal.nD) → Buf (Elt Ideal) ((c.tc : Thread Cert.ConvInDwIdeal.nD Cert.ConvInDwIdeal.τ).loc Cert.ConvInDwIdeal.main_v0)),
      θ_run (Cert.ConvInDwIdeal.defs (F := Ideal)) (onTc (τ := Cert.ConvInDwIdeal.τ) (Cert.ConvInDwIdeal.main (F := Ideal))) ⟨m, fun _ => 0, g⟩ (fun r => ∀ c : Dev Cert.ConvInDwIdeal.nD,
          r.2.mem ((c.tc : Thread Cert.ConvInDwIdeal.nD Cert.ConvInDwIdeal.τ).loc Cert.ConvInDwIdeal.main_v0) = v0 c
          ∧ r.2.mem ((c.tc : Thread Cert.ConvInDwIdeal.nD Cert.ConvInDwIdeal.τ).loc Cert.ConvInDwIdeal.main_arg0) = m ((c.tc : Thread Cert.ConvInDwIdeal.nD Cert.ConvInDwIdeal.τ).loc Cert.ConvInDwIdeal.main_arg0)
          ∧ r.2.mem ((c.tc : Thread Cert.ConvInDwIdeal.nD Cert.ConvInDwIdeal.τ).loc Cert.ConvInDwIdeal.main_arg1) = m ((c.tc : Thread Cert.ConvInDwIdeal.nD Cert.ConvInDwIdeal.τ).loc Cert.ConvInDwIdeal.main_arg1))
      ∧ θ_run (Cert.ConvInDwRefIdeal.defs (F := Ideal)) (onTc (τ := Cert.ConvInDwRefIdeal.τ) (Cert.ConvInDwRefIdeal.main (F := Ideal))) ⟨m', fun _ => 0, g'⟩ (fun r => ∀ c : Dev Cert.ConvInDwRefIdeal.nD,
          r.2.mem ((c.tc : Thread Cert.ConvInDwRefIdeal.nD Cert.ConvInDwRefIdeal.τ).loc Cert.ConvInDwRefIdeal.main_v6) = v0 c
          ∧ r.2.mem ((c.tc : Thread Cert.ConvInDwRefIdeal.nD Cert.ConvInDwRefIdeal.τ).loc Cert.ConvInDwRefIdeal.main_arg0) = m' ((c.tc : Thread Cert.ConvInDwRefIdeal.nD Cert.ConvInDwRefIdeal.τ).loc Cert.ConvInDwRefIdeal.main_arg0)
          ∧ r.2.mem ((c.tc : Thread Cert.ConvInDwRefIdeal.nD Cert.ConvInDwRefIdeal.τ).loc Cert.ConvInDwRefIdeal.main_arg1) = m' ((c.tc : Thread Cert.ConvInDwRefIdeal.nD Cert.ConvInDwRefIdeal.τ).loc Cert.ConvInDwRefIdeal.main_arg1))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)) →
    ∃ (v0 : (c : Dev Cert.QueryIdeal.nD) → Buf (Elt Ideal) ((c.tc : Thread Cert.QueryIdeal.nD Cert.QueryIdeal.τ).loc Cert.QueryIdeal.main_v0_0)) (v1 : (c : Dev Cert.QueryIdeal.nD) → Buf (Elt Ideal) ((c.tc : Thread Cert.QueryIdeal.nD Cert.QueryIdeal.τ).loc Cert.QueryIdeal.main_v0_1)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0_0) = v0 c
          ∧ r.2.mem ((c.tc : Thread Cert.QueryIdeal.nD Cert.QueryIdeal.τ).loc Cert.QueryIdeal.main_v0_1) = v1 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v16) = v0 c
          ∧ r.2.mem ((c.tc : Thread Cert.QueryRefIdeal.nD Cert.QueryRefIdeal.τ).loc Cert.QueryRefIdeal.main_v17) = v1 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2))

def preserves_Glu_GluIdeal : Prop :=
  True

def algebraic_GluIdeal_GluRefIdeal [hGluIdeal : Cert.GluIdeal.Facts] [hGluRefIdeal : Cert.GluRefIdeal.Facts] : Prop :=
  ∀ (m : (ℓ : Loc Cert.GluIdeal.nD Cert.GluIdeal.τ Cert.GluIdeal.sig) → Buf (Elt Ideal) ℓ) (g : Dev Cert.GluIdeal.nD → PrngReg)
    (m' : (ℓ : Loc Cert.GluRefIdeal.nD Cert.GluRefIdeal.τ Cert.GluRefIdeal.sig) → Buf (Elt Ideal) ℓ) (g' : Dev Cert.GluRefIdeal.nD → PrngReg), Pre_GluIdeal m →
    (∀ c : Dev Cert.GluIdeal.nD,
      m' ((c.tc : Thread Cert.GluRefIdeal.nD Cert.GluRefIdeal.τ).loc Cert.GluRefIdeal.main_arg0) = m ((c.tc : Thread Cert.GluIdeal.nD Cert.GluIdeal.τ).loc Cert.GluIdeal.main_arg0)
      ∧ m' ((c.tc : Thread Cert.GluRefIdeal.nD Cert.GluRefIdeal.τ).loc Cert.GluRefIdeal.main_arg1) = m ((c.tc : Thread Cert.GluIdeal.nD Cert.GluIdeal.τ).loc Cert.GluIdeal.main_arg1)
      ∧ m' ((c.tc : Thread Cert.GluRefIdeal.nD Cert.GluRefIdeal.τ).loc Cert.GluRefIdeal.main_arg2) = m ((c.tc : Thread Cert.GluIdeal.nD Cert.GluIdeal.τ).loc Cert.GluIdeal.main_arg2)) →
    ∃ (v0 : (c : Dev Cert.GluIdeal.nD) → Buf (Elt Ideal) ((c.tc : Thread Cert.GluIdeal.nD Cert.GluIdeal.τ).loc Cert.GluIdeal.main_v0_0)) (v1 : (c : Dev Cert.GluIdeal.nD) → Buf (Elt Ideal) ((c.tc : Thread Cert.GluIdeal.nD Cert.GluIdeal.τ).loc Cert.GluIdeal.main_v0_1)),
      θ_run (Cert.GluIdeal.defs (F := Ideal)) (onTc (τ := Cert.GluIdeal.τ) (Cert.GluIdeal.main (F := Ideal))) ⟨m, fun _ => 0, g⟩ (fun r => ∀ c : Dev Cert.GluIdeal.nD,
          r.2.mem ((c.tc : Thread Cert.GluIdeal.nD Cert.GluIdeal.τ).loc Cert.GluIdeal.main_v0_0) = v0 c
          ∧ r.2.mem ((c.tc : Thread Cert.GluIdeal.nD Cert.GluIdeal.τ).loc Cert.GluIdeal.main_v0_1) = v1 c
          ∧ r.2.mem ((c.tc : Thread Cert.GluIdeal.nD Cert.GluIdeal.τ).loc Cert.GluIdeal.main_arg0) = m ((c.tc : Thread Cert.GluIdeal.nD Cert.GluIdeal.τ).loc Cert.GluIdeal.main_arg0)
          ∧ r.2.mem ((c.tc : Thread Cert.GluIdeal.nD Cert.GluIdeal.τ).loc Cert.GluIdeal.main_arg1) = m ((c.tc : Thread Cert.GluIdeal.nD Cert.GluIdeal.τ).loc Cert.GluIdeal.main_arg1)
          ∧ r.2.mem ((c.tc : Thread Cert.GluIdeal.nD Cert.GluIdeal.τ).loc Cert.GluIdeal.main_arg2) = m ((c.tc : Thread Cert.GluIdeal.nD Cert.GluIdeal.τ).loc Cert.GluIdeal.main_arg2))
      ∧ θ_run (Cert.GluRefIdeal.defs (F := Ideal)) (onTc (τ := Cert.GluRefIdeal.τ) (Cert.GluRefIdeal.main (F := Ideal))) ⟨m', fun _ => 0, g'⟩ (fun r => ∀ c : Dev Cert.GluRefIdeal.nD,
          r.2.mem ((c.tc : Thread Cert.GluRefIdeal.nD Cert.GluRefIdeal.τ).loc Cert.GluRefIdeal.main_v5) = v0 c
          ∧ r.2.mem ((c.tc : Thread Cert.GluRefIdeal.nD Cert.GluRefIdeal.τ).loc Cert.GluRefIdeal.main_v13) = v1 c
          ∧ r.2.mem ((c.tc : Thread Cert.GluRefIdeal.nD Cert.GluRefIdeal.τ).loc Cert.GluRefIdeal.main_arg0) = m' ((c.tc : Thread Cert.GluRefIdeal.nD Cert.GluRefIdeal.τ).loc Cert.GluRefIdeal.main_arg0)
          ∧ r.2.mem ((c.tc : Thread Cert.GluRefIdeal.nD Cert.GluRefIdeal.τ).loc Cert.GluRefIdeal.main_arg1) = m' ((c.tc : Thread Cert.GluRefIdeal.nD Cert.GluRefIdeal.τ).loc Cert.GluRefIdeal.main_arg1)
          ∧ r.2.mem ((c.tc : Thread Cert.GluRefIdeal.nD Cert.GluRefIdeal.τ).loc Cert.GluRefIdeal.main_arg2) = m' ((c.tc : Thread Cert.GluRefIdeal.nD Cert.GluRefIdeal.τ).loc Cert.GluRefIdeal.main_arg2))

def preserves_GluDw_GluDwIdeal : Prop :=
  True

def algebraic_GluDwIdeal_GluDwRefIdeal [hGluDwIdeal : Cert.GluDwIdeal.Facts] [hGluDwRefIdeal : Cert.GluDwRefIdeal.Facts] : Prop :=
  ∀ (m : (ℓ : Loc Cert.GluDwIdeal.nD Cert.GluDwIdeal.τ Cert.GluDwIdeal.sig) → Buf (Elt Ideal) ℓ) (g : Dev Cert.GluDwIdeal.nD → PrngReg)
    (m' : (ℓ : Loc Cert.GluDwRefIdeal.nD Cert.GluDwRefIdeal.τ Cert.GluDwRefIdeal.sig) → Buf (Elt Ideal) ℓ) (g' : Dev Cert.GluDwRefIdeal.nD → PrngReg), Pre_GluDwIdeal m →
    (∀ c : Dev Cert.GluDwIdeal.nD,
      m' ((c.tc : Thread Cert.GluDwRefIdeal.nD Cert.GluDwRefIdeal.τ).loc Cert.GluDwRefIdeal.main_arg0) = m ((c.tc : Thread Cert.GluDwIdeal.nD Cert.GluDwIdeal.τ).loc Cert.GluDwIdeal.main_arg0)
      ∧ m' ((c.tc : Thread Cert.GluDwRefIdeal.nD Cert.GluDwRefIdeal.τ).loc Cert.GluDwRefIdeal.main_arg1) = m ((c.tc : Thread Cert.GluDwIdeal.nD Cert.GluDwIdeal.τ).loc Cert.GluDwIdeal.main_arg1)) →
    ∃ (v0 : (c : Dev Cert.GluDwIdeal.nD) → Buf (Elt Ideal) ((c.tc : Thread Cert.GluDwIdeal.nD Cert.GluDwIdeal.τ).loc Cert.GluDwIdeal.main_v0)),
      θ_run (Cert.GluDwIdeal.defs (F := Ideal)) (onTc (τ := Cert.GluDwIdeal.τ) (Cert.GluDwIdeal.main (F := Ideal))) ⟨m, fun _ => 0, g⟩ (fun r => ∀ c : Dev Cert.GluDwIdeal.nD,
          r.2.mem ((c.tc : Thread Cert.GluDwIdeal.nD Cert.GluDwIdeal.τ).loc Cert.GluDwIdeal.main_v0) = v0 c
          ∧ r.2.mem ((c.tc : Thread Cert.GluDwIdeal.nD Cert.GluDwIdeal.τ).loc Cert.GluDwIdeal.main_arg0) = m ((c.tc : Thread Cert.GluDwIdeal.nD Cert.GluDwIdeal.τ).loc Cert.GluDwIdeal.main_arg0)
          ∧ r.2.mem ((c.tc : Thread Cert.GluDwIdeal.nD Cert.GluDwIdeal.τ).loc Cert.GluDwIdeal.main_arg1) = m ((c.tc : Thread Cert.GluDwIdeal.nD Cert.GluDwIdeal.τ).loc Cert.GluDwIdeal.main_arg1))
      ∧ θ_run (Cert.GluDwRefIdeal.defs (F := Ideal)) (onTc (τ := Cert.GluDwRefIdeal.τ) (Cert.GluDwRefIdeal.main (F := Ideal))) ⟨m', fun _ => 0, g'⟩ (fun r => ∀ c : Dev Cert.GluDwRefIdeal.nD,
          r.2.mem ((c.tc : Thread Cert.GluDwRefIdeal.nD Cert.GluDwRefIdeal.τ).loc Cert.GluDwRefIdeal.main_v6) = v0 c
          ∧ r.2.mem ((c.tc : Thread Cert.GluDwRefIdeal.nD Cert.GluDwRefIdeal.τ).loc Cert.GluDwRefIdeal.main_arg0) = m' ((c.tc : Thread Cert.GluDwRefIdeal.nD Cert.GluDwRefIdeal.τ).loc Cert.GluDwRefIdeal.main_arg0)
          ∧ r.2.mem ((c.tc : Thread Cert.GluDwRefIdeal.nD Cert.GluDwRefIdeal.τ).loc Cert.GluDwRefIdeal.main_arg1) = m' ((c.tc : Thread Cert.GluDwRefIdeal.nD Cert.GluDwRefIdeal.τ).loc Cert.GluDwRefIdeal.main_arg1))

def preserves_GluDx_GluDxIdeal : Prop :=
  True

def algebraic_GluDxIdeal_GluDxRefIdeal [hGluDxIdeal : Cert.GluDxIdeal.Facts] [hGluDxRefIdeal : Cert.GluDxRefIdeal.Facts] : Prop :=
  ∀ (m : (ℓ : Loc Cert.GluDxIdeal.nD Cert.GluDxIdeal.τ Cert.GluDxIdeal.sig) → Buf (Elt Ideal) ℓ) (g : Dev Cert.GluDxIdeal.nD → PrngReg)
    (m' : (ℓ : Loc Cert.GluDxRefIdeal.nD Cert.GluDxRefIdeal.τ Cert.GluDxRefIdeal.sig) → Buf (Elt Ideal) ℓ) (g' : Dev Cert.GluDxRefIdeal.nD → PrngReg), Pre_GluDxIdeal m →
    (∀ c : Dev Cert.GluDxIdeal.nD,
      m' ((c.tc : Thread Cert.GluDxRefIdeal.nD Cert.GluDxRefIdeal.τ).loc Cert.GluDxRefIdeal.main_arg0) = m ((c.tc : Thread Cert.GluDxIdeal.nD Cert.GluDxIdeal.τ).loc Cert.GluDxIdeal.main_arg0)
      ∧ m' ((c.tc : Thread Cert.GluDxRefIdeal.nD Cert.GluDxRefIdeal.τ).loc Cert.GluDxRefIdeal.main_arg1) = m ((c.tc : Thread Cert.GluDxIdeal.nD Cert.GluDxIdeal.τ).loc Cert.GluDxIdeal.main_arg1)) →
    ∃ (v0 : (c : Dev Cert.GluDxIdeal.nD) → Buf (Elt Ideal) ((c.tc : Thread Cert.GluDxIdeal.nD Cert.GluDxIdeal.τ).loc Cert.GluDxIdeal.main_v0)),
      θ_run (Cert.GluDxIdeal.defs (F := Ideal)) (onTc (τ := Cert.GluDxIdeal.τ) (Cert.GluDxIdeal.main (F := Ideal))) ⟨m, fun _ => 0, g⟩ (fun r => ∀ c : Dev Cert.GluDxIdeal.nD,
          r.2.mem ((c.tc : Thread Cert.GluDxIdeal.nD Cert.GluDxIdeal.τ).loc Cert.GluDxIdeal.main_v0) = v0 c
          ∧ r.2.mem ((c.tc : Thread Cert.GluDxIdeal.nD Cert.GluDxIdeal.τ).loc Cert.GluDxIdeal.main_arg0) = m ((c.tc : Thread Cert.GluDxIdeal.nD Cert.GluDxIdeal.τ).loc Cert.GluDxIdeal.main_arg0)
          ∧ r.2.mem ((c.tc : Thread Cert.GluDxIdeal.nD Cert.GluDxIdeal.τ).loc Cert.GluDxIdeal.main_arg1) = m ((c.tc : Thread Cert.GluDxIdeal.nD Cert.GluDxIdeal.τ).loc Cert.GluDxIdeal.main_arg1))
      ∧ θ_run (Cert.GluDxRefIdeal.defs (F := Ideal)) (onTc (τ := Cert.GluDxRefIdeal.τ) (Cert.GluDxRefIdeal.main (F := Ideal))) ⟨m', fun _ => 0, g'⟩ (fun r => ∀ c : Dev Cert.GluDxRefIdeal.nD,
          r.2.mem ((c.tc : Thread Cert.GluDxRefIdeal.nD Cert.GluDxRefIdeal.τ).loc Cert.GluDxRefIdeal.main_v5) = v0 c
          ∧ r.2.mem ((c.tc : Thread Cert.GluDxRefIdeal.nD Cert.GluDxRefIdeal.τ).loc Cert.GluDxRefIdeal.main_arg0) = m' ((c.tc : Thread Cert.GluDxRefIdeal.nD Cert.GluDxRefIdeal.τ).loc Cert.GluDxRefIdeal.main_arg0)
          ∧ r.2.mem ((c.tc : Thread Cert.GluDxRefIdeal.nD Cert.GluDxRefIdeal.τ).loc Cert.GluDxRefIdeal.main_arg1) = m' ((c.tc : Thread Cert.GluDxRefIdeal.nD Cert.GluDxRefIdeal.τ).loc Cert.GluDxRefIdeal.main_arg1))

def preserves_ConvInDx_ConvInDxIdeal : Prop :=
  True

def algebraic_ConvInDxIdeal_ConvInDxRefIdeal [hConvInDxIdeal : Cert.ConvInDxIdeal.Facts] [hConvInDxRefIdeal : Cert.ConvInDxRefIdeal.Facts] : Prop :=
  ∀ (m : (ℓ : Loc Cert.ConvInDxIdeal.nD Cert.ConvInDxIdeal.τ Cert.ConvInDxIdeal.sig) → Buf (Elt Ideal) ℓ) (g : Dev Cert.ConvInDxIdeal.nD → PrngReg)
    (m' : (ℓ : Loc Cert.ConvInDxRefIdeal.nD Cert.ConvInDxRefIdeal.τ Cert.ConvInDxRefIdeal.sig) → Buf (Elt Ideal) ℓ) (g' : Dev Cert.ConvInDxRefIdeal.nD → PrngReg), Pre_ConvInDxIdeal m →
    (∀ c : Dev Cert.ConvInDxIdeal.nD,
      m' ((c.tc : Thread Cert.ConvInDxRefIdeal.nD Cert.ConvInDxRefIdeal.τ).loc Cert.ConvInDxRefIdeal.main_arg0) = m ((c.tc : Thread Cert.ConvInDxIdeal.nD Cert.ConvInDxIdeal.τ).loc Cert.ConvInDxIdeal.main_arg0)
      ∧ m' ((c.tc : Thread Cert.ConvInDxRefIdeal.nD Cert.ConvInDxRefIdeal.τ).loc Cert.ConvInDxRefIdeal.main_arg1) = m ((c.tc : Thread Cert.ConvInDxIdeal.nD Cert.ConvInDxIdeal.τ).loc Cert.ConvInDxIdeal.main_arg1)
      ∧ m' ((c.tc : Thread Cert.ConvInDxRefIdeal.nD Cert.ConvInDxRefIdeal.τ).loc Cert.ConvInDxRefIdeal.main_arg2) = m ((c.tc : Thread Cert.ConvInDxIdeal.nD Cert.ConvInDxIdeal.τ).loc Cert.ConvInDxIdeal.main_arg2)
      ∧ m' ((c.tc : Thread Cert.ConvInDxRefIdeal.nD Cert.ConvInDxRefIdeal.τ).loc Cert.ConvInDxRefIdeal.main_arg3) = m ((c.tc : Thread Cert.ConvInDxIdeal.nD Cert.ConvInDxIdeal.τ).loc Cert.ConvInDxIdeal.main_arg3)
      ∧ m' ((c.tc : Thread Cert.ConvInDxRefIdeal.nD Cert.ConvInDxRefIdeal.τ).loc Cert.ConvInDxRefIdeal.main_arg4) = m ((c.tc : Thread Cert.ConvInDxIdeal.nD Cert.ConvInDxIdeal.τ).loc Cert.ConvInDxIdeal.main_arg4)) →
    ∃ (v0 : (c : Dev Cert.ConvInDxIdeal.nD) → Buf (Elt Ideal) ((c.tc : Thread Cert.ConvInDxIdeal.nD Cert.ConvInDxIdeal.τ).loc Cert.ConvInDxIdeal.main_v0_0)) (v1 : (c : Dev Cert.ConvInDxIdeal.nD) → Buf (Elt Ideal) ((c.tc : Thread Cert.ConvInDxIdeal.nD Cert.ConvInDxIdeal.τ).loc Cert.ConvInDxIdeal.main_v0_1)) (v2 : (c : Dev Cert.ConvInDxIdeal.nD) → Buf (Elt Ideal) ((c.tc : Thread Cert.ConvInDxIdeal.nD Cert.ConvInDxIdeal.τ).loc Cert.ConvInDxIdeal.main_v0_2)),
      θ_run (Cert.ConvInDxIdeal.defs (F := Ideal)) (onTc (τ := Cert.ConvInDxIdeal.τ) (Cert.ConvInDxIdeal.main (F := Ideal))) ⟨m, fun _ => 0, g⟩ (fun r => ∀ c : Dev Cert.ConvInDxIdeal.nD,
          r.2.mem ((c.tc : Thread Cert.ConvInDxIdeal.nD Cert.ConvInDxIdeal.τ).loc Cert.ConvInDxIdeal.main_v0_0) = v0 c
          ∧ r.2.mem ((c.tc : Thread Cert.ConvInDxIdeal.nD Cert.ConvInDxIdeal.τ).loc Cert.ConvInDxIdeal.main_v0_1) = v1 c
          ∧ r.2.mem ((c.tc : Thread Cert.ConvInDxIdeal.nD Cert.ConvInDxIdeal.τ).loc Cert.ConvInDxIdeal.main_v0_2) = v2 c
          ∧ r.2.mem ((c.tc : Thread Cert.ConvInDxIdeal.nD Cert.ConvInDxIdeal.τ).loc Cert.ConvInDxIdeal.main_arg0) = m ((c.tc : Thread Cert.ConvInDxIdeal.nD Cert.ConvInDxIdeal.τ).loc Cert.ConvInDxIdeal.main_arg0)
          ∧ r.2.mem ((c.tc : Thread Cert.ConvInDxIdeal.nD Cert.ConvInDxIdeal.τ).loc Cert.ConvInDxIdeal.main_arg1) = m ((c.tc : Thread Cert.ConvInDxIdeal.nD Cert.ConvInDxIdeal.τ).loc Cert.ConvInDxIdeal.main_arg1)
          ∧ r.2.mem ((c.tc : Thread Cert.ConvInDxIdeal.nD Cert.ConvInDxIdeal.τ).loc Cert.ConvInDxIdeal.main_arg2) = m ((c.tc : Thread Cert.ConvInDxIdeal.nD Cert.ConvInDxIdeal.τ).loc Cert.ConvInDxIdeal.main_arg2)
          ∧ r.2.mem ((c.tc : Thread Cert.ConvInDxIdeal.nD Cert.ConvInDxIdeal.τ).loc Cert.ConvInDxIdeal.main_arg3) = m ((c.tc : Thread Cert.ConvInDxIdeal.nD Cert.ConvInDxIdeal.τ).loc Cert.ConvInDxIdeal.main_arg3)
          ∧ r.2.mem ((c.tc : Thread Cert.ConvInDxIdeal.nD Cert.ConvInDxIdeal.τ).loc Cert.ConvInDxIdeal.main_arg4) = m ((c.tc : Thread Cert.ConvInDxIdeal.nD Cert.ConvInDxIdeal.τ).loc Cert.ConvInDxIdeal.main_arg4))
      ∧ θ_run (Cert.ConvInDxRefIdeal.defs (F := Ideal)) (onTc (τ := Cert.ConvInDxRefIdeal.τ) (Cert.ConvInDxRefIdeal.main (F := Ideal))) ⟨m', fun _ => 0, g'⟩ (fun r => ∀ c : Dev Cert.ConvInDxRefIdeal.nD,
          r.2.mem ((c.tc : Thread Cert.ConvInDxRefIdeal.nD Cert.ConvInDxRefIdeal.τ).loc Cert.ConvInDxRefIdeal.main_v42) = v0 c
          ∧ r.2.mem ((c.tc : Thread Cert.ConvInDxRefIdeal.nD Cert.ConvInDxRefIdeal.τ).loc Cert.ConvInDxRefIdeal.main_v44) = v1 c
          ∧ r.2.mem ((c.tc : Thread Cert.ConvInDxRefIdeal.nD Cert.ConvInDxRefIdeal.τ).loc Cert.ConvInDxRefIdeal.main_v41) = v2 c
          ∧ r.2.mem ((c.tc : Thread Cert.ConvInDxRefIdeal.nD Cert.ConvInDxRefIdeal.τ).loc Cert.ConvInDxRefIdeal.main_arg0) = m' ((c.tc : Thread Cert.ConvInDxRefIdeal.nD Cert.ConvInDxRefIdeal.τ).loc Cert.ConvInDxRefIdeal.main_arg0)
          ∧ r.2.mem ((c.tc : Thread Cert.ConvInDxRefIdeal.nD Cert.ConvInDxRefIdeal.τ).loc Cert.ConvInDxRefIdeal.main_arg1) = m' ((c.tc : Thread Cert.ConvInDxRefIdeal.nD Cert.ConvInDxRefIdeal.τ).loc Cert.ConvInDxRefIdeal.main_arg1)
          ∧ r.2.mem ((c.tc : Thread Cert.ConvInDxRefIdeal.nD Cert.ConvInDxRefIdeal.τ).loc Cert.ConvInDxRefIdeal.main_arg2) = m' ((c.tc : Thread Cert.ConvInDxRefIdeal.nD Cert.ConvInDxRefIdeal.τ).loc Cert.ConvInDxRefIdeal.main_arg2)
          ∧ r.2.mem ((c.tc : Thread Cert.ConvInDxRefIdeal.nD Cert.ConvInDxRefIdeal.τ).loc Cert.ConvInDxRefIdeal.main_arg3) = m' ((c.tc : Thread Cert.ConvInDxRefIdeal.nD Cert.ConvInDxRefIdeal.τ).loc Cert.ConvInDxRefIdeal.main_arg3)
          ∧ r.2.mem ((c.tc : Thread Cert.ConvInDxRefIdeal.nD Cert.ConvInDxRefIdeal.τ).loc Cert.ConvInDxRefIdeal.main_arg4) = m' ((c.tc : Thread Cert.ConvInDxRefIdeal.nD Cert.ConvInDxRefIdeal.τ).loc Cert.ConvInDxRefIdeal.main_arg4))

def preserves_QueryDx_QueryDxIdeal : Prop :=
  True

def algebraic_QueryDxIdeal_QueryDxRefIdeal [hQueryDxIdeal : Cert.QueryDxIdeal.Facts] [hQueryDxRefIdeal : Cert.QueryDxRefIdeal.Facts] : Prop :=
  ∀ (m : (ℓ : Loc Cert.QueryDxIdeal.nD Cert.QueryDxIdeal.τ Cert.QueryDxIdeal.sig) → Buf (Elt Ideal) ℓ) (g : Dev Cert.QueryDxIdeal.nD → PrngReg)
    (m' : (ℓ : Loc Cert.QueryDxRefIdeal.nD Cert.QueryDxRefIdeal.τ Cert.QueryDxRefIdeal.sig) → Buf (Elt Ideal) ℓ) (g' : Dev Cert.QueryDxRefIdeal.nD → PrngReg), Pre_QueryDxIdeal m →
    (∀ c : Dev Cert.QueryDxIdeal.nD,
      m' ((c.tc : Thread Cert.QueryDxRefIdeal.nD Cert.QueryDxRefIdeal.τ).loc Cert.QueryDxRefIdeal.main_arg0) = m ((c.tc : Thread Cert.QueryDxIdeal.nD Cert.QueryDxIdeal.τ).loc Cert.QueryDxIdeal.main_arg0)
      ∧ m' ((c.tc : Thread Cert.QueryDxRefIdeal.nD Cert.QueryDxRefIdeal.τ).loc Cert.QueryDxRefIdeal.main_arg1) = m ((c.tc : Thread Cert.QueryDxIdeal.nD Cert.QueryDxIdeal.τ).loc Cert.QueryDxIdeal.main_arg1)
      ∧ m' ((c.tc : Thread Cert.QueryDxRefIdeal.nD Cert.QueryDxRefIdeal.τ).loc Cert.QueryDxRefIdeal.main_arg2) = m ((c.tc : Thread Cert.QueryDxIdeal.nD Cert.QueryDxIdeal.τ).loc Cert.QueryDxIdeal.main_arg2)
      ∧ m' ((c.tc : Thread Cert.QueryDxRefIdeal.nD Cert.QueryDxRefIdeal.τ).loc Cert.QueryDxRefIdeal.main_arg3) = m ((c.tc : Thread Cert.QueryDxIdeal.nD Cert.QueryDxIdeal.τ).loc Cert.QueryDxIdeal.main_arg3)
      ∧ m' ((c.tc : Thread Cert.QueryDxRefIdeal.nD Cert.QueryDxRefIdeal.τ).loc Cert.QueryDxRefIdeal.main_arg4) = m ((c.tc : Thread Cert.QueryDxIdeal.nD Cert.QueryDxIdeal.τ).loc Cert.QueryDxIdeal.main_arg4)) →
    ∃ (v0 : (c : Dev Cert.QueryDxIdeal.nD) → Buf (Elt Ideal) ((c.tc : Thread Cert.QueryDxIdeal.nD Cert.QueryDxIdeal.τ).loc Cert.QueryDxIdeal.main_v0_0)) (v1 : (c : Dev Cert.QueryDxIdeal.nD) → Buf (Elt Ideal) ((c.tc : Thread Cert.QueryDxIdeal.nD Cert.QueryDxIdeal.τ).loc Cert.QueryDxIdeal.main_v0_1)) (v2 : (c : Dev Cert.QueryDxIdeal.nD) → Buf (Elt Ideal) ((c.tc : Thread Cert.QueryDxIdeal.nD Cert.QueryDxIdeal.τ).loc Cert.QueryDxIdeal.main_v0_2)),
      θ_run (Cert.QueryDxIdeal.defs (F := Ideal)) (onTc (τ := Cert.QueryDxIdeal.τ) (Cert.QueryDxIdeal.main (F := Ideal))) ⟨m, fun _ => 0, g⟩ (fun r => ∀ c : Dev Cert.QueryDxIdeal.nD,
          r.2.mem ((c.tc : Thread Cert.QueryDxIdeal.nD Cert.QueryDxIdeal.τ).loc Cert.QueryDxIdeal.main_v0_0) = v0 c
          ∧ r.2.mem ((c.tc : Thread Cert.QueryDxIdeal.nD Cert.QueryDxIdeal.τ).loc Cert.QueryDxIdeal.main_v0_1) = v1 c
          ∧ r.2.mem ((c.tc : Thread Cert.QueryDxIdeal.nD Cert.QueryDxIdeal.τ).loc Cert.QueryDxIdeal.main_v0_2) = v2 c
          ∧ r.2.mem ((c.tc : Thread Cert.QueryDxIdeal.nD Cert.QueryDxIdeal.τ).loc Cert.QueryDxIdeal.main_arg0) = m ((c.tc : Thread Cert.QueryDxIdeal.nD Cert.QueryDxIdeal.τ).loc Cert.QueryDxIdeal.main_arg0)
          ∧ r.2.mem ((c.tc : Thread Cert.QueryDxIdeal.nD Cert.QueryDxIdeal.τ).loc Cert.QueryDxIdeal.main_arg1) = m ((c.tc : Thread Cert.QueryDxIdeal.nD Cert.QueryDxIdeal.τ).loc Cert.QueryDxIdeal.main_arg1)
          ∧ r.2.mem ((c.tc : Thread Cert.QueryDxIdeal.nD Cert.QueryDxIdeal.τ).loc Cert.QueryDxIdeal.main_arg2) = m ((c.tc : Thread Cert.QueryDxIdeal.nD Cert.QueryDxIdeal.τ).loc Cert.QueryDxIdeal.main_arg2)
          ∧ r.2.mem ((c.tc : Thread Cert.QueryDxIdeal.nD Cert.QueryDxIdeal.τ).loc Cert.QueryDxIdeal.main_arg3) = m ((c.tc : Thread Cert.QueryDxIdeal.nD Cert.QueryDxIdeal.τ).loc Cert.QueryDxIdeal.main_arg3)
          ∧ r.2.mem ((c.tc : Thread Cert.QueryDxIdeal.nD Cert.QueryDxIdeal.τ).loc Cert.QueryDxIdeal.main_arg4) = m ((c.tc : Thread Cert.QueryDxIdeal.nD Cert.QueryDxIdeal.τ).loc Cert.QueryDxIdeal.main_arg4))
      ∧ θ_run (Cert.QueryDxRefIdeal.defs (F := Ideal)) (onTc (τ := Cert.QueryDxRefIdeal.τ) (Cert.QueryDxRefIdeal.main (F := Ideal))) ⟨m', fun _ => 0, g'⟩ (fun r => ∀ c : Dev Cert.QueryDxRefIdeal.nD,
          r.2.mem ((c.tc : Thread Cert.QueryDxRefIdeal.nD Cert.QueryDxRefIdeal.τ).loc Cert.QueryDxRefIdeal.main_v42) = v0 c
          ∧ r.2.mem ((c.tc : Thread Cert.QueryDxRefIdeal.nD Cert.QueryDxRefIdeal.τ).loc Cert.QueryDxRefIdeal.main_v44) = v1 c
          ∧ r.2.mem ((c.tc : Thread Cert.QueryDxRefIdeal.nD Cert.QueryDxRefIdeal.τ).loc Cert.QueryDxRefIdeal.main_v41) = v2 c
          ∧ r.2.mem ((c.tc : Thread Cert.QueryDxRefIdeal.nD Cert.QueryDxRefIdeal.τ).loc Cert.QueryDxRefIdeal.main_arg0) = m' ((c.tc : Thread Cert.QueryDxRefIdeal.nD Cert.QueryDxRefIdeal.τ).loc Cert.QueryDxRefIdeal.main_arg0)
          ∧ r.2.mem ((c.tc : Thread Cert.QueryDxRefIdeal.nD Cert.QueryDxRefIdeal.τ).loc Cert.QueryDxRefIdeal.main_arg1) = m' ((c.tc : Thread Cert.QueryDxRefIdeal.nD Cert.QueryDxRefIdeal.τ).loc Cert.QueryDxRefIdeal.main_arg1)
          ∧ r.2.mem ((c.tc : Thread Cert.QueryDxRefIdeal.nD Cert.QueryDxRefIdeal.τ).loc Cert.QueryDxRefIdeal.main_arg2) = m' ((c.tc : Thread Cert.QueryDxRefIdeal.nD Cert.QueryDxRefIdeal.τ).loc Cert.QueryDxRefIdeal.main_arg2)
          ∧ r.2.mem ((c.tc : Thread Cert.QueryDxRefIdeal.nD Cert.QueryDxRefIdeal.τ).loc Cert.QueryDxRefIdeal.main_arg3) = m' ((c.tc : Thread Cert.QueryDxRefIdeal.nD Cert.QueryDxRefIdeal.τ).loc Cert.QueryDxRefIdeal.main_arg3)
          ∧ r.2.mem ((c.tc : Thread Cert.QueryDxRefIdeal.nD Cert.QueryDxRefIdeal.τ).loc Cert.QueryDxRefIdeal.main_arg4) = m' ((c.tc : Thread Cert.QueryDxRefIdeal.nD Cert.QueryDxRefIdeal.τ).loc Cert.QueryDxRefIdeal.main_arg4))

def preserves_Kv_KvIdeal : Prop :=
  True

def algebraic_KvIdeal_KvRefIdeal [hKvIdeal : Cert.KvIdeal.Facts] [hKvRefIdeal : Cert.KvRefIdeal.Facts] : Prop :=
  ∀ (m : (ℓ : Loc Cert.KvIdeal.nD Cert.KvIdeal.τ Cert.KvIdeal.sig) → Buf (Elt Ideal) ℓ) (g : Dev Cert.KvIdeal.nD → PrngReg)
    (m' : (ℓ : Loc Cert.KvRefIdeal.nD Cert.KvRefIdeal.τ Cert.KvRefIdeal.sig) → Buf (Elt Ideal) ℓ) (g' : Dev Cert.KvRefIdeal.nD → PrngReg), Pre_KvIdeal m →
    (∀ c : Dev Cert.KvIdeal.nD,
      m' ((c.tc : Thread Cert.KvRefIdeal.nD Cert.KvRefIdeal.τ).loc Cert.KvRefIdeal.main_arg0) = m ((c.tc : Thread Cert.KvIdeal.nD Cert.KvIdeal.τ).loc Cert.KvIdeal.main_arg0)
      ∧ m' ((c.tc : Thread Cert.KvRefIdeal.nD Cert.KvRefIdeal.τ).loc Cert.KvRefIdeal.main_arg1) = m ((c.tc : Thread Cert.KvIdeal.nD Cert.KvIdeal.τ).loc Cert.KvIdeal.main_arg1)) →
    ∃ (v0 : (c : Dev Cert.KvIdeal.nD) → Buf (Elt Ideal) ((c.tc : Thread Cert.KvIdeal.nD Cert.KvIdeal.τ).loc Cert.KvIdeal.main_v0)),
      θ_run (Cert.KvIdeal.defs (F := Ideal)) (onTc (τ := Cert.KvIdeal.τ) (Cert.KvIdeal.main (F := Ideal))) ⟨m, fun _ => 0, g⟩ (fun r => ∀ c : Dev Cert.KvIdeal.nD,
          r.2.mem ((c.tc : Thread Cert.KvIdeal.nD Cert.KvIdeal.τ).loc Cert.KvIdeal.main_v0) = v0 c
          ∧ r.2.mem ((c.tc : Thread Cert.KvIdeal.nD Cert.KvIdeal.τ).loc Cert.KvIdeal.main_arg0) = m ((c.tc : Thread Cert.KvIdeal.nD Cert.KvIdeal.τ).loc Cert.KvIdeal.main_arg0)
          ∧ r.2.mem ((c.tc : Thread Cert.KvIdeal.nD Cert.KvIdeal.τ).loc Cert.KvIdeal.main_arg1) = m ((c.tc : Thread Cert.KvIdeal.nD Cert.KvIdeal.τ).loc Cert.KvIdeal.main_arg1))
      ∧ θ_run (Cert.KvRefIdeal.defs (F := Ideal)) (onTc (τ := Cert.KvRefIdeal.τ) (Cert.KvRefIdeal.main (F := Ideal))) ⟨m', fun _ => 0, g'⟩ (fun r => ∀ c : Dev Cert.KvRefIdeal.nD,
          r.2.mem ((c.tc : Thread Cert.KvRefIdeal.nD Cert.KvRefIdeal.τ).loc Cert.KvRefIdeal.main_v3) = v0 c
          ∧ r.2.mem ((c.tc : Thread Cert.KvRefIdeal.nD Cert.KvRefIdeal.τ).loc Cert.KvRefIdeal.main_arg0) = m' ((c.tc : Thread Cert.KvRefIdeal.nD Cert.KvRefIdeal.τ).loc Cert.KvRefIdeal.main_arg0)
          ∧ r.2.mem ((c.tc : Thread Cert.KvRefIdeal.nD Cert.KvRefIdeal.τ).loc Cert.KvRefIdeal.main_arg1) = m' ((c.tc : Thread Cert.KvRefIdeal.nD Cert.KvRefIdeal.τ).loc Cert.KvRefIdeal.main_arg1))

def preserves_KvDx_KvDxIdeal : Prop :=
  True

def algebraic_KvDxIdeal_KvDxRefIdeal [hKvDxIdeal : Cert.KvDxIdeal.Facts] [hKvDxRefIdeal : Cert.KvDxRefIdeal.Facts] : Prop :=
  ∀ (m : (ℓ : Loc Cert.KvDxIdeal.nD Cert.KvDxIdeal.τ Cert.KvDxIdeal.sig) → Buf (Elt Ideal) ℓ) (g : Dev Cert.KvDxIdeal.nD → PrngReg)
    (m' : (ℓ : Loc Cert.KvDxRefIdeal.nD Cert.KvDxRefIdeal.τ Cert.KvDxRefIdeal.sig) → Buf (Elt Ideal) ℓ) (g' : Dev Cert.KvDxRefIdeal.nD → PrngReg), Pre_KvDxIdeal m →
    (∀ c : Dev Cert.KvDxIdeal.nD,
      m' ((c.tc : Thread Cert.KvDxRefIdeal.nD Cert.KvDxRefIdeal.τ).loc Cert.KvDxRefIdeal.main_arg0) = m ((c.tc : Thread Cert.KvDxIdeal.nD Cert.KvDxIdeal.τ).loc Cert.KvDxIdeal.main_arg0)
      ∧ m' ((c.tc : Thread Cert.KvDxRefIdeal.nD Cert.KvDxRefIdeal.τ).loc Cert.KvDxRefIdeal.main_arg1) = m ((c.tc : Thread Cert.KvDxIdeal.nD Cert.KvDxIdeal.τ).loc Cert.KvDxIdeal.main_arg1)) →
    ∃ (v0 : (c : Dev Cert.KvDxIdeal.nD) → Buf (Elt Ideal) ((c.tc : Thread Cert.KvDxIdeal.nD Cert.KvDxIdeal.τ).loc Cert.KvDxIdeal.main_v0)),
      θ_run (Cert.KvDxIdeal.defs (F := Ideal)) (onTc (τ := Cert.KvDxIdeal.τ) (Cert.KvDxIdeal.main (F := Ideal))) ⟨m, fun _ => 0, g⟩ (fun r => ∀ c : Dev Cert.KvDxIdeal.nD,
          r.2.mem ((c.tc : Thread Cert.KvDxIdeal.nD Cert.KvDxIdeal.τ).loc Cert.KvDxIdeal.main_v0) = v0 c
          ∧ r.2.mem ((c.tc : Thread Cert.KvDxIdeal.nD Cert.KvDxIdeal.τ).loc Cert.KvDxIdeal.main_arg0) = m ((c.tc : Thread Cert.KvDxIdeal.nD Cert.KvDxIdeal.τ).loc Cert.KvDxIdeal.main_arg0)
          ∧ r.2.mem ((c.tc : Thread Cert.KvDxIdeal.nD Cert.KvDxIdeal.τ).loc Cert.KvDxIdeal.main_arg1) = m ((c.tc : Thread Cert.KvDxIdeal.nD Cert.KvDxIdeal.τ).loc Cert.KvDxIdeal.main_arg1))
      ∧ θ_run (Cert.KvDxRefIdeal.defs (F := Ideal)) (onTc (τ := Cert.KvDxRefIdeal.τ) (Cert.KvDxRefIdeal.main (F := Ideal))) ⟨m', fun _ => 0, g'⟩ (fun r => ∀ c : Dev Cert.KvDxRefIdeal.nD,
          r.2.mem ((c.tc : Thread Cert.KvDxRefIdeal.nD Cert.KvDxRefIdeal.τ).loc Cert.KvDxRefIdeal.main_v5) = v0 c
          ∧ r.2.mem ((c.tc : Thread Cert.KvDxRefIdeal.nD Cert.KvDxRefIdeal.τ).loc Cert.KvDxRefIdeal.main_arg0) = m' ((c.tc : Thread Cert.KvDxRefIdeal.nD Cert.KvDxRefIdeal.τ).loc Cert.KvDxRefIdeal.main_arg0)
          ∧ r.2.mem ((c.tc : Thread Cert.KvDxRefIdeal.nD Cert.KvDxRefIdeal.τ).loc Cert.KvDxRefIdeal.main_arg1) = m' ((c.tc : Thread Cert.KvDxRefIdeal.nD Cert.KvDxRefIdeal.τ).loc Cert.KvDxRefIdeal.main_arg1))

def preserves_KvDw_KvDwIdeal : Prop :=
  True

def algebraic_KvDwIdeal_KvDwRefIdeal [hKvDwIdeal : Cert.KvDwIdeal.Facts] [hKvDwRefIdeal : Cert.KvDwRefIdeal.Facts] : Prop :=
  ∀ (m : (ℓ : Loc Cert.KvDwIdeal.nD Cert.KvDwIdeal.τ Cert.KvDwIdeal.sig) → Buf (Elt Ideal) ℓ) (g : Dev Cert.KvDwIdeal.nD → PrngReg)
    (m' : (ℓ : Loc Cert.KvDwRefIdeal.nD Cert.KvDwRefIdeal.τ Cert.KvDwRefIdeal.sig) → Buf (Elt Ideal) ℓ) (g' : Dev Cert.KvDwRefIdeal.nD → PrngReg), Pre_KvDwIdeal m →
    (∀ c : Dev Cert.KvDwIdeal.nD,
      m' ((c.tc : Thread Cert.KvDwRefIdeal.nD Cert.KvDwRefIdeal.τ).loc Cert.KvDwRefIdeal.main_arg0) = m ((c.tc : Thread Cert.KvDwIdeal.nD Cert.KvDwIdeal.τ).loc Cert.KvDwIdeal.main_arg0)
      ∧ m' ((c.tc : Thread Cert.KvDwRefIdeal.nD Cert.KvDwRefIdeal.τ).loc Cert.KvDwRefIdeal.main_arg1) = m ((c.tc : Thread Cert.KvDwIdeal.nD Cert.KvDwIdeal.τ).loc Cert.KvDwIdeal.main_arg1)) →
    ∃ (v0 : (c : Dev Cert.KvDwIdeal.nD) → Buf (Elt Ideal) ((c.tc : Thread Cert.KvDwIdeal.nD Cert.KvDwIdeal.τ).loc Cert.KvDwIdeal.main_v0)),
      θ_run (Cert.KvDwIdeal.defs (F := Ideal)) (onTc (τ := Cert.KvDwIdeal.τ) (Cert.KvDwIdeal.main (F := Ideal))) ⟨m, fun _ => 0, g⟩ (fun r => ∀ c : Dev Cert.KvDwIdeal.nD,
          r.2.mem ((c.tc : Thread Cert.KvDwIdeal.nD Cert.KvDwIdeal.τ).loc Cert.KvDwIdeal.main_v0) = v0 c
          ∧ r.2.mem ((c.tc : Thread Cert.KvDwIdeal.nD Cert.KvDwIdeal.τ).loc Cert.KvDwIdeal.main_arg0) = m ((c.tc : Thread Cert.KvDwIdeal.nD Cert.KvDwIdeal.τ).loc Cert.KvDwIdeal.main_arg0)
          ∧ r.2.mem ((c.tc : Thread Cert.KvDwIdeal.nD Cert.KvDwIdeal.τ).loc Cert.KvDwIdeal.main_arg1) = m ((c.tc : Thread Cert.KvDwIdeal.nD Cert.KvDwIdeal.τ).loc Cert.KvDwIdeal.main_arg1))
      ∧ θ_run (Cert.KvDwRefIdeal.defs (F := Ideal)) (onTc (τ := Cert.KvDwRefIdeal.τ) (Cert.KvDwRefIdeal.main (F := Ideal))) ⟨m', fun _ => 0, g'⟩ (fun r => ∀ c : Dev Cert.KvDwRefIdeal.nD,
          r.2.mem ((c.tc : Thread Cert.KvDwRefIdeal.nD Cert.KvDwRefIdeal.τ).loc Cert.KvDwRefIdeal.main_v6) = v0 c
          ∧ r.2.mem ((c.tc : Thread Cert.KvDwRefIdeal.nD Cert.KvDwRefIdeal.τ).loc Cert.KvDwRefIdeal.main_arg0) = m' ((c.tc : Thread Cert.KvDwRefIdeal.nD Cert.KvDwRefIdeal.τ).loc Cert.KvDwRefIdeal.main_arg0)
          ∧ r.2.mem ((c.tc : Thread Cert.KvDwRefIdeal.nD Cert.KvDwRefIdeal.τ).loc Cert.KvDwRefIdeal.main_arg1) = m' ((c.tc : Thread Cert.KvDwRefIdeal.nD Cert.KvDwRefIdeal.τ).loc Cert.KvDwRefIdeal.main_arg1))

def Claim : Prop :=
  ∃ (hKernel : Cert.Kernel.Facts) (hKernelIdeal : Cert.KernelIdeal.Facts) (hReferenceIdeal : Cert.ReferenceIdeal.Facts) (hDownDw : Cert.DownDw.Facts) (hDownDwIdeal : Cert.DownDwIdeal.Facts) (hDownDwRefIdeal : Cert.DownDwRefIdeal.Facts) (hUpDw : Cert.UpDw.Facts) (hUpDwIdeal : Cert.UpDwIdeal.Facts) (hUpDwRefIdeal : Cert.UpDwRefIdeal.Facts) (hDownDx : Cert.DownDx.Facts) (hDownDxIdeal : Cert.DownDxIdeal.Facts) (hDownDxRefIdeal : Cert.DownDxRefIdeal.Facts) (hUpDx : Cert.UpDx.Facts) (hUpDxIdeal : Cert.UpDxIdeal.Facts) (hUpDxRefIdeal : Cert.UpDxRefIdeal.Facts) (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hProj : Cert.Proj.Facts) (hProjIdeal : Cert.ProjIdeal.Facts) (hProjRefIdeal : Cert.ProjRefIdeal.Facts) (hProjDx : Cert.ProjDx.Facts) (hProjDxIdeal : Cert.ProjDxIdeal.Facts) (hProjDxRefIdeal : Cert.ProjDxRefIdeal.Facts) (hProjDw : Cert.ProjDw.Facts) (hProjDwIdeal : Cert.ProjDwIdeal.Facts) (hProjDwRefIdeal : Cert.ProjDwRefIdeal.Facts) (hConvIn : Cert.ConvIn.Facts) (hConvInIdeal : Cert.ConvInIdeal.Facts) (hConvInRefIdeal : Cert.ConvInRefIdeal.Facts) (hConvInDw : Cert.ConvInDw.Facts) (hConvInDwIdeal : Cert.ConvInDwIdeal.Facts) (hConvInDwRefIdeal : Cert.ConvInDwRefIdeal.Facts) (hQuery : Cert.Query.Facts) (hQueryIdeal : Cert.QueryIdeal.Facts) (hQueryRefIdeal : Cert.QueryRefIdeal.Facts) (hGlu : Cert.Glu.Facts) (hGluIdeal : Cert.GluIdeal.Facts) (hGluRefIdeal : Cert.GluRefIdeal.Facts) (hGluDw : Cert.GluDw.Facts) (hGluDwIdeal : Cert.GluDwIdeal.Facts) (hGluDwRefIdeal : Cert.GluDwRefIdeal.Facts) (hGluDx : Cert.GluDx.Facts) (hGluDxIdeal : Cert.GluDxIdeal.Facts) (hGluDxRefIdeal : Cert.GluDxRefIdeal.Facts) (hConvInDx : Cert.ConvInDx.Facts) (hConvInDxIdeal : Cert.ConvInDxIdeal.Facts) (hConvInDxRefIdeal : Cert.ConvInDxRefIdeal.Facts) (hQueryDx : Cert.QueryDx.Facts) (hQueryDxIdeal : Cert.QueryDxIdeal.Facts) (hQueryDxRefIdeal : Cert.QueryDxRefIdeal.Facts) (hKv : Cert.Kv.Facts) (hKvIdeal : Cert.KvIdeal.Facts) (hKvRefIdeal : Cert.KvRefIdeal.Facts) (hKvDx : Cert.KvDx.Facts) (hKvDxIdeal : Cert.KvDxIdeal.Facts) (hKvDxRefIdeal : Cert.KvDxRefIdeal.Facts) (hKvDw : Cert.KvDw.Facts) (hKvDwIdeal : Cert.KvDwIdeal.Facts) (hKvDwRefIdeal : Cert.KvDwRefIdeal.Facts) (hPre_finite : Cert.Pre_finite.Facts) (hPre_finite4 : Cert.Pre_finite4.Facts) (hOn_grouped : Cert.On_grouped.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_DownDx (hDownDx := hDownDx)
    ∧ quiescent_DownDxIdeal (hDownDxIdeal := hDownDxIdeal)
    ∧ quiescent_DownDxIdeal_pre_finite4 (hDownDxIdeal := hDownDxIdeal) (hPre_finite4 := hPre_finite4)
    ∧ quiescent_DownDxRefIdeal (hDownDxRefIdeal := hDownDxRefIdeal)
    ∧ quiescent_DownDxRefIdeal_pre_finite4 (hDownDxRefIdeal := hDownDxRefIdeal) (hPre_finite4 := hPre_finite4)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_Up (hUp := hUp)
    ∧ quiescent_UpIdeal (hUpIdeal := hUpIdeal)
    ∧ quiescent_UpRefIdeal (hUpRefIdeal := hUpRefIdeal)
    ∧ quiescent_Down (hDown := hDown)
    ∧ quiescent_DownIdeal (hDownIdeal := hDownIdeal)
    ∧ quiescent_DownRefIdeal (hDownRefIdeal := hDownRefIdeal)
    ∧ quiescent_Proj (hProj := hProj)
    ∧ quiescent_ProjIdeal (hProjIdeal := hProjIdeal)
    ∧ quiescent_ProjRefIdeal (hProjRefIdeal := hProjRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_ConvIn (hConvIn := hConvIn)
    ∧ quiescent_ConvInIdeal (hConvInIdeal := hConvInIdeal)
    ∧ quiescent_ConvInRefIdeal (hConvInRefIdeal := hConvInRefIdeal)
    ∧ quiescent_ConvInDw (hConvInDw := hConvInDw)
    ∧ quiescent_ConvInDwIdeal (hConvInDwIdeal := hConvInDwIdeal)
    ∧ quiescent_ConvInDwRefIdeal (hConvInDwRefIdeal := hConvInDwRefIdeal)
    ∧ quiescent_Query (hQuery := hQuery)
    ∧ quiescent_QueryIdeal (hQueryIdeal := hQueryIdeal)
    ∧ quiescent_QueryRefIdeal (hQueryRefIdeal := hQueryRefIdeal)
    ∧ quiescent_Glu (hGlu := hGlu)
    ∧ quiescent_GluIdeal (hGluIdeal := hGluIdeal)
    ∧ quiescent_GluRefIdeal (hGluRefIdeal := hGluRefIdeal)
    ∧ quiescent_GluDw (hGluDw := hGluDw)
    ∧ quiescent_GluDwIdeal (hGluDwIdeal := hGluDwIdeal)
    ∧ quiescent_GluDwRefIdeal (hGluDwRefIdeal := hGluDwRefIdeal)
    ∧ quiescent_GluDx (hGluDx := hGluDx)
    ∧ quiescent_GluDxIdeal (hGluDxIdeal := hGluDxIdeal)
    ∧ quiescent_GluDxRefIdeal (hGluDxRefIdeal := hGluDxRefIdeal)
    ∧ quiescent_ConvInDx (hConvInDx := hConvInDx)
    ∧ quiescent_ConvInDxIdeal (hConvInDxIdeal := hConvInDxIdeal)
    ∧ quiescent_ConvInDxRefIdeal (hConvInDxRefIdeal := hConvInDxRefIdeal)
    ∧ quiescent_QueryDx (hQueryDx := hQueryDx)
    ∧ quiescent_QueryDxIdeal (hQueryDxIdeal := hQueryDxIdeal)
    ∧ quiescent_QueryDxRefIdeal (hQueryDxRefIdeal := hQueryDxRefIdeal)
    ∧ quiescent_Kv (hKv := hKv)
    ∧ quiescent_KvIdeal (hKvIdeal := hKvIdeal)
    ∧ quiescent_KvRefIdeal (hKvRefIdeal := hKvRefIdeal)
    ∧ quiescent_KvDx (hKvDx := hKvDx)
    ∧ quiescent_KvDxIdeal (hKvDxIdeal := hKvDxIdeal)
    ∧ quiescent_KvDxRefIdeal (hKvDxRefIdeal := hKvDxRefIdeal)
    ∧ quiescent_KvDw (hKvDw := hKvDw)
    ∧ quiescent_KvDwIdeal (hKvDwIdeal := hKvDwIdeal)
    ∧ quiescent_KvDwRefIdeal (hKvDwRefIdeal := hKvDwRefIdeal)
    ∧ preserves_Kernel_KernelIdeal
    ∧ algebraic_KernelIdeal_ReferenceIdeal_on_grouped_pre_finite (hKernelIdeal := hKernelIdeal) (hReferenceIdeal := hReferenceIdeal) (hPre_finite := hPre_finite) (hOn_grouped := hOn_grouped)
    ∧ preserves_DownDw_DownDwIdeal
    ∧ algebraic_DownDwIdeal_DownDwRefIdeal (hDownDwIdeal := hDownDwIdeal) (hDownDwRefIdeal := hDownDwRefIdeal)
    ∧ preserves_UpDw_UpDwIdeal
    ∧ algebraic_UpDwIdeal_UpDwRefIdeal (hUpDwIdeal := hUpDwIdeal) (hUpDwRefIdeal := hUpDwRefIdeal)
    ∧ preserves_DownDx_DownDxIdeal
    ∧ algebraic_DownDxIdeal_DownDxRefIdeal_pre_finite4 (hDownDxIdeal := hDownDxIdeal) (hDownDxRefIdeal := hDownDxRefIdeal) (hPre_finite4 := hPre_finite4)
    ∧ preserves_UpDx_UpDxIdeal
    ∧ algebraic_UpDxIdeal_UpDxRefIdeal (hUpDxIdeal := hUpDxIdeal) (hUpDxRefIdeal := hUpDxRefIdeal)
    ∧ preserves_Up_UpIdeal
    ∧ algebraic_UpIdeal_UpRefIdeal (hUpIdeal := hUpIdeal) (hUpRefIdeal := hUpRefIdeal)
    ∧ preserves_Down_DownIdeal
    ∧ algebraic_DownIdeal_DownRefIdeal (hDownIdeal := hDownIdeal) (hDownRefIdeal := hDownRefIdeal)
    ∧ preserves_Proj_ProjIdeal
    ∧ algebraic_ProjIdeal_ProjRefIdeal (hProjIdeal := hProjIdeal) (hProjRefIdeal := hProjRefIdeal)
    ∧ preserves_ProjDx_ProjDxIdeal
    ∧ algebraic_ProjDxIdeal_ProjDxRefIdeal (hProjDxIdeal := hProjDxIdeal) (hProjDxRefIdeal := hProjDxRefIdeal)
    ∧ preserves_ProjDw_ProjDwIdeal
    ∧ algebraic_ProjDwIdeal_ProjDwRefIdeal (hProjDwIdeal := hProjDwIdeal) (hProjDwRefIdeal := hProjDwRefIdeal)
    ∧ preserves_ConvIn_ConvInIdeal
    ∧ algebraic_ConvInIdeal_ConvInRefIdeal (hConvInIdeal := hConvInIdeal) (hConvInRefIdeal := hConvInRefIdeal)
    ∧ preserves_ConvInDw_ConvInDwIdeal
    ∧ algebraic_ConvInDwIdeal_ConvInDwRefIdeal (hConvInDwIdeal := hConvInDwIdeal) (hConvInDwRefIdeal := hConvInDwRefIdeal)
    ∧ preserves_Query_QueryIdeal
    ∧ algebraic_QueryIdeal_QueryRefIdeal (hQueryIdeal := hQueryIdeal) (hQueryRefIdeal := hQueryRefIdeal)
    ∧ preserves_Glu_GluIdeal
    ∧ algebraic_GluIdeal_GluRefIdeal (hGluIdeal := hGluIdeal) (hGluRefIdeal := hGluRefIdeal)
    ∧ preserves_GluDw_GluDwIdeal
    ∧ algebraic_GluDwIdeal_GluDwRefIdeal (hGluDwIdeal := hGluDwIdeal) (hGluDwRefIdeal := hGluDwRefIdeal)
    ∧ preserves_GluDx_GluDxIdeal
    ∧ algebraic_GluDxIdeal_GluDxRefIdeal (hGluDxIdeal := hGluDxIdeal) (hGluDxRefIdeal := hGluDxRefIdeal)
    ∧ preserves_ConvInDx_ConvInDxIdeal
    ∧ algebraic_ConvInDxIdeal_ConvInDxRefIdeal (hConvInDxIdeal := hConvInDxIdeal) (hConvInDxRefIdeal := hConvInDxRefIdeal)
    ∧ preserves_QueryDx_QueryDxIdeal
    ∧ algebraic_QueryDxIdeal_QueryDxRefIdeal (hQueryDxIdeal := hQueryDxIdeal) (hQueryDxRefIdeal := hQueryDxRefIdeal)
    ∧ preserves_Kv_KvIdeal
    ∧ algebraic_KvIdeal_KvRefIdeal (hKvIdeal := hKvIdeal) (hKvRefIdeal := hKvRefIdeal)
    ∧ preserves_KvDx_KvDxIdeal
    ∧ algebraic_KvDxIdeal_KvDxRefIdeal (hKvDxIdeal := hKvDxIdeal) (hKvDxRefIdeal := hKvDxRefIdeal)
    ∧ preserves_KvDw_KvDwIdeal
    ∧ algebraic_KvDwIdeal_KvDwRefIdeal (hKvDwIdeal := hKvDwIdeal) (hKvDwRefIdeal := hKvDwRefIdeal)
-- ==== On_grouped.lean ====
abbrev S4096x1024 : Shape := ⟨2, ![4096, 1024]⟩
abbrev S4096x4096 : Shape := ⟨2, ![4096, 4096]⟩
abbrev S64x64 : Shape := ⟨2, ![64, 64]⟩
abbrev S64x64x16 : Shape := ⟨3, ![64, 64, 16]⟩
abbrev S64x16x64 : Shape := ⟨3, ![64, 16, 64]⟩
abbrev S1024 : Shape := ⟨1, ![1024]⟩
abbrev S_ : Shape := ⟨0, ![]⟩
abbrev S8x128x512 : Shape := ⟨3, ![8, 128, 512]⟩
abbrev S8x512x128 : Shape := ⟨3, ![8, 512, 128]⟩
abbrev S1x4096 : Shape := ⟨2, ![1, 4096]⟩
abbrev S1x1024 : Shape := ⟨2, ![1, 1024]⟩

class Facts : Prop where
  bcast_S_S4096x1024 : S_.BroadcastsInDim S4096x1024 (![] : Fin 0 → Fin S4096x1024.rank)
  bcast_S_S8x128x512 : S_.BroadcastsInDim S8x128x512 (![] : Fin 0 → Fin S8x128x512.rank)
  bcast_S_S8x512x128 : S_.BroadcastsInDim S8x512x128 (![] : Fin 0 → Fin S8x512x128.rank)
  bcast_S_S1x4096 : S_.BroadcastsInDim S1x4096 (![] : Fin 0 → Fin S1x4096.rank)
  bcast_S_S1x1024 : S_.BroadcastsInDim S1x1024 (![] : Fin 0 → Fin S1x1024.rank)

variable [Facts]

def fn_where {F : FTy → Type} [FloatOps F] (arg0 : IVec S8x128x512 1) (arg1 : IVec S8x128x512 32) (arg2 : IVec S8x128x512 32) : IVec S8x128x512 32 :=
  let v0 : IVec S8x128x512 32 := select arg0 arg1 arg2
  v0

def fn_floor_divide {F : FTy → Type} [FloatOps F] (arg0 : IVec S8x128x512 32) (arg1 : IVec S_ 32) : IVec S8x128x512 32 :=
  let v0 : IVec S_ 32 := id arg1
  let v1 : IVec S8x128x512 32 := broadcastInDim S8x128x512 ![] bcast_S_S8x128x512 v0
  let v2 : IVec S8x128x512 32 := Host.divsi arg0 v1
  let v3 : IVec S8x128x512 32 := signi arg0
  let v4 : IVec S_ 32 := signi v0
  let v5 : IVec S8x128x512 32 := broadcastInDim S8x128x512 ![] bcast_S_S8x128x512 v4
  let v6 : IVec S8x128x512 1 := cmpi .ne v3 v5
  let v7 : IVec S8x128x512 32 := broadcastInDim S8x128x512 ![] bcast_S_S8x128x512 v0
  let v8 : IVec S8x128x512 32 := Host.remsi arg0 v7
  let c : IVec S_ 32 := constantI S_ 32 0#32
  let v9 : IVec S8x128x512 32 := broadcastInDim S8x128x512 ![] bcast_S_S8x128x512 c
  let v10 : IVec S8x128x512 1 := cmpi .ne v8 v9
  let v11 : IVec S8x128x512 1 := andi v6 v10
  let c_0 : IVec S_ 32 := constantI S_ 32 1#32
  let v12 : IVec S8x128x512 32 := broadcastInDim S8x128x512 ![] bcast_S_S8x128x512 c_0
  let v13 : IVec S8x128x512 32 := subi v2 v12
  let v14 : IVec S8x128x512 32 := fn_where (F := F) v11 v13 v2
  v14

def fn_where_1 {F : FTy → Type} [FloatOps F] (arg0 : IVec S8x512x128 1) (arg1 : IVec S8x512x128 32) (arg2 : IVec S8x512x128 32) : IVec S8x512x128 32 :=
  let v0 : IVec S8x512x128 32 := select arg0 arg1 arg2
  v0

def fn_floor_divide_0 {F : FTy → Type} [FloatOps F] (arg0 : IVec S8x512x128 32) (arg1 : IVec S_ 32) : IVec S8x512x128 32 :=
  let v0 : IVec S_ 32 := id arg1
  let v1 : IVec S8x512x128 32 := broadcastInDim S8x512x128 ![] bcast_S_S8x512x128 v0
  let v2 : IVec S8x512x128 32 := Host.divsi arg0 v1
  let v3 : IVec S8x512x128 32 := signi arg0
  let v4 : IVec S_ 32 := signi v0
  let v5 : IVec S8x512x128 32 := broadcastInDim S8x512x128 ![] bcast_S_S8x512x128 v4
  let v6 : IVec S8x512x128 1 := cmpi .ne v3 v5
  let v7 : IVec S8x512x128 32 := broadcastInDim S8x512x128 ![] bcast_S_S8x512x128 v0
  let v8 : IVec S8x512x128 32 := Host.remsi arg0 v7
  let c : IVec S_ 32 := constantI S_ 32 0#32
  let v9 : IVec S8x512x128 32 := broadcastInDim S8x512x128 ![] bcast_S_S8x512x128 c
  let v10 : IVec S8x512x128 1 := cmpi .ne v8 v9
  let v11 : IVec S8x512x128 1 := andi v6 v10
  let c_0 : IVec S_ 32 := constantI S_ 32 1#32
  let v12 : IVec S8x512x128 32 := broadcastInDim S8x512x128 ![] bcast_S_S8x512x128 c_0
  let v13 : IVec S8x512x128 32 := subi v2 v12
  let v14 : IVec S8x512x128 32 := fn_where_1 (F := F) v11 v13 v2
  v14

def fn_part1 {F : FTy → Type} [FloatOps F] (main_v0 : IVec S4096x1024 1) (main_v5 : IVec S8x128x512 1) (main_v10 : IVec S8x128x512 1) (main_v15 : IVec S8x512x128 1) (main_v16 : IVec S8x512x128 32) : IVec S4096x1024 1 × IVec S8x128x512 1 × IVec S8x128x512 1 × IVec S8x512x128 1 × IVec S8x512x128 1 × IVec S1x4096 1 × IVec S1x4096 1 × IVec S1x1024 1 :=
  let main_v17 : IVec S8x512x128 32 := iotaInDim S8x512x128 32 2
  let main_c_6 : IVec S_ 32 := constantI S_ 32 64#32
  let main_v18 : IVec S8x512x128 32 := fn_floor_divide_0 (F := F) main_v16 main_c_6
  let main_c_7 : IVec S_ 32 := constantI S_ 32 16#32
  let main_v19 : IVec S8x512x128 32 := fn_floor_divide_0 (F := F) main_v17 main_c_7
  let main_v20 : IVec S8x512x128 1 := cmpi .eq main_v18 main_v19
  let main_c_8 : IVec S_ 1 := constantI S_ 1 1#1
  let main_v21 : IVec S1x4096 1 := broadcastInDim S1x4096 ![] bcast_S_S1x4096 main_c_8
  let main_c_9 : IVec S_ 1 := constantI S_ 1 1#1
  let main_v22 : IVec S1x4096 1 := broadcastInDim S1x4096 ![] bcast_S_S1x4096 main_c_9
  let main_c_10 : IVec S_ 1 := constantI S_ 1 1#1
  let main_v23 : IVec S1x1024 1 := broadcastInDim S1x1024 ![] bcast_S_S1x1024 main_c_10
  (main_v0, main_v5, main_v10, main_v15, main_v20, main_v21, main_v22, main_v23)

def fn {F : FTy → Type} [FloatOps F] (main_arg0 : FVec F S4096x1024 .bf16) (main_arg1 : FVec F S4096x1024 .f32) (main_arg2 : FVec F S4096x1024 .bf16) (main_arg3 : FVec F S4096x4096 .f32) (main_arg4 : FVec F S4096x4096 .f32) (main_arg5 : FVec F S64x64 .f32) (main_arg6 : FVec F S64x64 .f32) (main_arg7 : FVec F S64x64x16 .f32) (main_arg8 : FVec F S64x64x16 .f32) (main_arg9 : FVec F S64x16x64 .f32) (main_arg10 : FVec F S64x16x64 .f32) (main_arg11 : FVec F S1024 .f32) : IVec S4096x1024 1 × IVec S8x128x512 1 × IVec S8x128x512 1 × IVec S8x512x128 1 × IVec S8x512x128 1 × IVec S1x4096 1 × IVec S1x4096 1 × IVec S1x1024 1 :=
  let main_c : IVec S_ 1 := constantI S_ 1 1#1
  let main_v0 : IVec S4096x1024 1 := broadcastInDim S4096x1024 ![] bcast_S_S4096x1024 main_c
  let main_v1 : IVec S8x128x512 32 := iotaInDim S8x128x512 32 1
  let main_v2 : IVec S8x128x512 32 := iotaInDim S8x128x512 32 2
  let main_c_0 : IVec S_ 32 := constantI S_ 32 16#32
  let main_v3 : IVec S8x128x512 32 := fn_floor_divide (F := F) main_v1 main_c_0
  let main_c_1 : IVec S_ 32 := constantI S_ 32 64#32
  let main_v4 : IVec S8x128x512 32 := fn_floor_divide (F := F) main_v2 main_c_1
  let main_v5 : IVec S8x128x512 1 := cmpi .eq main_v3 main_v4
  let main_v6 : IVec S8x128x512 32 := iotaInDim S8x128x512 32 1
  let main_v7 : IVec S8x128x512 32 := iotaInDim S8x128x512 32 2
  let main_c_2 : IVec S_ 32 := constantI S_ 32 16#32
  let main_v8 : IVec S8x128x512 32 := fn_floor_divide (F := F) main_v6 main_c_2
  let main_c_3 : IVec S_ 32 := constantI S_ 32 64#32
  let main_v9 : IVec S8x128x512 32 := fn_floor_divide (F := F) main_v7 main_c_3
  let main_v10 : IVec S8x128x512 1 := cmpi .eq main_v8 main_v9
  let main_v11 : IVec S8x512x128 32 := iotaInDim S8x512x128 32 1
  let main_v12 : IVec S8x512x128 32 := iotaInDim S8x512x128 32 2
  let main_c_4 : IVec S_ 32 := constantI S_ 32 64#32
  let main_v13 : IVec S8x512x128 32 := fn_floor_divide_0 (F := F) main_v11 main_c_4
  let main_c_5 : IVec S_ 32 := constantI S_ 32 16#32
  let main_v14 : IVec S8x512x128 32 := fn_floor_divide_0 (F := F) main_v12 main_c_5
  let main_v15 : IVec S8x512x128 1 := cmpi .eq main_v13 main_v14
  let main_v16 : IVec S8x512x128 32 := iotaInDim S8x512x128 32 1
  fn_part1 (F := F) main_v0 main_v5 main_v10 main_v15 main_v16
-- ==== Pre_finite.lean ====
abbrev S4096x1024 : Shape := ⟨2, ![4096, 1024]⟩
abbrev S4096x4096 : Shape := ⟨2, ![4096, 4096]⟩
abbrev S64x64 : Shape := ⟨2, ![64, 64]⟩
abbrev S64x64x16 : Shape := ⟨3, ![64, 64, 16]⟩
abbrev S64x16x64 : Shape := ⟨3, ![64, 16, 64]⟩
abbrev S1024 : Shape := ⟨1, ![1024]⟩
abbrev S_ : Shape := ⟨0, ![]⟩
abbrev S1 : Shape := ⟨1, ![1]⟩
abbrev S12 : Shape := ⟨1, ![12]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S64x64 : S_.BroadcastsInDim S64x64 (![] : Fin 0 → Fin S64x64.rank)
  reducesTo_S64x64_S_d0_1 : S64x64.ReducesTo [0, 1] S_
  bcast_S_S64x64x16 : S_.BroadcastsInDim S64x64x16 (![] : Fin 0 → Fin S64x64x16.rank)
  reducesTo_S64x64x16_S_d0_1_2 : S64x64x16.ReducesTo [0, 1, 2] S_
  bcast_S_S64x16x64 : S_.BroadcastsInDim S64x16x64 (![] : Fin 0 → Fin S64x16x64.rank)
  reducesTo_S64x16x64_S_d0_1_2 : S64x16x64.ReducesTo [0, 1, 2] S_
  bcast_S_S1024 : S_.BroadcastsInDim S1024 (![] : Fin 0 → Fin S1024.rank)
  reducesTo_S1024_S_d0 : S1024.ReducesTo [0] S_
  bcast_S_S1 : S_.BroadcastsInDim S1 (![] : Fin 0 → Fin S1.rank)
  concatenates_S1_S1_S1_S1_S1_S1_S1_S1_S1_S1_S1_S1_S12_d0 : Shape.Concatenates [S1, S1, S1, S1, S1, S1, S1, S1, S1, S1, S1, S1] S12 0
  reducesTo_S12_S_d0 : S12.ReducesTo [0] S_

variable [Facts]

def fn_part5 {F : FTy → Type} [FloatOps F] (main_v57 : IVec S_ 1) (main_v63 : IVec S_ 1) (main_v69 : IVec S_ 1) (main_v75 : IVec S_ 1) (main_v76 : IVec S1 1) (main_v77 : IVec S1 1) (main_v78 : IVec S1 1) (main_v79 : IVec S1 1) (main_v80 : IVec S1 1) (main_v81 : IVec S1 1) (main_v82 : IVec S1 1) (main_v83 : IVec S1 1) : IVec S_ 1 :=
  let main_v84 : IVec S1 1 := broadcastInDim S1 ![] bcast_S_S1 main_v57
  let main_v85 : IVec S1 1 := broadcastInDim S1 ![] bcast_S_S1 main_v63
  let main_v86 : IVec S1 1 := broadcastInDim S1 ![] bcast_S_S1 main_v69
  let main_v87 : IVec S1 1 := broadcastInDim S1 ![] bcast_S_S1 main_v75
  let main_v88 : IVec S12 1 := concatenate S12 0 [⟨S1, main_v76⟩, ⟨S1, main_v77⟩, ⟨S1, main_v78⟩, ⟨S1, main_v79⟩, ⟨S1, main_v80⟩, ⟨S1, main_v81⟩, ⟨S1, main_v82⟩, ⟨S1, main_v83⟩, ⟨S1, main_v84⟩, ⟨S1, main_v85⟩, ⟨S1, main_v86⟩, ⟨S1, main_v87⟩] concatenates_S1_S1_S1_S1_S1_S1_S1_S1_S1_S1_S1_S1_S12_d0
  let main_c_34 : IVec S_ 1 := constantI S_ 1 1#1
  let main_v89 : IVec S_ 1 := (fun x v => Host.reduce IntOp.andi x v reducesTo_S12_S_d0 h_S_) main_v88 main_c_34
  main_v89

def fn_part4 {F : FTy → Type} [FloatOps F] (main_arg10 : FVec F S64x16x64 .f32) (main_arg11 : FVec F S1024 .f32) (main_v7 : IVec S_ 1) (main_v13 : IVec S_ 1) (main_v21 : IVec S_ 1) (main_v27 : IVec S_ 1) (main_v33 : IVec S_ 1) (main_v39 : IVec S_ 1) (main_v45 : IVec S_ 1) (main_v51 : IVec S_ 1) (main_v57 : IVec S_ 1) (main_v63 : IVec S_ 1) (main_v64 : FVec F S64x16x64 .f32) : IVec S_ 1 :=
  let main_v65 : IVec S64x16x64 1 := cmpf .olt main_arg10 main_v64
  let main_cst_29 : FVec F S_ .f32 := constant S_ .f32 0xFF800000#32
  let main_v66 : FVec F S64x16x64 .f32 := broadcastInDim S64x16x64 ![] bcast_S_S64x16x64 main_cst_29
  let main_v67 : IVec S64x16x64 1 := cmpf .ogt main_arg10 main_v66
  let main_v68 : IVec S64x16x64 1 := andi main_v65 main_v67
  let main_c_30 : IVec S_ 1 := constantI S_ 1 1#1
  let main_v69 : IVec S_ 1 := (fun x v => Host.reduce IntOp.andi x v reducesTo_S64x16x64_S_d0_1_2 h_S_) main_v68 main_c_30
  let main_cst_31 : FVec F S_ .f32 := constant S_ .f32 0x7F800000#32
  let main_v70 : FVec F S1024 .f32 := broadcastInDim S1024 ![] bcast_S_S1024 main_cst_31
  let main_v71 : IVec S1024 1 := cmpf .olt main_arg11 main_v70
  let main_cst_32 : FVec F S_ .f32 := constant S_ .f32 0xFF800000#32
  let main_v72 : FVec F S1024 .f32 := broadcastInDim S1024 ![] bcast_S_S1024 main_cst_32
  let main_v73 : IVec S1024 1 := cmpf .ogt main_arg11 main_v72
  let main_v74 : IVec S1024 1 := andi main_v71 main_v73
  let main_c_33 : IVec S_ 1 := constantI S_ 1 1#1
  let main_v75 : IVec S_ 1 := (fun x v => Host.reduce IntOp.andi x v reducesTo_S1024_S_d0 h_S_) main_v74 main_c_33
  let main_v76 : IVec S1 1 := broadcastInDim S1 ![] bcast_S_S1 main_v7
  let main_v77 : IVec S1 1 := broadcastInDim S1 ![] bcast_S_S1 main_v13
  let main_v78 : IVec S1 1 := broadcastInDim S1 ![] bcast_S_S1 main_v21
  let main_v79 : IVec S1 1 := broadcastInDim S1 ![] bcast_S_S1 main_v27
  let main_v80 : IVec S1 1 := broadcastInDim S1 ![] bcast_S_S1 main_v33
  let main_v81 : IVec S1 1 := broadcastInDim S1 ![] bcast_S_S1 main_v39
  let main_v82 : IVec S1 1 := broadcastInDim S1 ![] bcast_S_S1 main_v45
  let main_v83 : IVec S1 1 := broadcastInDim S1 ![] bcast_S_S1 main_v51
  fn_part5 (F := F) main_v57 main_v63 main_v69 main_v75 main_v76 main_v77 main_v78 main_v79 main_v80 main_v81 main_v82 main_v83

def fn_part3 {F : FTy → Type} [FloatOps F] (main_arg7 : FVec F S64x64x16 .f32) (main_arg8 : FVec F S64x64x16 .f32) (main_arg9 : FVec F S64x16x64 .f32) (main_arg10 : FVec F S64x16x64 .f32) (main_arg11 : FVec F S1024 .f32) (main_v7 : IVec S_ 1) (main_v13 : IVec S_ 1) (main_v21 : IVec S_ 1) (main_v27 : IVec S_ 1) (main_v33 : IVec S_ 1) (main_v39 : IVec S_ 1) (main_v45 : IVec S_ 1) (main_v47 : IVec S64x64x16 1) (main_v48 : FVec F S64x64x16 .f32) : IVec S_ 1 :=
  let main_v49 : IVec S64x64x16 1 := cmpf .ogt main_arg7 main_v48
  let main_v50 : IVec S64x64x16 1 := andi main_v47 main_v49
  let main_c_21 : IVec S_ 1 := constantI S_ 1 1#1
  let main_v51 : IVec S_ 1 := (fun x v => Host.reduce IntOp.andi x v reducesTo_S64x64x16_S_d0_1_2 h_S_) main_v50 main_c_21
  let main_cst_22 : FVec F S_ .f32 := constant S_ .f32 0x7F800000#32
  let main_v52 : FVec F S64x64x16 .f32 := broadcastInDim S64x64x16 ![] bcast_S_S64x64x16 main_cst_22
  let main_v53 : IVec S64x64x16 1 := cmpf .olt main_arg8 main_v52
  let main_cst_23 : FVec F S_ .f32 := constant S_ .f32 0xFF800000#32
  let main_v54 : FVec F S64x64x16 .f32 := broadcastInDim S64x64x16 ![] bcast_S_S64x64x16 main_cst_23
  let main_v55 : IVec S64x64x16 1 := cmpf .ogt main_arg8 main_v54
  let main_v56 : IVec S64x64x16 1 := andi main_v53 main_v55
  let main_c_24 : IVec S_ 1 := constantI S_ 1 1#1
  let main_v57 : IVec S_ 1 := (fun x v => Host.reduce IntOp.andi x v reducesTo_S64x64x16_S_d0_1_2 h_S_) main_v56 main_c_24
  let main_cst_25 : FVec F S_ .f32 := constant S_ .f32 0x7F800000#32
  let main_v58 : FVec F S64x16x64 .f32 := broadcastInDim S64x16x64 ![] bcast_S_S64x16x64 main_cst_25
  let main_v59 : IVec S64x16x64 1 := cmpf .olt main_arg9 main_v58
  let main_cst_26 : FVec F S_ .f32 := constant S_ .f32 0xFF800000#32
  let main_v60 : FVec F S64x16x64 .f32 := broadcastInDim S64x16x64 ![] bcast_S_S64x16x64 main_cst_26
  let main_v61 : IVec S64x16x64 1 := cmpf .ogt main_arg9 main_v60
  let main_v62 : IVec S64x16x64 1 := andi main_v59 main_v61
  let main_c_27 : IVec S_ 1 := constantI S_ 1 1#1
  let main_v63 : IVec S_ 1 := (fun x v => Host.reduce IntOp.andi x v reducesTo_S64x16x64_S_d0_1_2 h_S_) main_v62 main_c_27
  let main_cst_28 : FVec F S_ .f32 := constant S_ .f32 0x7F800000#32
  let main_v64 : FVec F S64x16x64 .f32 := broadcastInDim S64x16x64 ![] bcast_S_S64x16x64 main_cst_28
  fn_part4 (F := F) main_arg10 main_arg11 main_v7 main_v13 main_v21 main_v27 main_v33 main_v39 main_v45 main_v51 main_v57 main_v63 main_v64

def fn_part2 {F : FTy → Type} [FloatOps F] (main_arg5 : FVec F S64x64 .f32) (main_arg6 : FVec F S64x64 .f32) (main_arg7 : FVec F S64x64x16 .f32) (main_arg8 : FVec F S64x64x16 .f32) (main_arg9 : FVec F S64x16x64 .f32) (main_arg10 : FVec F S64x16x64 .f32) (main_arg11 : FVec F S1024 .f32) (main_v7 : IVec S_ 1) (main_v13 : IVec S_ 1) (main_v21 : IVec S_ 1) (main_v27 : IVec S_ 1) (main_v32 : IVec S4096x4096 1) (main_c_12 : IVec S_ 1) : IVec S_ 1 :=
  let main_v33 : IVec S_ 1 := (fun x v => Host.reduce IntOp.andi x v reducesTo_S4096x4096_S_d0_1 h_S_) main_v32 main_c_12
  let main_cst_13 : FVec F S_ .f32 := constant S_ .f32 0x7F800000#32
  let main_v34 : FVec F S64x64 .f32 := broadcastInDim S64x64 ![] bcast_S_S64x64 main_cst_13
  let main_v35 : IVec S64x64 1 := cmpf .olt main_arg5 main_v34
  let main_cst_14 : FVec F S_ .f32 := constant S_ .f32 0xFF800000#32
  let main_v36 : FVec F S64x64 .f32 := broadcastInDim S64x64 ![] bcast_S_S64x64 main_cst_14
  let main_v37 : IVec S64x64 1 := cmpf .ogt main_arg5 main_v36
  let main_v38 : IVec S64x64 1 := andi main_v35 main_v37
  let main_c_15 : IVec S_ 1 := constantI S_ 1 1#1
  let main_v39 : IVec S_ 1 := (fun x v => Host.reduce IntOp.andi x v reducesTo_S64x64_S_d0_1 h_S_) main_v38 main_c_15
  let main_cst_16 : FVec F S_ .f32 := constant S_ .f32 0x7F800000#32
  let main_v40 : FVec F S64x64 .f32 := broadcastInDim S64x64 ![] bcast_S_S64x64 main_cst_16
  let main_v41 : IVec S64x64 1 := cmpf .olt main_arg6 main_v40
  let main_cst_17 : FVec F S_ .f32 := constant S_ .f32 0xFF800000#32
  let main_v42 : FVec F S64x64 .f32 := broadcastInDim S64x64 ![] bcast_S_S64x64 main_cst_17
  let main_v43 : IVec S64x64 1 := cmpf .ogt main_arg6 main_v42
  let main_v44 : IVec S64x64 1 := andi main_v41 main_v43
  let main_c_18 : IVec S_ 1 := constantI S_ 1 1#1
  let main_v45 : IVec S_ 1 := (fun x v => Host.reduce IntOp.andi x v reducesTo_S64x64_S_d0_1 h_S_) main_v44 main_c_18
  let main_cst_19 : FVec F S_ .f32 := constant S_ .f32 0x7F800000#32
  let main_v46 : FVec F S64x64x16 .f32 := broadcastInDim S64x64x16 ![] bcast_S_S64x64x16 main_cst_19
  let main_v47 : IVec S64x64x16 1 := cmpf .olt main_arg7 main_v46
  let main_cst_20 : FVec F S_ .f32 := constant S_ .f32 0xFF800000#32
  let main_v48 : FVec F S64x64x16 .f32 := broadcastInDim S64x64x16 ![] bcast_S_S64x64x16 main_cst_20
  fn_part3 (F := F) main_arg7 main_arg8 main_arg9 main_arg10 main_arg11 main_v7 main_v13 main_v21 main_v27 main_v33 main_v39 main_v45 main_v47 main_v48

def fn_part1 {F : FTy → Type} [FloatOps F] (main_arg2 : FVec F S4096x1024 .bf16) (main_arg3 : FVec F S4096x4096 .f32) (main_arg4 : FVec F S4096x4096 .f32) (main_arg5 : FVec F S64x64 .f32) (main_arg6 : FVec F S64x64 .f32) (main_arg7 : FVec F S64x64x16 .f32) (main_arg8 : FVec F S64x64x16 .f32) (main_arg9 : FVec F S64x16x64 .f32) (main_arg10 : FVec F S64x16x64 .f32) (main_arg11 : FVec F S1024 .f32) (main_v7 : IVec S_ 1) (main_v13 : IVec S_ 1) (main_v16 : IVec S4096x1024 1) : IVec S_ 1 :=
  let main_v17 : FVec F S4096x1024 .f32 := (extf .f32 · bitsLt_bf16_f32) main_arg2
  let main_cst_5 : FVec F S_ .f32 := constant S_ .f32 0xFF800000#32
  let main_v18 : FVec F S4096x1024 .f32 := broadcastInDim S4096x1024 ![] bcast_S_S4096x1024 main_cst_5
  let main_v19 : IVec S4096x1024 1 := cmpf .ogt main_v17 main_v18
  let main_v20 : IVec S4096x1024 1 := andi main_v16 main_v19
  let main_c_6 : IVec S_ 1 := constantI S_ 1 1#1
  let main_v21 : IVec S_ 1 := (fun x v => Host.reduce IntOp.andi x v reducesTo_S4096x1024_S_d0_1 h_S_) main_v20 main_c_6
  let main_cst_7 : FVec F S_ .f32 := constant S_ .f32 0x7F800000#32
  let main_v22 : FVec F S4096x4096 .f32 := broadcastInDim S4096x4096 ![] bcast_S_S4096x4096 main_cst_7
  let main_v23 : IVec S4096x4096 1 := cmpf .olt main_arg3 main_v22
  let main_cst_8 : FVec F S_ .f32 := constant S_ .f32 0xFF800000#32
  let main_v24 : FVec F S4096x4096 .f32 := broadcastInDim S4096x4096 ![] bcast_S_S4096x4096 main_cst_8
  let main_v25 : IVec S4096x4096 1 := cmpf .ogt main_arg3 main_v24
  let main_v26 : IVec S4096x4096 1 := andi main_v23 main_v25
  let main_c_9 : IVec S_ 1 := constantI S_ 1 1#1
  let main_v27 : IVec S_ 1 := (fun x v => Host.reduce IntOp.andi x v reducesTo_S4096x4096_S_d0_1 h_S_) main_v26 main_c_9
  let main_cst_10 : FVec F S_ .f32 := constant S_ .f32 0x7F800000#32
  let main_v28 : FVec F S4096x4096 .f32 := broadcastInDim S4096x4096 ![] bcast_S_S4096x4096 main_cst_10
  let main_v29 : IVec S4096x4096 1 := cmpf .olt main_arg4 main_v28
  let main_cst_11 : FVec F S_ .f32 := constant S_ .f32 0xFF800000#32
  let main_v30 : FVec F S4096x4096 .f32 := broadcastInDim S4096x4096 ![] bcast_S_S4096x4096 main_cst_11
  let main_v31 : IVec S4096x4096 1 := cmpf .ogt main_arg4 main_v30
  let main_v32 : IVec S4096x4096 1 := andi main_v29 main_v31
  let main_c_12 : IVec S_ 1 := constantI S_ 1 1#1
  fn_part2 (F := F) main_arg5 main_arg6 main_arg7 main_arg8 main_arg9 main_arg10 main_arg11 main_v7 main_v13 main_v21 main_v27 main_v32 main_c_12

def fn {F : FTy → Type} [FloatOps F] (main_arg0 : FVec F S4096x1024 .bf16) (main_arg1 : FVec F S4096x1024 .f32) (main_arg2 : FVec F S4096x1024 .bf16) (main_arg3 : FVec F S4096x4096 .f32) (main_arg4 : FVec F S4096x4096 .f32) (main_arg5 : FVec F S64x64 .f32) (main_arg6 : FVec F S64x64 .f32) (main_arg7 : FVec F S64x64x16 .f32) (main_arg8 : FVec F S64x64x16 .f32) (main_arg9 : FVec F S64x16x64 .f32) (main_arg10 : FVec F S64x16x64 .f32) (main_arg11 : FVec F S1024 .f32) : IVec S_ 1 :=
  let main_v0 : FVec F S4096x1024 .f32 := (extf .f32 · bitsLt_bf16_f32) main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := (extf .f32 · bitsLt_bf16_f32) main_arg0
  let main_cst_0 : FVec F S_ .f32 := constant S_ .f32 0xFF800000#32
  let main_v4 : FVec F S4096x1024 .f32 := broadcastInDim S4096x1024 ![] bcast_S_S4096x1024 main_cst_0
  let main_v5 : IVec S4096x1024 1 := cmpf .ogt main_v3 main_v4
  let main_v6 : IVec S4096x1024 1 := andi main_v2 main_v5
  let main_c : IVec S_ 1 := constantI S_ 1 1#1
  let main_v7 : IVec S_ 1 := (fun x v => Host.reduce IntOp.andi x v reducesTo_S4096x1024_S_d0_1 h_S_) main_v6 main_c
  let main_cst_1 : FVec F S_ .f32 := constant S_ .f32 0x7F800000#32
  let main_v8 : FVec F S4096x1024 .f32 := broadcastInDim S4096x1024 ![] bcast_S_S4096x1024 main_cst_1
  let main_v9 : IVec S4096x1024 1 := cmpf .olt main_arg1 main_v8
  let main_cst_2 : FVec F S_ .f32 := constant S_ .f32 0xFF800000#32
  let main_v10 : FVec F S4096x1024 .f32 := broadcastInDim S4096x1024 ![] bcast_S_S4096x1024 main_cst_2
  let main_v11 : IVec S4096x1024 1 := cmpf .ogt main_arg1 main_v10
  let main_v12 : IVec S4096x1024 1 := andi main_v9 main_v11
  let main_c_3 : IVec S_ 1 := constantI S_ 1 1#1
  let main_v13 : IVec S_ 1 := (fun x v => Host.reduce IntOp.andi x v reducesTo_S4096x1024_S_d0_1 h_S_) main_v12 main_c_3
  let main_v14 : FVec F S4096x1024 .f32 := (extf .f32 · bitsLt_bf16_f32) main_arg2
  let main_cst_4 : FVec F S_ .f32 := constant S_ .f32 0x7F800000#32
  let main_v15 : FVec F S4096x1024 .f32 := broadcastInDim S4096x1024 ![] bcast_S_S4096x1024 main_cst_4
  let main_v16 : IVec S4096x1024 1 := cmpf .olt main_v14 main_v15
  fn_part1 (F := F) main_arg2 main_arg3 main_arg4 main_arg5 main_arg6 main_arg7 main_arg8 main_arg9 main_arg10 main_arg11 main_v7 main_v13 main_v16
-- ==== Pre_finite4.lean ====
abbrev S4096x1024 : Shape := ⟨2, ![4096, 1024]⟩
abbrev S2816x1024 : Shape := ⟨2, ![2816, 1024]⟩
abbrev S4096x5632 : Shape := ⟨2, ![4096, 5632]⟩
abbrev S_ : Shape := ⟨0, ![]⟩
abbrev S1 : Shape := ⟨1, ![1]⟩
abbrev S3 : Shape := ⟨1, ![3]⟩

class Facts : Prop where
  bitsLt_bf16_f32 : FTy.bits .bf16 < FTy.bits .f32
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S4096x5632 : S_.BroadcastsInDim S4096x5632 (![] : Fin 0 → Fin S4096x5632.rank)
  reducesTo_S4096x5632_S_d0_1 : S4096x5632.ReducesTo [0, 1] S_
  bcast_S_S1 : S_.BroadcastsInDim S1 (![] : Fin 0 → Fin S1.rank)
  concatenates_S1_S1_S1_S3_d0 : Shape.Concatenates [S1, S1, S1] S3 0
  reducesTo_S3_S_d0 : S3.ReducesTo [0] S_

variable [Facts]

def fn_part1 {F : FTy → Type} [FloatOps F] (main_arg2 : FVec F S4096x5632 .bf16) (main_v7 : IVec S_ 1) (main_v15 : IVec S_ 1) (main_v16 : FVec F S4096x5632 .f32) (main_cst_4 : FVec F S_ .f32) : IVec S_ 1 :=
  let main_v17 : FVec F S4096x5632 .f32 := broadcastInDim S4096x5632 ![] bcast_S_S4096x5632 main_cst_4
  let main_v18 : IVec S4096x5632 1 := cmpf .olt main_v16 main_v17
  let main_v19 : FVec F S4096x5632 .f32 := (extf .f32 · bitsLt_bf16_f32) main_arg2
  let main_cst_5 : FVec F S_ .f32 := constant S_ .f32 0xFF800000#32
  let main_v20 : FVec F S4096x5632 .f32 := broadcastInDim S4096x5632 ![] bcast_S_S4096x5632 main_cst_5
  let main_v21 : IVec S4096x5632 1 := cmpf .ogt main_v19 main_v20
  let main_v22 : IVec S4096x5632 1 := andi main_v18 main_v21
  let main_c_6 : IVec S_ 1 := constantI S_ 1 1#1
  let main_v23 : IVec S_ 1 := (fun x v => Host.reduce IntOp.andi x v reducesTo_S4096x5632_S_d0_1 h_S_) main_v22 main_c_6
  let main_v24 : IVec S1 1 := broadcastInDim S1 ![] bcast_S_S1 main_v7
  let main_v25 : IVec S1 1 := broadcastInDim S1 ![] bcast_S_S1 main_v15
  let main_v26 : IVec S1 1 := broadcastInDim S1 ![] bcast_S_S1 main_v23
  let main_v27 : IVec S3 1 := concatenate S3 0 [⟨S1, main_v24⟩, ⟨S1, main_v25⟩, ⟨S1, main_v26⟩] concatenates_S1_S1_S1_S3_d0
  let main_c_7 : IVec S_ 1 := constantI S_ 1 1#1
  let main_v28 : IVec S_ 1 := (fun x v => Host.reduce IntOp.andi x v reducesTo_S3_S_d0 h_S_) main_v27 main_c_7
  main_v28

def fn {F : FTy → Type} [FloatOps F] (main_arg0 : FVec F S4096x1024 .bf16) (main_arg1 : FVec F S2816x1024 .bf16) (main_arg2 : FVec F S4096x5632 .bf16) : IVec S_ 1 :=
  let main_v0 : FVec F S4096x1024 .f32 := (extf .f32 · bitsLt_bf16_f32) main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := (extf .f32 · bitsLt_bf16_f32) main_arg0
  let main_cst_0 : FVec F S_ .f32 := constant S_ .f32 0xFF800000#32
  let main_v4 : FVec F S4096x1024 .f32 := broadcastInDim S4096x1024 ![] bcast_S_S4096x1024 main_cst_0
  let main_v5 : IVec S4096x1024 1 := cmpf .ogt main_v3 main_v4
  let main_v6 : IVec S4096x1024 1 := andi main_v2 main_v5
  let main_c : IVec S_ 1 := constantI S_ 1 1#1
  let main_v7 : IVec S_ 1 := (fun x v => Host.reduce IntOp.andi x v reducesTo_S4096x1024_S_d0_1 h_S_) main_v6 main_c
  let main_v8 : FVec F S2816x1024 .f32 := (extf .f32 · bitsLt_bf16_f32) main_arg1
  let main_cst_1 : FVec F S_ .f32 := constant S_ .f32 0x7F800000#32
  let main_v9 : FVec F S2816x1024 .f32 := broadcastInDim S2816x1024 ![] bcast_S_S2816x1024 main_cst_1
  let main_v10 : IVec S2816x1024 1 := cmpf .olt main_v8 main_v9
  let main_v11 : FVec F S2816x1024 .f32 := (extf .f32 · bitsLt_bf16_f32) main_arg1
  let main_cst_2 : FVec F S_ .f32 := constant S_ .f32 0xFF800000#32
  let main_v12 : FVec F S2816x1024 .f32 := broadcastInDim S2816x1024 ![] bcast_S_S2816x1024 main_cst_2
  let main_v13 : IVec S2816x1024 1 := cmpf .ogt main_v11 main_v12
  let main_v14 : IVec S2816x1024 1 := andi main_v10 main_v13
  let main_c_3 : IVec S_ 1 := constantI S_ 1 1#1
  let main_v15 : IVec S_ 1 := (fun x v => Host.reduce IntOp.andi x v reducesTo_S2816x1024_S_d0_1 h_S_) main_v14 main_c_3
  let main_v16 : FVec F S4096x5632 .f32 := (extf .f32 · bitsLt_bf16_f32) main_arg2
  let main_cst_4 : FVec F S_ .f32 := constant S_ .f32 0x7F800000#32
  fn_part1 (F := F) main_arg2 main_v7 main_v15 main_v16 main_cst_4
-- ==== Kernel.lean ====
abbrev S4096x1024 : Shape := ⟨2, ![4096, 1024]⟩
abbrev S4096x4096 : Shape := ⟨2, ![4096, 4096]⟩
abbrev S64x64 : Shape := ⟨2, ![64, 64]⟩
abbrev S64x64x16 : Shape := ⟨3, ![64, 64, 16]⟩
abbrev S64x16x64 : Shape := ⟨3, ![64, 16, 64]⟩
abbrev S1024 : Shape := ⟨1, ![1024]⟩
abbrev S8x8x64x16 : Shape := ⟨4, ![8, 8, 64, 16]⟩
abbrev S8x8x16x64 : Shape := ⟨4, ![8, 8, 16, 64]⟩
abbrev S8x8x16x1x64 : Shape := ⟨5, ![8, 8, 16, 1, 64]⟩
abbrev S8x8 : Shape := ⟨2, ![8, 8]⟩
abbrev S_ : Shape := ⟨0, ![]⟩
abbrev S8x1x8x1 : Shape := ⟨4, ![8, 1, 8, 1]⟩
abbrev S1x8x1x8x1 : Shape := ⟨5, ![1, 8, 1, 8, 1]⟩
abbrev S8x8x16x8x64 : Shape := ⟨5, ![8, 8, 16, 8, 64]⟩
abbrev S8x128x512 : Shape := ⟨3, ![8, 128, 512]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S1x4096 : Shape := ⟨2, ![1, 4096]⟩
abbrev S1x1024 : Shape := ⟨2, ![1, 1024]⟩
abbrev S2048x128 : Shape := ⟨2, ![2048, 128]⟩
abbrev S2048x512 : Shape := ⟨2, ![2048, 512]⟩
abbrev S1x128x512 : Shape := ⟨3, ![1, 128, 512]⟩
abbrev S1x512x128 : Shape := ⟨3, ![1, 512, 128]⟩
abbrev S1x512 : Shape := ⟨2, ![1, 512]⟩
abbrev S1x128 : Shape := ⟨2, ![1, 128]⟩
abbrev S512x128 : Shape := ⟨2, ![512, 128]⟩
abbrev S512 : Shape := ⟨1, ![512]⟩
abbrev S128x512 : Shape := ⟨2, ![128, 512]⟩
abbrev S128 : Shape := ⟨1, ![128]⟩

abbrev nBuf : Space → Nat
  | .hbm => 91
  | .vmem => 42
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4096x1024, .bf16⟩
  | .hbm, ⟨3, _⟩ => ⟨S4096x4096, .f32⟩
  | .hbm, ⟨4, _⟩ => ⟨S4096x4096, .f32⟩
  | .hbm, ⟨5, _⟩ => ⟨S64x64, .f32⟩
  | .hbm, ⟨6, _⟩ => ⟨S64x64, .f32⟩
  | .hbm, ⟨7, _⟩ => ⟨S64x64x16, .f32⟩
  | .hbm, ⟨8, _⟩ => ⟨S64x64x16, .f32⟩
  | .hbm, ⟨9, _⟩ => ⟨S64x16x64, .f32⟩
  | .hbm, ⟨10, _⟩ => ⟨S64x16x64, .f32⟩
  | .hbm, ⟨11, _⟩ => ⟨S1024, .f32⟩
  | .hbm, ⟨12, _⟩ => ⟨S8x8x64x16, .f32⟩
  | .hbm, ⟨13, _⟩ => ⟨S8x8x16x64, .f32⟩
  | .hbm, ⟨14, _⟩ => ⟨S8x8x16x1x64, .f32⟩
  | .hbm, ⟨15, _⟩ => ⟨S8x8, .i32⟩
  | .hbm, ⟨16, _⟩ => ⟨S8x8, .i32⟩
  | .hbm, ⟨17, _⟩ => ⟨S_, .i32⟩
  | .hbm, ⟨18, _⟩ => ⟨S8x8, .i32⟩
  | .hbm, ⟨19, _⟩ => ⟨S8x8, .i32⟩
  | .hbm, ⟨20, _⟩ => ⟨S8x8, .i1⟩
  | .hbm, ⟨21, _⟩ => ⟨S8x8, .f32⟩
  | .hbm, ⟨22, _⟩ => ⟨S8x1x8x1, .f32⟩
  | .hbm, ⟨23, _⟩ => ⟨S1x8x1x8x1, .f32⟩
  | .hbm, ⟨24, _⟩ => ⟨S8x8x16x8x64, .f32⟩
  | .hbm, ⟨25, _⟩ => ⟨S8x8x16x8x64, .f32⟩
  | .hbm, ⟨26, _⟩ => ⟨S8x8x16x8x64, .f32⟩
  | .hbm, ⟨27, _⟩ => ⟨S8x128x512, .f32⟩
  | .hbm, ⟨28, _⟩ => ⟨S8x128x512, .bf16⟩
  | .hbm, ⟨29, _⟩ => ⟨S8x8x64x16, .f32⟩
  | .hbm, ⟨30, _⟩ => ⟨S8x8x16x64, .f32⟩
  | .hbm, ⟨31, _⟩ => ⟨S8x8x16x1x64, .f32⟩
  | .hbm, ⟨32, _⟩ => ⟨S8x8, .i32⟩
  | .hbm, ⟨33, _⟩ => ⟨S8x8, .i32⟩
  | .hbm, ⟨34, _⟩ => ⟨S_, .i32⟩
  | .hbm, ⟨35, _⟩ => ⟨S8x8, .i32⟩
  | .hbm, ⟨36, _⟩ => ⟨S8x8, .i32⟩
  | .hbm, ⟨37, _⟩ => ⟨S8x8, .i1⟩
  | .hbm, ⟨38, _⟩ => ⟨S8x8, .f32⟩
  | .hbm, ⟨39, _⟩ => ⟨S8x1x8x1, .f32⟩
  | .hbm, ⟨40, _⟩ => ⟨S1x8x1x8x1, .f32⟩
  | .hbm, ⟨41, _⟩ => ⟨S8x8x16x8x64, .f32⟩
  | .hbm, ⟨42, _⟩ => ⟨S8x8x16x8x64, .f32⟩
  | .hbm, ⟨43, _⟩ => ⟨S8x8x16x8x64, .f32⟩
  | .hbm, ⟨44, _⟩ => ⟨S8x128x512, .f32⟩
  | .hbm, ⟨45, _⟩ => ⟨S8x128x512, .bf16⟩
  | .hbm, ⟨46, _⟩ => ⟨S8x8x16x64, .f32⟩
  | .hbm, ⟨47, _⟩ => ⟨S8x8x64x16, .f32⟩
  | .hbm, ⟨48, _⟩ => ⟨S8x8x64x1x16, .f32⟩
  | .hbm, ⟨49, _⟩ => ⟨S8x8, .i32⟩
  | .hbm, ⟨50, _⟩ => ⟨S8x8, .i32⟩
  | .hbm, ⟨51, _⟩ => ⟨S_, .i32⟩
  | .hbm, ⟨52, _⟩ => ⟨S8x8, .i32⟩
  | .hbm, ⟨53, _⟩ => ⟨S8x8, .i32⟩
  | .hbm, ⟨54, _⟩ => ⟨S8x8, .i1⟩
  | .hbm, ⟨55, _⟩ => ⟨S8x8, .f32⟩
  | .hbm, ⟨56, _⟩ => ⟨S8x1x8x1, .f32⟩
  | .hbm, ⟨57, _⟩ => ⟨S1x8x1x8x1, .f32⟩
  | .hbm, ⟨58, _⟩ => ⟨S8x8x64x8x16, .f32⟩
  | .hbm, ⟨59, _⟩ => ⟨S8x8x64x8x16, .f32⟩
  | .hbm, ⟨60, _⟩ => ⟨S8x8x64x8x16, .f32⟩
  | .hbm, ⟨61, _⟩ => ⟨S8x512x128, .f32⟩
  | .hbm, ⟨62, _⟩ => ⟨S8x512x128, .bf16⟩
  | .hbm, ⟨63, _⟩ => ⟨S8x8x16x64, .f32⟩
  | .hbm, ⟨64, _⟩ => ⟨S8x8x64x16, .f32⟩
  | .hbm, ⟨65, _⟩ => ⟨S8x8x64x1x16, .f32⟩
  | .hbm, ⟨66, _⟩ => ⟨S8x8, .i32⟩
  | .hbm, ⟨67, _⟩ => ⟨S8x8, .i32⟩
  | .hbm, ⟨68, _⟩ => ⟨S_, .i32⟩
  | .hbm, ⟨69, _⟩ => ⟨S8x8, .i32⟩
  | .hbm, ⟨70, _⟩ => ⟨S8x8, .i32⟩
  | .hbm, ⟨71, _⟩ => ⟨S8x8, .i1⟩
  | .hbm, ⟨72, _⟩ => ⟨S8x8, .f32⟩
  | .hbm, ⟨73, _⟩ => ⟨S8x1x8x1, .f32⟩
  | .hbm, ⟨74, _⟩ => ⟨S1x8x1x8x1, .f32⟩
  | .hbm, ⟨75, _⟩ => ⟨S8x8x64x8x16, .f32⟩
  | .hbm, ⟨76, _⟩ => ⟨S8x8x64x8x16, .f32⟩
  | .hbm, ⟨77, _⟩ => ⟨S8x8x64x8x16, .f32⟩
  | .hbm, ⟨78, _⟩ => ⟨S8x512x128, .f32⟩
  | .hbm, ⟨79, _⟩ => ⟨S8x512x128, .bf16⟩
  | .hbm, ⟨80, _⟩ => ⟨S1x4096, .f32⟩
  | .hbm, ⟨81, _⟩ => ⟨S1x4096, .f32⟩
  | .hbm, ⟨82, _⟩ => ⟨S1x1024, .f32⟩
  | .hbm, ⟨83, _⟩ => ⟨S4096x1024, .f32⟩
  | .hbm, ⟨84, _⟩ => ⟨S8x128x512, .f32⟩
  | .hbm, ⟨85, _⟩ => ⟨S8x128x512, .f32⟩
  | .hbm, ⟨86, _⟩ => ⟨S8x512x128, .f32⟩
  | .hbm, ⟨87, _⟩ => ⟨S8x512x128, .f32⟩
  | .hbm, ⟨88, _⟩ => ⟨S1x4096, .f32⟩
  | .hbm, ⟨89, _⟩ => ⟨S1x4096, .f32⟩
  | .hbm, ⟨90, _⟩ => ⟨S1x1024, .f32⟩
  | .local _ .vmem, ⟨0, _⟩ => ⟨S2048x128, .bf16⟩
  | .local _ .vmem, ⟨1, _⟩ => ⟨S2048x128, .bf16⟩
  | .local _ .vmem, ⟨2, _⟩ => ⟨S2048x128, .f32⟩
  | .local _ .vmem, ⟨3, _⟩ => ⟨S2048x128, .f32⟩
  | .local _ .vmem, ⟨4, _⟩ => ⟨S2048x128, .bf16⟩
  | .local _ .vmem, ⟨5, _⟩ => ⟨S2048x128, .bf16⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | .local _ .vmem, ⟨9, _⟩ => ⟨S2048x512, .f32⟩
  | .local _ .vmem, ⟨10, _⟩ => ⟨S1x128x512, .bf16⟩
  | .local _ .vmem, ⟨11, _⟩ => ⟨S1x128x512, .bf16⟩
  | .local _ .vmem, ⟨12, _⟩ => ⟨S1x128x512, .bf16⟩
  | .local _ .vmem, ⟨13, _⟩ => ⟨S1x128x512, .bf16⟩
  | .local _ .vmem, ⟨14, _⟩ => ⟨S1x512x128, .bf16⟩
  | .local _ .vmem, ⟨15, _⟩ => ⟨S1x512x128, .bf16⟩
  | .local _ .vmem, ⟨16, _⟩ => ⟨S1x512x128, .bf16⟩
  | .local _ .vmem, ⟨17, _⟩ => ⟨S1x512x128, .bf16⟩
  | .local _ .vmem, ⟨18, _⟩ => ⟨S1x512, .f32⟩
  | .local _ .vmem, ⟨19, _⟩ => ⟨S1x512, .f32⟩
  | .local _ .vmem, ⟨20, _⟩ => ⟨S1x512, .f32⟩
  | .local _ .vmem, ⟨21, _⟩ => ⟨S1x512, .f32⟩
  | .local _ .vmem, ⟨22, _⟩ => ⟨S1x128, .f32⟩
  | .local _ .vmem, ⟨23, _⟩ => ⟨S1x128, .f32⟩
  | .local _ .vmem, ⟨24, _⟩ => ⟨S2048x128, .f32⟩
  | .local _ .vmem, ⟨25, _⟩ => ⟨S2048x128, .f32⟩
  | .local _ .vmem, ⟨26, _⟩ => ⟨S1x128x512, .f32⟩
  | .local _ .vmem, ⟨27, _⟩ => ⟨S1x128x512, .f32⟩
  | .local _ .vmem, ⟨28, _⟩ => ⟨S1x128x512, .f32⟩
  | .local _ .vmem, ⟨29, _⟩ => ⟨S1x128x512, .f32⟩
  | .local _ .vmem, ⟨30, _⟩ => ⟨S1x512x128, .f32⟩
  | .local _ .vmem, ⟨31, _⟩ => ⟨S1x512x128, .f32⟩
  | .local _ .vmem, ⟨32, _⟩ => ⟨S1x512x128, .f32⟩
  | .local _ .vmem, ⟨33, _⟩ => ⟨S1x512x128, .f32⟩
  | .local _ .vmem, ⟨34, _⟩ => ⟨S1x512, .f32⟩
  | .local _ .vmem, ⟨35, _⟩ => ⟨S1x512, .f32⟩
  | .local _ .vmem, ⟨36, _⟩ => ⟨S1x512, .f32⟩
  | .local _ .vmem, ⟨37, _⟩ => ⟨S1x512, .f32⟩
  | .local _ .vmem, ⟨38, _⟩ => ⟨S1x128, .f32⟩
  | .local _ .vmem, ⟨39, _⟩ => ⟨S1x128, .f32⟩
  | .local _ .vmem, ⟨40, _⟩ => ⟨S2048x512, .f32⟩
  | .local _ .vmem, ⟨41, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_c : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_c_0 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_1 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_c_2 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67_0 : Ref sig .tc := ⟨.hbm, 83, rfl⟩
abbrev main_v67_1 : Ref sig .tc := ⟨.hbm, 84, rfl⟩
abbrev main_v67_2 : Ref sig .tc := ⟨.hbm, 85, rfl⟩
abbrev main_v67_3 : Ref sig .tc := ⟨.hbm, 86, rfl⟩
abbrev main_v67_4 : Ref sig .tc := ⟨.hbm, 87, rfl⟩
abbrev main_v67_5 : Ref sig .tc := ⟨.hbm, 88, rfl⟩
abbrev main_v67_6 : Ref sig .tc := ⟨.hbm, 89, rfl⟩
abbrev main_v67_7 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_stg17_0 : Ref sig .tc := ⟨.vmem, 34, rfl⟩
abbrev cc0_stg17_1 : Ref sig .tc := ⟨.vmem, 35, rfl⟩
abbrev cc0_stg18_0 : Ref sig .tc := ⟨.vmem, 36, rfl⟩
abbrev cc0_stg18_1 : Ref sig .tc := ⟨.vmem, 37, rfl⟩
abbrev cc0_stg19_0 : Ref sig .tc := ⟨.vmem, 38, rfl⟩
abbrev cc0_stg19_1 : Ref sig .tc := ⟨.vmem, 39, rfl⟩
abbrev cc0_scratch0 : Ref sig .tc := ⟨.vmem, 40, rfl⟩
abbrev cc0_scratch1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc0_sem17_0 : DmaSem sig := 34
abbrev cc0_sem17_1 : DmaSem sig := 35
abbrev cc0_sem18_0 : DmaSem sig := 36
abbrev cc0_sem18_1 : DmaSem sig := 37
abbrev cc0_sem19_0 : DmaSem sig := 38
abbrev cc0_sem19_1 : DmaSem sig := 39

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32_31 : BitVec 32 := 0#32
  let c2048_i32 : BitVec 32 := 2048#32
  let v55 : BitVec 32 := Scalar.addi c0_i32_31 c2048_i32
  let c1_i32 : BitVec 32 := 1#32
  ⟨c0_i32_31, v55, c1_i32⟩
def k0_off1 (k0_t1 : Fin k0_t1_loop.trips) : Fin 2 → Nat :=
  let c2047_i32 : BitVec 32 := 2047#32
  let c0_i32_31 : BitVec 32 := 0#32
  let c1_i32 : BitVec 32 := 1#32
  let arg24 : BitVec 32 := Scf.iv c0_i32_31 c1_i32 k0_t1
  let v120 : BitVec 32 := Scalar.subi c2047_i32 arg24
  let v121 : Index := Scalar.indexCast v120
  let c0_69 : Index := 0#32
  ![v121.toNat, 0]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v115 : BitVec 32 := Scalar.extui v0
  let c0_i32_67 : BitVec 32 := 0#32
  let v116 : BitVec 1 := Scalar.cmpi .ne v115 c0_i32_67
  v116

def k0_cond2 (i : grid0.Coords) : BitVec 1 :=
  let arg1 : BitVec 32 := BitVec.ofNat 32 (i 1).val
  let c0_i32 : BitVec 32 := 0#32
  let v0 : BitVec 1 := Scalar.cmpi .eq arg1 c0_i32
  let v_true : BitVec 1 := 1#1
  let v117 : BitVec 1 := Scalar.xori v0 v_true
  let v118 : BitVec 32 := Scalar.extui v117
  let c0_i32_68 : BitVec 32 := 0#32
  let v119 : BitVec 1 := Scalar.cmpi .ne v118 c0_i32_68
  v119

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_19 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S2048x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x128x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

abbrev stage0_14 : Fin 2 → Memref sig .tc .vmem S1x128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S1x512x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 2 → Memref sig .tc .vmem S1x512x128 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, false]

abbrev stage0_17 : Fin 2 → Memref sig .tc .vmem S1x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, false]

abbrev stage0_18 : Fin 2 → Memref sig .tc .vmem S1x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]
-- ==== KernelIdeal.lean ====
variable {F : FTy → Type} [FloatOps F] [Named F]
def κ : String → Option EReal := fun
  | "gelu_3a" => some ((26829 / 200000 : ℝ) : EReal)
  | "gelu_a" => some ((8943 / 200000 : ℝ) : EReal)
  | _ => none
-- ==== ReferenceIdeal.lean ====
abbrev S4096x1024 : Shape := ⟨2, ![4096, 1024]⟩
abbrev S4096x4096 : Shape := ⟨2, ![4096, 4096]⟩
abbrev S64x64 : Shape := ⟨2, ![64, 64]⟩
abbrev S64x64x16 : Shape := ⟨3, ![64, 64, 16]⟩
abbrev S64x16x64 : Shape := ⟨3, ![64, 16, 64]⟩
abbrev S1024 : Shape := ⟨1, ![1024]⟩
abbrev S_ : Shape := ⟨0, ![]⟩
abbrev S2x2048x64x16 : Shape := ⟨4, ![2, 2048, 64, 16]⟩
abbrev S2x2048x64x64 : Shape := ⟨4, ![2, 2048, 64, 64]⟩
abbrev S64x16x2x2048 : Shape := ⟨4, ![64, 16, 2, 2048]⟩
abbrev S64x16 : Shape := ⟨2, ![64, 16]⟩
abbrev S1x1x64x16 : Shape := ⟨4, ![1, 1, 64, 16]⟩
abbrev S64x2x2048x64 : Shape := ⟨4, ![64, 2, 2048, 64]⟩
abbrev S4096 : Shape := ⟨1, ![4096]⟩
abbrev S2x4096 : Shape := ⟨2, ![2, 4096]⟩
abbrev S2048x2x64x64 : Shape := ⟨4, ![2048, 2, 64, 64]⟩
abbrev S2048x2x4096 : Shape := ⟨3, ![2048, 2, 4096]⟩
abbrev S1x2x4096 : Shape := ⟨3, ![1, 2, 4096]⟩
abbrev S1x4096 : Shape := ⟨2, ![1, 4096]⟩
abbrev S2x2048x4096 : Shape := ⟨3, ![2, 2048, 4096]⟩
abbrev S2x1x64x64 : Shape := ⟨4, ![2, 1, 64, 64]⟩
abbrev S2x2047x64x64 : Shape := ⟨4, ![2, 2047, 64, 64]⟩
abbrev S1x1x64x64 : Shape := ⟨4, ![1, 1, 64, 64]⟩
abbrev S64x64x2x2048 : Shape := ⟨4, ![64, 64, 2, 2048]⟩
abbrev S64x2x2048x16 : Shape := ⟨4, ![64, 2, 2048, 16]⟩
abbrev S8x8x16x1x64 : Shape := ⟨5, ![8, 8, 16, 1, 64]⟩
abbrev S8 : Shape := ⟨1, ![8]⟩
abbrev S8x1x1x1 : Shape := ⟨4, ![8, 1, 1, 1]⟩
abbrev S1x1x8x1 : Shape := ⟨4, ![1, 1, 8, 1]⟩
abbrev S8x1x8x1 : Shape := ⟨4, ![8, 1, 8, 1]⟩
abbrev S8x8x16x8x64 : Shape := ⟨5, ![8, 8, 16, 8, 64]⟩
abbrev S8x128x512 : Shape := ⟨3, ![8, 128, 512]⟩
abbrev S8x8x64x1x16 : Shape := ⟨5, ![8, 8, 64, 1, 16]⟩
abbrev S8x8x64x8x16 : Shape := ⟨5, ![8, 8, 64, 8, 16]⟩
abbrev S8x512x128 : Shape := ⟨3, ![8, 512, 128]⟩
abbrev S1x1024 : Shape := ⟨2, ![1, 1024]⟩

abbrev nBuf : Space → Nat
  | .hbm => 371
  | .vmem => 0
  | .smem => 0
  | _ => 0

abbrev hbmTy0_0 (i : Nat) : BufTy := match i % 128 with
  | 0 => ⟨S4096x1024, .bf16⟩
  | 1 => ⟨S4096x1024, .f32⟩
  | 2 => ⟨S4096x1024, .bf16⟩
  | 3 => ⟨S4096x4096, .f32⟩
  | 4 => ⟨S4096x4096, .f32⟩
  | 5 => ⟨S64x64, .f32⟩
  | 6 => ⟨S64x64, .f32⟩
  | 7 => ⟨S64x64x16, .f32⟩
  | 8 => ⟨S64x64x16, .f32⟩
  | 9 => ⟨S64x16x64, .f32⟩
  | 10 => ⟨S64x16x64, .f32⟩
  | 11 => ⟨S1024, .f32⟩
  | 12 => ⟨S_, .f32⟩
  | 13 => ⟨S4096x1024, .f32⟩
  | 14 => ⟨S4096x1024, .f32⟩
  | 15 => ⟨S4096x1024, .f32⟩
  | 16 => ⟨S4096x1024, .f32⟩
  | 17 => ⟨S4096x1024, .f32⟩
  | 18 => ⟨S_, .f32⟩
  | 19 => ⟨S4096x1024, .f32⟩
  | 20 => ⟨S4096x1024, .f32⟩
  | 21 => ⟨S_, .f32⟩
  | 22 => ⟨S4096x1024, .f32⟩
  | 23 => ⟨S4096x1024, .f32⟩
  | 24 => ⟨S_, .f32⟩
  | 25 => ⟨S4096x1024, .f32⟩
  | 26 => ⟨S4096x1024, .f32⟩
  | 27 => ⟨S4096x1024, .f32⟩
  | 28 => ⟨S_, .f32⟩
  | 29 => ⟨S4096x1024, .f32⟩
  | 30 => ⟨S4096x1024, .f32⟩
  | 31 => ⟨S4096x1024, .f32⟩
  | 32 => ⟨S_, .f32⟩
  | 33 => ⟨S4096x1024, .f32⟩
  | 34 => ⟨S4096x1024, .f32⟩
  | 35 => ⟨S_, .f32⟩
  | 36 => ⟨S4096x1024, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S4096x1024, .f32⟩
  | 43 => ⟨S4096x1024, .f32⟩
  | 44 => ⟨S4096x1024, .f32⟩
  | 45 => ⟨S4096x1024, .f32⟩
  | 46 => ⟨S4096x1024, .f32⟩
  | 47 => ⟨S_, .f32⟩
  | 48 => ⟨S4096x1024, .f32⟩
  | 49 => ⟨S4096x1024, .f32⟩
  | 50 => ⟨S_, .f32⟩
  | 51 => ⟨S4096x1024, .f32⟩
  | 52 => ⟨S4096x1024, .f32⟩
  | 53 => ⟨S_, .f32⟩
  | 54 => ⟨S4096x1024, .f32⟩
  | 55 => ⟨S4096x1024, .f32⟩
  | 56 => ⟨S4096x1024, .f32⟩
  | 57 => ⟨S4096x1024, .f32⟩
  | 58 => ⟨S_, .f32⟩
  | 59 => ⟨S4096x1024, .f32⟩
  | 60 => ⟨S4096x1024, .f32⟩
  | 61 => ⟨S4096x1024, .f32⟩
  | 62 => ⟨S2x2048x64x16, .f32⟩
  | 63 => ⟨S4096x1024, .f32⟩
  | 64 => ⟨S2x2048x64x16, .f32⟩
  | 65 => ⟨S2x2048x64x64, .f32⟩
  | 66 => ⟨S2x2048x64x64, .f32⟩
  | 67 => ⟨S64x16x2x2048, .f32⟩
  | 68 => ⟨S2x2048x64x16, .f32⟩
  | 69 => ⟨S64x16x2x2048, .f32⟩
  | 70 => ⟨S2x2048x64x16, .f32⟩
  | 71 => ⟨S2x2048x64x16, .f32⟩
  | 72 => ⟨S64x16, .f32⟩
  | 73 => ⟨S1x1x64x16, .f32⟩
  | 74 => ⟨S2x2048x64x16, .f32⟩
  | 75 => ⟨S2x2048x64x16, .f32⟩
  | 76 => ⟨S2x2048x64x16, .f32⟩
  | 77 => ⟨S2x2048x64x16, .f32⟩
  | 78 => ⟨S64x16x2x2048, .f32⟩
  | 79 => ⟨S64x2x2048x64, .f32⟩
  | 80 => ⟨S2x2048x64x64, .f32⟩
  | 81 => ⟨S64x16x2x2048, .f32⟩
  | 82 => ⟨S64x2x2048x64, .f32⟩
  | 83 => ⟨S2x2048x64x64, .f32⟩
  | 84 => ⟨S4096, .f32⟩
  | 85 => ⟨S4096, .f32⟩
  | 86 => ⟨S_, .f32⟩
  | 87 => ⟨S2x4096, .f32⟩
  | 88 => ⟨S2048x2x64x64, .f32⟩
  | 89 => ⟨S2048x2x4096, .f32⟩
  | 90 => ⟨S2048x2x4096, .f32⟩
  | 91 => ⟨S2048x2x64x64, .f32⟩
  | 92 => ⟨S2048x2x4096, .f32⟩
  | 93 => ⟨S2048x2x4096, .f32⟩
  | 94 => ⟨S_, .f32⟩
  | 95 => ⟨S2048x2x4096, .f32⟩
  | 96 => ⟨S_, .f32⟩
  | 97 => ⟨S2048x2x4096, .f32⟩
  | 98 => ⟨S_, .i32⟩
  | 99 => ⟨S2048x2x4096, .f32⟩
  | 100 => ⟨S2048x2x4096, .f32⟩
  | 101 => ⟨S4096, .f32⟩
  | 102 => ⟨S4096, .f32⟩
  | 103 => ⟨S_, .i32⟩
  | 104 => ⟨S2x4096, .f32⟩
  | 105 => ⟨S2x4096, .f32⟩
  | 106 => ⟨S2048x2x4096, .f32⟩
  | 107 => ⟨S2048x2x4096, .f32⟩
  | 108 => ⟨S_, .i32⟩
  | 109 => ⟨S_, .i1⟩
  | 110 => ⟨S_, .i32⟩
  | 111 => ⟨S_, .i32⟩
  | 112 => ⟨S1x2x4096, .f32⟩
  | 113 => ⟨S2x4096, .f32⟩
  | 114 => ⟨S_, .i32⟩
  | 115 => ⟨S_, .i32⟩
  | 116 => ⟨S1x2x4096, .f32⟩
  | 117 => ⟨S2x4096, .f32⟩
  | 118 => ⟨S1x4096, .f32⟩
  | 119 => ⟨S2x4096, .f32⟩
  | 120 => ⟨S2x4096, .f32⟩
  | 121 => ⟨S1x4096, .f32⟩
  | 122 => ⟨S2x4096, .f32⟩
  | 123 => ⟨S2x4096, .f32⟩
  | 124 => ⟨S2x4096, .f32⟩
  | 125 => ⟨S1x4096, .f32⟩
  | 126 => ⟨S2x4096, .f32⟩
  | 127 => ⟨S2x4096, .f32⟩
  | _ => ⟨S4096x1024, .bf16⟩

abbrev hbmTy0_1 (i : Nat) : BufTy := match i % 128 with
  | 0 => ⟨S1x4096, .f32⟩
  | 1 => ⟨S2x4096, .f32⟩
  | 2 => ⟨S2x4096, .f32⟩
  | 3 => ⟨S2x4096, .f32⟩
  | 4 => ⟨S2x4096, .f32⟩
  | 5 => ⟨S2x4096, .f32⟩
  | 6 => ⟨S2x4096, .f32⟩
  | 7 => ⟨S2x4096, .f32⟩
  | 8 => ⟨S2x4096, .f32⟩
  | 9 => ⟨S2x4096, .f32⟩
  | 10 => ⟨S2x4096, .f32⟩
  | 11 => ⟨S2x4096, .f32⟩
  | 12 => ⟨S2x4096, .f32⟩
  | 13 => ⟨S2x4096, .f32⟩
  | 14 => ⟨S2x4096, .f32⟩
  | 15 => ⟨S2x4096, .f32⟩
  | 16 => ⟨S2x4096, .f32⟩
  | 17 => ⟨S1x2x4096, .f32⟩
  | 18 => ⟨S_, .i32⟩
  | 19 => ⟨S_, .i32⟩
  | 20 => ⟨S2048x2x4096, .f32⟩
  | 21 => ⟨S1x2x4096, .f32⟩
  | 22 => ⟨S_, .i32⟩
  | 23 => ⟨S_, .i32⟩
  | 24 => ⟨S2048x2x4096, .f32⟩
  | 25 => ⟨S_, .i32⟩
  | 26 => ⟨S_, .i32⟩
  | 27 => ⟨S2048x2x4096, .f32⟩
  | 28 => ⟨S2x2048x4096, .f32⟩
  | 29 => ⟨S2x2048x64x64, .f32⟩
  | 30 => ⟨S2048x2x4096, .f32⟩
  | 31 => ⟨S2x2048x4096, .f32⟩
  | 32 => ⟨S2x2048x64x64, .f32⟩
  | 33 => ⟨S_, .f32⟩
  | 34 => ⟨S4096x1024, .f32⟩
  | 35 => ⟨S4096x1024, .f32⟩
  | 36 => ⟨S4096x1024, .f32⟩
  | 37 => ⟨S4096x1024, .f32⟩
  | 38 => ⟨S4096x1024, .f32⟩
  | 39 => ⟨S_, .f32⟩
  | 40 => ⟨S4096x1024, .f32⟩
  | 41 => ⟨S4096x1024, .f32⟩
  | 42 => ⟨S_, .f32⟩
  | 43 => ⟨S4096x1024, .f32⟩
  | 44 => ⟨S4096x1024, .f32⟩
  | 45 => ⟨S_, .f32⟩
  | 46 => ⟨S4096x1024, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S4096x1024, .f32⟩
  | 53 => ⟨S_, .f32⟩
  | 54 => ⟨S4096x1024, .f32⟩
  | 55 => ⟨S4096x1024, .f32⟩
  | 56 => ⟨S_, .f32⟩
  | 57 => ⟨S4096x1024, .f32⟩
  | 58 => ⟨S4096x1024, .f32⟩
  | 59 => ⟨S4096x1024, .f32⟩
  | 60 => ⟨S_, .f32⟩
  | 61 => ⟨S4096x1024, .f32⟩
  | 62 => ⟨S4096x1024, .f32⟩
  | 63 => ⟨S4096x1024, .f32⟩
  | 64 => ⟨S4096x1024, .f32⟩
  | 65 => ⟨S4096x1024, .f32⟩
  | 66 => ⟨S4096x1024, .f32⟩
  | 67 => ⟨S4096x1024, .f32⟩
  | 68 => ⟨S_, .f32⟩
  | 69 => ⟨S4096x1024, .f32⟩
  | 70 => ⟨S4096x1024, .f32⟩
  | 71 => ⟨S_, .f32⟩
  | 72 => ⟨S4096x1024, .f32⟩
  | 73 => ⟨S4096x1024, .f32⟩
  | 74 => ⟨S_, .f32⟩
  | 75 => ⟨S4096x1024, .f32⟩
  | 76 => ⟨S4096x1024, .f32⟩
  | 77 => ⟨S4096x1024, .f32⟩
  | 78 => ⟨S4096x1024, .f32⟩
  | 79 => ⟨S_, .f32⟩
  | 80 => ⟨S4096x1024, .f32⟩
  | 81 => ⟨S4096x1024, .f32⟩
  | 82 => ⟨S4096x1024, .f32⟩
  | 83 => ⟨S2x2048x64x16, .f32⟩
  | 84 => ⟨S4096x1024, .f32⟩
  | 85 => ⟨S2x2048x64x16, .f32⟩
  | 86 => ⟨S2x2048x64x64, .f32⟩
  | 87 => ⟨S2x2048x64x64, .f32⟩
  | 88 => ⟨S64x16x2x2048, .f32⟩
  | 89 => ⟨S2x2048x64x16, .f32⟩
  | 90 => ⟨S64x16x2x2048, .f32⟩
  | 91 => ⟨S2x2048x64x16, .f32⟩
  | 92 => ⟨S2x2048x64x16, .f32⟩
  | 93 => ⟨S64x16, .f32⟩
  | 94 => ⟨S1x1x64x16, .f32⟩
  | 95 => ⟨S2x2048x64x16, .f32⟩
  | 96 => ⟨S2x2048x64x16, .f32⟩
  | 97 => ⟨S2x2048x64x16, .f32⟩
  | 98 => ⟨S2x2048x64x16, .f32⟩
  | 99 => ⟨S2x2048x64x16, .f32⟩
  | 100 => ⟨S2x2048x64x16, .f32⟩
  | 101 => ⟨S_, .f32⟩
  | 102 => ⟨S64x16, .f32⟩
  | 103 => ⟨S1x1x64x16, .f32⟩
  | 104 => ⟨S_, .f32⟩
  | 105 => ⟨S64x16, .f32⟩
  | 106 => ⟨S1024, .f32⟩
  | 107 => ⟨S2x2048x64x16, .f32⟩
  | 108 => ⟨S64x16x2x2048, .f32⟩
  | 109 => ⟨S64x16x64, .f32⟩
  | 110 => ⟨S64x16x2x2048, .f32⟩
  | 111 => ⟨S64x16x64, .f32⟩
  | 112 => ⟨S_, .f32⟩
  | 113 => ⟨S2x1x64x64, .f32⟩
  | 114 => ⟨S2x2047x64x64, .f32⟩
  | 115 => ⟨S2x2048x64x64, .f32⟩
  | 116 => ⟨S2x2047x64x64, .f32⟩
  | 117 => ⟨S2x2048x64x64, .f32⟩
  | 118 => ⟨S1x1x64x64, .f32⟩
  | 119 => ⟨S2x2048x64x64, .f32⟩
  | 120 => ⟨S2x2048x64x64, .f32⟩
  | 121 => ⟨S1x1x64x64, .f32⟩
  | 122 => ⟨S2x2048x64x64, .f32⟩
  | 123 => ⟨S2x2048x64x64, .f32⟩
  | 124 => ⟨S2x2048x64x64, .f32⟩
  | 125 => ⟨S1x1x64x64, .f32⟩
  | 126 => ⟨S2x2048x64x64, .f32⟩
  | 127 => ⟨S2x2048x64x64, .f32⟩
  | _ => ⟨S4096x1024, .bf16⟩

abbrev hbmTy0_2 (i : Nat) : BufTy := match i % 128 with
  | 0 => ⟨S1x1x64x64, .f32⟩
  | 1 => ⟨S2x2048x64x64, .f32⟩
  | 2 => ⟨S2x2048x64x64, .f32⟩
  | 3 => ⟨S2x2048x64x64, .f32⟩
  | 4 => ⟨S64x64x2x2048, .f32⟩
  | 5 => ⟨S2x2048x64x64, .f32⟩
  | 6 => ⟨S2x2048x64x64, .f32⟩
  | 7 => ⟨S64x64x2x2048, .f32⟩
  | 8 => ⟨S2x2048x64x64, .f32⟩
  | 9 => ⟨S2x2048x64x64, .f32⟩
  | 10 => ⟨S64x64x2x2048, .f32⟩
  | 11 => ⟨S64x2x2048x16, .f32⟩
  | 12 => ⟨S2x2048x64x16, .f32⟩
  | 13 => ⟨S64x64x16, .f32⟩
  | 14 => ⟨S64x64x2x2048, .f32⟩
  | 15 => ⟨S64x2x2048x16, .f32⟩
  | 16 => ⟨S2x2048x64x16, .f32⟩
  | 17 => ⟨S2x2048x64x16, .f32⟩
  | 18 => ⟨S64x64x16, .f32⟩
  | 19 => ⟨S2x2048x64x64, .f32⟩
  | 20 => ⟨S_, .f32⟩
  | 21 => ⟨S64x64, .f32⟩
  | 22 => ⟨S1x1x64x64, .f32⟩
  | 23 => ⟨S_, .f32⟩
  | 24 => ⟨S64x64, .f32⟩
  | 25 => ⟨S2x2048x64x64, .f32⟩
  | 26 => ⟨S_, .f32⟩
  | 27 => ⟨S64x64, .f32⟩
  | 28 => ⟨S1x1x64x64, .f32⟩
  | 29 => ⟨S_, .f32⟩
  | 30 => ⟨S64x64, .f32⟩
  | 31 => ⟨S2x2048x64x64, .f32⟩
  | 32 => ⟨S2x2048x64x64, .f32⟩
  | 33 => ⟨S_, .f32⟩
  | 34 => ⟨S64x64, .f32⟩
  | 35 => ⟨S1x1x64x64, .f32⟩
  | 36 => ⟨S_, .f32⟩
  | 37 => ⟨S64x64, .f32⟩
  | 38 => ⟨S64x64, .f32⟩
  | 39 => ⟨S2x2048x64x64, .f32⟩
  | 40 => ⟨S_, .f32⟩
  | 41 => ⟨S64x64, .f32⟩
  | 42 => ⟨S1x1x64x64, .f32⟩
  | 43 => ⟨S_, .f32⟩
  | 44 => ⟨S64x64, .f32⟩
  | 45 => ⟨S64x64, .f32⟩
  | 46 => ⟨S2x2048x64x16, .f32⟩
  | 47 => ⟨S4096x1024, .f32⟩
  | 48 => ⟨S64x16x64, .f32⟩
  | 49 => ⟨S8x8x16x1x64, .f32⟩
  | 50 => ⟨S8, .i32⟩
  | 51 => ⟨S8x1x1x1, .i32⟩
  | 52 => ⟨S8, .i32⟩
  | 53 => ⟨S1x1x8x1, .i32⟩
  | 54 => ⟨S8x1x8x1, .i32⟩
  | 55 => ⟨S8x1x8x1, .i32⟩
  | 56 => ⟨S8x1x8x1, .i1⟩
  | 57 => ⟨S_, .f32⟩
  | 58 => ⟨S_, .f32⟩
  | 59 => ⟨S8x8x16x8x64, .i1⟩
  | 60 => ⟨S8x8x16x8x64, .f32⟩
  | 61 => ⟨S8x8x16x8x64, .f32⟩
  | 62 => ⟨S8x8x16x8x64, .f32⟩
  | 63 => ⟨S8x128x512, .f32⟩
  | 64 => ⟨S64x16x64, .f32⟩
  | 65 => ⟨S8x8x16x1x64, .f32⟩
  | 66 => ⟨S8, .i32⟩
  | 67 => ⟨S8x1x1x1, .i32⟩
  | 68 => ⟨S8, .i32⟩
  | 69 => ⟨S1x1x8x1, .i32⟩
  | 70 => ⟨S8x1x8x1, .i32⟩
  | 71 => ⟨S8x1x8x1, .i32⟩
  | 72 => ⟨S8x1x8x1, .i1⟩
  | 73 => ⟨S_, .f32⟩
  | 74 => ⟨S_, .f32⟩
  | 75 => ⟨S8x8x16x8x64, .i1⟩
  | 76 => ⟨S8x8x16x8x64, .f32⟩
  | 77 => ⟨S8x8x16x8x64, .f32⟩
  | 78 => ⟨S8x8x16x8x64, .f32⟩
  | 79 => ⟨S8x128x512, .f32⟩
  | 80 => ⟨S64x64x16, .f32⟩
  | 81 => ⟨S8x8x64x1x16, .f32⟩
  | 82 => ⟨S8, .i32⟩
  | 83 => ⟨S8x1x1x1, .i32⟩
  | 84 => ⟨S8, .i32⟩
  | 85 => ⟨S1x1x8x1, .i32⟩
  | 86 => ⟨S8x1x8x1, .i32⟩
  | 87 => ⟨S8x1x8x1, .i32⟩
  | 88 => ⟨S8x1x8x1, .i1⟩
  | 89 => ⟨S_, .f32⟩
  | 90 => ⟨S_, .f32⟩
  | 91 => ⟨S8x8x64x8x16, .i1⟩
  | 92 => ⟨S8x8x64x8x16, .f32⟩
  | 93 => ⟨S8x8x64x8x16, .f32⟩
  | 94 => ⟨S8x8x64x8x16, .f32⟩
  | 95 => ⟨S8x512x128, .f32⟩
  | 96 => ⟨S64x64x16, .f32⟩
  | 97 => ⟨S8x8x64x1x16, .f32⟩
  | 98 => ⟨S8, .i32⟩
  | 99 => ⟨S8x1x1x1, .i32⟩
  | 100 => ⟨S8, .i32⟩
  | 101 => ⟨S1x1x8x1, .i32⟩
  | 102 => ⟨S8x1x8x1, .i32⟩
  | 103 => ⟨S8x1x8x1, .i32⟩
  | 104 => ⟨S8x1x8x1, .i1⟩
  | 105 => ⟨S_, .f32⟩
  | 106 => ⟨S_, .f32⟩
  | 107 => ⟨S8x8x64x8x16, .i1⟩
  | 108 => ⟨S8x8x64x8x16, .f32⟩
  | 109 => ⟨S8x8x64x8x16, .f32⟩
  | 110 => ⟨S8x8x64x8x16, .f32⟩
  | 111 => ⟨S8x512x128, .f32⟩
  | 112 => ⟨S1x4096, .f32⟩
  | 113 => ⟨S1x4096, .f32⟩
  | 114 => ⟨S1x1024, .f32⟩
  | _ => ⟨S4096x1024, .bf16⟩

abbrev hbmTy (i : Nat) : BufTy := match i / 128 with
  | 0 => hbmTy0_0 i
  | 1 => hbmTy0_1 i
  | 2 => hbmTy0_2 i
  | _ => ⟨S4096x1024, .bf16⟩

abbrev bufTy : (tb : Table) → Fin (tcTables nBuf tb) → BufTy
  | .hbm, ⟨i, _⟩ => hbmTy i
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_cst_1 : Ref sig .tc := ⟨.hbm, 21, rfl⟩
abbrev main_v7 : Ref sig .tc := ⟨.hbm, 22, rfl⟩
abbrev main_v8 : Ref sig .tc := ⟨.hbm, 23, rfl⟩
abbrev main_cst_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_3 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_4 : Ref sig .tc := ⟨.hbm, 32, rfl⟩
abbrev main_v15 : Ref sig .tc := ⟨.hbm, 33, rfl⟩
abbrev main_v16 : Ref sig .tc := ⟨.hbm, 34, rfl⟩
abbrev main_cst_5 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_6 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_cst_7 : Ref sig .tc := ⟨.hbm, 47, rfl⟩
abbrev main_v27 : Ref sig .tc := ⟨.hbm, 48, rfl⟩
abbrev main_v28 : Ref sig .tc := ⟨.hbm, 49, rfl⟩
abbrev main_cst_8 : Ref sig .tc := ⟨.hbm, 50, rfl⟩
abbrev main_v29 : Ref sig .tc := ⟨.hbm, 51, rfl⟩
abbrev main_v30 : Ref sig .tc := ⟨.hbm, 52, rfl⟩
abbrev main_cst_9 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst_10 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_11 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_12 : Ref sig .tc := ⟨.hbm, 94, rfl⟩
abbrev main_v69 : Ref sig .tc := ⟨.hbm, 95, rfl⟩
abbrev main_cst_13 : Ref sig .tc := ⟨.hbm, 96, rfl⟩
abbrev main_v70 : Ref sig .tc := ⟨.hbm, 97, rfl⟩
abbrev main_c : Ref sig .tc := ⟨.hbm, 98, rfl⟩
abbrev main_v71_0 : Ref sig .tc := ⟨.hbm, 99, rfl⟩
abbrev main_v71_1 : Ref sig .tc := ⟨.hbm, 100, rfl⟩
abbrev main_v71_2 : Ref sig .tc := ⟨.hbm, 101, rfl⟩
abbrev main_v71_3 : Ref sig .tc := ⟨.hbm, 102, rfl⟩
abbrev main_v71_4 : Ref sig .tc := ⟨.hbm, 103, rfl⟩
abbrev main_v71_5 : Ref sig .tc := ⟨.hbm, 104, rfl⟩
abbrev main_v71_6 : Ref sig .tc := ⟨.hbm, 105, rfl⟩
abbrev main_v71_7 : Ref sig .tc := ⟨.hbm, 106, rfl⟩
abbrev main_v71_8 : Ref sig .tc := ⟨.hbm, 107, rfl⟩
abbrev main_while0c_c_49 : Ref sig .tc := ⟨.hbm, 108, rfl⟩
abbrev main_while0c_v245 : Ref sig .tc := ⟨.hbm, 109, rfl⟩
abbrev main_while0b_call2_c : Ref sig .tc := ⟨.hbm, 110, rfl⟩
abbrev main_while0b_call2_c_0 : Ref sig .tc := ⟨.hbm, 111, rfl⟩
abbrev main_while0b_call2_v0 : Ref sig .tc := ⟨.hbm, 112, rfl⟩
abbrev main_while0b_v245 : Ref sig .tc := ⟨.hbm, 113, rfl⟩
abbrev main_while0b_call3_c : Ref sig .tc := ⟨.hbm, 114, rfl⟩
abbrev main_while0b_call3_c_0 : Ref sig .tc := ⟨.hbm, 115, rfl⟩
abbrev main_while0b_call3_v0 : Ref sig .tc := ⟨.hbm, 116, rfl⟩
abbrev main_while0b_v246 : Ref sig .tc := ⟨.hbm, 117, rfl⟩
abbrev main_while0b_v247 : Ref sig .tc := ⟨.hbm, 118, rfl⟩
abbrev main_while0b_v248 : Ref sig .tc := ⟨.hbm, 119, rfl⟩
abbrev main_while0b_v249 : Ref sig .tc := ⟨.hbm, 120, rfl⟩
abbrev main_while0b_v250 : Ref sig .tc := ⟨.hbm, 121, rfl⟩
abbrev main_while0b_v251 : Ref sig .tc := ⟨.hbm, 122, rfl⟩
abbrev main_while0b_v252 : Ref sig .tc := ⟨.hbm, 123, rfl⟩
abbrev main_while0b_v253 : Ref sig .tc := ⟨.hbm, 124, rfl⟩
abbrev main_while0b_v254 : Ref sig .tc := ⟨.hbm, 125, rfl⟩
abbrev main_while0b_v255 : Ref sig .tc := ⟨.hbm, 126, rfl⟩
abbrev main_while0b_v256 : Ref sig .tc := ⟨.hbm, 127, rfl⟩
abbrev main_while0b_v257 : Ref sig .tc := ⟨.hbm, 128, rfl⟩
abbrev main_while0b_v258 : Ref sig .tc := ⟨.hbm, 129, rfl⟩
abbrev main_while0b_v259 : Ref sig .tc := ⟨.hbm, 130, rfl⟩
abbrev main_while0b_v260 : Ref sig .tc := ⟨.hbm, 131, rfl⟩
abbrev main_while0b_v261 : Ref sig .tc := ⟨.hbm, 132, rfl⟩
abbrev main_while0b_v262 : Ref sig .tc := ⟨.hbm, 133, rfl⟩
abbrev main_while0b_v263 : Ref sig .tc := ⟨.hbm, 134, rfl⟩
abbrev main_while0b_v264 : Ref sig .tc := ⟨.hbm, 135, rfl⟩
abbrev main_while0b_v265 : Ref sig .tc := ⟨.hbm, 136, rfl⟩
abbrev main_while0b_v266 : Ref sig .tc := ⟨.hbm, 137, rfl⟩
abbrev main_while0b_v267 : Ref sig .tc := ⟨.hbm, 138, rfl⟩
abbrev main_while0b_v268 : Ref sig .tc := ⟨.hbm, 139, rfl⟩
abbrev main_while0b_v269 : Ref sig .tc := ⟨.hbm, 140, rfl⟩
abbrev main_while0b_v270 : Ref sig .tc := ⟨.hbm, 141, rfl⟩
abbrev main_while0b_v271 : Ref sig .tc := ⟨.hbm, 142, rfl⟩
abbrev main_while0b_v272 : Ref sig .tc := ⟨.hbm, 143, rfl⟩
abbrev main_while0b_v273 : Ref sig .tc := ⟨.hbm, 144, rfl⟩
abbrev main_while0b_call4_v0 : Ref sig .tc := ⟨.hbm, 145, rfl⟩
abbrev main_while0b_call4_c : Ref sig .tc := ⟨.hbm, 146, rfl⟩
abbrev main_while0b_call4_c_0 : Ref sig .tc := ⟨.hbm, 147, rfl⟩
abbrev main_while0b_v274 : Ref sig .tc := ⟨.hbm, 148, rfl⟩
abbrev main_while0b_call5_v0 : Ref sig .tc := ⟨.hbm, 149, rfl⟩
abbrev main_while0b_call5_c : Ref sig .tc := ⟨.hbm, 150, rfl⟩
abbrev main_while0b_call5_c_0 : Ref sig .tc := ⟨.hbm, 151, rfl⟩
abbrev main_while0b_v275 : Ref sig .tc := ⟨.hbm, 152, rfl⟩
abbrev main_while0b_c_49 : Ref sig .tc := ⟨.hbm, 153, rfl⟩
abbrev main_while0b_v276 : Ref sig .tc := ⟨.hbm, 154, rfl⟩
abbrev main_v72 : Ref sig .tc := ⟨.hbm, 155, rfl⟩
abbrev main_v73 : Ref sig .tc := ⟨.hbm, 156, rfl⟩
abbrev main_v74 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_cst_14 : Ref sig .tc := ⟨.hbm, 161, rfl⟩
abbrev main_v78 : Ref sig .tc := ⟨.hbm, 162, rfl⟩
abbrev main_v79 : Ref sig .tc := ⟨.hbm, 163, rfl⟩
abbrev main_v80 : Ref sig .tc := ⟨.hbm, 164, rfl⟩
abbrev main_v81 : Ref sig .tc := ⟨.hbm, 165, rfl⟩
abbrev main_v82 : Ref sig .tc := ⟨.hbm, 166, rfl⟩
abbrev main_cst_15 : Ref sig .tc := ⟨.hbm, 167, rfl⟩
abbrev main_v83 : Ref sig .tc := ⟨.hbm, 168, rfl⟩
abbrev main_v84 : Ref sig .tc := ⟨.hbm, 169, rfl⟩
abbrev main_cst_16 : Ref sig .tc := ⟨.hbm, 170, rfl⟩
abbrev main_v85 : Ref sig .tc := ⟨.hbm, 171, rfl⟩
abbrev main_v86 : Ref sig .tc := ⟨.hbm, 172, rfl⟩
abbrev main_cst_17 : Ref sig .tc := ⟨.hbm, 173, rfl⟩
abbrev main_v87 : Ref sig .tc := ⟨.hbm, 174, rfl⟩
abbrev main_v88 : Ref sig .tc := ⟨.hbm, 175, rfl⟩
abbrev main_v89 : Ref sig .tc := ⟨.hbm, 176, rfl⟩
abbrev main_cst_18 : Ref sig .tc := ⟨.hbm, 177, rfl⟩
abbrev main_v90 : Ref sig .tc := ⟨.hbm, 178, rfl⟩
abbrev main_v91 : Ref sig .tc := ⟨.hbm, 179, rfl⟩
abbrev main_v92 : Ref sig .tc := ⟨.hbm, 180, rfl⟩
abbrev main_cst_19 : Ref sig .tc := ⟨.hbm, 181, rfl⟩
abbrev main_v93 : Ref sig .tc := ⟨.hbm, 182, rfl⟩
abbrev main_v94 : Ref sig .tc := ⟨.hbm, 183, rfl⟩
abbrev main_cst_20 : Ref sig .tc := ⟨.hbm, 184, rfl⟩
abbrev main_v95 : Ref sig .tc := ⟨.hbm, 185, rfl⟩
abbrev main_v96 : Ref sig .tc := ⟨.hbm, 186, rfl⟩
abbrev main_v97 : Ref sig .tc := ⟨.hbm, 187, rfl⟩
abbrev main_cst_21 : Ref sig .tc := ⟨.hbm, 188, rfl⟩
abbrev main_v98 : Ref sig .tc := ⟨.hbm, 189, rfl⟩
abbrev main_v99 : Ref sig .tc := ⟨.hbm, 190, rfl⟩
abbrev main_v100 : Ref sig .tc := ⟨.hbm, 191, rfl⟩
abbrev main_v101 : Ref sig .tc := ⟨.hbm, 192, rfl⟩
abbrev main_v102 : Ref sig .tc := ⟨.hbm, 193, rfl⟩
abbrev main_v103 : Ref sig .tc := ⟨.hbm, 194, rfl⟩
abbrev main_v104 : Ref sig .tc := ⟨.hbm, 195, rfl⟩
abbrev main_cst_22 : Ref sig .tc := ⟨.hbm, 196, rfl⟩
abbrev main_v105 : Ref sig .tc := ⟨.hbm, 197, rfl⟩
abbrev main_v106 : Ref sig .tc := ⟨.hbm, 198, rfl⟩
abbrev main_cst_23 : Ref sig .tc := ⟨.hbm, 199, rfl⟩
abbrev main_v107 : Ref sig .tc := ⟨.hbm, 200, rfl⟩
abbrev main_v108 : Ref sig .tc := ⟨.hbm, 201, rfl⟩
abbrev main_cst_24 : Ref sig .tc := ⟨.hbm, 202, rfl⟩
abbrev main_v109 : Ref sig .tc := ⟨.hbm, 203, rfl⟩
abbrev main_v110 : Ref sig .tc := ⟨.hbm, 204, rfl⟩
abbrev main_v111 : Ref sig .tc := ⟨.hbm, 205, rfl⟩
abbrev main_v112 : Ref sig .tc := ⟨.hbm, 206, rfl⟩
abbrev main_cst_25 : Ref sig .tc := ⟨.hbm, 207, rfl⟩
abbrev main_v113 : Ref sig .tc := ⟨.hbm, 208, rfl⟩
abbrev main_v114 : Ref sig .tc := ⟨.hbm, 209, rfl⟩
abbrev main_v115 : Ref sig .tc := ⟨.hbm, 210, rfl⟩
abbrev main_v116 : Ref sig .tc := ⟨.hbm, 211, rfl⟩
abbrev main_v117 : Ref sig .tc := ⟨.hbm, 212, rfl⟩
abbrev main_v118 : Ref sig .tc := ⟨.hbm, 213, rfl⟩
abbrev main_v119 : Ref sig .tc := ⟨.hbm, 214, rfl⟩
abbrev main_v120 : Ref sig .tc := ⟨.hbm, 215, rfl⟩
abbrev main_v121 : Ref sig .tc := ⟨.hbm, 216, rfl⟩
abbrev main_v122 : Ref sig .tc := ⟨.hbm, 217, rfl⟩
abbrev main_v123 : Ref sig .tc := ⟨.hbm, 218, rfl⟩
abbrev main_v124 : Ref sig .tc := ⟨.hbm, 219, rfl⟩
abbrev main_v125 : Ref sig .tc := ⟨.hbm, 220, rfl⟩
abbrev main_v126 : Ref sig .tc := ⟨.hbm, 221, rfl⟩
abbrev main_v127 : Ref sig .tc := ⟨.hbm, 222, rfl⟩
abbrev main_v128 : Ref sig .tc := ⟨.hbm, 223, rfl⟩
abbrev main_v129 : Ref sig .tc := ⟨.hbm, 224, rfl⟩
abbrev main_v130 : Ref sig .tc := ⟨.hbm, 225, rfl⟩
abbrev main_v131 : Ref sig .tc := ⟨.hbm, 226, rfl⟩
abbrev main_v132 : Ref sig .tc := ⟨.hbm, 227, rfl⟩
abbrev main_v133 : Ref sig .tc := ⟨.hbm, 228, rfl⟩
abbrev main_cst_26 : Ref sig .tc := ⟨.hbm, 229, rfl⟩
abbrev main_v134 : Ref sig .tc := ⟨.hbm, 230, rfl⟩
abbrev main_v135 : Ref sig .tc := ⟨.hbm, 231, rfl⟩
abbrev main_cst_27 : Ref sig .tc := ⟨.hbm, 232, rfl⟩
abbrev main_v136 : Ref sig .tc := ⟨.hbm, 233, rfl⟩
abbrev main_v137 : Ref sig .tc := ⟨.hbm, 234, rfl⟩
abbrev main_v138 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_v142 : Ref sig .tc := ⟨.hbm, 239, rfl⟩
abbrev main_cst_28 : Ref sig .tc := ⟨.hbm, 240, rfl⟩
abbrev main_v143 : Ref sig .tc := ⟨.hbm, 241, rfl⟩
abbrev main_v144 : Ref sig .tc := ⟨.hbm, 242, rfl⟩
abbrev main_v145 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_v164 : Ref sig .tc := ⟨.hbm, 262, rfl⟩
abbrev main_v165 : Ref sig .tc := ⟨.hbm, 263, rfl⟩
abbrev main_v166 : Ref sig .tc := ⟨.hbm, 264, rfl⟩
abbrev main_v167 : Ref sig .tc := ⟨.hbm, 265, rfl⟩
abbrev main_v168 : Ref sig .tc := ⟨.hbm, 266, rfl⟩
abbrev main_v169 : Ref sig .tc := ⟨.hbm, 267, rfl⟩
abbrev main_v170 : Ref sig .tc := ⟨.hbm, 268, rfl⟩
abbrev main_v171 : Ref sig .tc := ⟨.hbm, 269, rfl⟩
abbrev main_v172 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_v176 : Ref sig .tc := ⟨.hbm, 274, rfl⟩
abbrev main_v177 : Ref sig .tc := ⟨.hbm, 275, rfl⟩
abbrev main_cst_29 : Ref sig .tc := ⟨.hbm, 276, rfl⟩
abbrev main_v178 : Ref sig .tc := ⟨.hbm, 277, rfl⟩
abbrev main_v179 : Ref sig .tc := ⟨.hbm, 278, rfl⟩
abbrev main_cst_30 : Ref sig .tc := ⟨.hbm, 279, rfl⟩
abbrev main_v180 : Ref sig .tc := ⟨.hbm, 280, rfl⟩
abbrev main_v181 : Ref sig .tc := ⟨.hbm, 281, rfl⟩
abbrev main_cst_31 : Ref sig .tc := ⟨.hbm, 282, rfl⟩
abbrev main_v182 : Ref sig .tc := ⟨.hbm, 283, rfl⟩
abbrev main_v183 : Ref sig .tc := ⟨.hbm, 284, rfl⟩
abbrev main_cst_32 : Ref sig .tc := ⟨.hbm, 285, rfl⟩
abbrev main_v184 : Ref sig .tc := ⟨.hbm, 286, rfl⟩
abbrev main_v185 : Ref sig .tc := ⟨.hbm, 287, rfl⟩
abbrev main_v186 : Ref sig .tc := ⟨.hbm, 288, rfl⟩
abbrev main_cst_33 : Ref sig .tc := ⟨.hbm, 289, rfl⟩
abbrev main_v187 : Ref sig .tc := ⟨.hbm, 290, rfl⟩
abbrev main_v188 : Ref sig .tc := ⟨.hbm, 291, rfl⟩
abbrev main_cst_34 : Ref sig .tc := ⟨.hbm, 292, rfl⟩
abbrev main_v189 : Ref sig .tc := ⟨.hbm, 293, rfl⟩
abbrev main_v190 : Ref sig .tc := ⟨.hbm, 294, rfl⟩
abbrev main_v191 : Ref sig .tc := ⟨.hbm, 295, rfl⟩
abbrev main_cst_35 : Ref sig .tc := ⟨.hbm, 296, rfl⟩
abbrev main_v192 : Ref sig .tc := ⟨.hbm, 297, rfl⟩
abbrev main_v193 : Ref sig .tc := ⟨.hbm, 298, rfl⟩
abbrev main_cst_36 : Ref sig .tc := ⟨.hbm, 299, rfl⟩
abbrev main_v194 : Ref sig .tc := ⟨.hbm, 300, rfl⟩
abbrev main_v195 : Ref sig .tc := ⟨.hbm, 301, rfl⟩
abbrev main_v196 : Ref sig .tc := ⟨.hbm, 302, rfl⟩
abbrev main_v197 : Ref sig .tc := ⟨.hbm, 303, rfl⟩
abbrev main_v198 : Ref sig .tc := ⟨.hbm, 304, rfl⟩
abbrev main_v199 : Ref sig .tc := ⟨.hbm, 305, rfl⟩
abbrev main_v200 : Ref sig .tc := ⟨.hbm, 306, rfl⟩
abbrev main_v201 : Ref sig .tc := ⟨.hbm, 307, rfl⟩
abbrev main_v202 : Ref sig .tc := ⟨.hbm, 308, rfl⟩
abbrev main_v203 : Ref sig .tc := ⟨.hbm, 309, rfl⟩
abbrev main_v204 : Ref sig .tc := ⟨.hbm, 310, rfl⟩
abbrev main_v205 : Ref sig .tc := ⟨.hbm, 311, rfl⟩
abbrev main_v206 : Ref sig .tc := ⟨.hbm, 312, rfl⟩
abbrev main_cst_37 : Ref sig .tc := ⟨.hbm, 313, rfl⟩
abbrev main_call8_v0 : Ref sig .tc := ⟨.hbm, 314, rfl⟩
abbrev main_call8_v1 : Ref sig .tc := ⟨.hbm, 315, rfl⟩
abbrev main_call8_v2 : Ref sig .tc := ⟨.hbm, 316, rfl⟩
abbrev main_call8_v3 : Ref sig .tc := ⟨.hbm, 317, rfl⟩
abbrev main_v207 : Ref sig .tc := ⟨.hbm, 318, rfl⟩
abbrev main_v208 : Ref sig .tc := ⟨.hbm, 319, rfl⟩
abbrev main_v209 : Ref sig .tc := ⟨.hbm, 320, rfl⟩
abbrev main_v210 : Ref sig .tc := ⟨.hbm, 321, rfl⟩
abbrev main_v211 : Ref sig .tc := ⟨.hbm, 322, rfl⟩
abbrev main_v212 : Ref sig .tc := ⟨.hbm, 323, rfl⟩
abbrev main_v213 : Ref sig .tc := ⟨.hbm, 324, rfl⟩
abbrev main_v214 : Ref sig .tc := ⟨.hbm, 325, rfl⟩
abbrev main_v215 : Ref sig .tc := ⟨.hbm, 326, rfl⟩
abbrev main_v216 : Ref sig .tc := ⟨.hbm, 327, rfl⟩
abbrev main_v217 : Ref sig .tc := ⟨.hbm, 328, rfl⟩
abbrev main_cst_38 : Ref sig .tc := ⟨.hbm, 329, rfl⟩
abbrev main_call9_v0 : Ref sig .tc := ⟨.hbm, 330, rfl⟩
abbrev main_call9_v1 : Ref sig .tc := ⟨.hbm, 331, rfl⟩
abbrev main_call9_v2 : Ref sig .tc := ⟨.hbm, 332, rfl⟩
abbrev main_call9_v3 : Ref sig .tc := ⟨.hbm, 333, rfl⟩
abbrev main_v218 : Ref sig .tc := ⟨.hbm, 334, rfl⟩
abbrev main_v219 : Ref sig .tc := ⟨.hbm, 335, rfl⟩
abbrev main_v220 : Ref sig .tc := ⟨.hbm, 336, rfl⟩
abbrev main_v221 : Ref sig .tc := ⟨.hbm, 337, rfl⟩
abbrev main_v222 : Ref sig .tc := ⟨.hbm, 338, rfl⟩
abbrev main_v223 : Ref sig .tc := ⟨.hbm, 339, rfl⟩
abbrev main_v224 : Ref sig .tc := ⟨.hbm, 340, rfl⟩
abbrev main_v225 : Ref sig .tc := ⟨.hbm, 341, rfl⟩
abbrev main_v226 : Ref sig .tc := ⟨.hbm, 342, rfl⟩
abbrev main_v227 : Ref sig .tc := ⟨.hbm, 343, rfl⟩
abbrev main_v228 : Ref sig .tc := ⟨.hbm, 344, rfl⟩
abbrev main_cst_39 : Ref sig .tc := ⟨.hbm, 345, rfl⟩
abbrev main_call10_v0 : Ref sig .tc := ⟨.hbm, 346, rfl⟩
abbrev main_call10_v1 : Ref sig .tc := ⟨.hbm, 347, rfl⟩
abbrev main_call10_v2 : Ref sig .tc := ⟨.hbm, 348, rfl⟩
abbrev main_call10_v3 : Ref sig .tc := ⟨.hbm, 349, rfl⟩
abbrev main_v229 : Ref sig .tc := ⟨.hbm, 350, rfl⟩
abbrev main_v230 : Ref sig .tc := ⟨.hbm, 351, rfl⟩
abbrev main_v231 : Ref sig .tc := ⟨.hbm, 352, rfl⟩
abbrev main_v232 : Ref sig .tc := ⟨.hbm, 353, rfl⟩
abbrev main_v233 : Ref sig .tc := ⟨.hbm, 354, rfl⟩
abbrev main_v234 : Ref sig .tc := ⟨.hbm, 355, rfl⟩
abbrev main_v235 : Ref sig .tc := ⟨.hbm, 356, rfl⟩
abbrev main_v236 : Ref sig .tc := ⟨.hbm, 357, rfl⟩
abbrev main_v237 : Ref sig .tc := ⟨.hbm, 358, rfl⟩
abbrev main_v238 : Ref sig .tc := ⟨.hbm, 359, rfl⟩
abbrev main_v239 : Ref sig .tc := ⟨.hbm, 360, rfl⟩
abbrev main_cst_40 : Ref sig .tc := ⟨.hbm, 361, rfl⟩
abbrev main_call11_v0 : Ref sig .tc := ⟨.hbm, 362, rfl⟩
abbrev main_call11_v1 : Ref sig .tc := ⟨.hbm, 363, rfl⟩
abbrev main_call11_v2 : Ref sig .tc := ⟨.hbm, 364, rfl⟩
abbrev main_call11_v3 : Ref sig .tc := ⟨.hbm, 365, rfl⟩
abbrev main_v240 : Ref sig .tc := ⟨.hbm, 366, rfl⟩
abbrev main_v241 : Ref sig .tc := ⟨.hbm, 367, rfl⟩
abbrev main_v242 : Ref sig .tc := ⟨.hbm, 368, rfl⟩
abbrev main_v243 : Ref sig .tc := ⟨.hbm, 369, rfl⟩
abbrev main_v244 : Ref sig .tc := ⟨.hbm, 370, rfl⟩

abbrev nD : Nat := 1
abbrev τ : Topo := Topo.v7x

variable {F : FTy → Type} [FloatOps F]

abbrev main_while0_count : Scf.Loop 32 := ⟨0#32, 2048#32, 1#32⟩
-- ==== DownDw.lean ====
abbrev S4096x2816 : Shape := ⟨2, ![4096, 2816]⟩
abbrev S4096x1024 : Shape := ⟨2, ![4096, 1024]⟩
abbrev S2816x1024 : Shape := ⟨2, ![2816, 1024]⟩
abbrev S4096x256 : Shape := ⟨2, ![4096, 256]⟩
abbrev S256x1024 : Shape := ⟨2, ![256, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S4096x256, .bf16⟩
  | .local _ .vmem, ⟨1, _⟩ => ⟨S4096x256, .bf16⟩
  | .local _ .vmem, ⟨2, _⟩ => ⟨S4096x1024, .bf16⟩
  | .local _ .vmem, ⟨3, _⟩ => ⟨S256x1024, .bf16⟩
  | .local _ .vmem, ⟨4, _⟩ => ⟨S256x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 16
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S1024x2816, .f32⟩
  | .hbm, ⟨14, _⟩ => ⟨S2816x1024, .f32⟩
  | .hbm, ⟨15, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== UpDw.lean ====
abbrev S4096x5632 : Shape := ⟨2, ![4096, 5632]⟩
abbrev S4096x1024 : Shape := ⟨2, ![4096, 1024]⟩
abbrev S5632x1024 : Shape := ⟨2, ![5632, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S5632x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 11], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpDwRefIdeal.lean ====
abbrev S4096x5632 : Shape := ⟨2, ![4096, 5632]⟩
abbrev S4096x1024 : Shape := ⟨2, ![4096, 1024]⟩
abbrev S_ : Shape := ⟨0, ![]⟩
abbrev S1024x5632 : Shape := ⟨2, ![1024, 5632]⟩
abbrev S5632x1024 : Shape := ⟨2, ![5632, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .bf16⟩
  | .hbm, ⟨2, _⟩ => ⟨S4096x5632, .f32⟩
  | .hbm, ⟨3, _⟩ => ⟨S4096x1024, .f32⟩
  | .hbm, ⟨4, _⟩ => ⟨S_, .f32⟩
  | .hbm, ⟨5, _⟩ => ⟨S1024x5632, .f32⟩
  | .hbm, ⟨6, _⟩ => ⟨S4096x5632, .f32⟩
  | .hbm, ⟨7, _⟩ => ⟨S5632x1024, .f32⟩
  | .hbm, ⟨8, _⟩ => ⟨S1024x5632, .f32⟩
  | .hbm, ⟨9, _⟩ => ⟨S5632x1024, .f32⟩
  | .hbm, ⟨10, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownDx.lean ====
abbrev S4096x1024 : Shape := ⟨2, ![4096, 1024]⟩
abbrev S2816x1024 : Shape := ⟨2, ![2816, 1024]⟩
abbrev S4096x5632 : Shape := ⟨2, ![4096, 5632]⟩
abbrev S256x1024 : Shape := ⟨2, ![256, 1024]⟩
abbrev S256x2816 : Shape := ⟨2, ![256, 2816]⟩
abbrev S256x5632 : Shape := ⟨2, ![256, 5632]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x5632, .bf16⟩
  | .hbm, ⟨3, _⟩ => ⟨S4096x5632, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x2816, .bf16⟩
  | .local _ .vmem, ⟨4, _⟩ => ⟨S256x2816, .bf16⟩
  | .local _ .vmem, ⟨5, _⟩ => ⟨S256x2816, .bf16⟩
  | .local _ .vmem, ⟨6, _⟩ => ⟨S256x2816, .bf16⟩
  | .local _ .vmem, ⟨7, _⟩ => ⟨S256x5632, .bf16⟩
  | .local _ .vmem, ⟨8, _⟩ => ⟨S256x5632, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg1.toNat, c1_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x5632 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== DownDxRefIdeal.lean ====
abbrev S4096x1024 : Shape := ⟨2, ![4096, 1024]⟩
abbrev S2816x1024 : Shape := ⟨2, ![2816, 1024]⟩
abbrev S4096x5632 : Shape := ⟨2, ![4096, 5632]⟩
abbrev S4096x2816 : Shape := ⟨2, ![4096, 2816]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x5632, .bf16⟩
  | .hbm, ⟨3, _⟩ => ⟨S4096x1024, .f32⟩
  | .hbm, ⟨4, _⟩ => ⟨S2816x1024, .f32⟩
  | .hbm, ⟨5, _⟩ => ⟨S4096x5632, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x5632, .f32⟩
  | .hbm, ⟨37, _⟩ => ⟨S4096x5632, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v5_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v5_1 : Ref sig .tc := ⟨.hbm, 19, rfl⟩
abbrev main_v5_0 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩

abbrev nD : Nat := 1
abbrev τ : Topo := Topo.v7x

variable {F : FTy → Type} [FloatOps F]
-- ==== UpDx.lean ====
abbrev S4096x5632 : Shape := ⟨2, ![4096, 5632]⟩
abbrev S5632x1024 : Shape := ⟨2, ![5632, 1024]⟩
abbrev S4096x1024 : Shape := ⟨2, ![4096, 1024]⟩
abbrev S1x1024 : Shape := ⟨2, ![1, 1024]⟩
abbrev S512x5632 : Shape := ⟨2, ![512, 5632]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== UpDxRefIdeal.lean ====
abbrev S4096x5632 : Shape := ⟨2, ![4096, 5632]⟩
abbrev S5632x1024 : Shape := ⟨2, ![5632, 1024]⟩
abbrev S4096x1024 : Shape := ⟨2, ![4096, 1024]⟩
abbrev S1x1024 : Shape := ⟨2, ![1, 1024]⟩
abbrev S1024x5632 : Shape := ⟨2, ![1024, 5632]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 60
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x5632, .f32⟩
  | .hbm, ⟨6, _⟩ => ⟨S5632x1024, .f32⟩
  | .hbm, ⟨7, _⟩ => ⟨S1024x5632, .f32⟩
  | .hbm, ⟨8, _⟩ => ⟨S1024, .f32⟩
  | .hbm, ⟨9, _⟩ => ⟨S4096x1024, .f32⟩
  | .hbm, ⟨10, _⟩ => ⟨S_, .f32⟩
  | .hbm, ⟨11, _⟩ => ⟨S4096, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1024, .f32⟩
  | .hbm, ⟨25, _⟩ => ⟨S4096x1024, .f32⟩
  | .hbm, ⟨26, _⟩ => ⟨S1x1024, .f32⟩
  | .hbm, ⟨27, _⟩ => ⟨S4096x1024, .f32⟩
  | .hbm, ⟨28, _⟩ => ⟨S4096x1024, .f32⟩
  | .hbm, ⟨29, _⟩ => ⟨S4096x5632, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S1024, .f32⟩
  | .hbm, ⟨34, _⟩ => ⟨S1x1024, .f32⟩
  | .hbm, ⟨35, _⟩ => ⟨S4096x1024, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S4096x1024, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x1024, .f32⟩
  | .hbm, ⟨44, _⟩ => ⟨S4096x1024, .f32⟩
  | .hbm, ⟨45, _⟩ => ⟨S4096x1, .f32⟩
  | .hbm, ⟨46, _⟩ => ⟨S_, .f32⟩
  | .hbm, ⟨47, _⟩ => ⟨S4096x1, .f32⟩
  | .hbm, ⟨48, _⟩ => ⟨S4096x1, .f32⟩
  | .hbm, ⟨49, _⟩ => ⟨S_, .f32⟩
  | .hbm, ⟨50, _⟩ => ⟨S4096, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S1x1024, .f32⟩
  | .hbm, ⟨57, _⟩ => ⟨S4096x1024, .f32⟩
  | .hbm, ⟨58, _⟩ => ⟨S4096x1024, .f32⟩
  | .hbm, ⟨59, _⟩ => ⟨S4096x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_4 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_6 : Ref sig .tc := ⟨.hbm, 46, rfl⟩
abbrev main_v34 : Ref sig .tc := ⟨.hbm, 47, rfl⟩
abbrev main_v35 : Ref sig .tc := ⟨.hbm, 48, rfl⟩
abbrev main_cst_7 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Up.lean ====
abbrev S4096x1024 : Shape := ⟨2, ![4096, 1024]⟩
abbrev S1x1024 : Shape := ⟨2, ![1, 1024]⟩
abbrev S5632x1024 : Shape := ⟨2, ![5632, 1024]⟩
abbrev S4096x5632 : Shape := ⟨2, ![4096, 5632]⟩
abbrev S4096x2816 : Shape := ⟨2, ![4096, 2816]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S5632x1024, .bf16⟩
  | .hbm, ⟨3, _⟩ => ⟨S4096x5632, .bf16⟩
  | .hbm, ⟨4, _⟩ => ⟨S4096x2816, .bf16⟩
  | .hbm, ⟨5, _⟩ => ⟨S4096x1024, .bf16⟩
  | .local _ .vmem, ⟨0, _⟩ => ⟨S256x1024, .f32⟩
  | .local _ .vmem, ⟨1, _⟩ => ⟨S256x1024, .f32⟩
  | .local _ .vmem, ⟨2, _⟩ => ⟨S5632x1024, .bf16⟩
  | .local _ .vmem, ⟨3, _⟩ => ⟨S1x1024, .f32⟩
  | .local _ .vmem, ⟨4, _⟩ => ⟨S256x5632, .bf16⟩
  | .local _ .vmem, ⟨5, _⟩ => ⟨S256x5632, .bf16⟩
  | .local _ .vmem, ⟨6, _⟩ => ⟨S256x2816, .bf16⟩
  | .local _ .vmem, ⟨7, _⟩ => ⟨S256x2816, .bf16⟩
  | .local _ .vmem, ⟨8, _⟩ => ⟨S256x1024, .bf16⟩
  | .local _ .vmem, ⟨9, _⟩ => ⟨S256x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]
-- ==== UpRefIdeal.lean ====
abbrev S4096x1024 : Shape := ⟨2, ![4096, 1024]⟩
abbrev S1x1024 : Shape := ⟨2, ![1, 1024]⟩
abbrev S5632x1024 : Shape := ⟨2, ![5632, 1024]⟩
abbrev S1024 : Shape := ⟨1, ![1024]⟩
abbrev S_ : Shape := ⟨0, ![]⟩
abbrev S4096 : Shape := ⟨1, ![4096]⟩
abbrev S4096x1 : Shape := ⟨2, ![4096, 1]⟩
abbrev S1024x5632 : Shape := ⟨2, ![1024, 5632]⟩
abbrev S4096x5632 : Shape := ⟨2, ![4096, 5632]⟩
abbrev S4096x2816 : Shape := ⟨2, ![4096, 2816]⟩

abbrev nBuf : Space → Nat
  | .hbm => 38
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S5632x1024, .bf16⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S5632x1024, .f32⟩
  | .hbm, ⟨21, _⟩ => ⟨S1024x5632, .f32⟩
  | .hbm, ⟨22, _⟩ => ⟨S4096x5632, .f32⟩
  | .hbm, ⟨23, _⟩ => ⟨S4096x5632, .bf16⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S_, .f32⟩
  | .hbm, ⟨29, _⟩ => ⟨S4096x2816, .f32⟩
  | .hbm, ⟨30, _⟩ => ⟨S4096x2816, .f32⟩
  | .hbm, ⟨31, _⟩ => ⟨S_, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x2816, .f32⟩
  | .hbm, ⟨36, _⟩ => ⟨S4096x2816, .bf16⟩
  | .hbm, ⟨37, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_call0_v1 : Ref sig .tc := ⟨.hbm, 27, rfl⟩
abbrev main_call0_cst : Ref sig .tc := ⟨.hbm, 28, rfl⟩
abbrev main_call0_v2 : Ref sig .tc := ⟨.hbm, 29, rfl⟩
abbrev main_call0_v3 : Ref sig .tc := ⟨.hbm, 30, rfl⟩
abbrev main_call0_cst_0 : Ref sig .tc := ⟨.hbm, 31, rfl⟩
abbrev main_call0_v4 : Ref sig .tc := ⟨.hbm, 32, rfl⟩
abbrev main_call0_v5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== Down.lean ====
abbrev S4096x2816 : Shape := ⟨2, ![4096, 2816]⟩
abbrev S2816x1024 : Shape := ⟨2, ![2816, 1024]⟩
abbrev S4096x1024 : Shape := ⟨2, ![4096, 1024]⟩
abbrev S512x2816 : Shape := ⟨2, ![512, 2816]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DownRefIdeal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proj.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ProjRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjDx.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | .hbm, ⟨8, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjDw.lean ====
abbrev S4096x1024 : Shape := ⟨2, ![4096, 1024]⟩
abbrev S1024x1024 : Shape := ⟨2, ![1024, 1024]⟩
abbrev S4096x512 : Shape := ⟨2, ![4096, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S512x1024, .bf16⟩
  | .local _ .vmem, ⟨4, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ConvIn.lean ====
abbrev S4096x1024 : Shape := ⟨2, ![4096, 1024]⟩
abbrev S1x1024 : Shape := ⟨2, ![1, 1024]⟩
abbrev S1024x3072 : Shape := ⟨2, ![1024, 3072]⟩
abbrev S4096x3072 : Shape := ⟨2, ![4096, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3072, .bf16⟩
  | .hbm, ⟨3, _⟩ => ⟨S4096x3072, .bf16⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S1x1024, .f32⟩
  | .local _ .vmem, ⟨4, _⟩ => ⟨S512x3072, .bf16⟩
  | .local _ .vmem, ⟨5, _⟩ => ⟨S512x3072, .bf16⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x3072 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== ConvInRefIdeal.lean ====
abbrev S4096x1024 : Shape := ⟨2, ![4096, 1024]⟩
abbrev S1x1024 : Shape := ⟨2, ![1, 1024]⟩
abbrev S1024x3072 : Shape := ⟨2, ![1024, 3072]⟩
abbrev S1024 : Shape := ⟨1, ![1024]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x3072, .bf16⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x3072, .f32⟩
  | .hbm, ⟨21, _⟩ => ⟨S4096x3072, .f32⟩
  | .hbm, ⟨22, _⟩ => ⟨S4096x3072, .bf16⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== ConvInDw.lean ====
abbrev S4096x1024 : Shape := ⟨2, ![4096, 1024]⟩
abbrev S4096x3072 : Shape := ⟨2, ![4096, 3072]⟩
abbrev S1024x3072 : Shape := ⟨2, ![1024, 3072]⟩
abbrev S4096x512 : Shape := ⟨2, ![4096, 512]⟩
abbrev S4096x1536 : Shape := ⟨2, ![4096, 1536]⟩
abbrev S512x1536 : Shape := ⟨2, ![512, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S1024x3072, .bf16⟩
  | .local _ .vmem, ⟨0, _⟩ => ⟨S4096x512, .bf16⟩
  | .local _ .vmem, ⟨1, _⟩ => ⟨S4096x512, .bf16⟩
  | .local _ .vmem, ⟨2, _⟩ => ⟨S4096x1536, .bf16⟩
  | .local _ .vmem, ⟨3, _⟩ => ⟨S4096x1536, .bf16⟩
  | .local _ .vmem, ⟨4, _⟩ => ⟨S512x1536, .bf16⟩
  | .local _ .vmem, ⟨5, _⟩ => ⟨S512x1536, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ConvInDwRefIdeal.lean ====
abbrev S4096x1024 : Shape := ⟨2, ![4096, 1024]⟩
abbrev S4096x3072 : Shape := ⟨2, ![4096, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x3072, .bf16⟩
  | .hbm, ⟨2, _⟩ => ⟨S_, .f32⟩
  | .hbm, ⟨3, _⟩ => ⟨S1024x3072, .f32⟩
  | .hbm, ⟨4, _⟩ => ⟨S4096x1024, .f32⟩
  | .hbm, ⟨5, _⟩ => ⟨S4096x3072, .f32⟩
  | .hbm, ⟨6, _⟩ => ⟨S4096x3072, .f32⟩
  | .hbm, ⟨7, _⟩ => ⟨S3072x1024, .f32⟩
  | .hbm, ⟨8, _⟩ => ⟨S1024x3072, .f32⟩
  | .hbm, ⟨9, _⟩ => ⟨S1024x3072, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Query.lean ====
abbrev S4096x1024 : Shape := ⟨2, ![4096, 1024]⟩
abbrev S1x1024 : Shape := ⟨2, ![1, 1024]⟩
abbrev S1024x1024 : Shape := ⟨2, ![1024, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .bf16⟩
  | .hbm, ⟨3, _⟩ => ⟨S4096x1024, .bf16⟩
  | .hbm, ⟨4, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== QueryRefIdeal.lean ====
abbrev S4096x1024 : Shape := ⟨2, ![4096, 1024]⟩
abbrev S1x1024 : Shape := ⟨2, ![1, 1024]⟩
abbrev S1024x1024 : Shape := ⟨2, ![1024, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 24
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x1024, .bf16⟩
  | .hbm, ⟨3, _⟩ => ⟨S1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | .hbm, ⟨20, _⟩ => ⟨S1024x1024, .f32⟩
  | .hbm, ⟨21, _⟩ => ⟨S4096x1024, .f32⟩
  | .hbm, ⟨22, _⟩ => ⟨S4096x1024, .bf16⟩
  | .hbm, ⟨23, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]
-- ==== Glu.lean ====
abbrev S4096x1024 : Shape := ⟨2, ![4096, 1024]⟩
abbrev S1024x2048 : Shape := ⟨2, ![1024, 2048]⟩
abbrev S4096x2048 : Shape := ⟨2, ![4096, 2048]⟩
abbrev S256x1024 : Shape := ⟨2, ![256, 1024]⟩
abbrev S256x2048 : Shape := ⟨2, ![256, 2048]⟩

abbrev nBuf : Space → Nat
  | .hbm => 5
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S4096x2048, .bf16⟩
  | .hbm, ⟨4, _⟩ => ⟨S4096x1024, .f32⟩
  | .local _ .vmem, ⟨0, _⟩ => ⟨S256x1024, .bf16⟩
  | .local _ .vmem, ⟨1, _⟩ => ⟨S256x1024, .bf16⟩
  | .local _ .vmem, ⟨2, _⟩ => ⟨S1024x2048, .bf16⟩
  | .local _ .vmem, ⟨3, _⟩ => ⟨S256x1024, .f32⟩
  | .local _ .vmem, ⟨4, _⟩ => ⟨S256x1024, .f32⟩
  | .local _ .vmem, ⟨5, _⟩ => ⟨S256x2048, .bf16⟩
  | .local _ .vmem, ⟨6, _⟩ => ⟨S256x2048, .bf16⟩
  | .local _ .vmem, ⟨7, _⟩ => ⟨S256x1024, .f32⟩
  | .local _ .vmem, ⟨8, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]
-- ==== GluRefIdeal.lean ====
abbrev S4096x1024 : Shape := ⟨2, ![4096, 1024]⟩
abbrev S1024x2048 : Shape := ⟨2, ![1024, 2048]⟩
abbrev S4096x2048 : Shape := ⟨2, ![4096, 2048]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2048, .bf16⟩
  | .hbm, ⟨2, _⟩ => ⟨S4096x1024, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x1024, .f32⟩
  | .hbm, ⟨7, _⟩ => ⟨S4096x1024, .f32⟩
  | .hbm, ⟨8, _⟩ => ⟨S4096x2048, .bf16⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== GluDw.lean ====
abbrev S4096x1024 : Shape := ⟨2, ![4096, 1024]⟩
abbrev S4096x2048 : Shape := ⟨2, ![4096, 2048]⟩
abbrev S1024x2048 : Shape := ⟨2, ![1024, 2048]⟩
abbrev S4096x512 : Shape := ⟨2, ![4096, 512]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S1024x2048, .bf16⟩
  | .local _ .vmem, ⟨0, _⟩ => ⟨S4096x512, .bf16⟩
  | .local _ .vmem, ⟨1, _⟩ => ⟨S4096x512, .bf16⟩
  | .local _ .vmem, ⟨2, _⟩ => ⟨S4096x1024, .bf16⟩
  | .local _ .vmem, ⟨3, _⟩ => ⟨S4096x1024, .bf16⟩
  | .local _ .vmem, ⟨4, _⟩ => ⟨S512x1024, .bf16⟩
  | .local _ .vmem, ⟨5, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GluDwRefIdeal.lean ====
abbrev S4096x1024 : Shape := ⟨2, ![4096, 1024]⟩
abbrev S4096x2048 : Shape := ⟨2, ![4096, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2048, .bf16⟩
  | .hbm, ⟨2, _⟩ => ⟨S_, .f32⟩
  | .hbm, ⟨3, _⟩ => ⟨S1024x2048, .f32⟩
  | .hbm, ⟨4, _⟩ => ⟨S4096x1024, .f32⟩
  | .hbm, ⟨5, _⟩ => ⟨S4096x2048, .f32⟩
  | .hbm, ⟨6, _⟩ => ⟨S4096x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== GluDx.lean ====
abbrev S4096x2048 : Shape := ⟨2, ![4096, 2048]⟩
abbrev S1024x2048 : Shape := ⟨2, ![1024, 2048]⟩
abbrev S4096x1024 : Shape := ⟨2, ![4096, 1024]⟩
abbrev S512x2048 : Shape := ⟨2, ![512, 2048]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .bf16⟩
  | .local _ .vmem, ⟨0, _⟩ => ⟨S512x2048, .bf16⟩
  | .local _ .vmem, ⟨1, _⟩ => ⟨S512x2048, .bf16⟩
  | .local _ .vmem, ⟨2, _⟩ => ⟨S1024x2048, .bf16⟩
  | .local _ .vmem, ⟨3, _⟩ => ⟨S512x1024, .bf16⟩
  | .local _ .vmem, ⟨4, _⟩ => ⟨S512x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== GluDxRefIdeal.lean ====
abbrev S4096x2048 : Shape := ⟨2, ![4096, 2048]⟩
abbrev S1024x2048 : Shape := ⟨2, ![1024, 2048]⟩
abbrev S_ : Shape := ⟨0, ![]⟩
abbrev S4096x1024 : Shape := ⟨2, ![4096, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S_, .f32⟩
  | .hbm, ⟨3, _⟩ => ⟨S4096x1024, .f32⟩
  | .hbm, ⟨4, _⟩ => ⟨S1024x2048, .f32⟩
  | .hbm, ⟨5, _⟩ => ⟨S4096x2048, .f32⟩
  | .hbm, ⟨6, _⟩ => ⟨S4096x2048, .f32⟩
  | .hbm, ⟨7, _⟩ => ⟨S4096x1024, .f32⟩
  | .hbm, ⟨8, _⟩ => ⟨S4096x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ConvInDx.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== ConvInDxRefIdeal.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x3072, .f32⟩
  | .hbm, ⟨27, _⟩ => ⟨S4096x3072, .f32⟩
  | .hbm, ⟨28, _⟩ => ⟨S4096x3072, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== QueryDx.lean ====
abbrev S4096x1024 : Shape := ⟨2, ![4096, 1024]⟩
abbrev S1024x1024 : Shape := ⟨2, ![1024, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 8
  | .vmem => 13
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]
-- ==== QueryDxRefIdeal.lean ====
abbrev S4096x1024 : Shape := ⟨2, ![4096, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S4096 : Shape := ⟨1, ![4096]⟩
abbrev S4096x1 : Shape := ⟨2, ![4096, 1]⟩

abbrev nBuf : Space → Nat
  | .hbm => 59
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S1024x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S4096x1024, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1, .f32⟩
  | .hbm, ⟨45, _⟩ => ⟨S_, .f32⟩
  | .hbm, ⟨46, _⟩ => ⟨S4096x1, .f32⟩
  | .hbm, ⟨47, _⟩ => ⟨S4096x1, .f32⟩
  | .hbm, ⟨48, _⟩ => ⟨S_, .f32⟩
  | .hbm, ⟨49, _⟩ => ⟨S4096, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_6 : Ref sig .tc := ⟨.hbm, 45, rfl⟩
abbrev main_v33 : Ref sig .tc := ⟨.hbm, 46, rfl⟩
abbrev main_v34 : Ref sig .tc := ⟨.hbm, 47, rfl⟩
abbrev main_cst_7 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩

abbrev nD : Nat := 1
abbrev τ : Topo := Topo.v7x

variable {F : FTy → Type} [FloatOps F]
-- ==== Kv.lean ====
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 3
  | .vmem => 3
  | .smem => 0
  | _ => 0

abbrev bufTy : (tb : Table) → Fin (tcTables nBuf tb) → BufTy
  | .hbm, ⟨0, _⟩ => ⟨S512x1024, .bf16⟩
  | .hbm, ⟨1, _⟩ => ⟨S1024x2048, .bf16⟩
  | .hbm, ⟨2, _⟩ => ⟨S512x2048, .bf16⟩
  | .local _ .vmem, ⟨0, _⟩ => ⟨S512x1024, .bf16⟩
  | .local _ .vmem, ⟨1, _⟩ => ⟨S1024x2048, .bf16⟩
  | .local _ .vmem, ⟨2, _⟩ => ⟨S512x2048, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== KvRefIdeal.lean ====
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 6
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S1024x2048, .bf16⟩
  | .hbm, ⟨2, _⟩ => ⟨S512x1024, .f32⟩
  | .hbm, ⟨3, _⟩ => ⟨S1024x2048, .f32⟩
  | .hbm, ⟨4, _⟩ => ⟨S512x2048, .f32⟩
  | .hbm, ⟨5, _⟩ => ⟨S512x2048, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== KvDx.lean ====
abbrev S512x2048 : Shape := ⟨2, ![512, 2048]⟩
abbrev S1024x2048 : Shape := ⟨2, ![1024, 2048]⟩
abbrev S512x1024 : Shape := ⟨2, ![512, 1024]⟩

abbrev nBuf : Space → Nat
  | .hbm => 3
  | .vmem => 3
  | .smem => 0
  | _ => 0

abbrev bufTy : (tb : Table) → Fin (tcTables nBuf tb) → BufTy
  | .hbm, ⟨0, _⟩ => ⟨S512x2048, .bf16⟩
  | .hbm, ⟨1, _⟩ => ⟨S1024x2048, .bf16⟩
  | .hbm, ⟨2, _⟩ => ⟨S512x1024, .bf16⟩
  | .local _ .vmem, ⟨0, _⟩ => ⟨S512x2048, .bf16⟩
  | .local _ .vmem, ⟨1, _⟩ => ⟨S1024x2048, .bf16⟩
  | .local _ .vmem, ⟨2, _⟩ => ⟨S512x1024, .bf16⟩
  | _, _ => ⟨S512x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨2, ![1, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S512x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]
-- ==== KvDxRefIdeal.lean ====
abbrev S512x2048 : Shape := ⟨2, ![512, 2048]⟩
abbrev S1024x2048 : Shape := ⟨2, ![1024, 2048]⟩
abbrev S_ : Shape := ⟨0, ![]⟩
abbrev S512x1024 : Shape := ⟨2, ![512, 1024]⟩

abbrev nBuf : Space → Nat
  | .hbm => 9
  | .vmem => 0
  | .smem => 0
  | _ => 0

abbrev bufTy : (tb : Table) → Fin (tcTables nBuf tb) → BufTy
  | .hbm, ⟨0, _⟩ => ⟨S512x2048, .bf16⟩
  | .hbm, ⟨1, _⟩ => ⟨S1024x2048, .bf16⟩
  | .hbm, ⟨2, _⟩ => ⟨S_, .f32⟩
  | .hbm, ⟨3, _⟩ => ⟨S512x1024, .f32⟩
  | .hbm, ⟨4, _⟩ => ⟨S1024x2048, .f32⟩
  | .hbm, ⟨5, _⟩ => ⟨S512x2048, .f32⟩
  | .hbm, ⟨6, _⟩ => ⟨S512x2048, .f32⟩
  | .hbm, ⟨7, _⟩ => ⟨S512x1024, .f32⟩
  | .hbm, ⟨8, _⟩ => ⟨S512x1024, .bf16⟩
  | _, _ => ⟨S512x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== KvDw.lean ====
abbrev S512x1024 : Shape := ⟨2, ![512, 1024]⟩
abbrev S512x2048 : Shape := ⟨2, ![512, 2048]⟩
abbrev S1024x2048 : Shape := ⟨2, ![1024, 2048]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S512x1024, .bf16⟩
  | .hbm, ⟨1, _⟩ => ⟨S512x2048, .bf16⟩
  | .hbm, ⟨2, _⟩ => ⟨S1024x2048, .bf16⟩
  | .local _ .vmem, ⟨0, _⟩ => ⟨S512x512, .bf16⟩
  | .local _ .vmem, ⟨1, _⟩ => ⟨S512x512, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | _, _ => ⟨S512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S512x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KvDwRefIdeal.lean ====
abbrev S512x1024 : Shape := ⟨2, ![512, 1024]⟩
abbrev S512x2048 : Shape := ⟨2, ![512, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 10
  | .vmem => 0
  | .smem => 0
  | _ => 0

abbrev bufTy : (tb : Table) → Fin (tcTables nBuf tb) → BufTy
  | .hbm, ⟨0, _⟩ => ⟨S512x1024, .bf16⟩
  | .hbm, ⟨1, _⟩ => ⟨S512x2048, .bf16⟩
  | .hbm, ⟨2, _⟩ => ⟨S_, .f32⟩
  | .hbm, ⟨3, _⟩ => ⟨S1024x2048, .f32⟩
  | .hbm, ⟨4, _⟩ => ⟨S512x1024, .f32⟩
  | .hbm, ⟨5, _⟩ => ⟨S512x2048, .f32⟩
  | .hbm, ⟨6, _⟩ => ⟨S512x2048, .f32⟩
  | .hbm, ⟨7, _⟩ => ⟨S2048x1024, .f32⟩
  | .hbm, ⟨8, _⟩ => ⟨S1024x2048, .f32⟩
  | .hbm, ⟨9, _⟩ => ⟨S1024x2048, .bf16⟩
  | _, _ => ⟨S512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Proof.DownDwVal.lean ====
module
public import proofs.«01_k».proof.Defs
public import proofs.«01_k».proof.Proof.Gen.DownDwIdeal.Value
public import proofs.«01_k».proof.Proof.Gen.DownDwRefIdeal.Run
public import Idealize.ShloMosaic.Lib.Claim
public import Idealize.ShloMosaic.Lib.Pointwise
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)

namespace Cert.DownDwIdeal.Ffn
open Cert.DownDwIdeal Cert.DownDwIdeal.Gen
variable (m : (ℓ : Loc nD τ sig) → Buf (Elt Ideal) ℓ)
theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem tlt (t : Fin cfg0.N) : t.val < 11 := t.isLt
theorem blk0 (c : Dev nD) (t : Fin cfg0.N) (k : Fin 4096) (r : Fin 256) :
    iblk m c 0 t (ix2 k r) = V m c main_arg0 (ix2 k ⟨256 * t.val + r.val, by have := tlt t; omega⟩) := by
  blk_ext [iblk, V, idx0 t]
theorem blk1 (c : Dev nD) (t : Fin cfg0.N) (k : Fin 4096) (l : Fin 1024) :
    iblk m c 1 t (ix2 k l) = V m c main_arg1 (ix2 k l) := by
  blk_ext [iblk, V, idx1 t]
theorem half_val : Ideal.ofBits .f32 0x3F000000#32 = ((1 / 2 : ℝ) : EReal) := by
  simp [Ideal.ofBits, Ideal.ieee, -EReal.coe_mul]; norm_num
/-- What the body stores, at an index: one whole contraction of its two blocks. -/
theorem pay_at (x : Vec Ideal S4096x256 .bf16) (y : Vec Ideal S4096x1024 .bf16) (r : Fin 256) (l : Fin 1024) :
    k0_pay1 x y (ix2 r l) = (∑ k : Fin 4096, x (ix2 k r) * y (ix2 k l)) * (((1 / 2 : ℝ) : ℝ) : EReal) := by
  pointwise [k0_pay1]
  rw [half_val]
/-- The result array: the product of the arguments over the tokens. -/
def val (a : Vec Ideal S4096x2816 .bf16) (b : Vec Ideal S4096x1024 .bf16) : Vec Ideal S2816x1024 .bf16 :=
  fun i => (∑ k : Fin 4096, a (ix2 k (i 0)) * b (ix2 k (i 1))) * (((1 / 2 : ℝ) : ℝ) : EReal)
theorem fin2 (c : Dev nD) : (dats m 0 c).arrAt 2 cfg0.N = val (m ((c.tc : Thread nD τ).loc main_arg0)) (m ((c.tc : Thread nD τ).loc main_arg1)) := by
  refine (dats m 0 c).arrAt_eq_of_covers 2 _ (by decide +kernel) fun t hf y => ?_
  obtain ⟨r, l, rfl⟩ : ∃ (r : Fin 256) (l : Fin 1024), y = ix2 r l := ⟨y 0, y 1, funext (Fin.forall_fin_two.mpr ⟨rfl, rfl⟩)⟩
  have e : ((cfg0.win 2).blk t).view.emb (ix2 r l) = (ix2 ⟨256 * t.val + r.val, by have := tlt t; omega⟩ l : S2816x1024.Idx) := by
    funext a
    apply Fin.ext
    revert a
    refine Fin.forall_fin_two.mpr ⟨?_, ?_⟩
    · blk_simp
      rw [idx2 t]
      show t.val * 256 + r.val = 256 * t.val + r.val
      omega
    · blk_simp
      rw [idx2 t]
      show 0 * 1024 + l.val = l.val
      omega
  refine Eq.trans ?_ (congrArg (val (m ((c.tc : Thread nD τ).loc main_arg0)) (m ((c.tc : Thread nD τ).loc main_arg1))) e).symm
  rw [after0_2]
  frame_out
  refine (pay_at _ _ r l).trans ?_
  simp only [blk0 m c t, blk1 m c t]
  rfl
end Cert.DownDwIdeal.Ffn
namespace Cert.DownDwRefIdeal.Ffn
open Cert.DownDwRefIdeal Cert.DownDwRefIdeal.Gen
/-- The plain program's result, at an index. -/
theorem ref_at (a : Vec Ideal S4096x2816 .bf16) (b : Vec Ideal S4096x1024 .bf16) (i : Fin 2816) (j : Fin 1024) :
    (truncf (F := Ideal) .bf16 (transpose S2816x1024 [1, 0] (Host.dotGeneral dot_S4096x1024_S4096x2816_S1024x2816_0_0_1_1_n_n none (mulf (broadcastInDim S4096x1024 ![] bcast_S_S4096x1024 (constant S_ .f32 0x3F000000#32)) (extf .f32 b bitsLt_bf16_f32)) (extf .f32 a bitsLt_bf16_f32)) transposes_S1024x2816_S2816x1024_1_0) bitsLt_bf16_f32) (ix2 i j) = ∑ k : Fin 4096, Ideal.ofBits .f32 0x3F000000#32 * b (ix2 k j) * a (ix2 k i) := by
  pointwise
end Cert.DownDwRefIdeal.Ffn
namespace Cert.DownDwIdeal.Ffn
open Cert.DownDwIdeal Cert.DownDwIdeal.Gen
/-- A finite nonnegative factor comes out of a sum. -/
theorem sum_half {n : ℕ} (f : Fin n → EReal) : ∑ k, f k * (((1 / 2 : ℝ) : ℝ) : EReal) = (∑ k, f k) * (((1 / 2 : ℝ) : ℝ) : EReal) := by
  classical
  induction (Finset.univ : Finset (Fin n)) using Finset.induction_on with
  | empty => simp
  | insert x s hx ih =>
    rw [Finset.sum_insert hx, Finset.sum_insert hx, ih, EReal.right_distrib_of_nonneg_of_ne_top (by norm_cast; norm_num) (EReal.coe_ne_top _)]
theorem same (a : Vec Ideal S4096x2816 .bf16) (b : Vec Ideal S4096x1024 .bf16) (i : Fin 2816) (j : Fin 1024) :
    ∑ k : Fin 4096, Ideal.ofBits .f32 0x3F000000#32 * b (ix2 k j) * a (ix2 k i) = val a b (ix2 i j) := by
  refine Eq.trans ?_ (sum_half _)
  refine Finset.sum_congr rfl fun k _ => ?_
  rw [half_val]
  exact ((mul_assoc _ _ _).trans (mul_comm _ _)).trans (congrArg (· * (((1 / 2 : ℝ) : ℝ) : EReal)) (mul_comm _ _))
/-- The kernel and the plain program end with equal results. -/
theorem algebraic : Cert.algebraic_DownDwIdeal_DownDwRefIdeal := by
  intro m g m' g' _ hagree
  refine ⟨fun c => val (m ((c.tc : Thread nD τ).loc main_arg0)) (m ((c.tc : Thread nD τ).loc main_arg1)), ?_, ?_⟩
  · refine (θ_run defs _ _).mono (fun r h c => ?_) (Value.run_blocks m g)
    exact ⟨(h c).1.trans (fin2 m c), (h c).2⟩
  · refine (θ_run Cert.DownDwRefIdeal.defs _ _).mono (fun r h c => ⟨(h c).1.trans ?_, (h c).2⟩) (Cert.DownDwRefIdeal.Value.run (F := Ideal) m' g')
    rw [(hagree c).1, (hagree c).2]
    funext y
    obtain ⟨i, j, rfl⟩ : ∃ (i : Fin 2816) (j : Fin 1024), y = ix2 i j := ⟨y 0, y 1, funext (Fin.forall_fin_two.mpr ⟨rfl, rfl⟩)⟩
    exact (Cert.DownDwRefIdeal.Ffn.ref_at _ _ i j).trans (same _ _ i j)
end Cert.DownDwIdeal.Ffn

end
-- ==== Proof.UpDwVal.lean ====
module
public import proofs.«01_k».proof.Defs
public import proofs.«01_k».proof.Proof.Gen.UpDwIdeal.Value
public import proofs.«01_k».proof.Proof.Gen.UpDwRefIdeal.Run
public import Idealize.ShloMosaic.Lib.Claim
public import Idealize.ShloMosaic.Lib.Pointwise
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)

namespace Cert.UpDwIdeal.Ffn
open Cert.UpDwIdeal Cert.UpDwIdeal.Gen
variable (m : (ℓ : Loc nD τ sig) → Buf (Elt Ideal) ℓ)
theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem tlt (t : Fin cfg0.N) : t.val < 11 := t.isLt
theorem blk0 (c : Dev nD) (t : Fin cfg0.N) (k : Fin 4096) (r : Fin 512) :
    iblk m c 0 t (ix2 k r) = V m c main_arg0 (ix2 k ⟨512 * t.val + r.val, by have := tlt t; omega⟩) := by
  blk_ext [iblk, V, idx0 t]
theorem blk1 (c : Dev nD) (t : Fin cfg0.N) (k : Fin 4096) (l : Fin 1024) :
    iblk m c 1 t (ix2 k l) = V m c main_arg1 (ix2 k l) := by
  blk_ext [iblk, V, idx1 t]
/-- What the body stores, at an index: one whole contraction of its two blocks. -/
theorem pay_at (x : Vec Ideal S4096x512 .bf16) (y : Vec Ideal S4096x1024 .bf16) (r : Fin 512) (l : Fin 1024) :
    k0_pay1 x y (ix2 r l) = (∑ k : Fin 4096, x (ix2 k r) * y (ix2 k l)) := by
  pointwise [k0_pay1]
/-- The result array: the product of the arguments over the tokens. -/
def val (a : Vec Ideal S4096x5632 .bf16) (b : Vec Ideal S4096x1024 .bf16) : Vec Ideal S5632x1024 .bf16 :=
  fun i => (∑ k : Fin 4096, a (ix2 k (i 0)) * b (ix2 k (i 1)))
theorem fin2 (c : Dev nD) : (dats m 0 c).arrAt 2 cfg0.N = val (m ((c.tc : Thread nD τ).loc main_arg0)) (m ((c.tc : Thread nD τ).loc main_arg1)) := by
  refine (dats m 0 c).arrAt_eq_of_covers 2 _ (by decide +kernel) fun t hf y => ?_
  obtain ⟨r, l, rfl⟩ : ∃ (r : Fin 512) (l : Fin 1024), y = ix2 r l := ⟨y 0, y 1, funext (Fin.forall_fin_two.mpr ⟨rfl, rfl⟩)⟩
  have e : ((cfg0.win 2).blk t).view.emb (ix2 r l) = (ix2 ⟨512 * t.val + r.val, by have := tlt t; omega⟩ l : S5632x1024.Idx) := by
    funext a
    apply Fin.ext
    revert a
    refine Fin.forall_fin_two.mpr ⟨?_, ?_⟩
    · blk_simp
      rw [idx2 t]
      show t.val * 512 + r.val = 512 * t.val + r.val
      omega
    · blk_simp
      rw [idx2 t]
      show 0 * 1024 + l.val = l.val
      omega
  refine Eq.trans ?_ (congrArg (val (m ((c.tc : Thread nD τ).loc main_arg0)) (m ((c.tc : Thread nD τ).loc main_arg1))) e).symm
  rw [after0_2]
  frame_out
  refine (pay_at _ _ r l).trans ?_
  simp only [blk0 m c t, blk1 m c t]
  rfl
end Cert.UpDwIdeal.Ffn
namespace Cert.UpDwRefIdeal.Ffn
open Cert.UpDwRefIdeal Cert.UpDwRefIdeal.Gen
/-- The plain program's result, at an index. -/
theorem ref_at (a : Vec Ideal S4096x5632 .bf16) (b : Vec Ideal S4096x1024 .bf16) (i : Fin 5632) (j : Fin 1024) :
    (truncf (F := Ideal) .bf16 (transpose S5632x1024 [1, 0] (transpose S1024x5632 [1, 0] (Host.dotGeneral dot_S4096x5632_S4096x1024_S5632x1024_0_0_1_1_n_n none (extf .f32 a bitsLt_bf16_f32) (extf .f32 b bitsLt_bf16_f32)) transposes_S5632x1024_S1024x5632_1_0) transposes_S1024x5632_S5632x1024_1_0) bitsLt_bf16_f32) (ix2 i j) = ∑ k : Fin 4096, a (ix2 k i) * b (ix2 k j) := by
  pointwise
end Cert.UpDwRefIdeal.Ffn
namespace Cert.UpDwIdeal.Ffn
open Cert.UpDwIdeal Cert.UpDwIdeal.Gen
theorem same (a : Vec Ideal S4096x5632 .bf16) (b : Vec Ideal S4096x1024 .bf16) (i : Fin 5632) (j : Fin 1024) :
    ∑ k : Fin 4096, a (ix2 k i) * b (ix2 k j) = val a b (ix2 i j) := rfl
/-- The kernel and the plain program end with equal results. -/
theorem algebraic : Cert.algebraic_UpDwIdeal_UpDwRefIdeal := by
  intro m g m' g' _ hagree
  refine ⟨fun c => val (m ((c.tc : Thread nD τ).loc main_arg0)) (m ((c.tc : Thread nD τ).loc main_arg1)), ?_, ?_⟩
  · refine (θ_run defs _ _).mono (fun r h c => ?_) (Value.run_blocks m g)
    exact ⟨(h c).1.trans (fin2 m c), (h c).2⟩
  · refine (θ_run Cert.UpDwRefIdeal.defs _ _).mono (fun r h c => ⟨(h c).1.trans ?_, (h c).2⟩) (Cert.UpDwRefIdeal.Value.run (F := Ideal) m' g')
    rw [(hagree c).1, (hagree c).2]
    funext y
    obtain ⟨i, j, rfl⟩ : ∃ (i : Fin 5632) (j : Fin 1024), y = ix2 i j := ⟨y 0, y 1, funext (Fin.forall_fin_two.mpr ⟨rfl, rfl⟩)⟩
    exact (Cert.UpDwRefIdeal.Ffn.ref_at _ _ i j).trans (same _ _ i j)
end Cert.UpDwIdeal.Ffn

end
-- ==== Proof.Spec.lean ====
/- The mathematics of the S5 scan's gradients over the reals, and facts about real sums and constants. -/
module
public import Idealize.ShloMosaic.Lib.Pointwise
public import Idealize.ShloMosaic.Lib.Pipeline.ValueKit
@[expose] public section
set_option maxRecDepth 16384
noncomputable section
open Idealize.ShloMosaic Idealize.ShloMosaic.TcCoe
namespace Cert.S5

/-- The state's gradient at one lane, counted from the last position: after `k` positions. -/
def back (a b : ℝ) (gre gim : ℕ → ℝ) : ℕ → ℝ × ℝ
  | 0 => (0, 0)
  | k + 1 => (gre (2047 - k) + a * (back a b gre gim k).1 + b * (back a b gre gim k).2,
      gim (2047 - k) - b * (back a b gre gim k).1 + a * (back a b gre gim k).2)

/-- The arguments as real arrays: tokens `2048 b + r`, channels `16 g + h`, lanes `64 g + p`. -/
structure Data where
  dz : ℕ → ℕ → ℝ
  y : ℕ → ℕ → ℝ
  u : ℕ → ℕ → ℝ
  sr : ℕ → ℕ → ℝ
  si : ℕ → ℕ → ℝ
  ar : ℕ → ℕ → ℝ
  ai : ℕ → ℕ → ℝ
  br : ℕ → ℕ → ℕ → ℝ
  bi : ℕ → ℕ → ℕ → ℝ
  cr : ℕ → ℕ → ℕ → ℝ
  ci : ℕ → ℕ → ℕ → ℝ
  d : ℕ → ℝ

/-- The value of the literal 0x3F4C422A. -/
def gC : ℝ := 13386282 / 2 ^ 24

theorem half_val : Ideal.ofBits .f32 0x3F000000#32 = ((1 / 2 : ℝ) : EReal) := by
  simp [Ideal.ofBits, Ideal.ieee, -EReal.coe_mul]; norm_num
theorem three_val : Ideal.ofBits .f32 0x40400000#32 = ((3 : ℝ) : EReal) := by
  simp [Ideal.ofBits, Ideal.ieee, -EReal.coe_mul]; norm_num
theorem num_val : Ideal.ofBits .f32 0x472EAB00#32 = ((44715 : ℝ) : EReal) := by
  simp [Ideal.ofBits, Ideal.ieee, -EReal.coe_mul]; norm_num
theorem den_val : Ideal.ofBits .f32 0x49742400#32 = ((1000000 : ℝ) : EReal) := by
  simp [Ideal.ofBits, Ideal.ieee, -EReal.coe_mul]; norm_num
theorem gC_val : Ideal.ofBits .f32 0x3F4C422A#32 = ((gC : ℝ) : EReal) := by
  unfold gC
  simp [Ideal.ofBits, Ideal.ieee, -EReal.coe_mul]; norm_num

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s h ih => rw [Finset.sum_insert h, Finset.sum_insert h, EReal.coe_add, ih]

/-- The gelu's derivative. -/
def gg (y : ℝ) : ℝ :=
  let th := Real.tanh (gC * (y + 8943 / 200000 * y * y * y))
  1 / 2 * (1 + th) + 1 / 2 * y * (1 - th * th) * gC * (1 + 26829 / 200000 * y * y)

namespace Data
variable (D : Data)
/-- The gradient at the read-out. -/
def dy (t c : ℕ) : ℝ := D.dz t c * gg (D.y t c)
def dsre (b r n : ℕ) : ℝ := ∑ h : Fin 16, D.dy (2048 * b + r) (16 * (n / 64) + h.val) * D.cr (n / 64) h.val (n % 64)
def dsim (b r n : ℕ) : ℝ := -∑ h : Fin 16, D.dy (2048 * b + r) (16 * (n / 64) + h.val) * D.ci (n / 64) h.val (n % 64)
/-- The gradient of the state at every position. -/
def g (b n k : ℕ) : ℝ × ℝ := back (D.ar (n / 64) (n % 64)) (D.ai (n / 64) (n % 64)) (fun r => D.dsre b r n) (fun r => D.dsim b r n) k
def gre (b r n : ℕ) : ℝ := (D.g b n (2048 - r)).1
def gim (b r n : ℕ) : ℝ := (D.g b n (2048 - r)).2
/-- The state one position earlier. -/
def pre (x : ℕ → ℕ → ℝ) (b r n : ℕ) : ℝ := if r = 0 then 0 else x (2048 * b + (r - 1)) n
/-- What one of the two sequences adds to each result. -/
def dbre (b c n : ℕ) : ℝ := ∑ r : Fin 2048, D.u (2048 * b + r.val) c * D.gre b r.val n
def dbim (b c n : ℕ) : ℝ := ∑ r : Fin 2048, D.u (2048 * b + r.val) c * D.gim b r.val n
def dcre (b n c : ℕ) : ℝ := ∑ r : Fin 2048, D.sr (2048 * b + r.val) n * D.dy (2048 * b + r.val) c
def dcim (b n c : ℕ) : ℝ := -∑ r : Fin 2048, D.si (2048 * b + r.val) n * D.dy (2048 * b + r.val) c
def dar (b n : ℕ) : ℝ := ∑ r : Fin 2048, (D.gre b r.val n * pre D.sr b r.val n + D.gim b r.val n * pre D.si b r.val n)
def dai (b n : ℕ) : ℝ := ∑ r : Fin 2048, (D.gim b r.val n * pre D.sr b r.val n - D.gre b r.val n * pre D.si b r.val n)
def dd (b c : ℕ) : ℝ := ∑ r : Fin 2048, D.dy (2048 * b + r.val) c * D.u (2048 * b + r.val) c
def dh (b r c : ℕ) : ℝ := (∑ p : Fin 64, D.gre b r (64 * (c / 16) + p.val) * D.br (c / 16) p.val (c % 16))
  + (∑ p : Fin 64, D.gim b r (64 * (c / 16) + p.val) * D.bi (c / 16) p.val (c % 16)) + D.d c * D.dy (2048 * b + r) c
end Data

/-- The twelve argument arrays carry the real arrays of `D`. -/
structure Fits (D : Data) (a0 a1 a2 : (⟨2, ![4096, 1024]⟩ : Shape).Idx → EReal) (a3 a4 : (⟨2, ![4096, 4096]⟩ : Shape).Idx → EReal) (a5 a6 : (⟨2, ![64, 64]⟩ : Shape).Idx → EReal)
    (a7 a8 : (⟨3, ![64, 64, 16]⟩ : Shape).Idx → EReal) (a9 a10 : (⟨3, ![64, 16, 64]⟩ : Shape).Idx → EReal) (a11 : (⟨1, ![1024]⟩ : Shape).Idx → EReal) : Prop where
  dz : ∀ (t : Fin 4096) (c : Fin 1024), a0 (ix2 t c) = ((D.dz t.val c.val : ℝ) : EReal)
  y : ∀ (t : Fin 4096) (c : Fin 1024), a1 (ix2 t c) = ((D.y t.val c.val : ℝ) : EReal)
  u : ∀ (t : Fin 4096) (c : Fin 1024), a2 (ix2 t c) = ((D.u t.val c.val : ℝ) : EReal)
  sr : ∀ (t : Fin 4096) (n : Fin 4096), a3 (ix2 t n) = ((D.sr t.val n.val : ℝ) : EReal)
  si : ∀ (t : Fin 4096) (n : Fin 4096), a4 (ix2 t n) = ((D.si t.val n.val : ℝ) : EReal)
  ar : ∀ (g p : Fin 64), a5 (ix2 g p) = ((D.ar g.val p.val : ℝ) : EReal)
  ai : ∀ (g p : Fin 64), a6 (ix2 g p) = ((D.ai g.val p.val : ℝ) : EReal)
  br : ∀ (g p : Fin 64) (h : Fin 16), a7 (ix3 g p h) = ((D.br g.val p.val h.val : ℝ) : EReal)
  bi : ∀ (g p : Fin 64) (h : Fin 16), a8 (ix3 g p h) = ((D.bi g.val p.val h.val : ℝ) : EReal)
  cr : ∀ (g : Fin 64) (h : Fin 16) (p : Fin 64), a9 (ix3 g h p) = ((D.cr g.val h.val p.val : ℝ) : EReal)
  ci : ∀ (g : Fin 64) (h : Fin 16) (p : Fin 64), a10 (ix3 g h p) = ((D.ci g.val h.val p.val : ℝ) : EReal)
  d : ∀ c : Fin 1024, a11 (ix1 c) = ((D.d c.val : ℝ) : EReal)

/-- A sum against one block of a block-diagonal matrix (blocks of `W` rows). -/
theorem sum_block (J W : ℕ) (hW : 0 < W) (f g : ℕ → ℝ) (q : ℕ) (hq : q < J) :
    ∑ l : Fin (J * W), f l.val * (if l.val / W = q then g (l.val % W) else 0) = ∑ h : Fin W, f (W * q + h.val) * g h.val := by
  rw [Fin.sum_univ_tiles J W rfl]
  rw [Finset.sum_eq_single (⟨q, hq⟩ : Fin J)]
  · refine Finset.sum_congr rfl fun h _ => ?_
    have e1 : (q * W + h.val) / W = q := by rw [mul_comm, Nat.mul_add_div hW, Nat.div_eq_of_lt h.isLt, add_zero]
    have e2 : (q * W + h.val) % W = h.val := by rw [mul_comm, Nat.mul_add_mod, Nat.mod_eq_of_lt h.isLt]
    show f (q * W + h.val) * (if (q * W + h.val) / W = q then g ((q * W + h.val) % W) else 0) = _
    rw [e1, e2, if_pos rfl, mul_comm q W]
  · intro j _ hj
    refine Finset.sum_eq_zero fun h _ => ?_
    have e1 : (j.val * W + h.val) / W = j.val := by rw [mul_comm, Nat.mul_add_div hW, Nat.div_eq_of_lt h.isLt, add_zero]
    show f (j.val * W + h.val) * (if (j.val * W + h.val) / W = q then g ((j.val * W + h.val) % W) else 0) = 0
    rw [e1, if_neg (fun e => hj (Fin.ext e)), mul_zero]
  · intro h; exact absurd (Finset.mem_univ _) h
end Cert.S5
end
-- ==== Proof.FinPre.lean ====
module
public import proofs.«01_k».proof.Proof.Spec
public import proofs.«01_k».proof.Proof.Gen.Pre_finite4
public import Idealize.ShloMosaic.Lib.ReduceAll
@[expose] public section
set_option maxRecDepth 16384
noncomputable section
open Idealize.ShloMosaic Idealize.ShloMosaic.TcCoe
namespace Cert.Ffn
/-- What the two comparisons say of one number: it is real. -/
theorem real_at (x : EReal) (h : IntOp.andi (Ideal.cmp .olt x (Ideal.ofBits .f32 0x7F800000#32)) (Ideal.cmp .ogt x (Ideal.ofBits .f32 0xFF800000#32)) = 1#1) : x = ((x.toReal : ℝ) : EReal) := by
  rw [show Ideal.ofBits .f32 0x7F800000#32 = (⊤ : EReal) by simp [Ideal.ofBits, Ideal.ieee], show Ideal.ofBits .f32 0xFF800000#32 = (⊥ : EReal) by simp [Ideal.ofBits, Ideal.ieee]] at h
  refine (EReal.coe_toReal ?_ ?_).symm
  · rintro rfl; revert h; simp [Ideal.cmp, IntOp.andi]
  · rintro rfl; revert h; simp [Ideal.cmp, IntOp.andi]
section
open Cert.Pre_finite4
instance : Subsingleton Cert.Pre_finite4.S_.Idx := ⟨fun a b => funext fun k => k.elim0⟩
variable (x0 x1 x2 : IVec S_ 1)
theorem cat4_0 : (concatenate S3 0 [⟨S1, broadcastInDim S1 ![] Facts.bcast_S_S1 x0⟩, ⟨S1, broadcastInDim S1 ![] Facts.bcast_S_S1 x1⟩, ⟨S1, broadcastInDim S1 ![] Facts.bcast_S_S1 x2⟩] Facts.concatenates_S1_S1_S1_S3_d0) (ix1 0) = x0 ix0 := by pointwise! []
theorem cat4_1 : (concatenate S3 0 [⟨S1, broadcastInDim S1 ![] Facts.bcast_S_S1 x0⟩, ⟨S1, broadcastInDim S1 ![] Facts.bcast_S_S1 x1⟩, ⟨S1, broadcastInDim S1 ![] Facts.bcast_S_S1 x2⟩] Facts.concatenates_S1_S1_S1_S3_d0) (ix1 1) = x1 ix0 := by pointwise! []
theorem cat4_2 : (concatenate S3 0 [⟨S1, broadcastInDim S1 ![] Facts.bcast_S_S1 x0⟩, ⟨S1, broadcastInDim S1 ![] Facts.bcast_S_S1 x1⟩, ⟨S1, broadcastInDim S1 ![] Facts.bcast_S_S1 x2⟩] Facts.concatenates_S1_S1_S1_S3_d0) (ix1 2) = x2 ix0 := by pointwise! []
theorem real4_S4096x1024 (x : FVec Ideal S4096x1024 .f32) (h : (Host.reduce IntOp.andi (andi (cmpf .olt x (broadcastInDim S4096x1024 ![] Facts.bcast_S_S4096x1024 (constant S_ .f32 0x7F800000#32))) (cmpf .ogt x (broadcastInDim S4096x1024 ![] Facts.bcast_S_S4096x1024 (constant S_ .f32 0xFF800000#32)))) (constantI S_ 1 1#1) Facts.reducesTo_S4096x1024_S_d0_1 Facts.h_S_) ix0 = 1#1) (i : S4096x1024.Idx) :
    x i = (((x i).toReal : ℝ) : EReal) :=
  real_at (x i) (Host.reduce_andi_all (t := S_) _ _ _ _ _ h i)
theorem real4_S2816x1024 (x : FVec Ideal S2816x1024 .f32) (h : (Host.reduce IntOp.andi (andi (cmpf .olt x (broadcastInDim S2816x1024 ![] Facts.bcast_S_S2816x1024 (constant S_ .f32 0x7F800000#32))) (cmpf .ogt x (broadcastInDim S2816x1024 ![] Facts.bcast_S_S2816x1024 (constant S_ .f32 0xFF800000#32)))) (constantI S_ 1 1#1) Facts.reducesTo_S2816x1024_S_d0_1 Facts.h_S_) ix0 = 1#1) (i : S2816x1024.Idx) :
    x i = (((x i).toReal : ℝ) : EReal) :=
  real_at (x i) (Host.reduce_andi_all (t := S_) _ _ _ _ _ h i)
theorem real4_S4096x5632 (x : FVec Ideal S4096x5632 .f32) (h : (Host.reduce IntOp.andi (andi (cmpf .olt x (broadcastInDim S4096x5632 ![] Facts.bcast_S_S4096x5632 (constant S_ .f32 0x7F800000#32))) (cmpf .ogt x (broadcastInDim S4096x5632 ![] Facts.bcast_S_S4096x5632 (constant S_ .f32 0xFF800000#32)))) (constantI S_ 1 1#1) Facts.reducesTo_S4096x5632_S_d0_1 Facts.h_S_) ix0 = 1#1) (i : S4096x5632.Idx) :
    x i = (((x i).toReal : ℝ) : EReal) :=
  real_at (x i) (Host.reduce_andi_all (t := S_) _ _ _ _ _ h i)
/-- The precondition makes every argument an array of real numbers. -/
theorem reals4 (a0 : FVec Ideal S4096x1024 .bf16) (a1 : FVec Ideal S2816x1024 .bf16) (a2 : FVec Ideal S4096x5632 .bf16) (h : Cert.Pre_finite4.fn (F := Ideal) a0 a1 a2 ix0 = 1#1) :
    (∀ i, a0 i = (((a0 i).toReal : ℝ) : EReal)) ∧ (∀ i, a1 i = (((a1 i).toReal : ℝ) : EReal)) ∧ (∀ i, a2 i = (((a2 i).toReal : ℝ) : EReal)) := by
  dsimp only [Cert.Pre_finite4.fn, Cert.Pre_finite4.fn_part1] at h
  have e := Host.reduce_andi_all (t := S_) _ _ _ _ _ h
  exact ⟨real4_S4096x1024 a0 ((cat4_0 _ _ _ ).symm.trans (e (ix1 0))), real4_S2816x1024 a1 ((cat4_1 _ _ _ ).symm.trans (e (ix1 1))), real4_S4096x5632 a2 ((cat4_2 _ _ _ ).symm.trans (e (ix1 2)))⟩
end
end Cert.Ffn
end
-- ==== Proof.Ffn.lean ====
module
public import proofs.«01_k».proof.Proof.Spec
public import Idealize.ShloMosaic.Lib.Claim
public import Idealize.ShloMosaic.Lib.Pointwise
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)

namespace Cert.Ffn
open Cert.S5
/-- The small number the mean square is raised by before its root. -/
def tiny : ℝ := 8796093 / 2 ^ 43
/-- The mean square of a row, raised, and one over its root: of real rows. -/
def ms (x : Fin 1024 → ℝ) : ℝ := (∑ l, x l * x l) * (1 / 1024) + tiny
def rr (x : Fin 1024 → ℝ) : ℝ := (Real.sqrt (ms x))⁻¹
/-- The same of any row. -/
def msE (x : Fin 1024 → EReal) : EReal := Ideal.div (∑ l, x l * x l) ((1024 : ℝ) : EReal) + ((tiny : ℝ) : EReal)
def rE (x : Fin 1024 → EReal) : EReal := Ideal.rsqrt (msE x)
/-- A row of the gradient of the input. -/
def dxv (y x g : Fin 1024 → EReal) (s : EReal) (j : Fin 1024) : EReal :=
  rE x * (y j * g j - x j * rE x * Ideal.div (∑ l, y l * g l * (x l * rE x)) ((1024 : ℝ) : EReal)) + s
theorem tiny_val : Ideal.ofBits .f32 0x358637BD#32 = ((tiny : ℝ) : EReal) := by
  unfold tiny
  simp [Ideal.ofBits, Ideal.ieee, -EReal.coe_mul]; norm_num
theorem k_val : Ideal.ofBits .f32 0x44800000#32 = ((1024 : ℝ) : EReal) := by
  simp [Ideal.ofBits, Ideal.ieee, -EReal.coe_mul]; norm_num
theorem mhalf_val : Ideal.ofBits .f32 0xBF000000#32 = ((-(1 / 2) : ℝ) : EReal) := by
  simp [Ideal.ofBits, Ideal.ieee, -EReal.coe_mul]; norm_num
theorem ms_pos (x : Fin 1024 → ℝ) : 0 < ms x := by
  have h : 0 ≤ ∑ l, x l * x l := Finset.sum_nonneg fun l _ => mul_self_nonneg _
  unfold ms tiny
  positivity
theorem rr_pos (x : Fin 1024 → ℝ) : 0 < rr x := inv_pos.mpr (Real.sqrt_pos.mpr (ms_pos x))
theorem msE_real (x : Fin 1024 → ℝ) : msE (fun l => ((x l : ℝ) : EReal)) = ((ms x : ℝ) : EReal) := by
  unfold msE
  rw [Ideal.div_coe (by norm_num)]
  simp only [← EReal.coe_mul, ← coe_sum, ← EReal.coe_add]
  rfl
theorem rE_real (x : Fin 1024 → ℝ) : rE (fun l => ((x l : ℝ) : EReal)) = ((rr x : ℝ) : EReal) := by
  unfold rE
  rw [msE_real, Ideal.rsqrt_coe, if_neg (not_lt.mpr (ms_pos x).le), if_neg (ms_pos x).ne']
  rfl
theorem rr_sq (x : Fin 1024 → ℝ) : rr x * (1 / ms x) = rr x * rr x * rr x := by
  have h := ms_pos x
  have e : Real.sqrt (ms x) * Real.sqrt (ms x) = ms x := Real.mul_self_sqrt h.le
  unfold rr
  rw [mul_assoc, ← mul_inv, e, one_div]
theorem sq_nonneg' (x : EReal) : 0 ≤ x * x := by
  induction x with
  | bot => simp
  | top => simp
  | coe r => rw [← EReal.coe_mul]; exact_mod_cast mul_self_nonneg r
/-- A row with an infinite entry has an infinite mean square, and so a zero for the reciprocal root. -/
theorem msE_top (x : Fin 1024 → EReal) (l : Fin 1024) (h : x l * x l = ⊤) : msE x = ⊤ := by
  have e : ∑ l, x l * x l = ⊤ := top_le_iff.mp (h ▸ Finset.single_le_sum (f := fun l => x l * x l) (fun k _ => sq_nonneg' (x k)) (Finset.mem_univ l))
  unfold msE
  rw [e, Ideal.div_coe (by norm_num), EReal.top_mul_coe_of_pos (by norm_num), EReal.top_add_coe]
/-- A positive number goes into a sum. -/
theorem mul_sum' (r : ℝ) (hr : 0 ≤ r) {n : ℕ} (f : Fin n → EReal) : ((r : ℝ) : EReal) * ∑ l, f l = ∑ l, ((r : ℝ) : EReal) * f l := by
  have hr' : (0 : EReal) ≤ ((r : ℝ) : EReal) := by exact_mod_cast hr
  classical
  refine Finset.induction_on (Finset.univ : Finset (Fin n)) (by simp) fun a s ha ih => ?_
  rw [Finset.sum_insert ha, Finset.sum_insert ha, EReal.left_distrib_of_nonneg_of_ne_top hr' (EReal.coe_ne_top r), ih]
/-- Twice a multiple. -/
theorem twice (a : ℝ) (S : EReal) : ((a : ℝ) : EReal) * S + ((a : ℝ) : EReal) * S = ((2 * a : ℝ) : EReal) * S := by
  have e := (EReal.right_distrib_of_nonneg (a := 1) (b := 1) (c := ((a : ℝ) : EReal) * S) zero_le_one zero_le_one).symm
  rw [one_mul] at e
  rw [e, EReal.coe_mul, mul_assoc, show ((2 : ℝ) : EReal) = 1 + 1 by rw [← EReal.coe_one, ← EReal.coe_add]; norm_num]
/-- The gradient of the norm, in the plain program's form and in the kernel's: of every row, finite or not. -/
theorem row_eq (y x g : Fin 1024 → EReal) (s : EReal) (j : Fin 1024) :
    y j * g j * rE x + x j * Ideal.div ((∑ l, x l * (y l * g l)) * (((-(1 / 2) : ℝ) : EReal) * Ideal.div (rE x) (msE x))) ((1024 : ℝ) : EReal)
      + Ideal.div ((∑ l, x l * (y l * g l)) * (((-(1 / 2) : ℝ) : EReal) * Ideal.div (rE x) (msE x))) ((1024 : ℝ) : EReal) * x j + s = dxv y x g s j := by
  unfold dxv
  refine congrArg (· + s) ?_
  by_cases h : ∀ l, x l * x l ≠ ⊤
  · obtain ⟨X, rfl⟩ : ∃ X : Fin 1024 → ℝ, x = fun l => ((X l : ℝ) : EReal) := by
      refine ⟨fun l => (x l).toReal, funext fun l => (EReal.coe_toReal ?_ ?_).symm⟩
      · intro e; exact h l (by rw [e]; simp)
      · intro e; exact h l (by rw [e]; simp)
    have hr := rr_pos X
    rw [rE_real, msE_real, Ideal.div_coe (ms_pos X).ne', Ideal.div_coe (show (1024 : ℝ) ≠ 0 by norm_num), Ideal.div_coe (show (1024 : ℝ) ≠ 0 by norm_num)]
    have e : ∑ l, y l * g l * (((X l : ℝ) : EReal) * ((rr X : ℝ) : EReal)) = ((rr X : ℝ) : EReal) * ∑ l, ((X l : ℝ) : EReal) * (y l * g l) := by
      rw [mul_sum' _ hr.le]
      exact Finset.sum_congr rfl fun l _ => by rw [mul_comm, mul_comm ((X l : ℝ) : EReal), mul_assoc]
    rw [e]
    generalize ∑ l, ((X l : ℝ) : EReal) * (y l * g l) = S
    generalize y j * g j = P
    have e1 : ((X j : ℝ) : EReal) * (S * (((-(1 / 2) : ℝ) : EReal) * (((rr X : ℝ) : EReal) * ((1 / ms X : ℝ) : EReal))) * ((1 / 1024 : ℝ) : EReal))
        = ((X j * (-(1 / 2) * (rr X * (1 / ms X))) * (1 / 1024) : ℝ) : EReal) * S := by
      simp only [EReal.coe_mul]
      rw [mul_comm S, ← mul_assoc, ← mul_assoc, mul_assoc (_ * _) S, mul_comm S, ← mul_assoc]
    have e2 : ((rr X : ℝ) : EReal) * -(((X j : ℝ) : EReal) * ((rr X : ℝ) : EReal) * (((rr X : ℝ) : EReal) * S * ((1 / 1024 : ℝ) : EReal)))
        = ((-(X j * rr X * rr X * rr X * (1 / 1024)) : ℝ) : EReal) * S := by
      rw [mul_comm ((rr X : ℝ) : EReal) S, mul_assoc S, mul_comm S, ← mul_assoc, ← EReal.neg_mul, ← mul_assoc]
      simp only [← EReal.coe_mul, ← EReal.coe_neg]
      exact congrArg (fun r : ℝ => ((r : ℝ) : EReal) * S) (by ring)
    rw [mul_comm _ ((X j : ℝ) : EReal), e1, sub_eq_add_neg, EReal.left_distrib_of_nonneg_of_ne_top (by exact_mod_cast hr.le) (EReal.coe_ne_top _), e2, add_assoc, twice, mul_comm P]
    refine congrArg (fun r : ℝ => _ + ((r : ℝ) : EReal) * S) ?_
    rw [rr_sq]
    ring
  · obtain ⟨l, hl⟩ := not_forall.mp h
    have e : msE x = ⊤ := msE_top x l (not_not.mp hl)
    have e' : rE x = 0 := by unfold rE; rw [e]; rfl
    have e3 : Ideal.div 0 ((1024 : ℝ) : EReal) = 0 := by rw [Ideal.div_coe (by norm_num), zero_mul]
    have e4 : Ideal.div 0 ⊤ = 0 := by simp [Ideal.div]
    rw [e, e', e4]
    simp only [mul_zero, zero_mul, e3, add_zero]
/-- The logistic function, and the two halves of the gated unit's gradient. -/
def sg (g : ℝ) : ℝ := 1 / (1 + Real.exp (-g))
def lft (d g u : ℝ) : ℝ := d * u * (sg g * (1 + g * (1 - sg g)))
def rgt (d g : ℝ) : ℝ := d * (g * sg g)
theorem den_ne (g : ℝ) : 1 + Real.exp (-g) ≠ 0 := by positivity
theorem sg_tanh (g : ℝ) : 1 / 2 + 1 / 2 * Real.tanh (1 / 2 * g) = sg g := by
  have h2 : Real.exp (-g) = Real.exp (-(1 / 2 * g)) * Real.exp (-(1 / 2 * g)) := by rw [← Real.exp_add]; ring_nf
  have h3 : Real.exp (1 / 2 * g) * Real.exp (-(1 / 2 * g)) = 1 := by rw [← Real.exp_add]; simp
  have hp := Real.exp_pos (1 / 2 * g)
  have hq := Real.exp_pos (-(1 / 2 * g))
  unfold sg
  rw [Real.tanh_eq_sinh_div_cosh, Real.sinh_eq, Real.cosh_eq, h2, div_div_div_cancel_right₀ (by norm_num)]
  revert h3 hp hq
  generalize Real.exp (1 / 2 * g) = p
  generalize Real.exp (-(1 / 2 * g)) = q
  intro h3 hp hq
  have hd : p + q ≠ 0 := by positivity
  have hd2 : 1 + q * q ≠ 0 := by positivity
  rw [show (1 / 2 + 1 / 2 * ((p - q) / (p + q)) : ℝ) = p / (p + q) by field_simp; ring, div_eq_div_iff hd hd2]
  linear_combination q * h3
/-- The kernel's form of the logistic function is the plain program's, of every number, finite or not. -/
theorem sg_any (g : EReal) : ((1 / 2 : ℝ) : EReal) + ((1 / 2 : ℝ) : EReal) * Ideal.tanh (((1 / 2 : ℝ) : EReal) * g) = Ideal.div 1 (1 + Ideal.exp (-g)) := by
  induction g with
  | bot =>
    rw [EReal.coe_mul_bot_of_pos (by norm_num)]
    simp only [EReal.neg_bot, Ideal.exp_top, Ideal.tanh_bot, ← EReal.coe_one, EReal.coe_add_top, ← EReal.coe_neg, ← EReal.coe_mul, ← EReal.coe_add]
    simp [Ideal.div]
  | top =>
    rw [EReal.coe_mul_top_of_pos (by norm_num)]
    simp only [EReal.neg_top, Ideal.exp_bot, Ideal.tanh_top, add_zero, ← EReal.coe_one, ← EReal.coe_mul, ← EReal.coe_add, Ideal.div_coe (show (1 : ℝ) ≠ 0 by norm_num)]
    exact congrArg Real.toEReal (by norm_num)
  | coe r =>
    simp only [← EReal.coe_neg, Ideal.exp_coe, ← EReal.coe_mul, Ideal.tanh_coe, ← EReal.coe_one, ← EReal.coe_add, Ideal.div_coe (den_ne r)]
    exact congrArg Real.toEReal ((sg_tanh r).trans (one_mul _).symm)
/-- A normed row, its product with a matrix of rows, and the gated unit of that product. -/
def nrm (x g : Fin 1024 → EReal) (l : Fin 1024) : EReal := x l * rE x * g l
def gu (x g : Fin 1024 → EReal) (w : Fin 5632 → Fin 1024 → EReal) (j : Fin 5632) : EReal := ∑ l, nrm x g l * w j l
def act (x g : Fin 1024 → EReal) (w : Fin 5632 → Fin 1024 → EReal) (j : Fin 2816) : EReal :=
  gu x g w ⟨j.val, by omega⟩ * Ideal.div 1 (1 + Ideal.exp (-gu x g w ⟨j.val, by omega⟩)) * gu x g w ⟨2816 + j.val, by omega⟩
end Cert.Ffn

end
-- ==== Proof.DownDxVal.lean ====
module
public import proofs.«01_k».proof.Defs
public import proofs.«01_k».proof.Proof.Gen.DownDxIdeal.Value
public import proofs.«01_k».proof.Proof.Gen.DownDxRefIdeal.Run
public import proofs.«01_k».proof.Proof.FinPre
public import proofs.«01_k».proof.Proof.Ffn
public import Idealize.ShloMosaic.Lib.Claim
public import Idealize.ShloMosaic.Lib.Pointwise
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)

namespace Cert.DownDxIdeal.Ffn
open Cert.DownDxIdeal Cert.DownDxIdeal.Gen Cert.Ffn Cert.S5
variable (m : (ℓ : Loc nD τ sig) → Buf (Elt Ideal) ℓ)
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 1] := (by decide +kernel : ∀ t : Fin grid0.N, _)
theorem idx4 : ∀ t : Fin cfg0.N, win0_4.index t = ![t.val, 0] := (by decide +kernel : ∀ t : Fin grid0.N, _)
theorem tlt (t : Fin cfg0.N) : t.val < 16 := t.isLt
theorem blk0 (c : Dev nD) (t : Fin cfg0.N) (r : Fin 256) (k : Fin 1024) :
    iblk m c 0 t (ix2 r k) = V m c main_arg0 (ix2 ⟨256 * t.val + r.val, by have := tlt t; omega⟩ k) := by
  blk_ext [iblk, V, idx0 t]
theorem blk1 (c : Dev nD) (t : Fin cfg0.N) (j : Fin 2816) (k : Fin 1024) :
    iblk m c 1 t (ix2 j k) = V m c main_arg1 (ix2 j k) := by
  blk_ext [iblk, V, idx1 t]
theorem blk2 (c : Dev nD) (t : Fin cfg0.N) (r : Fin 256) (j : Fin 2816) :
    iblk m c 2 t (ix2 r j) = V m c main_arg2 (ix2 ⟨256 * t.val + r.val, by have := tlt t; omega⟩ ⟨j.val, by omega⟩) := by
  blk_ext [iblk, V, idx2 t]
theorem blk3 (c : Dev nD) (t : Fin cfg0.N) (r : Fin 256) (j : Fin 2816) :
    iblk m c 3 t (ix2 r j) = V m c main_arg2 (ix2 ⟨256 * t.val + r.val, by have := tlt t; omega⟩ ⟨2816 + j.val, by omega⟩) := by
  blk_ext [iblk, V, idx3 t]
section pay
variable (x : Vec Ideal S256x1024 .bf16) (y : Vec Ideal S2816x1024 .bf16) (g u : Vec Ideal S256x2816 .bf16) (r : Fin 256) (j : Fin 2816)
  (f w : Fin 1024 → ℝ) (gr ur : ℝ) (hx : ∀ k, x (ix2 r k) = ((f k : ℝ) : EReal)) (hy : ∀ k, y (ix2 j k) = ((w k : ℝ) : EReal))
  (hg : g (ix2 r j) = ((gr : ℝ) : EReal)) (hu : u (ix2 r j) = ((ur : ℝ) : EReal))
include hx hy
theorem pay1_at : k0_pay1 (F := Ideal) x y (ix2 r j) = (((∑ k, f k * w k) * (1 / 2) : ℝ) : EReal) := by
  have e : k0_pay1 (F := Ideal) x y (ix2 r j) = (∑ k : Fin 1024, x (ix2 r k) * y (ix2 j k)) * Ideal.ofBits .f32 0x3F000000#32 := by
    pointwise [k0_pay1]
  rw [e, half_val, EReal.coe_mul, coe_sum]
  refine congrArg (· * _) (Finset.sum_congr rfl fun k _ => by rw [hx, hy, EReal.coe_mul])
omit hx hy
include hg
theorem pay3_at : k0_pay3 (F := Ideal) g (ix2 r j) = ((sg gr : ℝ) : EReal) := by
  rw [← sg_tanh]
  unfold k0_pay3 k0_pay2
  pointwise! []
  rw [hg, half_val]
  simp only [← EReal.coe_mul, ← EReal.coe_add, Ideal.tanh_coe]
include hx hy hu
theorem pay4_at : k0_pay4 (F := Ideal) x y g u (ix2 r j) = ((lft ((∑ k, f k * w k) * (1 / 2)) gr ur : ℝ) : EReal) := by
  have e : k0_pay4 (F := Ideal) x y g u (ix2 r j) = k0_pay1 (F := Ideal) x y (ix2 r j) * u (ix2 r j) * (k0_pay3 (F := Ideal) g (ix2 r j) * (1 + g (ix2 r j) * (1 - k0_pay3 (F := Ideal) g (ix2 r j)))) := by
    unfold k0_pay4 k0_pay2
    pointwise! []
  rw [e, pay1_at x y r j f w hx hy, pay3_at g r j gr hg, hg, hu]
  simp only [← EReal.coe_one, ← EReal.coe_mul, ← EReal.coe_add, ← EReal.coe_sub]
  rfl
omit hu
theorem pay5_at : k0_pay5 (F := Ideal) x y g (ix2 r j) = ((rgt ((∑ k, f k * w k) * (1 / 2)) gr : ℝ) : EReal) := by
  have e : k0_pay5 (F := Ideal) x y g (ix2 r j) = k0_pay1 (F := Ideal) x y (ix2 r j) * (g (ix2 r j) * k0_pay3 (F := Ideal) g (ix2 r j)) := by
    unfold k0_pay5 k0_pay2
    pointwise! []
  rw [e, pay1_at x y r j f w hx hy, pay3_at g r j gr hg, hg]
  simp only [← EReal.coe_mul]
  rfl
end pay
end Cert.DownDxIdeal.Ffn

namespace Cert.DownDxRefIdeal.Ffn
open Cert.DownDxRefIdeal Cert.DownDxRefIdeal.Gen Cert.Ffn Cert.S5
/-- The plain program's result. -/
def grad (a : Vec Ideal S4096x1024 .bf16) (b : Vec Ideal S2816x1024 .bf16) (c : Vec Ideal S4096x5632 .bf16) : Vec Ideal S4096x5632 .bf16 :=
  (truncf (F := Ideal) .bf16 (concatenate S4096x5632 1 [⟨S4096x2816, (addf (mulf (mulf (Host.dotGeneral dot_S4096x1024_S2816x1024_S4096x2816_1_1_0_0_n_n none (mulf (broadcastInDim S4096x1024 ![] bcast_S_S4096x1024 (constant S_ .f32 0x3F000000#32)) (extf .f32 a bitsLt_bf16_f32)) (extf .f32 b bitsLt_bf16_f32)) (extractStridedSlice S4096x2816 ![0, 2816] (extf .f32 c bitsLt_bf16_f32) slices_S4096x5632_S4096x2816_0_2816)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extractStridedSlice S4096x2816 ![0, 0] (extf .f32 c bitsLt_bf16_f32) slices_S4096x5632_S4096x2816_0_0)))))) (mulf (mulf (extractStridedSlice S4096x2816 ![0, 0] (extf .f32 c bitsLt_bf16_f32) slices_S4096x5632_S4096x2816_0_0) (mulf (Host.dotGeneral dot_S4096x1024_S2816x1024_S4096x2816_1_1_0_0_n_n none (mulf (broadcastInDim S4096x1024 ![] bcast_S_S4096x1024 (constant S_ .f32 0x3F000000#32)) (extf .f32 a bitsLt_bf16_f32)) (extf .f32 b bitsLt_bf16_f32)) (extractStridedSlice S4096x2816 ![0, 2816] (extf .f32 c bitsLt_bf16_f32) slices_S4096x5632_S4096x2816_0_2816))) (mulf (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extractStridedSlice S4096x2816 ![0, 0] (extf .f32 c bitsLt_bf16_f32) slices_S4096x5632_S4096x2816_0_0))))) (subf (broadcastInDim S4096x2816 ![] bcast_S_S4096x2816 (constant S_ .f32 0x3F800000#32)) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extractStridedSlice S4096x2816 ![0, 0] (extf .f32 c bitsLt_bf16_f32) slices_S4096x5632_S4096x2816_0_0)))))))))⟩, ⟨S4096x2816, (mulf (mulf (extractStridedSlice S4096x2816 ![0, 0] (extf .f32 c bitsLt_bf16_f32) slices_S4096x5632_S4096x2816_0_0) (Host.divf (broadcastInDim S4096x2816 ![] bcast_S_S4096x2816 (constant S_ .f32 0x3F800000#32)) (addf (broadcastInDim S4096x2816 ![] bcast_S_S4096x2816 (constant S_ .f32 0x3F800000#32)) (Host.exp (Host.negf (extractStridedSlice S4096x2816 ![0, 0] (extf .f32 c bitsLt_bf16_f32) slices_S4096x5632_S4096x2816_0_0)))))) (Host.dotGeneral dot_S4096x1024_S2816x1024_S4096x2816_1_1_0_0_n_n none (mulf (broadcastInDim S4096x1024 ![] bcast_S_S4096x1024 (constant S_ .f32 0x3F000000#32)) (extf .f32 a bitsLt_bf16_f32)) (extf .f32 b bitsLt_bf16_f32)))⟩] concatenates_S4096x2816_S4096x2816_S4096x5632_d1) bitsLt_bf16_f32)
section
variable (a : Vec Ideal S4096x1024 .bf16) (b : Vec Ideal S2816x1024 .bf16) (c : Vec Ideal S4096x5632 .bf16) (i : Fin 4096) (j : Fin 2816)
  (f w : Fin 1024 → ℝ) (gr ur : ℝ) (hx : ∀ k, a (ix2 i k) = ((f k : ℝ) : EReal)) (hy : ∀ k, b (ix2 j k) = ((w k : ℝ) : EReal))
  (hg : c (ix2 i ⟨j.val, by omega⟩) = ((gr : ℝ) : EReal)) (hu : c (ix2 i ⟨2816 + j.val, by omega⟩) = ((ur : ℝ) : EReal))
include hx hy
theorem half_sum : ∑ k : Fin 1024, ((1 / 2 : ℝ) : EReal) * a (ix2 i k) * b (ix2 j k) = (((∑ k, f k * w k) * (1 / 2) : ℝ) : EReal) := by
  rw [Finset.sum_mul, coe_sum]
  refine Finset.sum_congr rfl fun k _ => ?_
  rw [hx, hy, ← EReal.coe_mul, ← EReal.coe_mul]
  exact congrArg Real.toEReal (by ring)
include hg
theorem right_at : grad a b c (ix2 i ⟨2816 + j.val, by omega⟩) = ((rgt ((∑ k, f k * w k) * (1 / 2)) gr : ℝ) : EReal) := by
  unfold grad
  pointwise! []
  simp only [half_val]
  rw [half_sum a b i j f w hx hy, hg]
  simp only [← EReal.coe_neg, Ideal.exp_coe, ← EReal.coe_one, ← EReal.coe_add, Ideal.div_coe (den_ne gr), ← EReal.coe_mul, ← EReal.coe_sub]
  refine congrArg Real.toEReal ?_
  unfold rgt sg
  ring
include hu
theorem left_at : grad a b c (ix2 i ⟨j.val, by omega⟩) = ((lft ((∑ k, f k * w k) * (1 / 2)) gr ur : ℝ) : EReal) := by
  unfold grad
  pointwise! []
  simp only [half_val]
  rw [half_sum a b i j f w hx hy, hg, hu]
  simp only [← EReal.coe_neg, Ideal.exp_coe, ← EReal.coe_one, ← EReal.coe_add, Ideal.div_coe (den_ne gr), ← EReal.coe_mul, ← EReal.coe_sub]
  refine congrArg Real.toEReal ?_
  unfold lft sg
  ring
end
end Cert.DownDxRefIdeal.Ffn

namespace Cert.DownDxIdeal.Ffn
open Cert.DownDxIdeal Cert.DownDxIdeal.Gen Cert.Ffn Cert.S5
/-- The result of real arguments: the gate's gradient in the left half, the other factor's in the right. -/
def val (a : Vec Ideal S4096x1024 .bf16) (b : Vec Ideal S2816x1024 .bf16) (c : Vec Ideal S4096x5632 .bf16) : Vec Ideal S4096x5632 .bf16 :=
  fun i => if h : (i 1).val < 2816 then
      ((lft ((∑ k : Fin 1024, (a (ix2 (i 0) k)).toReal * (b (ix2 ⟨(i 1).val, h⟩ k)).toReal) * (1 / 2)) (c (ix2 (i 0) ⟨(i 1).val, by omega⟩)).toReal (c (ix2 (i 0) ⟨2816 + (i 1).val, by omega⟩)).toReal : ℝ) : EReal)
    else ((rgt ((∑ k : Fin 1024, (a (ix2 (i 0) k)).toReal * (b (ix2 ⟨(i 1).val - 2816, by have h1 : (i 1).val < 5632 := (i 1).isLt; omega⟩ k)).toReal) * (1 / 2)) (c (ix2 (i 0) ⟨(i 1).val - 2816, by have h1 : (i 1).val < 5632 := (i 1).isLt; omega⟩)).toReal : ℝ) : EReal)
section
variable (a : Vec Ideal S4096x1024 .bf16) (b : Vec Ideal S2816x1024 .bf16) (c : Vec Ideal S4096x5632 .bf16) (i : Fin 4096) (j : Fin 2816)
theorem val_left : val a b c (ix2 i ⟨j.val, by omega⟩) =
    ((lft ((∑ k : Fin 1024, (a (ix2 i k)).toReal * (b (ix2 j k)).toReal) * (1 / 2)) (c (ix2 i ⟨j.val, by omega⟩)).toReal (c (ix2 i ⟨2816 + j.val, by omega⟩)).toReal : ℝ) : EReal) :=
  dif_pos (show j.val < 2816 from j.isLt)
theorem val_right : val a b c (ix2 i ⟨2816 + j.val, by omega⟩) =
    ((rgt ((∑ k : Fin 1024, (a (ix2 i k)).toReal * (b (ix2 j k)).toReal) * (1 / 2)) (c (ix2 i ⟨j.val, by omega⟩)).toReal : ℝ) : EReal) := by
  refine (dif_neg (show ¬ 2816 + j.val < 2816 by omega)).trans ?_
  have e : 2816 + j.val - 2816 = j.val := by omega
  have e1 : (⟨2816 + j.val - 2816, by omega⟩ : Fin 2816) = j := Fin.ext e
  have e2 : (⟨2816 + j.val - 2816, by omega⟩ : Fin 5632) = ⟨j.val, by omega⟩ := Fin.ext e
  show ((rgt ((∑ k : Fin 1024, (a (ix2 i k)).toReal * (b (ix2 (⟨2816 + j.val - 2816, by omega⟩ : Fin 2816) k)).toReal) * (1 / 2)) (c (ix2 i (⟨2816 + j.val - 2816, by omega⟩ : Fin 5632))).toReal : ℝ) : EReal) = _
  rw [e1, e2]
end
section
variable (x0 : Vec Ideal S256x1024 .bf16) (x1 : Vec Ideal S2816x1024 .bf16) (x2 x3 : Vec Ideal S256x2816 .bf16) (r : Fin 256) (j : Fin 2816)
theorem out_right : out0_4 x0 x1 x2 x3 (ix2 r ⟨2816 + j.val, by omega⟩) = k0_pay5 x0 x1 x2 (ix2 r j) := by
  frame_out
  refine View.canon_eq_of_allAt _ _ _ (cover0_4 _ _ _) (View.allAt_cons_unit _ _ _ _ _ ?_ (View.allAt_cons_unit _ _ _ _ _ ?_ (View.allAt_nil _ _)))
  · intro x hx
    have h0 : r.val = 0 + (x 0).val := hx 0
    have h1 : 2816 + j.val = 2816 + (x 1).val := hx 1
    exact congrArg _ (funext (Fin.forall_fin_two.mpr ⟨Fin.ext (by show (x 0).val = r.val; omega), Fin.ext (by show (x 1).val = j.val; omega)⟩))
  · intro x hx
    have h1 : 2816 + j.val = 0 + (x 1).val := hx 1
    have h2 : (x 1).val < 2816 := (x 1).isLt
    omega
theorem out_left : out0_4 x0 x1 x2 x3 (ix2 r ⟨j.val, by omega⟩) = k0_pay4 x0 x1 x2 x3 (ix2 r j) := by
  frame_out
  refine View.canon_eq_of_allAt _ _ _ (cover0_4 _ _ _) (View.allAt_cons_unit _ _ _ _ _ ?_ (View.allAt_cons_unit _ _ _ _ _ ?_ (View.allAt_nil _ _)))
  · intro x hx
    have h1 : j.val = 2816 + (x 1).val := hx 1
    omega
  · intro x hx
    have h0 : r.val = 0 + (x 0).val := hx 0
    have h1 : j.val = 0 + (x 1).val := hx 1
    exact congrArg _ (funext (Fin.forall_fin_two.mpr ⟨Fin.ext (by show (x 0).val = r.val; omega), Fin.ext (by show (x 1).val = j.val; omega)⟩))
end
variable (m : (ℓ : Loc nD τ sig) → Buf (Elt Ideal) ℓ) (c : Dev nD)
  (ha : ∀ i, (m ((c.tc : Thread nD τ).loc main_arg0)) i = ((((m ((c.tc : Thread nD τ).loc main_arg0)) i).toReal : ℝ) : EReal))
  (hb : ∀ i, (m ((c.tc : Thread nD τ).loc main_arg1)) i = ((((m ((c.tc : Thread nD τ).loc main_arg1)) i).toReal : ℝ) : EReal))
  (hc : ∀ i, (m ((c.tc : Thread nD τ).loc main_arg2)) i = ((((m ((c.tc : Thread nD τ).loc main_arg2)) i).toReal : ℝ) : EReal))
include ha
theorem rb0 (t : Fin cfg0.N) (r : Fin 256) (k : Fin 1024) : iblk m c 0 t (ix2 r k) = ((((m ((c.tc : Thread nD τ).loc main_arg0)) (ix2 ⟨256 * t.val + r.val, by have := tlt t; omega⟩ k)).toReal : ℝ) : EReal) :=
  (blk0 m c t r k).trans ((congrFun (V_main_arg0 m c) _).trans (ha _))
omit ha
include hb
theorem rb1 (t : Fin cfg0.N) (j : Fin 2816) (k : Fin 1024) : iblk m c 1 t (ix2 j k) = ((((m ((c.tc : Thread nD τ).loc main_arg1)) (ix2 j k)).toReal : ℝ) : EReal) :=
  (blk1 m c t j k).trans ((congrFun (V_main_arg1 m c) _).trans (hb _))
omit hb
include hc
theorem rb2 (t : Fin cfg0.N) (r : Fin 256) (j : Fin 2816) : iblk m c 2 t (ix2 r j) = ((((m ((c.tc : Thread nD τ).loc main_arg2)) (ix2 ⟨256 * t.val + r.val, by have := tlt t; omega⟩ ⟨j.val, by omega⟩)).toReal : ℝ) : EReal) :=
  (blk2 m c t r j).trans ((congrFun (V_main_arg2 m c) _).trans (hc _))
theorem rb3 (t : Fin cfg0.N) (r : Fin 256) (j : Fin 2816) : iblk m c 3 t (ix2 r j) = ((((m ((c.tc : Thread nD τ).loc main_arg2)) (ix2 ⟨256 * t.val + r.val, by have := tlt t; omega⟩ ⟨2816 + j.val, by omega⟩)).toReal : ℝ) : EReal) :=
  (blk3 m c t r j).trans ((congrFun (V_main_arg2 m c) _).trans (hc _))
include ha hb
theorem at_left (t : Fin cfg0.N) (r : Fin 256) (j : Fin 2816) : out0_4 (iblk m c 0 t) (iblk m c 1 t) (iblk m c 2 t) (iblk m c 3 t) (ix2 r ⟨j.val, by omega⟩) = val (m ((c.tc : Thread nD τ).loc main_arg0)) (m ((c.tc : Thread nD τ).loc main_arg1)) (m ((c.tc : Thread nD τ).loc main_arg2)) (ix2 ⟨256 * t.val + r.val, by have := tlt t; omega⟩ ⟨j.val, by omega⟩) := by
  have h := out_left (iblk m c 0 t) (iblk m c 1 t) (iblk m c 2 t) (iblk m c 3 t) r j
  have h' := pay4_at (iblk m c 0 t) (iblk m c 1 t) (iblk m c 2 t) (iblk m c 3 t) r j _ _ _ _ (rb0 m c ha t r) (rb1 m c hb t j) (rb2 m c hc t r j) (rb3 m c hc t r j)
  exact h.trans (h'.trans (val_left _ _ _ _ j).symm)
theorem at_right (t : Fin cfg0.N) (r : Fin 256) (j : Fin 2816) : out0_4 (iblk m c 0 t) (iblk m c 1 t) (iblk m c 2 t) (iblk m c 3 t) (ix2 r ⟨2816 + j.val, by omega⟩) = val (m ((c.tc : Thread nD τ).loc main_arg0)) (m ((c.tc : Thread nD τ).loc main_arg1)) (m ((c.tc : Thread nD τ).loc main_arg2)) (ix2 ⟨256 * t.val + r.val, by have := tlt t; omega⟩ ⟨2816 + j.val, by omega⟩) := by
  have h := out_right (iblk m c 0 t) (iblk m c 1 t) (iblk m c 2 t) (iblk m c 3 t) r j
  have h' := pay5_at (iblk m c 0 t) (iblk m c 1 t) (iblk m c 2 t) r j _ _ _ (rb0 m c ha t r) (rb1 m c hb t j) (rb2 m c hc t r j)
  exact h.trans (h'.trans (val_right _ _ _ _ j).symm)
theorem fin4 : (dats m 0 c).arrAt 4 cfg0.N = val (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  obtain ⟨r, l, rfl⟩ : ∃ (r : Fin 256) (l : Fin 5632), y = ix2 r l := ⟨y 0, y 1, funext (Fin.forall_fin_two.mpr ⟨rfl, rfl⟩)⟩
  have e : ((cfg0.win 4).blk t).view.emb (ix2 r l) = (ix2 ⟨256 * t.val + r.val, by have := tlt t; omega⟩ l : S4096x5632.Idx) := by
    funext a
    apply Fin.ext
    revert a
    refine Fin.forall_fin_two.mpr ⟨?_, ?_⟩
    · blk_simp
      rw [idx4 t]
      show t.val * 256 + r.val = 256 * t.val + r.val
      omega
    · blk_simp
      rw [idx4 t]
      show 0 * 5632 + l.val = l.val
      omega
  refine Eq.trans ?_ (congrArg (val (m ((c.tc : Thread nD τ).loc main_arg0)) (m ((c.tc : Thread nD τ).loc main_arg1)) (m ((c.tc : Thread nD τ).loc main_arg2))) e).symm
  blk_simp
  rw [after0_4]
  by_cases hj : l.val < 2816
  · exact at_left m c ha hb hc t r ⟨l.val, hj⟩
  · clear e
    obtain ⟨l, hl⟩ := l
    obtain ⟨q, rfl⟩ : ∃ q, l = 2816 + q := ⟨l - 2816, by have : ¬ l < 2816 := hj; omega⟩
    exact at_right m c ha hb hc t r ⟨q, by omega⟩
omit ha hb hc
/-- The kernel and the plain program end with equal results. -/
theorem algebraic : Cert.algebraic_DownDxIdeal_DownDxRefIdeal_pre_finite4 := by
  intro m g m' g' hpre hagree
  have hf := fun c => reals4 _ _ _ (congrFun (hpre c) ix0)
  refine ⟨fun c => val (m ((c.tc : Thread nD τ).loc main_arg0)) (m ((c.tc : Thread nD τ).loc main_arg1)) (m ((c.tc : Thread nD τ).loc main_arg2)), ?_, ?_⟩
  · refine (θ_run defs _ _).mono (fun r h c => ?_) (Value.run_blocks m g)
    exact ⟨(h c).1.trans (fin4 m c (hf c).1 (hf c).2.1 (hf c).2.2), (h c).2⟩
  · refine (θ_run Cert.DownDxRefIdeal.defs _ _).mono (fun r h c => ⟨(h c).1.trans ?_, (h c).2⟩) (Cert.DownDxRefIdeal.Value.run (F := Ideal) m' g')
    rw [(hagree c).1, (hagree c).2.1, (hagree c).2.2]
    funext y
    obtain ⟨i, l, rfl⟩ : ∃ (i : Fin 4096) (l : Fin 5632), y = ix2 i l := ⟨y 0, y 1, funext (Fin.forall_fin_two.mpr ⟨rfl, rfl⟩)⟩
    obtain ⟨l, hl⟩ := l
    by_cases hj : l < 2816
    · exact (Cert.DownDxRefIdeal.Ffn.left_at _ _ _ i ⟨l, hj⟩ _ _ _ _ (fun k => (hf c).1 _) (fun k => (hf c).2.1 _) ((hf c).2.2 _) ((hf c).2.2 _)).trans (val_left _ _ _ i ⟨l, hj⟩).symm
    · obtain ⟨q, rfl⟩ : ∃ q, l = 2816 + q := ⟨l - 2816, by omega⟩
      exact (Cert.DownDxRefIdeal.Ffn.right_at _ _ _ i ⟨q, by omega⟩ _ _ _ (fun k => (hf c).1 _) (fun k => (hf c).2.1 _) ((hf c).2.2 _)).trans (val_right _ _ _ i ⟨q, by omega⟩).symm
end Cert.DownDxIdeal.Ffn

end
-- ==== Proof.Mm.lean ====
module
public import proofs.«01_k».proof.Proof.Ffn
public import Idealize.ShloMosaic.Lib.Pointwise
public import Idealize.ShloMosaic.Lib.Pipeline.ValueKit
@[expose] public section
/-! The three matrix products of the mixers' calls, and indices of matrices by their two coordinates. -/
noncomputable section
open Idealize.ShloMosaic

namespace Cert.Mm
variable {p q r : ℕ}
theorem pair (y : (⟨2, ![p, q]⟩ : Shape).Idx) : ∃ (i : Fin p) (j : Fin q), y = ix2 i j :=
  ⟨y 0, y 1, funext (Fin.forall_fin_two.mpr ⟨rfl, rfl⟩)⟩
theorem pair_eq (y : (⟨2, ![p, q]⟩ : Shape).Idx) (i : Fin p) (j : Fin q) (h0 : (y 0).val = i.val) (h1 : (y 1).val = j.val) : y = ix2 i j :=
  funext (Fin.forall_fin_two.mpr ⟨Fin.ext h0, Fin.ext h1⟩)
/-- The product a b. -/
def nn (a : Vec Ideal ⟨2, ![p, q]⟩ .bf16) (b : Vec Ideal ⟨2, ![q, r]⟩ .bf16) : Vec Ideal ⟨2, ![p, r]⟩ .bf16 :=
  fun i => ∑ k : Fin q, a (ix2 (i 0) k) * b (ix2 k (i 1))
/-- The product of a and the transpose of b. -/
def nt (a : Vec Ideal ⟨2, ![p, q]⟩ .bf16) (b : Vec Ideal ⟨2, ![r, q]⟩ .bf16) : Vec Ideal ⟨2, ![p, r]⟩ .bf16 :=
  fun i => ∑ k : Fin q, a (ix2 (i 0) k) * b (ix2 (i 1) k)
/-- The product of the transpose of a and b. -/
def tn (a : Vec Ideal ⟨2, ![q, p]⟩ .bf16) (b : Vec Ideal ⟨2, ![q, r]⟩ .bf16) : Vec Ideal ⟨2, ![p, r]⟩ .bf16 :=
  fun i => ∑ k : Fin q, a (ix2 k (i 0)) * b (ix2 k (i 1))
section
variable {P R : ℕ} {i : Fin p} {j : Fin r} {i' : Fin P} {j' : Fin R} {e : (⟨2, ![P, R]⟩ : Shape).Idx}
/-- A product of blocks is the whole product at the block's place. -/
theorem nn_block {x : Vec Ideal ⟨2, ![p, q]⟩ .bf16} {y : Vec Ideal ⟨2, ![q, r]⟩ .bf16} {A : Vec Ideal ⟨2, ![P, q]⟩ .bf16} {B : Vec Ideal ⟨2, ![q, R]⟩ .bf16}
    (hx : ∀ k, x (ix2 i k) = A (ix2 i' k)) (hy : ∀ k, y (ix2 k j) = B (ix2 k j')) (he : e = ix2 i' j') : nn x y (ix2 i j) = nn A B e :=
  he ▸ Finset.sum_congr rfl fun k _ => congrArg₂ (· * ·) (hx k) (hy k)
theorem nt_block {x : Vec Ideal ⟨2, ![p, q]⟩ .bf16} {y : Vec Ideal ⟨2, ![r, q]⟩ .bf16} {A : Vec Ideal ⟨2, ![P, q]⟩ .bf16} {B : Vec Ideal ⟨2, ![R, q]⟩ .bf16}
    (hx : ∀ k, x (ix2 i k) = A (ix2 i' k)) (hy : ∀ k, y (ix2 j k) = B (ix2 j' k)) (he : e = ix2 i' j') : nt x y (ix2 i j) = nt A B e :=
  he ▸ Finset.sum_congr rfl fun k _ => congrArg₂ (· * ·) (hx k) (hy k)
theorem tn_block {x : Vec Ideal ⟨2, ![q, p]⟩ .bf16} {y : Vec Ideal ⟨2, ![q, r]⟩ .bf16} {A : Vec Ideal ⟨2, ![q, P]⟩ .bf16} {B : Vec Ideal ⟨2, ![q, R]⟩ .bf16}
    (hx : ∀ k, x (ix2 k i) = A (ix2 k i')) (hy : ∀ k, y (ix2 k j) = B (ix2 k j')) (he : e = ix2 i' j') : tn x y (ix2 i j) = tn A B e :=
  he ▸ Finset.sum_congr rfl fun k _ => congrArg₂ (· * ·) (hx k) (hy k)
/-- The index of a block's entry in its array, from the block's number b on each axis. -/
theorem place {b b' n n' : ℕ} (h0 : (e 0).val = b * n + i.val) (h1 : (e 1).val = b' * n' + j.val) (g0 : i'.val = n * b + i.val) (g1 : j'.val = n' * b' + j.val) : e = ix2 i' j' :=
  pair_eq e i' j' (by rw [h0, g0, Nat.mul_comm]) (by rw [h1, g1, Nat.mul_comm])
theorem place0 {b b' n n' : ℕ} {e : (⟨2, ![P, r]⟩ : Shape).Idx} (h0 : (e 0).val = b * n + i.val) (h1 : (e 1).val = b' * n' + j.val) (g0 : i'.val = n * b + i.val) (g1 : b' = 0) : e = ix2 i' j :=
  place h0 h1 g0 (by simp [g1])
end
/-- The normed rows of an array. -/
def nrms (a : Vec Ideal ⟨2, ![p, 1024]⟩ .f32) (b : Vec Ideal ⟨2, ![1, 1024]⟩ .f32) : Vec Ideal ⟨2, ![p, 1024]⟩ .bf16 :=
  fun i => Ffn.nrm (fun l => a (ix2 (i 0) l)) (fun l => b (ix2 0 l)) (i 1)
theorem nrms_block {P : ℕ} {x : Vec Ideal ⟨2, ![p, 1024]⟩ .f32} {A : Vec Ideal ⟨2, ![P, 1024]⟩ .f32} {b B : Vec Ideal ⟨2, ![1, 1024]⟩ .f32} {i : Fin p} {i' : Fin P} {k : Fin 1024} {e : (⟨2, ![P, 1024]⟩ : Shape).Idx}
    (hx : ∀ l, x (ix2 i l) = A (ix2 i' l)) (hb : ∀ l, b (ix2 0 l) = B (ix2 0 l)) (he : e = ix2 i' k) : nrms x b (ix2 i k) = nrms A B e :=
  he ▸ congrArg₂ (fun x g => Ffn.nrm x g k) (funext hx) (funext hb)
end Cert.Mm

end
-- ==== Proof.Rows.lean ====
module
public import proofs.«01_k».proof.Proof.Mm
@[expose] public section
/-! The gradient of a norm whose rows go into a product: of its input, row by row, and of its scale, over eight blocks of rows. -/
noncomputable section
open Idealize.ShloMosaic

namespace Cert.Rows
open Cert.Ffn Cert.Mm
variable {p : ℕ}
/-- The gradient of the input, from the gradient y at the normed rows, plus s. -/
def gx (y : Vec Ideal ⟨2, ![p, 1024]⟩ .bf16) (x s : Vec Ideal ⟨2, ![p, 1024]⟩ .f32) (g : Vec Ideal ⟨2, ![1, 1024]⟩ .f32) : Vec Ideal ⟨2, ![p, 1024]⟩ .f32 :=
  fun i => dxv (fun l => y (ix2 (i 0) l)) (fun l => x (ix2 (i 0) l)) (fun l => g (ix2 0 l)) (s (ix2 (i 0) (i 1))) (i 1)
def term (y : Vec Ideal ⟨2, ![p, 1024]⟩ .bf16) (x : Vec Ideal ⟨2, ![p, 1024]⟩ .f32) (r : Fin p) (j : Fin 1024) : EReal :=
  y (ix2 r j) * (x (ix2 r j) * rE (fun l => x (ix2 r l)))
/-- The gradient of the scale. -/
def gg (y : Vec Ideal ⟨2, ![p, 1024]⟩ .bf16) (x : Vec Ideal ⟨2, ![p, 1024]⟩ .f32) : Vec Ideal ⟨2, ![1, 1024]⟩ .f32 :=
  fun i => ∑ r, term y x r (i 1)
theorem gx_block {P : ℕ} {y : Vec Ideal ⟨2, ![p, 1024]⟩ .bf16} {x s : Vec Ideal ⟨2, ![p, 1024]⟩ .f32} {g G : Vec Ideal ⟨2, ![1, 1024]⟩ .f32}
    {Y : Vec Ideal ⟨2, ![P, 1024]⟩ .bf16} {X S : Vec Ideal ⟨2, ![P, 1024]⟩ .f32} {i : Fin p} {i' : Fin P} {k : Fin 1024} {e : (⟨2, ![P, 1024]⟩ : Shape).Idx}
    (hy : ∀ l, y (ix2 i l) = Y (ix2 i' l)) (hx : ∀ l, x (ix2 i l) = X (ix2 i' l)) (hs : s (ix2 i k) = S (ix2 i' k)) (hg : ∀ l, g (ix2 0 l) = G (ix2 0 l))
    (he : e = ix2 i' k) : gx y x s g (ix2 i k) = gx Y X S G e := by
  subst he
  show dxv (fun l => y (ix2 i l)) (fun l => x (ix2 i l)) (fun l => g (ix2 0 l)) (s (ix2 i k)) k = dxv (fun l => Y (ix2 i' l)) (fun l => X (ix2 i' l)) (fun l => G (ix2 0 l)) (S (ix2 i' k)) k
  rw [funext hy, funext hx, hs, funext hg]
section
variable (Y : Vec Ideal ⟨2, ![4096, 1024]⟩ .bf16) (X : Vec Ideal ⟨2, ![4096, 1024]⟩ .f32)
/-- What block n of 512 rows adds to the gradient of the scale. -/
def part (n : ℕ) (j : Fin 1024) : EReal := ∑ r : Fin 512, if h : 512 * n + r.val < 4096 then term Y X ⟨512 * n + r.val, h⟩ j else 0
theorem parts_eq (j : Fin 1024) : ∑ n ∈ Finset.range 8, part Y X n j = gg Y X (ix2 0 j) := by
  show _ = ∑ r, term Y X r j
  rw [Finset.sum_range, Fin.sum_univ_tiles 8 512 rfl]
  refine Finset.sum_congr rfl fun t _ => Finset.sum_congr rfl fun r _ => ?_
  rw [dif_pos (show 512 * t.val + r.val < 4096 by omega)]
  exact congrArg (fun r => term Y X r j) (Fin.ext (by show 512 * t.val + r.val = t.val * 512 + r.val; omega))
theorem gg_block {y : Vec Ideal ⟨2, ![512, 1024]⟩ .bf16} {x : Vec Ideal ⟨2, ![512, 1024]⟩ .f32} (n : ℕ) (hn : n < 8) (j : Fin 1024)
    (hy : ∀ (r : Fin 512) l, y (ix2 r l) = Y (ix2 ⟨512 * n + r.val, by omega⟩ l)) (hx : ∀ (r : Fin 512) l, x (ix2 r l) = X (ix2 ⟨512 * n + r.val, by omega⟩ l)) :
    gg y x (ix2 0 j) = part Y X n j := by
  show ∑ r, term y x r j = _
  refine Finset.sum_congr rfl fun r _ => ?_
  rw [dif_pos (show 512 * n + r.val < 4096 by omega)]
  unfold term
  rw [hy, hx, funext (hx r)]
/-- An accumulator that starts with the first block's part and adds one block's part at each step ends with the gradient of the scale. -/
theorem gg_acc (j : Fin 1024) (f : (n : ℕ) → n < 8 → EReal) (h0 : ∀ h, f 0 h = part Y X 0 j) (hs : ∀ n h, f (n + 1) h = f n (Nat.lt_of_succ_lt h) + part Y X (n + 1) j) :
    f 7 (by omega) = gg Y X (ix2 0 j) := by
  have a : ∀ n h, f n h = ∑ k ∈ Finset.range (n + 1), part Y X k j := by
    intro n
    induction n with
    | zero => intro h; rw [h0, Finset.sum_range_one]
    | succ n ih => intro h; rw [hs, ih, Finset.sum_range_succ _ (n + 1)]
  rw [a, parts_eq]
end
end Cert.Rows

end
-- ==== Proof.UpDxVal.lean ====
module
public import proofs.«01_k».proof.Defs
public import proofs.«01_k».proof.Proof.Gen.UpDxIdeal.Value
public import proofs.«01_k».proof.Proof.Gen.UpDxRefIdeal.Run
public import proofs.«01_k».proof.Proof.Rows
@[expose] public section
set_option maxRecDepth 16384
noncomputable section
open Idealize.ShloMosaic Idealize.ShloMosaic.TcCoe Idealize.SL.Sem
open Idealize.ShloMosaic.Pipeline (Dat)

namespace Cert.UpDxIdeal.Mm
open Cert.UpDxIdeal Cert.UpDxIdeal.Gen Cert.Ffn Cert.Mm Cert.Rows
section
variable (a : Vec Ideal S512x5632 .bf16) (w : Vec Ideal S5632x1024 .bf16) (x s : Vec Ideal S512x1024 .f32) (g : Vec Ideal S1x1024 .f32) (r : Fin 512) (j : Fin 1024)
theorem pay3_at : k0_pay3 (F := Ideal) a w (ix2 r j) = nn a w (ix2 r j) := by
  unfold nn
  pointwise [k0_pay3]
theorem pay4_at : k0_pay4 (F := Ideal) x (ix2 r 0) = rE (fun l => x (ix2 r l)) := by
  unfold k0_pay4
  pointwise! []
  rw [tiny_val, k_val]
  rfl
theorem pay5_at : k0_pay5 (F := Ideal) x (ix2 r j) = x (ix2 r j) * rE (fun l => x (ix2 r l)) := by
  rw [← pay4_at]
  unfold k0_pay5
  pointwise! []
theorem pay6_at : k0_pay6 (F := Ideal) a w x (ix2 0 j) = gg (nn a w) x (ix2 0 j) := by
  show _ = ∑ r, nn a w (ix2 r j) * (x (ix2 r j) * rE (fun l => x (ix2 r l)))
  unfold k0_pay6
  pointwise! []
  simp only [pay3_at, pay5_at]
theorem pay7_at : k0_pay7 (F := Ideal) a w x s g (ix2 r j) = gx (nn a w) x s g (ix2 r j) := by
  show _ = dxv (fun l => nn a w (ix2 r l)) (fun l => x (ix2 r l)) (fun l => g (ix2 0 l)) (s (ix2 r j)) j
  unfold dxv
  simp only [← pay3_at, ← pay5_at, ← k_val]
  rw [← pay4_at]
  unfold k0_pay7
  pointwise! []
theorem pay8_at : k0_pay8 (F := Ideal) a w x s g (ix2 r j) = gx (nn a w) x s g (ix2 r j) := by
  rw [← pay7_at]
  unfold k0_pay8
  pointwise! []
theorem pay1_at : k0_pay1 (F := Ideal) (ix2 0 j) = 0 := by
  unfold k0_pay1
  pointwise! []
theorem pay2_at (a b : Vec Ideal S1x1024 .f32) : k0_pay2 (F := Ideal) a b (ix2 0 j) = b (ix2 0 j) + a (ix2 0 j) := by
  unfold k0_pay2
  pointwise! []
end
variable (m : (ℓ : Loc nD τ sig) → Buf (Elt Ideal) ℓ) (c : Dev nD) (t : Fin cfg0.N) (r : Fin 512) (j : Fin 1024)
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, 0] := (by decide +kernel : ∀ t : Fin grid0.N, _)
theorem tlt : t.val < 8 := t.isLt
theorem blk0 (k : Fin 5632) : iblk m c 0 t (ix2 r k) = V m c main_arg0 (ix2 ⟨512 * t.val + r.val, by have := tlt t; omega⟩ k) := by
  blk_ext [iblk, V, idx0 t]
theorem blk1 (k : Fin 5632) : iblk m c 1 t (ix2 k j) = V m c main_arg1 (ix2 k j) := by
  blk_ext [iblk, V, idx1 t]
theorem blk2 : iblk m c 2 t (ix2 r j) = V m c main_arg2 (ix2 ⟨512 * t.val + r.val, by have := tlt t; omega⟩ j) := by
  blk_ext [iblk, V, idx2 t]
theorem blk3 : iblk m c 3 t (ix2 r j) = V m c main_arg4 (ix2 ⟨512 * t.val + r.val, by have := tlt t; omega⟩ j) := by
  blk_ext [iblk, V, idx3 t]
theorem blk4 : iblk m c 4 t (ix2 0 j) = V m c main_arg3 (ix2 0 j) := by
  blk_ext [iblk, V, idx4 t]
/-- The gradient at the normed rows. -/
def prod : Vec Ideal ⟨2, ![4096, 1024]⟩ .bf16 :=
  nn (p := 4096) (q := 5632) (r := 1024) (m ((c.tc : Thread nD τ).loc main_arg0)) (m ((c.tc : Thread nD τ).loc main_arg1))
/-- The two gradients. -/
def one : Vec Ideal S4096x1024 .f32 :=
  gx (prod m c) (m ((c.tc : Thread nD τ).loc main_arg2)) (m ((c.tc : Thread nD τ).loc main_arg4)) (m ((c.tc : Thread nD τ).loc main_arg3))
def two : Vec Ideal S1x1024 .f32 := gg (prod m c) (m ((c.tc : Thread nD τ).loc main_arg2))
theorem prod_at : nn (p := 512) (q := 5632) (r := 1024) (iblk m c 0 t) (iblk m c 1 t) (ix2 r j) = prod m c (ix2 ⟨512 * t.val + r.val, by have := tlt t; omega⟩ j) :=
  nn_block (fun k => blk0 m c t r k) (fun k => blk1 m c t j k) rfl
theorem gx_at {e} (he : e = ix2 ⟨512 * t.val + r.val, by have := tlt t; omega⟩ j) :
    gx (nn (p := 512) (q := 5632) (r := 1024) (iblk m c 0 t) (iblk m c 1 t)) (iblk m c 2 t) (iblk m c 3 t) (iblk m c 4 t) (ix2 r j) = one m c e :=
  gx_block (fun l => prod_at m c t r l) (fun l => blk2 m c t r l) (blk3 m c t r j) (fun l => blk4 m c t l) he
theorem out5 : (outsAt0 m c t.val t.isLt).1 (ix2 r j) = k0_pay7 (F := Ideal) (iblk m c 0 t) (iblk m c 1 t) (iblk m c 2 t) (iblk m c 3 t) (iblk m c 4 t) (ix2 r j) := by
  by_cases h : t.val % 8 = 0
  · rw [outsAt0_A m c t h]
    frame_out
  · rw [outsAt0_B m c t h]
    frame_out
theorem out6 : (outsAt0 m c t.val t.isLt).2.1 (ix2 r j) = k0_pay8 (F := Ideal) (iblk m c 0 t) (iblk m c 1 t) (iblk m c 2 t) (iblk m c 3 t) (iblk m c 4 t) (ix2 r j) := by
  by_cases h : t.val % 8 = 0
  · rw [outsAt0_A m c t h]
    frame_out
  · rw [outsAt0_B m c t h]
    frame_out
theorem out7A (h : t.val % 8 = 0) : (outsAt0 m c t.val t.isLt).2.2 (ix2 0 j) = k0_pay2 (F := Ideal) (k0_pay6 (F := Ideal) (iblk m c 0 t) (iblk m c 1 t) (iblk m c 2 t)) (k0_pay1 (F := Ideal)) (ix2 0 j) := by
  rw [outsAt0_A m c t h]
  frame_out
theorem out7B (h : ¬ t.val % 8 = 0) : (outsAt0 m c t.val t.isLt).2.2 (ix2 0 j) = k0_pay2 (F := Ideal) (k0_pay6 (F := Ideal) (iblk m c 0 t) (iblk m c 1 t) (iblk m c 2 t)) (outsAt0 m c (t.val - 1) (Nat.lt_of_le_of_lt (Nat.sub_le _ _) t.isLt)).2.2 (ix2 0 j) := by
  rw [outsAt0_B m c t h]
  frame_out
theorem fin5 : (dats m 0 c).arrAt 5 cfg0.N = one m c := by
  refine (dats m 0 c).arrAt_eq_of_covers 5 _ (by decide +kernel) fun t hf y => ?_
  obtain ⟨r, l, rfl⟩ := pair (p := 512) (q := 1024) y
  rw [after0_5]
  exact (out5 m c t r l).trans ((pay7_at _ _ _ _ _ r l).trans (gx_at m c t r l (place0 (by blk_simp; rw [idx5 t]; rfl) (by blk_simp; rw [idx5 t]) rfl (by rfl))))
theorem fin6 : (dats m 0 c).arrAt 6 cfg0.N = one m c := by
  refine (dats m 0 c).arrAt_eq_of_covers 6 _ (by decide +kernel) fun t hf y => ?_
  obtain ⟨r, l, rfl⟩ := pair (p := 512) (q := 1024) y
  rw [after0_6]
  exact (out6 m c t r l).trans ((pay8_at _ _ _ _ _ r l).trans (gx_at m c t r l (place0 (by blk_simp; rw [idx6 t]; rfl) (by blk_simp; rw [idx6 t]) rfl (by rfl))))
theorem pay6_blk : k0_pay6 (F := Ideal) (iblk m c 0 t) (iblk m c 1 t) (iblk m c 2 t) (ix2 0 j) = part (prod m c) (m ((c.tc : Thread nD τ).loc main_arg2)) t.val j :=
  (pay6_at _ _ _ j).trans (gg_block _ _ t.val (tlt t) j (fun r l => prod_at m c t r l) (fun r l => blk2 m c t r l))
theorem acc7 (ht : t.val = 7) : (outsAt0 m c t.val t.isLt).2.2 (ix2 0 j) = two m c (ix2 0 j) := by
  obtain rfl : t = ⟨7, by decide⟩ := Fin.ext ht
  refine gg_acc (prod m c) (m ((c.tc : Thread nD τ).loc main_arg2)) j (fun n h => (outsAt0 m c n h).2.2 (ix2 0 j)) (fun h => ?_) (fun n h => ?_)
  · refine (out7A m c ⟨0, h⟩ j rfl).trans ((pay2_at j _ _).trans ?_)
    rw [pay1_at, zero_add]
    exact pay6_blk m c ⟨0, h⟩ j
  · refine (out7B m c ⟨n + 1, h⟩ j (show ¬ (n + 1) % 8 = 0 by omega)).trans ((pay2_at j _ _).trans ?_)
    exact congrArg₂ (fun a b : EReal => a + b) rfl (pay6_blk m c ⟨n + 1, h⟩ j)
theorem fin7 : (dats m 0 c).arrAt 7 cfg0.N = two m c := by
  refine (dats m 0 c).arrAt_eq_of_covers 7 _ (by decide +kernel) fun t hf y => ?_
  have ht := (by decide +kernel : ∀ t : Fin cfg0.N, (cfg0.win 7).flush t = true → t.val = 7) t hf
  obtain ⟨r, l, rfl⟩ := pair (p := 1) (q := 1024) y
  obtain rfl : r = 0 := Subsingleton.elim _ _
  rw [after0_7]
  exact (acc7 m c t l ht).trans (congrArg (two m c) (pair_eq _ 0 l (by blk_simp; rw [idx7 t]; rfl) (by blk_simp; rw [idx7 t]; exact Nat.zero_add _)).symm)
end Cert.UpDxIdeal.Mm

namespace Cert.UpDxRefIdeal.Mm
open Cert.UpDxRefIdeal Cert.UpDxRefIdeal.Gen Cert.UpDxRefIdeal.Value Cert.Ffn Cert.Mm Cert.Rows
variable (m : (ℓ : Loc nD τ sig) → Buf (Elt Ideal) ℓ) (c : Dev nD)
theorem ref42_at (i : Fin 4096) (j : Fin 1024) : res_main_v43 (F := Ideal) m c (ix2 i j)
    = dxv (fun l => nn (p := 4096) (q := 5632) (r := 1024) (m ((c.tc : Thread nD τ).loc main_arg0)) (m ((c.tc : Thread nD τ).loc main_arg1)) (ix2 i l)) (fun l => (m ((c.tc : Thread nD τ).loc main_arg2)) (ix2 i l))
      (fun l => (m ((c.tc : Thread nD τ).loc main_arg3)) (ix2 0 l)) ((m ((c.tc : Thread nD τ).loc main_arg4)) (ix2 i j)) j := by
  rw [← row_eq]
  unfold res_main_v43 nn
  pointwise! []
  simp only [tiny_val, k_val, mhalf_val, Finset.univ_unique, Finset.sum_singleton]
  rfl
theorem ref44_at (i : Fin 4096) (j : Fin 1024) : res_main_v45 (F := Ideal) m c (ix2 i j) = res_main_v43 (F := Ideal) m c (ix2 i j) := by
  unfold res_main_v45 res_main_v43
  pointwise! []
end Cert.UpDxRefIdeal.Mm

namespace Cert.UpDxIdeal.Mm
open Cert.UpDxIdeal Cert.UpDxIdeal.Gen Cert.Ffn Cert.Mm Cert.Rows
/-- The kernel and the plain program end with equal results. -/
theorem algebraic : Cert.algebraic_UpDxIdeal_UpDxRefIdeal := by
  intro m g m' g' _ hagree
  refine ⟨fun c => one m c, fun c => one m c, fun c => two m c, ?_, ?_⟩
  · exact (θ_run defs _ _).mono (fun r h c => ⟨(h c).1.trans (fin5 m c), (h c).2.1.trans (fin6 m c), (h c).2.2.1.trans (fin7 m c), (h c).2.2.2⟩) (Value.run_blocks m g)
  · have e : ∀ c i j, Cert.UpDxRefIdeal.Value.res_main_v43 (F := Ideal) m' c (ix2 i j) = one m c (ix2 i j) := by
      intro c i j
      refine (Cert.UpDxRefIdeal.Mm.ref42_at m' c i j).trans ?_
      rw [(hagree c).1, (hagree c).2.1, (hagree c).2.2.1, (hagree c).2.2.2.1, (hagree c).2.2.2.2]
      rfl
    refine (θ_run Cert.UpDxRefIdeal.defs _ _).mono (fun r h c => ⟨(h c).1.trans ?_, (h c).2.1.trans ?_, (h c).2.2.1.trans ?_, (h c).2.2.2⟩) (Cert.UpDxRefIdeal.Value.run (F := Ideal) m' g')
    · funext y
      obtain ⟨i, j, rfl⟩ := pair (p := 4096) (q := 1024) y
      exact e c i j
    · funext y
      obtain ⟨i, j, rfl⟩ := pair (p := 4096) (q := 1024) y
      exact (Cert.UpDxRefIdeal.Mm.ref44_at m' c i j).trans (e c i j)
    · unfold two prod
      rw [(hagree c).1, (hagree c).2.1, (hagree c).2.2.1]
      beta_reduce
      generalize m ((c.tc : Thread nD τ).loc main_arg0) = a0
      generalize m ((c.tc : Thread nD τ).loc main_arg1) = a1
      generalize m ((c.tc : Thread nD τ).loc main_arg2) = a2
      funext y
      obtain ⟨i, j, rfl⟩ := pair (p := 1) (q := 1024) y
      obtain rfl : i = 0 := Subsingleton.elim _ _
      refine Eq.trans ?_ (show (∑ r : Fin 4096, term (nn (p := 4096) (q := 5632) (r := 1024) a0 a1) a2 r j) = _ from rfl)
      unfold term nn
      pointwise! []
      simp only [tiny_val, k_val, Finset.univ_unique, Finset.sum_singleton]
      exact Finset.sum_congr rfl fun r _ => mul_comm _ _
end Cert.UpDxIdeal.Mm

end
-- ==== Proof.UpVal.lean ====
module
public import proofs.«01_k».proof.Defs
public import proofs.«01_k».proof.Proof.Gen.UpIdeal.Value
public import proofs.«01_k».proof.Proof.Gen.UpRefIdeal.Run
public import proofs.«01_k».proof.Proof.Ffn
public import Idealize.ShloMosaic.Lib.Claim
public import Idealize.ShloMosaic.Lib.Pointwise
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)

namespace Cert.UpIdeal.Ffn
open Cert.UpIdeal Cert.UpIdeal.Gen Cert.Ffn Cert.S5
variable (m : (ℓ : Loc nD τ sig) → Buf (Elt Ideal) ℓ)
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem idx5 : ∀ t : Fin cfg0.N, win0_5.index t = ![t.val, 0] := (by decide +kernel : ∀ t : Fin grid0.N, _)
theorem tlt (t : Fin cfg0.N) : t.val < 16 := t.isLt
theorem blk0 (c : Dev nD) (t : Fin cfg0.N) (r : Fin 256) (k : Fin 1024) : iblk m c 0 t (ix2 r k) = (m ((c.tc : Thread nD τ).loc main_arg0)) (ix2 ⟨256 * t.val + r.val, by have := tlt t; omega⟩ k) := by
  refine Eq.trans ?_ (congrFun (V_main_arg0 m c) _)
  blk_ext [iblk, V, idx0 t]
theorem blk1 (c : Dev nD) (t : Fin cfg0.N) (j : Fin 5632) (k : Fin 1024) : iblk m c 1 t (ix2 j k) = (m ((c.tc : Thread nD τ).loc main_arg2)) (ix2 j k) := by
  refine Eq.trans ?_ (congrFun (V_main_arg2 m c) _)
  blk_ext [iblk, V, idx1 t]
theorem blk2 (c : Dev nD) (t : Fin cfg0.N) (r : Fin 1) (k : Fin 1024) : iblk m c 2 t (ix2 r k) = (m ((c.tc : Thread nD τ).loc main_arg1)) (ix2 r k) := by
  refine Eq.trans ?_ (congrFun (V_main_arg1 m c) _)
  blk_ext [iblk, V, idx2 t]
/-- The result arrays: the product of the normed rows, its gated unit, and the normed rows. -/
def one (a : Vec Ideal S4096x1024 .f32) (b : Vec Ideal S1x1024 .f32) (w : Vec Ideal S5632x1024 .bf16) : Vec Ideal S4096x5632 .bf16 := fun i => gu (fun l => a (ix2 (i 0) l)) (fun l => b (ix2 0 l)) (fun j l => w (ix2 j l)) (i 1)
def two (a : Vec Ideal S4096x1024 .f32) (b : Vec Ideal S1x1024 .f32) (w : Vec Ideal S5632x1024 .bf16) : Vec Ideal S4096x2816 .bf16 := fun i => act (fun l => a (ix2 (i 0) l)) (fun l => b (ix2 0 l)) (fun j l => w (ix2 j l)) (i 1)
def three (a : Vec Ideal S4096x1024 .f32) (b : Vec Ideal S1x1024 .f32) : Vec Ideal S4096x1024 .bf16 := fun i => nrm (fun l => a (ix2 (i 0) l)) (fun l => b (ix2 0 l)) (i 1)
section
variable (a : Vec Ideal S256x1024 .f32) (b : Vec Ideal S1x1024 .f32) (w : Vec Ideal S5632x1024 .bf16) (r : Fin 256)
theorem pay1_at (l : Fin 1024) : k0_pay1 (F := Ideal) a b (ix2 r l) = nrm (fun l => a (ix2 r l)) (fun l => b (ix2 0 l)) l := by
  unfold k0_pay1 nrm rE msE
  pointwise! []
  rw [tiny_val, k_val]
theorem pay2_at (j : Fin 5632) : k0_pay2 (F := Ideal) a b w (ix2 r j) = gu (fun l => a (ix2 r l)) (fun l => b (ix2 0 l)) (fun j l => w (ix2 j l)) j := by
  unfold k0_pay2 gu
  pointwise! []
  simp only [pay1_at]
theorem pay3_at (j : Fin 5632) : k0_pay3 (F := Ideal) a b w (ix2 r j) = gu (fun l => a (ix2 r l)) (fun l => b (ix2 0 l)) (fun j l => w (ix2 j l)) j := by
  rw [← pay2_at]
  unfold k0_pay3
  pointwise! []
theorem pay4_at (j : Fin 2816) : k0_pay4 (F := Ideal) a b w (ix2 r j) = act (fun l => a (ix2 r l)) (fun l => b (ix2 0 l)) (fun j l => w (ix2 j l)) j := by
  unfold act
  rw [← sg_any, ← half_val, ← pay2_at, ← pay2_at]
  unfold k0_pay4
  pointwise! []
end
theorem fin3 (c : Dev nD) : (dats m 0 c).arrAt 3 cfg0.N = one (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  obtain ⟨r, l, rfl⟩ : ∃ (r : Fin 256) (l : Fin 5632), y = ix2 r l := ⟨y 0, y 1, funext (Fin.forall_fin_two.mpr ⟨rfl, rfl⟩)⟩
  have e : ((cfg0.win 3).blk t).view.emb (ix2 r l) = (ix2 ⟨256 * t.val + r.val, by have := tlt t; omega⟩ l : S4096x5632.Idx) := by
    funext a
    apply Fin.ext
    revert a
    refine Fin.forall_fin_two.mpr ⟨?_, ?_⟩
    · blk_simp
      rw [idx3 t]
      show t.val * 256 + r.val = 256 * t.val + r.val
      omega
    · blk_simp
      rw [idx3 t]
      show 0 * 5632 + l.val = l.val
      omega
  refine Eq.trans ?_ (congrArg (one (m ((c.tc : Thread nD τ).loc main_arg0)) (m ((c.tc : Thread nD τ).loc main_arg1)) (m ((c.tc : Thread nD τ).loc main_arg2))) e).symm
  rw [after0_3]
  frame_out
  refine (pay3_at _ _ _ r l).trans ?_
  simp only [blk0 m c t, blk1 m c t, blk2 m c t]
  rfl
theorem fin4 (c : Dev nD) : (dats m 0 c).arrAt 4 cfg0.N = two (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  obtain ⟨r, l, rfl⟩ : ∃ (r : Fin 256) (l : Fin 2816), y = ix2 r l := ⟨y 0, y 1, funext (Fin.forall_fin_two.mpr ⟨rfl, rfl⟩)⟩
  have e : ((cfg0.win 4).blk t).view.emb (ix2 r l) = (ix2 ⟨256 * t.val + r.val, by have := tlt t; omega⟩ l : S4096x2816.Idx) := by
    funext a
    apply Fin.ext
    revert a
    refine Fin.forall_fin_two.mpr ⟨?_, ?_⟩
    · blk_simp
      rw [idx4 t]
      show t.val * 256 + r.val = 256 * t.val + r.val
      omega
    · blk_simp
      rw [idx4 t]
      show 0 * 2816 + l.val = l.val
      omega
  refine Eq.trans ?_ (congrArg (two (m ((c.tc : Thread nD τ).loc main_arg0)) (m ((c.tc : Thread nD τ).loc main_arg1)) (m ((c.tc : Thread nD τ).loc main_arg2))) e).symm
  rw [after0_4]
  frame_out
  refine (pay4_at _ _ _ r l).trans ?_
  simp only [blk0 m c t, blk1 m c t, blk2 m c t]
  rfl
theorem fin5 (c : Dev nD) : (dats m 0 c).arrAt 5 cfg0.N = three (m ((c.tc : Thread nD τ).loc main_arg0)) (m ((c.tc : Thread nD τ).loc main_arg1)) := by
  refine (dats m 0 c).arrAt_eq_of_covers 5 _ (by decide +kernel) fun t hf y => ?_
  obtain ⟨r, l, rfl⟩ : ∃ (r : Fin 256) (l : Fin 1024), y = ix2 r l := ⟨y 0, y 1, funext (Fin.forall_fin_two.mpr ⟨rfl, rfl⟩)⟩
  have e : ((cfg0.win 5).blk t).view.emb (ix2 r l) = (ix2 ⟨256 * t.val + r.val, by have := tlt t; omega⟩ l : S4096x1024.Idx) := by
    funext a
    apply Fin.ext
    revert a
    refine Fin.forall_fin_two.mpr ⟨?_, ?_⟩
    · blk_simp
      rw [idx5 t]
      show t.val * 256 + r.val = 256 * t.val + r.val
      omega
    · blk_simp
      rw [idx5 t]
      show 0 * 1024 + l.val = l.val
      omega
  refine Eq.trans ?_ (congrArg (three (m ((c.tc : Thread nD τ).loc main_arg0)) (m ((c.tc : Thread nD τ).loc main_arg1))) e).symm
  rw [after0_5]
  frame_out
  refine (pay1_at _ _ r l).trans ?_
  simp only [blk0 m c t, blk2 m c t]
  rfl
set_option maxHeartbeats 1000000 in
/-- The kernel and the plain program end with equal results. -/
theorem algebraic : Cert.algebraic_UpIdeal_UpRefIdeal := by
  intro m g m' g' _ hagree
  refine ⟨fun c => one (m ((c.tc : Thread nD τ).loc main_arg0)) (m ((c.tc : Thread nD τ).loc main_arg1)) (m ((c.tc : Thread nD τ).loc main_arg2)), fun c => two (m ((c.tc : Thread nD τ).loc main_arg0)) (m ((c.tc : Thread nD τ).loc main_arg1)) (m ((c.tc : Thread nD τ).loc main_arg2)), fun c => three (m ((c.tc : Thread nD τ).loc main_arg0)) (m ((c.tc : Thread nD τ).loc main_arg1)), ?_, ?_⟩
  · refine (θ_run defs _ _).mono (fun r h c => ?_) (Value.run_blocks m g)
    exact ⟨(h c).1.trans (fin3 m c), (h c).2.1.trans (fin4 m c), (h c).2.2.1.trans (fin5 m c), (h c).2.2.2⟩
  · refine (θ_run Cert.UpRefIdeal.defs _ _).mono (fun r h c => ⟨(h c).1.trans ?_, (h c).2.1.trans ?_, (h c).2.2.1.trans ?_, (h c).2.2.2⟩) (Cert.UpRefIdeal.Value.run (F := Ideal) m' g')
    · rw [(hagree c).1, (hagree c).2.1, (hagree c).2.2]
      funext y
      obtain ⟨i, j, rfl⟩ : ∃ (i : Fin 4096) (j : Fin 5632), y = ix2 i j := ⟨y 0, y 1, funext (Fin.forall_fin_two.mpr ⟨rfl, rfl⟩)⟩
      unfold one gu nrm rE msE
      pointwise! []
      simp only [tiny_val, k_val]
      try rfl
    · rw [(hagree c).1, (hagree c).2.1, (hagree c).2.2]
      funext y
      obtain ⟨i, j, rfl⟩ : ∃ (i : Fin 4096) (j : Fin 2816), y = ix2 i j := ⟨y 0, y 1, funext (Fin.forall_fin_two.mpr ⟨rfl, rfl⟩)⟩
      unfold two act gu nrm rE msE
      pointwise! []
      simp only [tiny_val, k_val]
      try rfl
    · rw [(hagree c).1, (hagree c).2.1]
      funext y
      obtain ⟨i, j, rfl⟩ : ∃ (i : Fin 4096) (j : Fin 1024), y = ix2 i j := ⟨y 0, y 1, funext (Fin.forall_fin_two.mpr ⟨rfl, rfl⟩)⟩
      unfold three nrm rE msE
      pointwise! []
      simp only [tiny_val, k_val]
      try rfl
end Cert.UpIdeal.Ffn

end
-- ==== Proof.DownVal.lean ====
module
public import proofs.«01_k».proof.Defs
public import proofs.«01_k».proof.Proof.Gen.DownIdeal.Value
public import proofs.«01_k».proof.Proof.Gen.DownRefIdeal.Run
public import proofs.«01_k».proof.Proof.Ffn
public import Idealize.ShloMosaic.Lib.Claim
public import Idealize.ShloMosaic.Lib.Pointwise
public import Idealize.ShloMosaic.Lib.Pipeline.ValueKit
@[expose] public section
set_option maxRecDepth 16384
noncomputable section
open Idealize.ShloMosaic Idealize.ShloMosaic.TcCoe Idealize.SL.Sem
open Idealize.ShloMosaic.Pipeline (Dat)

namespace Cert.DownIdeal.Ffn
open Cert.DownIdeal Cert.DownIdeal.Gen Cert.Ffn Cert.S5
variable (m : (ℓ : Loc nD τ sig) → Buf (Elt Ideal) ℓ)
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem tlt (t : Fin cfg0.N) : t.val < 8 := t.isLt
theorem blk0 (c : Dev nD) (t : Fin cfg0.N) (r : Fin 512) (k : Fin 2816) : iblk m c 0 t (ix2 r k) = (m ((c.tc : Thread nD τ).loc main_arg0)) (ix2 ⟨512 * t.val + r.val, by have := tlt t; omega⟩ k) := by
  refine Eq.trans ?_ (congrFun (V_main_arg0 m c) _)
  blk_ext [iblk, V, idx0 t]
theorem blk1 (c : Dev nD) (t : Fin cfg0.N) (k : Fin 2816) (j : Fin 1024) : iblk m c 1 t (ix2 k j) = (m ((c.tc : Thread nD τ).loc main_arg1)) (ix2 k j) := by
  refine Eq.trans ?_ (congrFun (V_main_arg1 m c) _)
  blk_ext [iblk, V, idx1 t]
theorem blk2 (c : Dev nD) (t : Fin cfg0.N) (r : Fin 512) (j : Fin 1024) : iblk m c 2 t (ix2 r j) = (m ((c.tc : Thread nD τ).loc main_arg2)) (ix2 ⟨512 * t.val + r.val, by have := tlt t; omega⟩ j) := by
  refine Eq.trans ?_ (congrFun (V_main_arg2 m c) _)
  blk_ext [iblk, V, idx2 t]
/-- The result array: the residual plus half the product. -/
def val (a : Vec Ideal S4096x2816 .bf16) (w : Vec Ideal S2816x1024 .bf16) (x : Vec Ideal S4096x1024 .f32) : Vec Ideal S4096x1024 .f32 :=
  fun i => x (ix2 (i 0) (i 1)) + Ideal.ofBits .f32 0x3F000000#32 * ∑ k : Fin 2816, a (ix2 (i 0) k) * w (ix2 k (i 1))
theorem pay_at (a : Vec Ideal S512x2816 .bf16) (w : Vec Ideal S2816x1024 .bf16) (x : Vec Ideal S512x1024 .f32) (r : Fin 512) (j : Fin 1024) :
    k0_pay1 (F := Ideal) a w x (ix2 r j) = x (ix2 r j) + Ideal.ofBits .f32 0x3F000000#32 * ∑ k : Fin 2816, a (ix2 r k) * w (ix2 k j) := by
  rw [add_comm, mul_comm]
  unfold k0_pay1
  pointwise! []
theorem fin3 (c : Dev nD) : (dats m 0 c).arrAt 3 cfg0.N = val (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  obtain ⟨r, l, rfl⟩ : ∃ (r : Fin 512) (l : Fin 1024), y = ix2 r l := ⟨y 0, y 1, funext (Fin.forall_fin_two.mpr ⟨rfl, rfl⟩)⟩
  have e : ((cfg0.win 3).blk t).view.emb (ix2 r l) = (ix2 ⟨512 * t.val + r.val, by have := tlt t; omega⟩ l : S4096x1024.Idx) := by
    funext a
    apply Fin.ext
    revert a
    refine Fin.forall_fin_two.mpr ⟨?_, ?_⟩
    · blk_simp
      rw [idx3 t]
      show t.val * 512 + r.val = 512 * t.val + r.val
      omega
    · blk_simp
      rw [idx3 t]
      show 0 * 1024 + l.val = l.val
      omega
  refine Eq.trans ?_ (congrArg (val (m ((c.tc : Thread nD τ).loc main_arg0)) (m ((c.tc : Thread nD τ).loc main_arg1)) (m ((c.tc : Thread nD τ).loc main_arg2))) e).symm
  rw [after0_3]
  frame_out
  refine (pay_at _ _ _ r l).trans ?_
  simp only [blk0 m c t, blk1 m c t, blk2 m c t]
  rfl
/-- The kernel and the plain program end with equal results. -/
theorem algebraic : Cert.algebraic_DownIdeal_DownRefIdeal := by
  intro m g m' g' _ hagree
  refine ⟨fun c => val (m ((c.tc : Thread nD τ).loc main_arg0)) (m ((c.tc : Thread nD τ).loc main_arg1)) (m ((c.tc : Thread nD τ).loc main_arg2)), ?_, ?_⟩
  · refine (θ_run defs _ _).mono (fun r h c => ?_) (Value.run_blocks m g)
    exact ⟨(h c).1.trans (fin3 m c), (h c).2⟩
  · refine (θ_run Cert.DownRefIdeal.defs _ _).mono (fun r h c => ⟨(h c).1.trans ?_, (h c).2⟩) (Cert.DownRefIdeal.Value.run (F := Ideal) m' g')
    rw [(hagree c).1, (hagree c).2.1, (hagree c).2.2]
    funext y
    obtain ⟨i, j, rfl⟩ : ∃ (i : Fin 4096) (j : Fin 1024), y = ix2 i j := ⟨y 0, y 1, funext (Fin.forall_fin_two.mpr ⟨rfl, rfl⟩)⟩
    unfold val
    pointwise! []
end Cert.DownIdeal.Ffn

end
-- ==== Proof.ProjVal.lean ====
module
public import proofs.«01_k».proof.Defs
public import proofs.«01_k».proof.Proof.Gen.ProjIdeal.Value
public import proofs.«01_k».proof.Proof.Gen.ProjRefIdeal.Run
public import proofs.«01_k».proof.Proof.Mm
public import Idealize.ShloMosaic.Lib.Claim
@[expose] public section
set_option maxRecDepth 16384
noncomputable section
open Idealize.ShloMosaic Idealize.ShloMosaic.TcCoe Idealize.SL.Sem
open Idealize.ShloMosaic.Pipeline (Dat)

namespace Cert.ProjIdeal.Mm
open Cert.ProjIdeal Cert.ProjIdeal.Gen Cert.Mm
variable (m : (ℓ : Loc nD τ sig) → Buf (Elt Ideal) ℓ) (c : Dev nD) (t : Fin cfg0.N)
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem tlt : t.val < 8 := t.isLt
theorem blk0 (r : Fin 512) (k : Fin 1024) : iblk m c 0 t (ix2 r k) = V m c main_arg0 (ix2 ⟨512 * t.val + r.val, by have := tlt t; omega⟩ k) := by
  blk_ext [iblk, V, idx0 t]
theorem blk1 (k : Fin 1024) (l : Fin 1024) : iblk m c 1 t (ix2 k l) = V m c main_arg1 (ix2 k l) := by
  blk_ext [iblk, V, idx1 t]
theorem blk2 (r : Fin 512) (l : Fin 1024) : iblk m c 2 t (ix2 r l) = V m c main_arg2 (ix2 ⟨512 * t.val + r.val, by have := tlt t; omega⟩ l) := by
  blk_ext [iblk, V, idx2 t]
/-- The result array: the residual plus the product. -/
def val (a : Vec Ideal S4096x1024 .bf16) (w : Vec Ideal S1024x1024 .bf16) (x : Vec Ideal S4096x1024 .f32) : Vec Ideal S4096x1024 .f32 :=
  fun i => x (ix2 (i 0) (i 1)) + nn (p := 4096) (q := 1024) (r := 1024) a w i
theorem pay_at (a : Vec Ideal S512x1024 .bf16) (w : Vec Ideal S1024x1024 .bf16) (x : Vec Ideal S512x1024 .f32) (r : Fin 512) (l : Fin 1024) :
    k0_pay1 (F := Ideal) a w x (ix2 r l) = x (ix2 r l) + nn a w (ix2 r l) := by
  rw [add_comm]
  unfold nn k0_pay1
  pointwise! []
theorem fin3 : (dats m 0 c).arrAt 3 cfg0.N = val (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  obtain ⟨r, l, rfl⟩ := pair (p := 512) (q := 1024) y
  have e : ((cfg0.win 3).blk t).view.emb (ix2 r l) = (ix2 ⟨512 * t.val + r.val, by have := tlt t; omega⟩ l : S4096x1024.Idx) :=
    place0 (by blk_simp; rw [idx3 t]; rfl) (by blk_simp; rw [idx3 t]) rfl (by rfl)
  refine Eq.trans ?_ (congrArg (val (m ((c.tc : Thread nD τ).loc main_arg0)) (m ((c.tc : Thread nD τ).loc main_arg1)) (m ((c.tc : Thread nD τ).loc main_arg2))) e).symm
  rw [after0_3]
  frame_out
  exact (pay_at _ _ _ r l).trans (congrArg₂ (· + ·) (blk2 m c t r l) (nn_block (fun k => blk0 m c t r k) (fun k => blk1 m c t k l) rfl))
/-- The kernel and the plain program end with equal results. -/
theorem algebraic : Cert.algebraic_ProjIdeal_ProjRefIdeal := by
  intro m g m' g' _ hagree
  refine ⟨fun c => val (m ((c.tc : Thread nD τ).loc main_arg0)) (m ((c.tc : Thread nD τ).loc main_arg1)) (m ((c.tc : Thread nD τ).loc main_arg2)), ?_, ?_⟩
  · exact (θ_run defs _ _).mono (fun r h c => ⟨(h c).1.trans (fin3 m c), (h c).2⟩) (Value.run_blocks m g)
  · refine (θ_run Cert.ProjRefIdeal.defs _ _).mono (fun r h c => ⟨(h c).1.trans ?_, (h c).2⟩) (Cert.ProjRefIdeal.Value.run (F := Ideal) m' g')
    rw [(hagree c).1, (hagree c).2.1, (hagree c).2.2]
    funext y
    obtain ⟨i, j, rfl⟩ := pair (p := 4096) (q := 1024) y
    unfold val nn
    pointwise! []
end Cert.ProjIdeal.Mm

end
-- ==== Proof.ProjDxVal.lean ====
module
public import proofs.«01_k».proof.Defs
public import proofs.«01_k».proof.Proof.Gen.ProjDxIdeal.Value
public import proofs.«01_k».proof.Proof.Gen.ProjDxRefIdeal.Run
public import proofs.«01_k».proof.Proof.Mm
@[expose] public section
set_option maxRecDepth 16384
noncomputable section
open Idealize.ShloMosaic Idealize.ShloMosaic.TcCoe Idealize.SL.Sem
open Idealize.ShloMosaic.Pipeline (Dat)

namespace Cert.ProjDxIdeal.Mm
open Cert.ProjDxIdeal Cert.ProjDxIdeal.Gen Cert.Ffn Cert.Mm
variable (m : (ℓ : Loc nD τ sig) → Buf (Elt Ideal) ℓ) (c : Dev nD) (t : Fin cfg0.N)
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem tlt : t.val < 8 := t.isLt
theorem blk0 (r : Fin 512) (k : Fin 1024) : iblk m c 0 t (ix2 r k) = V m c main_arg0 (ix2 ⟨512 * t.val + r.val, by have := tlt t; omega⟩ k) := by
  blk_ext [iblk, V, idx0 t]
theorem blk1 (l k : Fin 1024) : iblk m c 1 t (ix2 l k) = V m c main_arg1 (ix2 l k) := by
  blk_ext [iblk, V, idx1 t]
theorem pay_at (x : Vec Ideal S512x1024 .bf16) (y : Vec Ideal S1024x1024 .bf16) (r : Fin 512) (l : Fin 1024) : k0_pay1 x y (ix2 r l) = nt x y (ix2 r l) := by
  unfold nt
  pointwise [k0_pay1]
theorem fin2 : (dats m 0 c).arrAt 2 cfg0.N = nt (m ((c.tc : Thread nD τ).loc main_arg0)) (m ((c.tc : Thread nD τ).loc main_arg1)) := by
  refine (dats m 0 c).arrAt_eq_of_covers 2 _ (by decide +kernel) fun t hf y => ?_
  obtain ⟨r, l, rfl⟩ := pair (p := 512) (q := 1024) y
  rw [after0_2]
  frame_out
  exact (pay_at _ _ r l).trans (nt_block (fun k => blk0 m c t r k) (fun k => blk1 m c t l k)
    (place0 (by blk_simp; rw [idx2 t]; rfl) (by blk_simp; rw [idx2 t]) rfl (by rfl)))
/-- The kernel and the plain program end with equal results. -/
theorem algebraic : Cert.algebraic_ProjDxIdeal_ProjDxRefIdeal := by
  intro m g m' g' _ hagree
  refine ⟨fun c => nt (m ((c.tc : Thread nD τ).loc main_arg0)) (m ((c.tc : Thread nD τ).loc main_arg1)), ?_, ?_⟩
  · exact (θ_run defs _ _).mono (fun r h c => ⟨(h c).1.trans (fin2 m c), (h c).2⟩) (Value.run_blocks m g)
  · refine (θ_run Cert.ProjDxRefIdeal.defs _ _).mono (fun r h c => ⟨(h c).1.trans ?_, (h c).2⟩) (Cert.ProjDxRefIdeal.Value.run (F := Ideal) m' g')
    rw [(hagree c).1, (hagree c).2]
    funext y
    obtain ⟨i, j, rfl⟩ := pair (p := 4096) (q := 1024) y
    unfold nt
    pointwise! []
end Cert.ProjDxIdeal.Mm

end
-- ==== Proof.ProjDwVal.lean ====
module
public import proofs.«01_k».proof.Defs
public import proofs.«01_k».proof.Proof.Gen.ProjDwIdeal.Value
public import proofs.«01_k».proof.Proof.Gen.ProjDwRefIdeal.Run
public import proofs.«01_k».proof.Proof.Mm
@[expose] public section
set_option maxRecDepth 16384
noncomputable section
open Idealize.ShloMosaic Idealize.ShloMosaic.TcCoe Idealize.SL.Sem
open Idealize.ShloMosaic.Pipeline (Dat)

namespace Cert.ProjDwIdeal.Mm
open Cert.ProjDwIdeal Cert.ProjDwIdeal.Gen Cert.Ffn Cert.Mm
variable (m : (ℓ : Loc nD τ sig) → Buf (Elt Ideal) ℓ) (c : Dev nD) (t : Fin cfg0.N)
theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem tlt : t.val < 2 := t.isLt
theorem blk0 (k : Fin 4096) (r : Fin 512) : iblk m c 0 t (ix2 k r) = V m c main_arg0 (ix2 k ⟨512 * t.val + r.val, by have := tlt t; omega⟩) := by
  blk_ext [iblk, V, idx0 t]
theorem blk1 (k : Fin 4096) (l : Fin 1024) : iblk m c 1 t (ix2 k l) = V m c main_arg1 (ix2 k l) := by
  blk_ext [iblk, V, idx1 t]
theorem pay_at (x : Vec Ideal S4096x512 .bf16) (y : Vec Ideal S4096x1024 .bf16) (r : Fin 512) (l : Fin 1024) : k0_pay1 x y (ix2 r l) = tn x y (ix2 r l) := by
  unfold tn
  pointwise [k0_pay1]
theorem fin2 : (dats m 0 c).arrAt 2 cfg0.N = tn (m ((c.tc : Thread nD τ).loc main_arg0)) (m ((c.tc : Thread nD τ).loc main_arg1)) := by
  refine (dats m 0 c).arrAt_eq_of_covers 2 _ (by decide +kernel) fun t hf y => ?_
  obtain ⟨r, l, rfl⟩ := pair (p := 512) (q := 1024) y
  rw [after0_2]
  frame_out
  exact (pay_at _ _ r l).trans (tn_block (fun k => blk0 m c t k r) (fun k => blk1 m c t k l)
    (place0 (by blk_simp; rw [idx2 t]; rfl) (by blk_simp; rw [idx2 t]) rfl (by rfl)))
/-- The kernel and the plain program end with equal results. -/
theorem algebraic : Cert.algebraic_ProjDwIdeal_ProjDwRefIdeal := by
  intro m g m' g' _ hagree
  refine ⟨fun c => tn (m ((c.tc : Thread nD τ).loc main_arg0)) (m ((c.tc : Thread nD τ).loc main_arg1)), ?_, ?_⟩
  · exact (θ_run defs _ _).mono (fun r h c => ⟨(h c).1.trans (fin2 m c), (h c).2⟩) (Value.run_blocks m g)
  · refine (θ_run Cert.ProjDwRefIdeal.defs _ _).mono (fun r h c => ⟨(h c).1.trans ?_, (h c).2⟩) (Cert.ProjDwRefIdeal.Value.run (F := Ideal) m' g')
    rw [(hagree c).1, (hagree c).2]
    funext y
    obtain ⟨i, j, rfl⟩ := pair (p := 1024) (q := 1024) y
    unfold tn
    pointwise! []
end Cert.ProjDwIdeal.Mm

end
-- ==== Proof.ConvInVal.lean ====
module
public import proofs.«01_k».proof.Defs
public import proofs.«01_k».proof.Proof.Gen.ConvInIdeal.Value
public import proofs.«01_k».proof.Proof.Gen.ConvInRefIdeal.Run
public import proofs.«01_k».proof.Proof.Ffn
public import proofs.«01_k».proof.Proof.Mm
@[expose] public section
set_option maxRecDepth 16384
noncomputable section
open Idealize.ShloMosaic Idealize.ShloMosaic.TcCoe Idealize.SL.Sem
open Idealize.ShloMosaic.Pipeline (Dat)

namespace Cert.ConvInIdeal.Mm
open Cert.ConvInIdeal Cert.ConvInIdeal.Gen Cert.Ffn Cert.Mm
variable (m : (ℓ : Loc nD τ sig) → Buf (Elt Ideal) ℓ) (c : Dev nD) (t : Fin cfg0.N)
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem tlt : t.val < 8 := t.isLt
theorem blk0 (r : Fin 512) (k : Fin 1024) : iblk m c 0 t (ix2 r k) = V m c main_arg0 (ix2 ⟨512 * t.val + r.val, by have := tlt t; omega⟩ k) := by
  blk_ext [iblk, V, idx0 t]
theorem blk1 (k : Fin 1024) (l : Fin 3072) : iblk m c 1 t (ix2 k l) = V m c main_arg2 (ix2 k l) := by
  blk_ext [iblk, V, idx1 t]
theorem blk2 (r : Fin 1) (k : Fin 1024) : iblk m c 2 t (ix2 r k) = V m c main_arg1 (ix2 r k) := by
  blk_ext [iblk, V, idx2 t]
theorem pay1_at (a : Vec Ideal S512x1024 .f32) (b : Vec Ideal S1x1024 .f32) (r : Fin 512) (l : Fin 1024) : k0_pay1 (F := Ideal) a b (ix2 r l) = nrms a b (ix2 r l) := by
  unfold k0_pay1 nrms nrm rE msE
  pointwise! []
  rw [tiny_val, k_val]
theorem pay2_at (a : Vec Ideal S512x1024 .f32) (b : Vec Ideal S1x1024 .f32) (w : Vec Ideal S1024x3072 .bf16) (r : Fin 512) (j : Fin 3072) :
    k0_pay2 (F := Ideal) a b w (ix2 r j) = nn (nrms (p := 512) a b) w (ix2 r j) := by
  unfold k0_pay2 nn
  pointwise! []
  exact Finset.sum_congr rfl fun k _ => congrArg (· * _) (pay1_at a b r k)
theorem fin3 : (dats m 0 c).arrAt 3 cfg0.N = nn (nrms (p := 4096) (m ((c.tc : Thread nD τ).loc main_arg0)) (m ((c.tc : Thread nD τ).loc main_arg1))) (m ((c.tc : Thread nD τ).loc main_arg2)) := by
  refine (dats m 0 c).arrAt_eq_of_covers 3 _ (by decide +kernel) fun t hf y => ?_
  obtain ⟨r, l, rfl⟩ := pair (p := 512) (q := 3072) y
  rw [after0_3]
  frame_out
  exact (pay2_at _ _ _ r l).trans (nn_block (fun k => nrms_block (fun l => blk0 m c t r l) (fun l => blk2 m c t 0 l) rfl) (fun k => blk1 m c t k l)
    (place0 (by blk_simp; rw [idx3 t]; rfl) (by blk_simp; rw [idx3 t]) rfl (by rfl)))
theorem fin4 : (dats m 0 c).arrAt 4 cfg0.N = nrms (p := 4096) (m ((c.tc : Thread nD τ).loc main_arg0)) (m ((c.tc : Thread nD τ).loc main_arg1)) := by
  refine (dats m 0 c).arrAt_eq_of_covers 4 _ (by decide +kernel) fun t hf y => ?_
  obtain ⟨r, l, rfl⟩ := pair (p := 512) (q := 1024) y
  rw [after0_4]
  frame_out
  exact (pay1_at _ _ r l).trans (nrms_block (fun l => blk0 m c t r l) (fun l => blk2 m c t 0 l)
    (place0 (by blk_simp; rw [idx4 t]; rfl) (by blk_simp; rw [idx4 t]) rfl (by rfl)))
set_option maxHeartbeats 1000000 in
/-- The kernel and the plain program end with equal results. -/
theorem algebraic : Cert.algebraic_ConvInIdeal_ConvInRefIdeal := by
  intro m g m' g' _ hagree
  refine ⟨fun c => nn (nrms (p := 4096) (m ((c.tc : Thread nD τ).loc main_arg0)) (m ((c.tc : Thread nD τ).loc main_arg1))) (m ((c.tc : Thread nD τ).loc main_arg2)), fun c => nrms (p := 4096) (m ((c.tc : Thread nD τ).loc main_arg0)) (m ((c.tc : Thread nD τ).loc main_arg1)), ?_, ?_⟩
  · exact (θ_run defs _ _).mono (fun r h c => ⟨(h c).1.trans (fin3 m c), (h c).2.1.trans (fin4 m c), (h c).2.2⟩) (Value.run_blocks m g)
  · refine (θ_run Cert.ConvInRefIdeal.defs _ _).mono (fun r h c => ⟨(h c).1.trans ?_, (h c).2.1.trans ?_, (h c).2.2⟩) (Cert.ConvInRefIdeal.Value.run (F := Ideal) m' g')
    · rw [(hagree c).1, (hagree c).2.1, (hagree c).2.2]
      funext y
      obtain ⟨i, j, rfl⟩ := pair (p := 4096) (q := 3072) y
      unfold nn nrms nrm rE msE
      pointwise! []
      simp only [tiny_val, k_val]
    · rw [(hagree c).1, (hagree c).2.1]
      funext y
      obtain ⟨i, j, rfl⟩ := pair (p := 4096) (q := 1024) y
      unfold nrms nrm rE msE
      pointwise! []
      simp only [tiny_val, k_val]
end Cert.ConvInIdeal.Mm

end
-- ==== Proof.ConvInDwVal.lean ====
module
public import proofs.«01_k».proof.Defs
public import proofs.«01_k».proof.Proof.Gen.ConvInDwIdeal.Value
public import proofs.«01_k».proof.Proof.Gen.ConvInDwRefIdeal.Run
public import proofs.«01_k».proof.Proof.Mm
public import Idealize.ShloMosaic.Lib.Claim
@[expose] public section
set_option maxRecDepth 16384
noncomputable section
open Idealize.ShloMosaic Idealize.ShloMosaic.TcCoe Idealize.SL.Sem
open Idealize.ShloMosaic.Pipeline (Dat)

namespace Cert.ConvInDwIdeal.Mm
open Cert.ConvInDwIdeal Cert.ConvInDwIdeal.Gen Cert.Mm
variable (m : (ℓ : Loc nD τ sig) → Buf (Elt Ideal) ℓ) (c : Dev nD) (t : Fin cfg0.N)
theorem idx0 : ∀ t : Fin cfg0.N, win0_0.index t = ![0, t.val % 2] := (by decide +kernel : ∀ t : Fin grid0.N, _)
theorem idx1 : ∀ t : Fin cfg0.N, win0_1.index t = ![0, t.val / 2] := (by decide +kernel : ∀ t : Fin grid0.N, _)
theorem idx2 : ∀ t : Fin cfg0.N, win0_2.index t = ![t.val % 2, t.val / 2] := (by decide +kernel : ∀ t : Fin grid0.N, _)
theorem tlt : t.val < 4 := t.isLt
theorem blk0 (k : Fin 4096) (r : Fin 512) : iblk m c 0 t (ix2 k r) = V m c main_arg0 (ix2 k ⟨512 * (t.val % 2) + r.val, by omega⟩) := by
  blk_ext [iblk, V, idx0 t]
theorem blk1 (k : Fin 4096) (l : Fin 1536) : iblk m c 1 t (ix2 k l) = V m c main_arg1 (ix2 k ⟨1536 * (t.val / 2) + l.val, by have := tlt t; omega⟩) := by
  blk_ext [iblk, V, idx1 t]
theorem pay_at (x : Vec Ideal S4096x512 .bf16) (y : Vec Ideal S4096x1536 .bf16) (r : Fin 512) (l : Fin 1536) : k0_pay1 x y (ix2 r l) = tn x y (ix2 r l) := by
  unfold tn
  pointwise [k0_pay1]
theorem fin2 : (dats m 0 c).arrAt 2 cfg0.N = tn (m ((c.tc : Thread nD τ).loc main_arg0)) (m ((c.tc : Thread nD τ).loc main_arg1)) := by
  refine (dats m 0 c).arrAt_eq_of_covers 2 _ (by decide +kernel) fun t hf y => ?_
  obtain ⟨r, l, rfl⟩ := pair (p := 512) (q := 1536) y
  rw [after0_2]
  frame_out
  exact (pay_at _ _ r l).trans (tn_block (fun k => blk0 m c t k r) (fun k => blk1 m c t k l)
    (place (by blk_simp; rw [idx2 t]; rfl) (by blk_simp; rw [idx2 t]; rfl) rfl rfl))
/-- The kernel and the plain program end with equal results. -/
theorem algebraic : Cert.algebraic_ConvInDwIdeal_ConvInDwRefIdeal := by
  intro m g m' g' _ hagree
  refine ⟨fun c => tn (m ((c.tc : Thread nD τ).loc main_arg0)) (m ((c.tc : Thread nD τ).loc main_arg1)), ?_, ?_⟩
  · exact (θ_run defs _ _).mono (fun r h c => ⟨(h c).1.trans (fin2 m c), (h c).2⟩) (Value.run_blocks m g)
  · refine (θ_run Cert.ConvInDwRefIdeal.defs _ _).mono (fun r h c => ⟨(h c).1.trans ?_, (h c).2⟩) (Cert.ConvInDwRefIdeal.Value.run (F := Ideal) m' g')
    rw [(hagree c).1, (hagree c).2]
    funext y
    obtain ⟨i, j, rfl⟩ := pair (p := 1024) (q := 3072) y
    unfold tn
    pointwise! []
end Cert.ConvInDwIdeal.Mm

end
-- ==== Proof.QueryVal.lean ====
module
public import proofs.«01_k».proof.Defs
public import proofs.«01_k».proof.Proof.Gen.QueryIdeal.Value
public import proofs.«01_k».proof.Proof.Gen.QueryRefIdeal.Run
public import proofs.«01_k».proof.Proof.Mm
@[expose] public section
set_option maxRecDepth 16384
noncomputable section
open Idealize.ShloMosaic Idealize.ShloMosaic.TcCoe Idealize.SL.Sem
open Idealize.ShloMosaic.Pipeline (Dat)

namespace Cert.QueryIdeal.Mm
open Cert.QueryIdeal Cert.QueryIdeal.Gen Cert.Ffn Cert.Mm
variable (m : (ℓ : Loc nD τ sig) → Buf (Elt Ideal) ℓ) (c : Dev nD) (t : Fin cfg0.N)
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem tlt : t.val < 8 := t.isLt
theorem blk0 (r : Fin 512) (k : Fin 1024) : iblk m c 0 t (ix2 r k) = V m c main_arg0 (ix2 ⟨512 * t.val + r.val, by have := tlt t; omega⟩ k) := by
  blk_ext [iblk, V, idx0 t]
theorem blk1 (k l : Fin 1024) : iblk m c 1 t (ix2 k l) = V m c main_arg2 (ix2 k l) := by
  blk_ext [iblk, V, idx1 t]
theorem blk2 (r : Fin 1) (k : Fin 1024) : iblk m c 2 t (ix2 r k) = V m c main_arg1 (ix2 r k) := by
  blk_ext [iblk, V, idx2 t]
theorem pay1_at (a : Vec Ideal S512x1024 .f32) (b : Vec Ideal S1x1024 .f32) (r : Fin 512) (l : Fin 1024) : k0_pay1 (F := Ideal) a b (ix2 r l) = nrms a b (ix2 r l) := by
  unfold k0_pay1 nrms nrm rE msE
  pointwise! []
  rw [tiny_val, k_val]
theorem pay2_at (a : Vec Ideal S512x1024 .f32) (b : Vec Ideal S1x1024 .f32) (w : Vec Ideal S1024x1024 .bf16) (r : Fin 512) (j : Fin 1024) :
    k0_pay2 (F := Ideal) a b w (ix2 r j) = nn (nrms (p := 512) a b) w (ix2 r j) := by
  unfold k0_pay2 nn
  pointwise! []
  exact Finset.sum_congr rfl fun k _ => congrArg (· * _) (pay1_at a b r k)
theorem fin3 : (dats m 0 c).arrAt 3 cfg0.N = nn (nrms (p := 4096) (m ((c.tc : Thread nD τ).loc main_arg0)) (m ((c.tc : Thread nD τ).loc main_arg1))) (m ((c.tc : Thread nD τ).loc main_arg2)) := by
  refine (dats m 0 c).arrAt_eq_of_covers 3 _ (by decide +kernel) fun t hf y => ?_
  obtain ⟨r, l, rfl⟩ := pair (p := 512) (q := 1024) y
  rw [after0_3]
  frame_out
  exact (pay2_at _ _ _ r l).trans (nn_block (fun k => nrms_block (fun l => blk0 m c t r l) (fun l => blk2 m c t 0 l) rfl) (fun k => blk1 m c t k l)
    (place0 (by blk_simp; rw [idx3 t]; rfl) (by blk_simp; rw [idx3 t]) rfl (by rfl)))
theorem fin4 : (dats m 0 c).arrAt 4 cfg0.N = nrms (p := 4096) (m ((c.tc : Thread nD τ).loc main_arg0)) (m ((c.tc : Thread nD τ).loc main_arg1)) := by
  refine (dats m 0 c).arrAt_eq_of_covers 4 _ (by decide +kernel) fun t hf y => ?_
  obtain ⟨r, l, rfl⟩ := pair (p := 512) (q := 1024) y
  rw [after0_4]
  frame_out
  exact (pay1_at _ _ r l).trans (nrms_block (fun l => blk0 m c t r l) (fun l => blk2 m c t 0 l)
    (place0 (by blk_simp; rw [idx4 t]; rfl) (by blk_simp; rw [idx4 t]) rfl (by rfl)))
set_option maxHeartbeats 1000000 in
/-- The kernel and the plain program end with equal results. -/
theorem algebraic : Cert.algebraic_QueryIdeal_QueryRefIdeal := by
  intro m g m' g' _ hagree
  refine ⟨fun c => nn (nrms (p := 4096) (m ((c.tc : Thread nD τ).loc main_arg0)) (m ((c.tc : Thread nD τ).loc main_arg1))) (m ((c.tc : Thread nD τ).loc main_arg2)), fun c => nrms (p := 4096) (m ((c.tc : Thread nD τ).loc main_arg0)) (m ((c.tc : Thread nD τ).loc main_arg1)), ?_, ?_⟩
  · exact (θ_run defs _ _).mono (fun r h c => ⟨(h c).1.trans (fin3 m c), (h c).2.1.trans (fin4 m c), (h c).2.2⟩) (Value.run_blocks m g)
  · refine (θ_run Cert.QueryRefIdeal.defs _ _).mono (fun r h c => ⟨(h c).1.trans ?_, (h c).2.1.trans ?_, (h c).2.2⟩) (Cert.QueryRefIdeal.Value.run (F := Ideal) m' g')
    · rw [(hagree c).1, (hagree c).2.1, (hagree c).2.2]
      funext y
      obtain ⟨i, j, rfl⟩ := pair (p := 4096) (q := 1024) y
      unfold nn nrms nrm rE msE
      pointwise! []
      simp only [tiny_val, k_val]
    · rw [(hagree c).1, (hagree c).2.1]
      funext y
      obtain ⟨i, j, rfl⟩ := pair (p := 4096) (q := 1024) y
      unfold nrms nrm rE msE
      pointwise! []
      simp only [tiny_val, k_val]
end Cert.QueryIdeal.Mm

end
-- ==== Proof.GluVal.lean ====
module
public import proofs.«01_k».proof.Defs
public import proofs.«01_k».proof.Proof.Gen.GluIdeal.Value
public import proofs.«01_k».proof.Proof.Gen.GluRefIdeal.Run
public import proofs.«01_k».proof.Proof.Mm
@[expose] public section
set_option maxRecDepth 16384
noncomputable section
open Idealize.ShloMosaic Idealize.ShloMosaic.TcCoe Idealize.SL.Sem
open Idealize.ShloMosaic.Pipeline (Dat)

namespace Cert.GluIdeal.Mm
open Cert.GluIdeal Cert.GluIdeal.Gen Cert.Ffn Cert.Mm
variable (m : (ℓ : Loc nD τ sig) → Buf (Elt Ideal) ℓ) (c : Dev nD) (t : Fin cfg0.N)
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![t.val, 0] := (by decide +kernel : ∀ t : Fin grid0.N, _)
theorem tlt : t.val < 16 := t.isLt
theorem blk0 (r : Fin 256) (k : Fin 1024) : iblk m c 0 t (ix2 r k) = V m c main_arg0 (ix2 ⟨256 * t.val + r.val, by have := tlt t; omega⟩ k) := by
  blk_ext [iblk, V, idx0 t]
theorem blk1 (k : Fin 1024) (l : Fin 2048) : iblk m c 1 t (ix2 k l) = V m c main_arg1 (ix2 k l) := by
  blk_ext [iblk, V, idx1 t]
theorem blk2 (r : Fin 256) (l : Fin 1024) : iblk m c 2 t (ix2 r l) = V m c main_arg2 (ix2 ⟨256 * t.val + r.val, by have := tlt t; omega⟩ l) := by
  blk_ext [iblk, V, idx2 t]
/-- A residual plus the gated linear unit of a row: value times the logistic function of the gate. -/
def unit (x : EReal) (vg : Fin 2048 → EReal) (l : Fin 1024) : EReal :=
  x + vg ⟨l.val, by omega⟩ * Ideal.div 1 (1 + Ideal.exp (-vg ⟨1024 + l.val, by omega⟩))
/-- The second result array. -/
def val (a : Vec Ideal S4096x1024 .bf16) (w : Vec Ideal S1024x2048 .bf16) (x : Vec Ideal S4096x1024 .f32) : Vec Ideal S4096x1024 .f32 :=
  fun i => unit (x (ix2 (i 0) (i 1))) (fun k => nn (p := 4096) (q := 1024) (r := 2048) a w (ix2 (i 0) k)) (i 1)
section
variable (a : Vec Ideal S256x1024 .bf16) (w : Vec Ideal S1024x2048 .bf16) (r : Fin 256)
theorem pay1_at (l : Fin 2048) : k0_pay1 (F := Ideal) a w (ix2 r l) = nn a w (ix2 r l) := by
  unfold nn
  pointwise [k0_pay1]
theorem pay3_at (l : Fin 2048) : k0_pay3 (F := Ideal) a w (ix2 r l) = nn a w (ix2 r l) := by
  rw [← pay1_at]
  unfold k0_pay3
  pointwise! []
theorem pay2_at (x : Vec Ideal S256x1024 .f32) (l : Fin 1024) : k0_pay2 (F := Ideal) a w x (ix2 r l) = unit (x (ix2 r l)) (fun k => nn a w (ix2 r k)) l := by
  unfold unit
  dsimp only
  rw [← sg_any, ← S5.half_val, ← pay1_at, ← pay1_at]
  unfold k0_pay2
  pointwise! []
end
theorem prod_at (r : Fin 256) (l : Fin 2048) {e} (he : e = ix2 ⟨256 * t.val + r.val, by have := tlt t; omega⟩ l) : nn (p := 256) (q := 1024) (r := 2048) (iblk m c 0 t) (iblk m c 1 t) (ix2 r l)
    = nn (p := 4096) (q := 1024) (r := 2048) (m ((c.tc : Thread nD τ).loc main_arg0)) (m ((c.tc : Thread nD τ).loc main_arg1)) e :=
  nn_block (fun k => blk0 m c t r k) (fun k => blk1 m c t k l) he
theorem fin3 : (dats m 0 c).arrAt 3 cfg0.N = nn (p := 4096) (q := 1024) (r := 2048) (m ((c.tc : Thread nD τ).loc main_arg0)) (m ((c.tc : Thread nD τ).loc main_arg1)) := by
  refine (dats m 0 c).arrAt_eq_of_covers 3 _ (by decide +kernel) fun t hf y => ?_
  obtain ⟨r, l, rfl⟩ := pair (p := 256) (q := 2048) y
  rw [after0_3]
  frame_out
  exact (pay3_at _ _ r l).trans (prod_at m c t r l (place0 (by blk_simp; rw [idx3 t]; rfl) (by blk_simp; rw [idx3 t]) rfl (by rfl)))
theorem fin4 : (dats m 0 c).arrAt 4 cfg0.N = val (m ((c.tc : Thread nD τ).loc main_arg0)) (m ((c.tc : Thread nD τ).loc main_arg1)) (m ((c.tc : Thread nD τ).loc main_arg2)) := by
  refine (dats m 0 c).arrAt_eq_of_covers 4 _ (by decide +kernel) fun t hf y => ?_
  obtain ⟨r, l, rfl⟩ := pair (p := 256) (q := 1024) y
  have e : ((cfg0.win 4).blk t).view.emb (ix2 r l) = (ix2 ⟨256 * t.val + r.val, by have := tlt t; omega⟩ l : S4096x1024.Idx) :=
    place0 (by blk_simp; rw [idx4 t]; rfl) (by blk_simp; rw [idx4 t]) rfl (by rfl)
  refine Eq.trans ?_ (congrArg (val (m ((c.tc : Thread nD τ).loc main_arg0)) (m ((c.tc : Thread nD τ).loc main_arg1)) (m ((c.tc : Thread nD τ).loc main_arg2))) e).symm
  rw [after0_4]
  frame_out
  exact (pay2_at _ _ r _ l).trans (congrArg₂ (fun x vg => unit x vg l) (blk2 m c t r l) (funext fun k => prod_at m c t r k rfl))
/-- The kernel and the plain program end with equal results. -/
theorem algebraic : Cert.algebraic_GluIdeal_GluRefIdeal := by
  intro m g m' g' _ hagree
  refine ⟨fun c => nn (p := 4096) (q := 1024) (r := 2048) (m ((c.tc : Thread nD τ).loc main_arg0)) (m ((c.tc : Thread nD τ).loc main_arg1)), fun c => val (m ((c.tc : Thread nD τ).loc main_arg0)) (m ((c.tc : Thread nD τ).loc main_arg1)) (m ((c.tc : Thread nD τ).loc main_arg2)), ?_, ?_⟩
  · exact (θ_run defs _ _).mono (fun r h c => ⟨(h c).1.trans (fin3 m c), (h c).2.1.trans (fin4 m c), (h c).2.2⟩) (Value.run_blocks m g)
  · refine (θ_run Cert.GluRefIdeal.defs _ _).mono (fun r h c => ⟨(h c).1.trans ?_, (h c).2.1.trans ?_, (h c).2.2⟩) (Cert.GluRefIdeal.Value.run (F := Ideal) m' g')
    · rw [(hagree c).1, (hagree c).2.1]
      funext y
      obtain ⟨i, j, rfl⟩ := pair (p := 4096) (q := 2048) y
      unfold nn
      pointwise! []
    · rw [(hagree c).1, (hagree c).2.1, (hagree c).2.2]
      funext y
      obtain ⟨i, j, rfl⟩ := pair (p := 4096) (q := 1024) y
      unfold val unit nn
      pointwise! []
end Cert.GluIdeal.Mm

end
-- ==== Proof.GluDwVal.lean ====
module
public import proofs.«01_k».proof.Defs
public import proofs.«01_k».proof.Proof.Gen.GluDwIdeal.Value
public import proofs.«01_k».proof.Proof.Gen.GluDwRefIdeal.Run
public import proofs.«01_k».proof.Proof.Mm
@[expose] public section
set_option maxRecDepth 16384
noncomputable section
open Idealize.ShloMosaic Idealize.ShloMosaic.TcCoe Idealize.SL.Sem
open Idealize.ShloMosaic.Pipeline (Dat)

namespace Cert.GluDwIdeal.Mm
open Cert.GluDwIdeal Cert.GluDwIdeal.Gen Cert.Ffn Cert.Mm
variable (m : (ℓ : Loc nD τ sig) → Buf (Elt Ideal) ℓ) (c : Dev nD) (t : Fin cfg0.N)
theorem idx0 : ∀ t : Fin cfg0.N, win0_0.index t = ![0, t.val % 2] := (by decide +kernel : ∀ t : Fin grid0.N, _)
theorem idx1 : ∀ t : Fin cfg0.N, win0_1.index t = ![0, t.val / 2] := (by decide +kernel : ∀ t : Fin grid0.N, _)
theorem idx2 : ∀ t : Fin cfg0.N, win0_2.index t = ![t.val % 2, t.val / 2] := (by decide +kernel : ∀ t : Fin grid0.N, _)
theorem tlt : t.val < 4 := t.isLt
theorem blk0 (k : Fin 4096) (r : Fin 512) : iblk m c 0 t (ix2 k r) = V m c main_arg0 (ix2 k ⟨512 * (t.val % 2) + r.val, by omega⟩) := by
  blk_ext [iblk, V, idx0 t]
theorem blk1 (k : Fin 4096) (l : Fin 1024) : iblk m c 1 t (ix2 k l) = V m c main_arg1 (ix2 k ⟨1024 * (t.val / 2) + l.val, by have := tlt t; omega⟩) := by
  blk_ext [iblk, V, idx1 t]
theorem pay_at (x : Vec Ideal S4096x512 .bf16) (y : Vec Ideal S4096x1024 .bf16) (r : Fin 512) (l : Fin 1024) : k0_pay1 x y (ix2 r l) = tn x y (ix2 r l) := by
  unfold tn
  pointwise [k0_pay1]
theorem fin2 : (dats m 0 c).arrAt 2 cfg0.N = tn (m ((c.tc : Thread nD τ).loc main_arg0)) (m ((c.tc : Thread nD τ).loc main_arg1)) := by
  refine (dats m 0 c).arrAt_eq_of_covers 2 _ (by decide +kernel) fun t hf y => ?_
  obtain ⟨r, l, rfl⟩ := pair (p := 512) (q := 1024) y
  rw [after0_2]
  frame_out
  exact (pay_at _ _ r l).trans (tn_block (fun k => blk0 m c t k r) (fun k => blk1 m c t k l)
    (place (by blk_simp; rw [idx2 t]; rfl) (by blk_simp; rw [idx2 t]; rfl) rfl rfl))
/-- The kernel and the plain program end with equal results. -/
theorem algebraic : Cert.algebraic_GluDwIdeal_GluDwRefIdeal := by
  intro m g m' g' _ hagree
  refine ⟨fun c => tn (m ((c.tc : Thread nD τ).loc main_arg0)) (m ((c.tc : Thread nD τ).loc main_arg1)), ?_, ?_⟩
  · exact (θ_run defs _ _).mono (fun r h c => ⟨(h c).1.trans (fin2 m c), (h c).2⟩) (Value.run_blocks m g)
  · refine (θ_run Cert.GluDwRefIdeal.defs _ _).mono (fun r h c => ⟨(h c).1.trans ?_, (h c).2⟩) (Cert.GluDwRefIdeal.Value.run (F := Ideal) m' g')
    rw [(hagree c).1, (hagree c).2]
    funext y
    obtain ⟨i, j, rfl⟩ := pair (p := 1024) (q := 2048) y
    unfold tn
    pointwise! []
end Cert.GluDwIdeal.Mm

end
-- ==== Proof.GluDxVal.lean ====
module
public import proofs.«01_k».proof.Defs
public import proofs.«01_k».proof.Proof.Gen.GluDxIdeal.Value
public import proofs.«01_k».proof.Proof.Gen.GluDxRefIdeal.Run
public import proofs.«01_k».proof.Proof.Mm
@[expose] public section
set_option maxRecDepth 16384
noncomputable section
open Idealize.ShloMosaic Idealize.ShloMosaic.TcCoe Idealize.SL.Sem
open Idealize.ShloMosaic.Pipeline (Dat)

namespace Cert.GluDxIdeal.Mm
open Cert.GluDxIdeal Cert.GluDxIdeal.Gen Cert.Ffn Cert.Mm
variable (m : (ℓ : Loc nD τ sig) → Buf (Elt Ideal) ℓ) (c : Dev nD) (t : Fin cfg0.N)
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem tlt : t.val < 8 := t.isLt
theorem blk0 (r : Fin 512) (k : Fin 2048) : iblk m c 0 t (ix2 r k) = V m c main_arg0 (ix2 ⟨512 * t.val + r.val, by have := tlt t; omega⟩ k) := by
  blk_ext [iblk, V, idx0 t]
theorem blk1 (l : Fin 1024) (k : Fin 2048) : iblk m c 1 t (ix2 l k) = V m c main_arg1 (ix2 l k) := by
  blk_ext [iblk, V, idx1 t]
theorem pay_at (x : Vec Ideal S512x2048 .bf16) (y : Vec Ideal S1024x2048 .bf16) (r : Fin 512) (l : Fin 1024) : k0_pay1 x y (ix2 r l) = nt x y (ix2 r l) := by
  unfold nt
  pointwise [k0_pay1]
theorem fin2 : (dats m 0 c).arrAt 2 cfg0.N = nt (m ((c.tc : Thread nD τ).loc main_arg0)) (m ((c.tc : Thread nD τ).loc main_arg1)) := by
  refine (dats m 0 c).arrAt_eq_of_covers 2 _ (by decide +kernel) fun t hf y => ?_
  obtain ⟨r, l, rfl⟩ := pair (p := 512) (q := 1024) y
  rw [after0_2]
  frame_out
  exact (pay_at _ _ r l).trans (nt_block (fun k => blk0 m c t r k) (fun k => blk1 m c t l k)
    (place0 (by blk_simp; rw [idx2 t]; rfl) (by blk_simp; rw [idx2 t]) rfl (by rfl)))
/-- The kernel and the plain program end with equal results. -/
theorem algebraic : Cert.algebraic_GluDxIdeal_GluDxRefIdeal := by
  intro m g m' g' _ hagree
  refine ⟨fun c => nt (m ((c.tc : Thread nD τ).loc main_arg0)) (m ((c.tc : Thread nD τ).loc main_arg1)), ?_, ?_⟩
  · exact (θ_run defs _ _).mono (fun r h c => ⟨(h c).1.trans (fin2 m c), (h c).2⟩) (Value.run_blocks m g)
  · refine (θ_run Cert.GluDxRefIdeal.defs _ _).mono (fun r h c => ⟨(h c).1.trans ?_, (h c).2⟩) (Cert.GluDxRefIdeal.Value.run (F := Ideal) m' g')
    rw [(hagree c).1, (hagree c).2]
    funext y
    obtain ⟨i, j, rfl⟩ := pair (p := 4096) (q := 1024) y
    unfold nt
    pointwise! []
end Cert.GluDxIdeal.Mm

end
-- ==== Proof.ConvInDxVal.lean ====
module
public import proofs.«01_k».proof.Defs
public import proofs.«01_k».proof.Proof.Gen.ConvInDxIdeal.Value
public import proofs.«01_k».proof.Proof.Gen.ConvInDxRefIdeal.Run
public import proofs.«01_k».proof.Proof.UpDxVal
@[expose] public section
set_option maxRecDepth 16384
noncomputable section
open Idealize.ShloMosaic Idealize.ShloMosaic.TcCoe Idealize.SL.Sem
open Idealize.ShloMosaic.Pipeline (Dat)

namespace Cert.ConvInDxIdeal.Mm
open Cert.ConvInDxIdeal Cert.ConvInDxIdeal.Gen Cert.Ffn Cert.Mm Cert.Rows
section
variable (a : Vec Ideal S512x3072 .bf16) (w : Vec Ideal S1024x3072 .bf16) (x s : Vec Ideal S512x1024 .f32) (g : Vec Ideal S1x1024 .f32) (r : Fin 512) (j : Fin 1024)
theorem pay3_at : k0_pay3 (F := Ideal) a w (ix2 r j) = nt a w (ix2 r j) := by
  unfold nt
  pointwise [k0_pay3]
theorem pay4_at : k0_pay4 (F := Ideal) x (ix2 r 0) = rE (fun l => x (ix2 r l)) :=
  Cert.UpDxIdeal.Mm.pay4_at x r
theorem pay5_at : k0_pay5 (F := Ideal) x (ix2 r j) = x (ix2 r j) * rE (fun l => x (ix2 r l)) :=
  Cert.UpDxIdeal.Mm.pay5_at x r j
theorem pay6_at : k0_pay6 (F := Ideal) a w x (ix2 0 j) = gg (nt a w) x (ix2 0 j) := by
  show _ = ∑ r, nt a w (ix2 r j) * (x (ix2 r j) * rE (fun l => x (ix2 r l)))
  unfold k0_pay6
  pointwise! []
  simp only [pay3_at, pay5_at]
theorem pay7_at : k0_pay7 (F := Ideal) a w x s g (ix2 r j) = gx (nt a w) x s g (ix2 r j) := by
  show _ = dxv (fun l => nt a w (ix2 r l)) (fun l => x (ix2 r l)) (fun l => g (ix2 0 l)) (s (ix2 r j)) j
  unfold dxv
  simp only [← pay3_at, ← pay5_at, ← k_val]
  rw [← pay4_at]
  unfold k0_pay7
  pointwise! []
theorem pay8_at : k0_pay8 (F := Ideal) a w x s g (ix2 r j) = gx (nt a w) x s g (ix2 r j) := by
  rw [← pay7_at]
  unfold k0_pay8
  pointwise! []
theorem pay1_at : k0_pay1 (F := Ideal) (ix2 0 j) = 0 :=
  Cert.UpDxIdeal.Mm.pay1_at j
theorem pay2_at (a b : Vec Ideal S1x1024 .f32) : k0_pay2 (F := Ideal) a b (ix2 0 j) = b (ix2 0 j) + a (ix2 0 j) :=
  Cert.UpDxIdeal.Mm.pay2_at j a b
end
variable (m : (ℓ : Loc nD τ sig) → Buf (Elt Ideal) ℓ) (c : Dev nD) (t : Fin cfg0.N) (r : Fin 512) (j : Fin 1024)
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, 0] := (by decide +kernel : ∀ t : Fin grid0.N, _)
theorem tlt : t.val < 8 := t.isLt
theorem blk0 (k : Fin 3072) : iblk m c 0 t (ix2 r k) = V m c main_arg0 (ix2 ⟨512 * t.val + r.val, by have := tlt t; omega⟩ k) := by
  blk_ext [iblk, V, idx0 t]
theorem blk1 (k : Fin 3072) : iblk m c 1 t (ix2 j k) = V m c main_arg1 (ix2 j k) := by
  blk_ext [iblk, V, idx1 t]
theorem blk2 : iblk m c 2 t (ix2 r j) = V m c main_arg2 (ix2 ⟨512 * t.val + r.val, by have := tlt t; omega⟩ j) := by
  blk_ext [iblk, V, idx2 t]
theorem blk3 : iblk m c 3 t (ix2 r j) = V m c main_arg4 (ix2 ⟨512 * t.val + r.val, by have := tlt t; omega⟩ j) := by
  blk_ext [iblk, V, idx3 t]
theorem blk4 : iblk m c 4 t (ix2 0 j) = V m c main_arg3 (ix2 0 j) := by
  blk_ext [iblk, V, idx4 t]
/-- The gradient at the normed rows. -/
def prod : Vec Ideal ⟨2, ![4096, 1024]⟩ .bf16 :=
  nt (p := 4096) (q := 3072) (r := 1024) (m ((c.tc : Thread nD τ).loc main_arg0)) (m ((c.tc : Thread nD τ).loc main_arg1))
/-- The two gradients. -/
def one : Vec Ideal S4096x1024 .f32 :=
  gx (prod m c) (m ((c.tc : Thread nD τ).loc main_arg2)) (m ((c.tc : Thread nD τ).loc main_arg4)) (m ((c.tc : Thread nD τ).loc main_arg3))
def two : Vec Ideal S1x1024 .f32 := gg (prod m c) (m ((c.tc : Thread nD τ).loc main_arg2))
theorem prod_at : nt (p := 512) (q := 3072) (r := 1024) (iblk m c 0 t) (iblk m c 1 t) (ix2 r j) = prod m c (ix2 ⟨512 * t.val + r.val, by have := tlt t; omega⟩ j) :=
  nt_block (fun k => blk0 m c t r k) (fun k => blk1 m c t j k) rfl
theorem gx_at {e} (he : e = ix2 ⟨512 * t.val + r.val, by have := tlt t; omega⟩ j) :
    gx (nt (p := 512) (q := 3072) (r := 1024) (iblk m c 0 t) (iblk m c 1 t)) (iblk m c 2 t) (iblk m c 3 t) (iblk m c 4 t) (ix2 r j) = one m c e :=
  gx_block (fun l => prod_at m c t r l) (fun l => blk2 m c t r l) (blk3 m c t r j) (fun l => blk4 m c t l) he
theorem out5 : (outsAt0 m c t.val t.isLt).1 (ix2 r j) = k0_pay7 (F := Ideal) (iblk m c 0 t) (iblk m c 1 t) (iblk m c 2 t) (iblk m c 3 t) (iblk m c 4 t) (ix2 r j) := by
  by_cases h : t.val % 8 = 0
  · rw [outsAt0_A m c t h]
    frame_out
  · rw [outsAt0_B m c t h]
    frame_out
theorem out6 : (outsAt0 m c t.val t.isLt).2.1 (ix2 r j) = k0_pay8 (F := Ideal) (iblk m c 0 t) (iblk m c 1 t) (iblk m c 2 t) (iblk m c 3 t) (iblk m c 4 t) (ix2 r j) := by
  by_cases h : t.val % 8 = 0
  · rw [outsAt0_A m c t h]
    frame_out
  · rw [outsAt0_B m c t h]
    frame_out
theorem out7A (h : t.val % 8 = 0) : (outsAt0 m c t.val t.isLt).2.2 (ix2 0 j) = k0_pay2 (F := Ideal) (k0_pay6 (F := Ideal) (iblk m c 0 t) (iblk m c 1 t) (iblk m c 2 t)) (k0_pay1 (F := Ideal)) (ix2 0 j) := by
  rw [outsAt0_A m c t h]
  frame_out
theorem out7B (h : ¬ t.val % 8 = 0) : (outsAt0 m c t.val t.isLt).2.2 (ix2 0 j) = k0_pay2 (F := Ideal) (k0_pay6 (F := Ideal) (iblk m c 0 t) (iblk m c 1 t) (iblk m c 2 t)) (outsAt0 m c (t.val - 1) (Nat.lt_of_le_of_lt (Nat.sub_le _ _) t.isLt)).2.2 (ix2 0 j) := by
  rw [outsAt0_B m c t h]
  frame_out
theorem fin5 : (dats m 0 c).arrAt 5 cfg0.N = one m c := by
  refine (dats m 0 c).arrAt_eq_of_covers 5 _ (by decide +kernel) fun t hf y => ?_
  obtain ⟨r, l, rfl⟩ := pair (p := 512) (q := 1024) y
  rw [after0_5]
  exact (out5 m c t r l).trans ((pay7_at _ _ _ _ _ r l).trans (gx_at m c t r l (place0 (by blk_simp; rw [idx5 t]; rfl) (by blk_simp; rw [idx5 t]) rfl (by rfl))))
theorem fin6 : (dats m 0 c).arrAt 6 cfg0.N = one m c := by
  refine (dats m 0 c).arrAt_eq_of_covers 6 _ (by decide +kernel) fun t hf y => ?_
  obtain ⟨r, l, rfl⟩ := pair (p := 512) (q := 1024) y
  rw [after0_6]
  exact (out6 m c t r l).trans ((pay8_at _ _ _ _ _ r l).trans (gx_at m c t r l (place0 (by blk_simp; rw [idx6 t]; rfl) (by blk_simp; rw [idx6 t]) rfl (by rfl))))
theorem pay6_blk : k0_pay6 (F := Ideal) (iblk m c 0 t) (iblk m c 1 t) (iblk m c 2 t) (ix2 0 j) = part (prod m c) (m ((c.tc : Thread nD τ).loc main_arg2)) t.val j :=
  (pay6_at _ _ _ j).trans (gg_block _ _ t.val (tlt t) j (fun r l => prod_at m c t r l) (fun r l => blk2 m c t r l))
theorem acc7 (ht : t.val = 7) : (outsAt0 m c t.val t.isLt).2.2 (ix2 0 j) = two m c (ix2 0 j) := by
  obtain rfl : t = ⟨7, by decide⟩ := Fin.ext ht
  refine gg_acc (prod m c) (m ((c.tc : Thread nD τ).loc main_arg2)) j (fun n h => (outsAt0 m c n h).2.2 (ix2 0 j)) (fun h => ?_) (fun n h => ?_)
  · refine (out7A m c ⟨0, h⟩ j rfl).trans ((pay2_at j _ _).trans ?_)
    rw [pay1_at, zero_add]
    exact pay6_blk m c ⟨0, h⟩ j
  · refine (out7B m c ⟨n + 1, h⟩ j (show ¬ (n + 1) % 8 = 0 by omega)).trans ((pay2_at j _ _).trans ?_)
    exact congrArg₂ (fun a b : EReal => a + b) rfl (pay6_blk m c ⟨n + 1, h⟩ j)
theorem fin7 : (dats m 0 c).arrAt 7 cfg0.N = two m c := by
  refine (dats m 0 c).arrAt_eq_of_covers 7 _ (by decide +kernel) fun t hf y => ?_
  have ht := (by decide +kernel : ∀ t : Fin cfg0.N, (cfg0.win 7).flush t = true → t.val = 7) t hf
  obtain ⟨r, l, rfl⟩ := pair (p := 1) (q := 1024) y
  obtain rfl : r = 0 := Subsingleton.elim _ _
  rw [after0_7]
  exact (acc7 m c t l ht).trans (congrArg (two m c) (pair_eq _ 0 l (by blk_simp; rw [idx7 t]; rfl) (by blk_simp; rw [idx7 t]; exact Nat.zero_add _)).symm)
end Cert.ConvInDxIdeal.Mm

namespace Cert.ConvInDxRefIdeal.Mm
open Cert.ConvInDxRefIdeal Cert.ConvInDxRefIdeal.Gen Cert.ConvInDxRefIdeal.Value Cert.Ffn Cert.Mm Cert.Rows
variable (m : (ℓ : Loc nD τ sig) → Buf (Elt Ideal) ℓ) (c : Dev nD)
theorem ref42_at (i : Fin 4096) (j : Fin 1024) : res_main_v42 (F := Ideal) m c (ix2 i j)
    = dxv (fun l => nt (p := 4096) (q := 3072) (r := 1024) (m ((c.tc : Thread nD τ).loc main_arg0)) (m ((c.tc : Thread nD τ).loc main_arg1)) (ix2 i l)) (fun l => (m ((c.tc : Thread nD τ).loc main_arg2)) (ix2 i l))
      (fun l => (m ((c.tc : Thread nD τ).loc main_arg3)) (ix2 0 l)) ((m ((c.tc : Thread nD τ).loc main_arg4)) (ix2 i j)) j := by
  rw [← row_eq]
  unfold res_main_v42 nt
  pointwise! []
  simp only [tiny_val, k_val, mhalf_val, Finset.univ_unique, Finset.sum_singleton]
  rfl
theorem ref44_at (i : Fin 4096) (j : Fin 1024) : res_main_v44 (F := Ideal) m c (ix2 i j) = res_main_v42 (F := Ideal) m c (ix2 i j) := by
  unfold res_main_v44 res_main_v42
  pointwise! []
end Cert.ConvInDxRefIdeal.Mm

namespace Cert.ConvInDxIdeal.Mm
open Cert.ConvInDxIdeal Cert.ConvInDxIdeal.Gen Cert.Ffn Cert.Mm Cert.Rows
/-- The kernel and the plain program end with equal results. -/
theorem algebraic : Cert.algebraic_ConvInDxIdeal_ConvInDxRefIdeal := by
  intro m g m' g' _ hagree
  refine ⟨fun c => one m c, fun c => one m c, fun c => two m c, ?_, ?_⟩
  · exact (θ_run defs _ _).mono (fun r h c => ⟨(h c).1.trans (fin5 m c), (h c).2.1.trans (fin6 m c), (h c).2.2.1.trans (fin7 m c), (h c).2.2.2⟩) (Value.run_blocks m g)
  · have e : ∀ c i j, Cert.ConvInDxRefIdeal.Value.res_main_v42 (F := Ideal) m' c (ix2 i j) = one m c (ix2 i j) := by
      intro c i j
      refine (Cert.ConvInDxRefIdeal.Mm.ref42_at m' c i j).trans ?_
      rw [(hagree c).1, (hagree c).2.1, (hagree c).2.2.1, (hagree c).2.2.2.1, (hagree c).2.2.2.2]
      rfl
    refine (θ_run Cert.ConvInDxRefIdeal.defs _ _).mono (fun r h c => ⟨(h c).1.trans ?_, (h c).2.1.trans ?_, (h c).2.2.1.trans ?_, (h c).2.2.2⟩) (Cert.ConvInDxRefIdeal.Value.run (F := Ideal) m' g')
    · funext y
      obtain ⟨i, j, rfl⟩ := pair (p := 4096) (q := 1024) y
      exact e c i j
    · funext y
      obtain ⟨i, j, rfl⟩ := pair (p := 4096) (q := 1024) y
      exact (Cert.ConvInDxRefIdeal.Mm.ref44_at m' c i j).trans (e c i j)
    · unfold two prod
      rw [(hagree c).1, (hagree c).2.1, (hagree c).2.2.1]
      beta_reduce
      generalize m ((c.tc : Thread nD τ).loc main_arg0) = a0
      generalize m ((c.tc : Thread nD τ).loc main_arg1) = a1
      generalize m ((c.tc : Thread nD τ).loc main_arg2) = a2
      funext y
      obtain ⟨i, j, rfl⟩ := pair (p := 1) (q := 1024) y
      obtain rfl : i = 0 := Subsingleton.elim _ _
      refine Eq.trans ?_ (show (∑ r : Fin 4096, term (nt (p := 4096) (q := 3072) (r := 1024) a0 a1) a2 r j) = _ from rfl)
      unfold term nt
      pointwise! []
      simp only [tiny_val, k_val, Finset.univ_unique, Finset.sum_singleton]
      exact Finset.sum_congr rfl fun r _ => mul_comm _ _
end Cert.ConvInDxIdeal.Mm

end
-- ==== Proof.QueryDxVal.lean ====
module
public import proofs.«01_k».proof.Defs
public import proofs.«01_k».proof.Proof.Gen.QueryDxIdeal.Value
public import proofs.«01_k».proof.Proof.Gen.QueryDxRefIdeal.Run
public import proofs.«01_k».proof.Proof.UpDxVal
@[expose] public section
set_option maxRecDepth 16384
noncomputable section
open Idealize.ShloMosaic Idealize.ShloMosaic.TcCoe Idealize.SL.Sem
open Idealize.ShloMosaic.Pipeline (Dat)

namespace Cert.QueryDxIdeal.Mm
open Cert.QueryDxIdeal Cert.QueryDxIdeal.Gen Cert.Ffn Cert.Mm Cert.Rows
section
variable (a : Vec Ideal S512x1024 .bf16) (w : Vec Ideal S1024x1024 .bf16) (x s : Vec Ideal S512x1024 .f32) (g : Vec Ideal S1x1024 .f32) (r : Fin 512) (j : Fin 1024)
theorem pay3_at : k0_pay3 (F := Ideal) a w (ix2 r j) = nt a w (ix2 r j) := by
  unfold nt
  pointwise [k0_pay3]
theorem pay4_at : k0_pay4 (F := Ideal) x (ix2 r 0) = rE (fun l => x (ix2 r l)) :=
  Cert.UpDxIdeal.Mm.pay4_at x r
theorem pay5_at : k0_pay5 (F := Ideal) x (ix2 r j) = x (ix2 r j) * rE (fun l => x (ix2 r l)) :=
  Cert.UpDxIdeal.Mm.pay5_at x r j
theorem pay6_at : k0_pay6 (F := Ideal) a w x (ix2 0 j) = gg (nt a w) x (ix2 0 j) := by
  show _ = ∑ r, nt a w (ix2 r j) * (x (ix2 r j) * rE (fun l => x (ix2 r l)))
  unfold k0_pay6
  pointwise! []
  simp only [pay3_at, pay5_at]
theorem pay7_at : k0_pay7 (F := Ideal) a w x s g (ix2 r j) = gx (nt a w) x s g (ix2 r j) := by
  show _ = dxv (fun l => nt a w (ix2 r l)) (fun l => x (ix2 r l)) (fun l => g (ix2 0 l)) (s (ix2 r j)) j
  unfold dxv
  simp only [← pay3_at, ← pay5_at, ← k_val]
  rw [← pay4_at]
  unfold k0_pay7
  pointwise! []
theorem pay8_at : k0_pay8 (F := Ideal) a w x s g (ix2 r j) = gx (nt a w) x s g (ix2 r j) := by
  rw [← pay7_at]
  unfold k0_pay8
  pointwise! []
theorem pay1_at : k0_pay1 (F := Ideal) (ix2 0 j) = 0 :=
  Cert.UpDxIdeal.Mm.pay1_at j
theorem pay2_at (a b : Vec Ideal S1x1024 .f32) : k0_pay2 (F := Ideal) a b (ix2 0 j) = b (ix2 0 j) + a (ix2 0 j) :=
  Cert.UpDxIdeal.Mm.pay2_at j a b
end
variable (m : (ℓ : Loc nD τ sig) → Buf (Elt Ideal) ℓ) (c : Dev nD) (t : Fin cfg0.N) (r : Fin 512) (j : Fin 1024)
theorem idx0 : ∀ t : Fin cfg0.N, win0_0.index t = ![t.val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem idx3 : ∀ t : Fin cfg0.N, win0_3.index t = ![t.val, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![t.val, 0] := (by decide +kernel : ∀ t : Fin grid0.N, _)
theorem idx6 : ∀ t : Fin cfg0.N, win0_6.index t = ![t.val, 0] := (by decide +kernel : ∀ t : Fin grid0.N, _)
theorem idx7 : ∀ t : Fin cfg0.N, win0_7.index t = ![0, 0] := (by decide +kernel : ∀ t : Fin grid0.N, _)
theorem tlt : t.val < 8 := t.isLt
theorem blk0 (k : Fin 1024) : iblk m c 0 t (ix2 r k) = V m c main_arg0 (ix2 ⟨512 * t.val + r.val, by have := tlt t; omega⟩ k) := by
  blk_ext [iblk, V, idx0 t]
theorem blk1 (k : Fin 1024) : iblk m c 1 t (ix2 j k) = V m c main_arg1 (ix2 j k) := by
  blk_ext [iblk, V, idx1 t]
theorem blk2 : iblk m c 2 t (ix2 r j) = V m c main_arg2 (ix2 ⟨512 * t.val + r.val, by have := tlt t; omega⟩ j) := by
  blk_ext [iblk, V, idx2 t]
theorem blk3 : iblk m c 3 t (ix2 r j) = V m c main_arg4 (ix2 ⟨512 * t.val + r.val, by have := tlt t; omega⟩ j) := by
  blk_ext [iblk, V, idx3 t]
theorem blk4 : iblk m c 4 t (ix2 0 j) = V m c main_arg3 (ix2 0 j) := by
  blk_ext [iblk, V, idx4 t]
/-- The gradient at the normed rows. -/
def prod : Vec Ideal ⟨2, ![4096, 1024]⟩ .bf16 :=
  nt (p := 4096) (q := 1024) (r := 1024) (m ((c.tc : Thread nD τ).loc main_arg0)) (m ((c.tc : Thread nD τ).loc main_arg1))
/-- The two gradients. -/
def one : Vec Ideal S4096x1024 .f32 :=
  gx (prod m c) (m ((c.tc : Thread nD τ).loc main_arg2)) (m ((c.tc : Thread nD τ).loc main_arg4)) (m ((c.tc : Thread nD τ).loc main_arg3))
def two : Vec Ideal S1x1024 .f32 := gg (prod m c) (m ((c.tc : Thread nD τ).loc main_arg2))
theorem prod_at : nt (p := 512) (q := 1024) (r := 1024) (iblk m c 0 t) (iblk m c 1 t) (ix2 r j) = prod m c (ix2 ⟨512 * t.val + r.val, by have := tlt t; omega⟩ j) :=
  nt_block (fun k => blk0 m c t r k) (fun k => blk1 m c t j k) rfl
theorem gx_at {e} (he : e = ix2 ⟨512 * t.val + r.val, by have := tlt t; omega⟩ j) :
    gx (nt (p := 512) (q := 1024) (r := 1024) (iblk m c 0 t) (iblk m c 1 t)) (iblk m c 2 t) (iblk m c 3 t) (iblk m c 4 t) (ix2 r j) = one m c e :=
  gx_block (fun l => prod_at m c t r l) (fun l => blk2 m c t r l) (blk3 m c t r j) (fun l => blk4 m c t l) he
theorem out5 : (outsAt0 m c t.val t.isLt).1 (ix2 r j) = k0_pay7 (F := Ideal) (iblk m c 0 t) (iblk m c 1 t) (iblk m c 2 t) (iblk m c 3 t) (iblk m c 4 t) (ix2 r j) := by
  by_cases h : t.val % 8 = 0
  · rw [outsAt0_A m c t h]
    frame_out
  · rw [outsAt0_B m c t h]
    frame_out
theorem out6 : (outsAt0 m c t.val t.isLt).2.1 (ix2 r j) = k0_pay8 (F := Ideal) (iblk m c 0 t) (iblk m c 1 t) (iblk m c 2 t) (iblk m c 3 t) (iblk m c 4 t) (ix2 r j) := by
  by_cases h : t.val % 8 = 0
  · rw [outsAt0_A m c t h]
    frame_out
  · rw [outsAt0_B m c t h]
    frame_out
theorem out7A (h : t.val % 8 = 0) : (outsAt0 m c t.val t.isLt).2.2 (ix2 0 j) = k0_pay2 (F := Ideal) (k0_pay6 (F := Ideal) (iblk m c 0 t) (iblk m c 1 t) (iblk m c 2 t)) (k0_pay1 (F := Ideal)) (ix2 0 j) := by
  rw [outsAt0_A m c t h]
  frame_out
theorem out7B (h : ¬ t.val % 8 = 0) : (outsAt0 m c t.val t.isLt).2.2 (ix2 0 j) = k0_pay2 (F := Ideal) (k0_pay6 (F := Ideal) (iblk m c 0 t) (iblk m c 1 t) (iblk m c 2 t)) (outsAt0 m c (t.val - 1) (Nat.lt_of_le_of_lt (Nat.sub_le _ _) t.isLt)).2.2 (ix2 0 j) := by
  rw [outsAt0_B m c t h]
  frame_out
theorem fin5 : (dats m 0 c).arrAt 5 cfg0.N = one m c := by
  refine (dats m 0 c).arrAt_eq_of_covers 5 _ (by decide +kernel) fun t hf y => ?_
  obtain ⟨r, l, rfl⟩ := pair (p := 512) (q := 1024) y
  rw [after0_5]
  exact (out5 m c t r l).trans ((pay7_at _ _ _ _ _ r l).trans (gx_at m c t r l (place0 (by blk_simp; rw [idx5 t]; rfl) (by blk_simp; rw [idx5 t]) rfl (by rfl))))
theorem fin6 : (dats m 0 c).arrAt 6 cfg0.N = one m c := by
  refine (dats m 0 c).arrAt_eq_of_covers 6 _ (by decide +kernel) fun t hf y => ?_
  obtain ⟨r, l, rfl⟩ := pair (p := 512) (q := 1024) y
  rw [after0_6]
  exact (out6 m c t r l).trans ((pay8_at _ _ _ _ _ r l).trans (gx_at m c t r l (place0 (by blk_simp; rw [idx6 t]; rfl) (by blk_simp; rw [idx6 t]) rfl (by rfl))))
theorem pay6_blk : k0_pay6 (F := Ideal) (iblk m c 0 t) (iblk m c 1 t) (iblk m c 2 t) (ix2 0 j) = part (prod m c) (m ((c.tc : Thread nD τ).loc main_arg2)) t.val j :=
  (pay6_at _ _ _ j).trans (gg_block _ _ t.val (tlt t) j (fun r l => prod_at m c t r l) (fun r l => blk2 m c t r l))
theorem acc7 (ht : t.val = 7) : (outsAt0 m c t.val t.isLt).2.2 (ix2 0 j) = two m c (ix2 0 j) := by
  obtain rfl : t = ⟨7, by decide⟩ := Fin.ext ht
  refine gg_acc (prod m c) (m ((c.tc : Thread nD τ).loc main_arg2)) j (fun n h => (outsAt0 m c n h).2.2 (ix2 0 j)) (fun h => ?_) (fun n h => ?_)
  · refine (out7A m c ⟨0, h⟩ j rfl).trans ((pay2_at j _ _).trans ?_)
    rw [pay1_at, zero_add]
    exact pay6_blk m c ⟨0, h⟩ j
  · refine (out7B m c ⟨n + 1, h⟩ j (show ¬ (n + 1) % 8 = 0 by omega)).trans ((pay2_at j _ _).trans ?_)
    exact congrArg₂ (fun a b : EReal => a + b) rfl (pay6_blk m c ⟨n + 1, h⟩ j)
theorem fin7 : (dats m 0 c).arrAt 7 cfg0.N = two m c := by
  refine (dats m 0 c).arrAt_eq_of_covers 7 _ (by decide +kernel) fun t hf y => ?_
  have ht := (by decide +kernel : ∀ t : Fin cfg0.N, (cfg0.win 7).flush t = true → t.val = 7) t hf
  obtain ⟨r, l, rfl⟩ := pair (p := 1) (q := 1024) y
  obtain rfl : r = 0 := Subsingleton.elim _ _
  rw [after0_7]
  exact (acc7 m c t l ht).trans (congrArg (two m c) (pair_eq _ 0 l (by blk_simp; rw [idx7 t]; rfl) (by blk_simp; rw [idx7 t]; exact Nat.zero_add _)).symm)
end Cert.QueryDxIdeal.Mm

namespace Cert.QueryDxRefIdeal.Mm
open Cert.QueryDxRefIdeal Cert.QueryDxRefIdeal.Gen Cert.QueryDxRefIdeal.Value Cert.Ffn Cert.Mm Cert.Rows
variable (m : (ℓ : Loc nD τ sig) → Buf (Elt Ideal) ℓ) (c : Dev nD)
theorem ref42_at (i : Fin 4096) (j : Fin 1024) : res_main_v42 (F := Ideal) m c (ix2 i j)
    = dxv (fun l => nt (p := 4096) (q := 1024) (r := 1024) (m ((c.tc : Thread nD τ).loc main_arg0)) (m ((c.tc : Thread nD τ).loc main_arg1)) (ix2 i l)) (fun l => (m ((c.tc : Thread nD τ).loc main_arg2)) (ix2 i l))
      (fun l => (m ((c.tc : Thread nD τ).loc main_arg3)) (ix2 0 l)) ((m ((c.tc : Thread nD τ).loc main_arg4)) (ix2 i j)) j := by
  rw [← row_eq]
  unfold res_main_v42 nt
  pointwise! []
  simp only [tiny_val, k_val, mhalf_val, Finset.univ_unique, Finset.sum_singleton]
  rfl
theorem ref44_at (i : Fin 4096) (j : Fin 1024) : res_main_v44 (F := Ideal) m c (ix2 i j) = res_main_v42 (F := Ideal) m c (ix2 i j) := by
  unfold res_main_v44 res_main_v42
  pointwise! []
end Cert.QueryDxRefIdeal.Mm

namespace Cert.QueryDxIdeal.Mm
open Cert.QueryDxIdeal Cert.QueryDxIdeal.Gen Cert.Ffn Cert.Mm Cert.Rows
/-- The kernel and the plain program end with equal results. -/
theorem algebraic : Cert.algebraic_QueryDxIdeal_QueryDxRefIdeal := by
  intro m g m' g' _ hagree
  refine ⟨fun c => one m c, fun c => one m c, fun c => two m c, ?_, ?_⟩
  · exact (θ_run defs _ _).mono (fun r h c => ⟨(h c).1.trans (fin5 m c), (h c).2.1.trans (fin6 m c), (h c).2.2.1.trans (fin7 m c), (h c).2.2.2⟩) (Value.run_blocks m g)
  · have e : ∀ c i j, Cert.QueryDxRefIdeal.Value.res_main_v42 (F := Ideal) m' c (ix2 i j) = one m c (ix2 i j) := by
      intro c i j
      refine (Cert.QueryDxRefIdeal.Mm.ref42_at m' c i j).trans ?_
      rw [(hagree c).1, (hagree c).2.1, (hagree c).2.2.1, (hagree c).2.2.2.1, (hagree c).2.2.2.2]
      rfl
    refine (θ_run Cert.QueryDxRefIdeal.defs _ _).mono (fun r h c => ⟨(h c).1.trans ?_, (h c).2.1.trans ?_, (h c).2.2.1.trans ?_, (h c).2.2.2⟩) (Cert.QueryDxRefIdeal.Value.run (F := Ideal) m' g')
    · funext y
      obtain ⟨i, j, rfl⟩ := pair (p := 4096) (q := 1024) y
      exact e c i j
    · funext y
      obtain ⟨i, j, rfl⟩ := pair (p := 4096) (q := 1024) y
      exact (Cert.QueryDxRefIdeal.Mm.ref44_at m' c i j).trans (e c i j)
    · unfold two prod
      rw [(hagree c).1, (hagree c).2.1, (hagree c).2.2.1]
      beta_reduce
      generalize m ((c.tc : Thread nD τ).loc main_arg0) = a0
      generalize m ((c.tc : Thread nD τ).loc main_arg1) = a1
      generalize m ((c.tc : Thread nD τ).loc main_arg2) = a2
      funext y
      obtain ⟨i, j, rfl⟩ := pair (p := 1) (q := 1024) y
      obtain rfl : i = 0 := Subsingleton.elim _ _
      refine Eq.trans ?_ (show (∑ r : Fin 4096, term (nt (p := 4096) (q := 1024) (r := 1024) a0 a1) a2 r j) = _ from rfl)
      unfold term nt
      pointwise! []
      simp only [tiny_val, k_val, Finset.univ_unique, Finset.sum_singleton]
      exact Finset.sum_congr rfl fun r _ => mul_comm _ _
end Cert.QueryDxIdeal.Mm

end
-- ==== Proof.KvVal.lean ====
module
public import proofs.«01_k».proof.Defs
public import proofs.«01_k».proof.Proof.Gen.KvIdeal.Value
public import proofs.«01_k».proof.Proof.Gen.KvRefIdeal.Run
public import proofs.«01_k».proof.Proof.Mm
@[expose] public section
set_option maxRecDepth 16384
noncomputable section
open Idealize.ShloMosaic Idealize.ShloMosaic.TcCoe Idealize.SL.Sem
open Idealize.ShloMosaic.Pipeline (Dat)

namespace Cert.KvIdeal.Mm
open Cert.KvIdeal Cert.KvIdeal.Gen Cert.Ffn Cert.Mm
variable (m : (ℓ : Loc nD τ sig) → Buf (Elt Ideal) ℓ) (c : Dev nD) (t : Fin cfg0.N)
theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem blk0 (r : Fin 512) (k : Fin 1024) : iblk m c 0 t (ix2 r k) = V m c main_arg0 (ix2 r k) := by
  blk_ext [iblk, V, idx0 t]
theorem blk1 (k : Fin 1024) (l : Fin 2048) : iblk m c 1 t (ix2 k l) = V m c main_arg1 (ix2 k l) := by
  blk_ext [iblk, V, idx1 t]
theorem pay_at (x : Vec Ideal S512x1024 .bf16) (y : Vec Ideal S1024x2048 .bf16) (r : Fin 512) (l : Fin 2048) : k0_pay1 x y (ix2 r l) = nn x y (ix2 r l) := by
  unfold nn
  pointwise [k0_pay1]
theorem fin2 : (dats m 0 c).arrAt 2 cfg0.N = nn (m ((c.tc : Thread nD τ).loc main_arg0)) (m ((c.tc : Thread nD τ).loc main_arg1)) := by
  refine (dats m 0 c).arrAt_eq_of_covers 2 _ (by decide +kernel) fun t hf y => ?_
  obtain ⟨r, l, rfl⟩ := pair (p := 512) (q := 2048) y
  rw [after0_2]
  frame_out
  exact (pay_at _ _ r l).trans (nn_block (fun k => blk0 m c t r k) (fun k => blk1 m c t k l)
    (pair_eq _ r l (by blk_simp; rw [idx2 t]; exact (congrArg (· + r.val) (Nat.zero_mul _)).trans (Nat.zero_add _)) (by blk_simp; rw [idx2 t]; exact (congrArg (· + l.val) (Nat.zero_mul _)).trans (Nat.zero_add _))))
/-- The kernel and the plain program end with equal results. -/
theorem algebraic : Cert.algebraic_KvIdeal_KvRefIdeal := by
  intro m g m' g' _ hagree
  refine ⟨fun c => nn (m ((c.tc : Thread nD τ).loc main_arg0)) (m ((c.tc : Thread nD τ).loc main_arg1)), ?_, ?_⟩
  · exact (θ_run defs _ _).mono (fun r h c => ⟨(h c).1.trans (fin2 m c), (h c).2⟩) (Value.run_blocks m g)
  · refine (θ_run Cert.KvRefIdeal.defs _ _).mono (fun r h c => ⟨(h c).1.trans ?_, (h c).2⟩) (Cert.KvRefIdeal.Value.run (F := Ideal) m' g')
    rw [(hagree c).1, (hagree c).2]
    funext y
    obtain ⟨i, j, rfl⟩ := pair (p := 512) (q := 2048) y
    unfold nn
    pointwise! []
end Cert.KvIdeal.Mm

end
-- ==== Proof.KvDxVal.lean ====
module
public import proofs.«01_k».proof.Defs
public import proofs.«01_k».proof.Proof.Gen.KvDxIdeal.Value
public import proofs.«01_k».proof.Proof.Gen.KvDxRefIdeal.Run
public import proofs.«01_k».proof.Proof.Mm
@[expose] public section
set_option maxRecDepth 16384
noncomputable section
open Idealize.ShloMosaic Idealize.ShloMosaic.TcCoe Idealize.SL.Sem
open Idealize.ShloMosaic.Pipeline (Dat)

namespace Cert.KvDxIdeal.Mm
open Cert.KvDxIdeal Cert.KvDxIdeal.Gen Cert.Ffn Cert.Mm
variable (m : (ℓ : Loc nD τ sig) → Buf (Elt Ideal) ℓ) (c : Dev nD) (t : Fin cfg0.N)
theorem idx0 : ∀ t : Fin cfg0.N, win0_0.index t = ![0, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![0, 0] := (by decide +kernel : ∀ t : Fin grid0.N, _)
theorem blk0 (r : Fin 512) (k : Fin 2048) : iblk m c 0 t (ix2 r k) = V m c main_arg0 (ix2 r k) := by
  blk_ext [iblk, V, idx0 t]
theorem blk1 (l : Fin 1024) (k : Fin 2048) : iblk m c 1 t (ix2 l k) = V m c main_arg1 (ix2 l k) := by
  blk_ext [iblk, V, idx1 t]
theorem pay_at (x : Vec Ideal S512x2048 .bf16) (y : Vec Ideal S1024x2048 .bf16) (r : Fin 512) (l : Fin 1024) : k0_pay1 x y (ix2 r l) = nt x y (ix2 r l) := by
  unfold nt
  pointwise [k0_pay1]
theorem fin2 : (dats m 0 c).arrAt 2 cfg0.N = nt (m ((c.tc : Thread nD τ).loc main_arg0)) (m ((c.tc : Thread nD τ).loc main_arg1)) := by
  refine (dats m 0 c).arrAt_eq_of_covers 2 _ (by decide +kernel) fun t hf y => ?_
  obtain ⟨r, l, rfl⟩ := pair (p := 512) (q := 1024) y
  rw [after0_2]
  frame_out
  exact (pay_at _ _ r l).trans (nt_block (fun k => blk0 m c t r k) (fun k => blk1 m c t l k)
    (pair_eq _ r l (by blk_simp; rw [idx2 t]; exact (congrArg (· + r.val) (Nat.zero_mul _)).trans (Nat.zero_add _)) (by blk_simp; rw [idx2 t]; exact (congrArg (· + l.val) (Nat.zero_mul _)).trans (Nat.zero_add _))))
/-- The kernel and the plain program end with equal results. -/
theorem algebraic : Cert.algebraic_KvDxIdeal_KvDxRefIdeal := by
  intro m g m' g' _ hagree
  refine ⟨fun c => nt (m ((c.tc : Thread nD τ).loc main_arg0)) (m ((c.tc : Thread nD τ).loc main_arg1)), ?_, ?_⟩
  · exact (θ_run defs _ _).mono (fun r h c => ⟨(h c).1.trans (fin2 m c), (h c).2⟩) (Value.run_blocks m g)
  · refine (θ_run Cert.KvDxRefIdeal.defs _ _).mono (fun r h c => ⟨(h c).1.trans ?_, (h c).2⟩) (Cert.KvDxRefIdeal.Value.run (F := Ideal) m' g')
    rw [(hagree c).1, (hagree c).2]
    funext y
    obtain ⟨i, j, rfl⟩ := pair (p := 512) (q := 1024) y
    unfold nt
    pointwise! []
end Cert.KvDxIdeal.Mm

end
-- ==== Proof.KvDwVal.lean ====
module
public import proofs.«01_k».proof.Defs
public import proofs.«01_k».proof.Proof.Gen.KvDwIdeal.Value
public import proofs.«01_k».proof.Proof.Gen.KvDwRefIdeal.Run
public import proofs.«01_k».proof.Proof.Mm
@[expose] public section
set_option maxRecDepth 16384
noncomputable section
open Idealize.ShloMosaic Idealize.ShloMosaic.TcCoe Idealize.SL.Sem
open Idealize.ShloMosaic.Pipeline (Dat)

namespace Cert.KvDwIdeal.Mm
open Cert.KvDwIdeal Cert.KvDwIdeal.Gen Cert.Ffn Cert.Mm
variable (m : (ℓ : Loc nD τ sig) → Buf (Elt Ideal) ℓ) (c : Dev nD) (t : Fin cfg0.N)
theorem idx0 : ∀ t : Fin cfg0.N, win0_0.index t = ![0, t.val] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![t.val, 0] := (by decide +kernel : ∀ t : Fin grid0.N, _)
theorem tlt : t.val < 2 := t.isLt
theorem blk0 (k : Fin 512) (r : Fin 512) : iblk m c 0 t (ix2 k r) = V m c main_arg0 (ix2 k ⟨512 * t.val + r.val, by have := tlt t; omega⟩) := by
  blk_ext [iblk, V, idx0 t]
theorem blk1 (k : Fin 512) (l : Fin 2048) : iblk m c 1 t (ix2 k l) = V m c main_arg1 (ix2 k l) := by
  blk_ext [iblk, V, idx1 t]
theorem pay_at (x : Vec Ideal S512x512 .bf16) (y : Vec Ideal S512x2048 .bf16) (r : Fin 512) (l : Fin 2048) : k0_pay1 x y (ix2 r l) = tn x y (ix2 r l) := by
  unfold tn
  pointwise [k0_pay1]
theorem fin2 : (dats m 0 c).arrAt 2 cfg0.N = tn (m ((c.tc : Thread nD τ).loc main_arg0)) (m ((c.tc : Thread nD τ).loc main_arg1)) := by
  refine (dats m 0 c).arrAt_eq_of_covers 2 _ (by decide +kernel) fun t hf y => ?_
  obtain ⟨r, l, rfl⟩ := pair (p := 512) (q := 2048) y
  rw [after0_2]
  frame_out
  exact (pay_at _ _ r l).trans (tn_block (fun k => blk0 m c t k r) (fun k => blk1 m c t k l)
    (place0 (by blk_simp; rw [idx2 t]; rfl) (by blk_simp; rw [idx2 t]) rfl (by rfl)))
/-- The kernel and the plain program end with equal results. -/
theorem algebraic : Cert.algebraic_KvDwIdeal_KvDwRefIdeal := by
  intro m g m' g' _ hagree
  refine ⟨fun c => tn (m ((c.tc : Thread nD τ).loc main_arg0)) (m ((c.tc : Thread nD τ).loc main_arg1)), ?_, ?_⟩
  · exact (θ_run defs _ _).mono (fun r h c => ⟨(h c).1.trans (fin2 m c), (h c).2⟩) (Value.run_blocks m g)
  · refine (θ_run Cert.KvDwRefIdeal.defs _ _).mono (fun r h c => ⟨(h c).1.trans ?_, (h c).2⟩) (Cert.KvDwRefIdeal.Value.run (F := Ideal) m' g')
    rw [(hagree c).1, (hagree c).2]
    funext y
    obtain ⟨i, j, rfl⟩ := pair (p := 1024) (q := 2048) y
    unfold tn
    pointwise! []
end Cert.KvDwIdeal.Mm

end
-- ==== Proof.IRunB.lean ====
/- The body's run in the second of its two cases (the grid points that add to the block). -/
module

public import proofs.«01_k».proof.Proof.Gen.KernelIdeal.Frame.RunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 2000000 in
/-- What the body's stores leave in each output's staging memref, as pieces (last first) IN CASE B (`scf.if` 0 not taken, `scf.if` 1 taken: points 1, 3, … 15: 8 of 16), WITH the
    proof that on whole staging memrefs — the inputs' at their contents, the outputs it reads before covering (13, 14, 15, 16, 17, 18, 19) at their running contents `xo·`, the other outputs' at
    anything, the scratch buffers at anything, the body runs to the continuation holding the inputs' as they were,
    the scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg2 : Memref sig .tc .vmem S2048x128 .bf16) (harg2 : arg2.IsWhole) (arg3 : Memref sig .tc .vmem S2048x128 .f32) (harg3 : arg3.IsWhole) (arg4 : Memref sig .tc .vmem S2048x128 .bf16) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x512x128 .bf16) (harg9 : arg9.IsWhole) (arg10 : Memref sig .tc .vmem S1x512x128 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x128 .f32) (harg13 : arg13.IsWhole) (arg14 : Memref sig .tc .vmem S2048x128 .f32) (harg14 : arg14.IsWhole) (arg15 : Memref sig .tc .vmem S1x128x512 .f32) (harg15 : arg15.IsWhole) (arg16 : Memref sig .tc .vmem S1x128x512 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x128 .f32) (harg21 : arg21.IsWhole) (arg22 : Memref sig .tc .vmem S2048x512 .f32) (harg22 : arg22.IsWhole) (arg23 : Memref sig .tc .vmem S2048x512 .f32) (harg23 : arg23.IsWhole) (hc0 : ¬cond0_0 i) (hc1 : cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) (xo13 : Vec F S1x128x512 .f32) (xo14 : Vec F S1x128x512 .f32) (xo15 : Vec F S1x512x128 .f32) (xo16 : Vec F S1x512x128 .f32) (xo17 : Vec F S1x512 .f32) (xo18 : Vec F S1x512 .f32) (xo19 : Vec F S1x128 .f32) :
    Σ' (L12 : List (View.Piece (Elt F) S2048x128 .f32)), Σ' (L13 : List (View.Piece (Elt F) S1x128x512 .f32)), Σ' (L14 : List (View.Piece (Elt F) S1x128x512 .f32)), Σ' (L15 : List (View.Piece (Elt F) S1x512x128 .f32)), Σ' (L16 : List (View.Piece (Elt F) S1x512x128 .f32)), Σ' (L17 : List (View.Piece (Elt F) S1x512 .f32)), Σ' (L18 : List (View.Piece (Elt F) S1x512 .f32)), { L19 : List (View.Piece (Elt F) S1x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ owns (c : Thread nD τ) arg15 fullShare xo13 ∗ owns (c : Thread nD τ) arg16 fullShare xo14 ∗ owns (c : Thread nD τ) arg17 fullShare xo15 ∗ owns (c : Thread nD τ) arg18 fullShare xo16 ∗ owns (c : Thread nD τ) arg19 fullShare xo17 ∗ owns (c : Thread nD τ) arg20 fullShare xo18 ∗ owns (c : Thread nD τ) arg21 fullShare xo19 ∗ (∃ d, owns (c : Thread nD τ) arg22 fullShare d) ∗ (∃ d, owns (c : Thread nD τ) arg23 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ d, owns (c : Thread nD τ) arg22 fullShare d) ∗ (∃ d, owns (c : Thread nD τ) arg23 fullShare d)) -∗ K ⟨⟩))
          ⊢ wp frame (wpE (defs₀ (F := F)) Variants.none c none) E (cc0_s5_scan_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, fun E K => ?run⟩
  case run =>
    simp only [cc0_s5_scan_bwd_eq_skeleton]; unfold cc0_s5_scan_bwd_skel
    simp only [k0_part2_eq_skeleton, k0_part3_eq_skeleton, k0_part4_eq_skeleton, k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg15.eq_unread hf13; obtain rfl := harg16.eq_unread hf14; obtain rfl := harg17.eq_unread hf15; obtain rfl := harg18.eq_unread hf16; obtain rfl := harg19.eq_unread hf17; obtain rfl := harg20.eq_unread hf18; obtain rfl := harg21.eq_unread hf19
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [HS0]
    · iexists _, _; isplitr; swap; · iexact HS0
      ipureintro; rfl
    iexists _, _; isplitr; swap; · iexact HS1
    ipureintro; rfl

end Cert.KernelIdeal.Gen

end
-- ==== Proof.IOuts.lean ====
/- What the kernel's body leaves in each output's buffer, per case. -/
module

public import proofs.«01_k».proof.Proof.IRunB
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
variable (c : Dev nD) (i : grid0.Coords) (arg2 : Memref sig .tc .vmem S2048x128 .bf16) (harg2 : arg2.IsWhole) (arg3 : Memref sig .tc .vmem S2048x128 .f32) (harg3 : arg3.IsWhole) (arg4 : Memref sig .tc .vmem S2048x128 .bf16) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x512x128 .bf16) (harg9 : arg9.IsWhole) (arg10 : Memref sig .tc .vmem S1x512x128 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x128 .f32) (harg13 : arg13.IsWhole) (arg14 : Memref sig .tc .vmem S2048x128 .f32) (harg14 : arg14.IsWhole) (arg15 : Memref sig .tc .vmem S1x128x512 .f32) (harg15 : arg15.IsWhole) (arg16 : Memref sig .tc .vmem S1x128x512 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x128 .f32) (harg21 : arg21.IsWhole) (arg22 : Memref sig .tc .vmem S2048x512 .f32) (harg22 : arg22.IsWhole) (arg23 : Memref sig .tc .vmem S2048x512 .f32) (harg23 : arg23.IsWhole)
/-- Case A's pieces for output 12 tile its block (1 store of `S2048x128`), so they cover it. -/
theorem cover0_A_12 (hc0 : cond0_0 i) (hc1 : ¬cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) (y : S2048x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).1 S2048x128.size (by sl_kernel_rfl) y

/-- What case A leaves in output 12's staging buffer: its pieces read back over junk. -/
def out0_A_12 (hc0 : cond0_0 i) (hc1 : ¬cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) : Vec F S2048x128 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).1)

/-- Case A's pieces for output 13 tile its block (1 store of `S1x128x512`), so they cover it. -/
theorem cover0_A_13 (hc0 : cond0_0 i) (hc1 : ¬cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) (y : S1x128x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).2.1 S1x128x512.size (by sl_kernel_rfl) y

/-- What case A leaves in output 13's staging buffer: its pieces read back over junk. -/
def out0_A_13 (hc0 : cond0_0 i) (hc1 : ¬cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) : Vec F S1x128x512 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).2.1)

/-- Case A's pieces for output 14 tile its block (1 store of `S1x128x512`), so they cover it. -/
theorem cover0_A_14 (hc0 : cond0_0 i) (hc1 : ¬cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) (y : S1x128x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).2.2.1 S1x128x512.size (by sl_kernel_rfl) y

/-- What case A leaves in output 14's staging buffer: its pieces read back over junk. -/
def out0_A_14 (hc0 : cond0_0 i) (hc1 : ¬cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) : Vec F S1x128x512 .f32 :=
  VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).2.2.1)

/-- Case A's pieces for output 15 tile its block (1 store of `S1x512x128`), so they cover it. -/
theorem cover0_A_15 (hc0 : cond0_0 i) (hc1 : ¬cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) (y : S1x512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).2.2.2.1 S1x512x128.size (by sl_kernel_rfl) y

/-- What case A leaves in output 15's staging buffer: its pieces read back over junk. -/
def out0_A_15 (hc0 : cond0_0 i) (hc1 : ¬cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) : Vec F S1x512x128 .f32 :=
  VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).2.2.2.1)

/-- Case A's pieces for output 16 tile its block (1 store of `S1x512x128`), so they cover it. -/
theorem cover0_A_16 (hc0 : cond0_0 i) (hc1 : ¬cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) (y : S1x512x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).2.2.2.2.1 S1x512x128.size (by sl_kernel_rfl) y

/-- What case A leaves in output 16's staging buffer: its pieces read back over junk. -/
def out0_A_16 (hc0 : cond0_0 i) (hc1 : ¬cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) : Vec F S1x512x128 .f32 :=
  VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).2.2.2.2.1)

/-- Case A's pieces for output 17 tile its block (1 store of `S1x512`), so they cover it. -/
theorem cover0_A_17 (hc0 : cond0_0 i) (hc1 : ¬cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) (y : S1x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).2.2.2.2.2.1 S1x512.size (by sl_kernel_rfl) y

/-- What case A leaves in output 17's staging buffer: its pieces read back over junk. -/
def out0_A_17 (hc0 : cond0_0 i) (hc1 : ¬cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) : Vec F S1x512 .f32 :=
  VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).2.2.2.2.2.1)

/-- Case A's pieces for output 18 tile its block (1 store of `S1x512`), so they cover it. -/
theorem cover0_A_18 (hc0 : cond0_0 i) (hc1 : ¬cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) (y : S1x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).2.2.2.2.2.2.1 S1x512.size (by sl_kernel_rfl) y

/-- What case A leaves in output 18's staging buffer: its pieces read back over junk. -/
def out0_A_18 (hc0 : cond0_0 i) (hc1 : ¬cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) : Vec F S1x512 .f32 :=
  VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).2.2.2.2.2.2.1)

/-- Case A's pieces for output 19 tile its block (1 store of `S1x128`), so they cover it. -/
theorem cover0_A_19 (hc0 : cond0_0 i) (hc1 : ¬cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) (y : S1x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).2.2.2.2.2.2.2.1 S1x128.size (by sl_kernel_rfl) y

/-- What case A leaves in output 19's staging buffer: its pieces read back over junk. -/
def out0_A_19 (hc0 : cond0_0 i) (hc1 : ¬cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) : Vec F S1x128 .f32 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11).2.2.2.2.2.2.2.1)

/-- Case B's pieces for output 12 tile its block (1 store of `S2048x128`), so they cover it. -/
theorem cover0_B_12 (hc0 : ¬cond0_0 i) (hc1 : cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) (xo13 : Vec F S1x128x512 .f32) (xo14 : Vec F S1x128x512 .f32) (xo15 : Vec F S1x512x128 .f32) (xo16 : Vec F S1x512x128 .f32) (xo17 : Vec F S1x512 .f32) (xo18 : Vec F S1x512 .f32) (xo19 : Vec F S1x128 .f32) (y : S2048x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19).1 S2048x128.size (by sl_kernel_rfl) y

/-- What case B leaves in output 12's staging buffer: its pieces read back over junk. -/
def out0_B_12 (hc0 : ¬cond0_0 i) (hc1 : cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) (xo13 : Vec F S1x128x512 .f32) (xo14 : Vec F S1x128x512 .f32) (xo15 : Vec F S1x512x128 .f32) (xo16 : Vec F S1x512x128 .f32) (xo17 : Vec F S1x512 .f32) (xo18 : Vec F S1x512 .f32) (xo19 : Vec F S1x128 .f32) : Vec F S2048x128 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19).1)

/-- Case B's pieces for output 13 tile its block (1 store of `S1x128x512`), so they cover it. -/
theorem cover0_B_13 (hc0 : ¬cond0_0 i) (hc1 : cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) (xo13 : Vec F S1x128x512 .f32) (xo14 : Vec F S1x128x512 .f32) (xo15 : Vec F S1x512x128 .f32) (xo16 : Vec F S1x512x128 .f32) (xo17 : Vec F S1x512 .f32) (xo18 : Vec F S1x512 .f32) (xo19 : Vec F S1x128 .f32) (y : S1x128x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19).2.1 S1x128x512.size (by sl_kernel_rfl) y

/-- What case B leaves in output 13's staging buffer: its pieces read back over junk. -/
def out0_B_13 (hc0 : ¬cond0_0 i) (hc1 : cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) (xo13 : Vec F S1x128x512 .f32) (xo14 : Vec F S1x128x512 .f32) (xo15 : Vec F S1x512x128 .f32) (xo16 : Vec F S1x512x128 .f32) (xo17 : Vec F S1x512 .f32) (xo18 : Vec F S1x512 .f32) (xo19 : Vec F S1x128 .f32) : Vec F S1x128x512 .f32 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19).2.1)

/-- Case B's pieces for output 14 tile its block (1 store of `S1x128x512`), so they cover it. -/
theorem cover0_B_14 (hc0 : ¬cond0_0 i) (hc1 : cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) (xo13 : Vec F S1x128x512 .f32) (xo14 : Vec F S1x128x512 .f32) (xo15 : Vec F S1x512x128 .f32) (xo16 : Vec F S1x512x128 .f32) (xo17 : Vec F S1x512 .f32) (xo18 : Vec F S1x512 .f32) (xo19 : Vec F S1x128 .f32) (y : S1x128x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19).2.2.1 S1x128x512.size (by sl_kernel_rfl) y

/-- What case B leaves in output 14's staging buffer: its pieces read back over junk. -/
def out0_B_14 (hc0 : ¬cond0_0 i) (hc1 : cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) (xo13 : Vec F S1x128x512 .f32) (xo14 : Vec F S1x128x512 .f32) (xo15 : Vec F S1x512x128 .f32) (xo16 : Vec F S1x512x128 .f32) (xo17 : Vec F S1x512 .f32) (xo18 : Vec F S1x512 .f32) (xo19 : Vec F S1x128 .f32) : Vec F S1x128x512 .f32 :=
  VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19).2.2.1)

/-- Case B's pieces for output 15 tile its block (1 store of `S1x512x128`), so they cover it. -/
theorem cover0_B_15 (hc0 : ¬cond0_0 i) (hc1 : cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) (xo13 : Vec F S1x128x512 .f32) (xo14 : Vec F S1x128x512 .f32) (xo15 : Vec F S1x512x128 .f32) (xo16 : Vec F S1x512x128 .f32) (xo17 : Vec F S1x512 .f32) (xo18 : Vec F S1x512 .f32) (xo19 : Vec F S1x128 .f32) (y : S1x512x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19).2.2.2.1 S1x512x128.size (by sl_kernel_rfl) y

/-- What case B leaves in output 15's staging buffer: its pieces read back over junk. -/
def out0_B_15 (hc0 : ¬cond0_0 i) (hc1 : cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) (xo13 : Vec F S1x128x512 .f32) (xo14 : Vec F S1x128x512 .f32) (xo15 : Vec F S1x512x128 .f32) (xo16 : Vec F S1x512x128 .f32) (xo17 : Vec F S1x512 .f32) (xo18 : Vec F S1x512 .f32) (xo19 : Vec F S1x128 .f32) : Vec F S1x512x128 .f32 :=
  VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19).2.2.2.1)

/-- Case B's pieces for output 16 tile its block (1 store of `S1x512x128`), so they cover it. -/
theorem cover0_B_16 (hc0 : ¬cond0_0 i) (hc1 : cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) (xo13 : Vec F S1x128x512 .f32) (xo14 : Vec F S1x128x512 .f32) (xo15 : Vec F S1x512x128 .f32) (xo16 : Vec F S1x512x128 .f32) (xo17 : Vec F S1x512 .f32) (xo18 : Vec F S1x512 .f32) (xo19 : Vec F S1x128 .f32) (y : S1x512x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19).2.2.2.2.1 S1x512x128.size (by sl_kernel_rfl) y

/-- What case B leaves in output 16's staging buffer: its pieces read back over junk. -/
def out0_B_16 (hc0 : ¬cond0_0 i) (hc1 : cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) (xo13 : Vec F S1x128x512 .f32) (xo14 : Vec F S1x128x512 .f32) (xo15 : Vec F S1x512x128 .f32) (xo16 : Vec F S1x512x128 .f32) (xo17 : Vec F S1x512 .f32) (xo18 : Vec F S1x512 .f32) (xo19 : Vec F S1x128 .f32) : Vec F S1x512x128 .f32 :=
  VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19).2.2.2.2.1)

/-- Case B's pieces for output 17 tile its block (1 store of `S1x512`), so they cover it. -/
theorem cover0_B_17 (hc0 : ¬cond0_0 i) (hc1 : cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) (xo13 : Vec F S1x128x512 .f32) (xo14 : Vec F S1x128x512 .f32) (xo15 : Vec F S1x512x128 .f32) (xo16 : Vec F S1x512x128 .f32) (xo17 : Vec F S1x512 .f32) (xo18 : Vec F S1x512 .f32) (xo19 : Vec F S1x128 .f32) (y : S1x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19).2.2.2.2.2.1 S1x512.size (by sl_kernel_rfl) y

/-- What case B leaves in output 17's staging buffer: its pieces read back over junk. -/
def out0_B_17 (hc0 : ¬cond0_0 i) (hc1 : cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) (xo13 : Vec F S1x128x512 .f32) (xo14 : Vec F S1x128x512 .f32) (xo15 : Vec F S1x512x128 .f32) (xo16 : Vec F S1x512x128 .f32) (xo17 : Vec F S1x512 .f32) (xo18 : Vec F S1x512 .f32) (xo19 : Vec F S1x128 .f32) : Vec F S1x512 .f32 :=
  VO0_17.read (Elt F) (VO0_17.writes (Elt F) VO0_17.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19).2.2.2.2.2.1)

/-- Case B's pieces for output 18 tile its block (1 store of `S1x512`), so they cover it. -/
theorem cover0_B_18 (hc0 : ¬cond0_0 i) (hc1 : cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) (xo13 : Vec F S1x128x512 .f32) (xo14 : Vec F S1x128x512 .f32) (xo15 : Vec F S1x512x128 .f32) (xo16 : Vec F S1x512x128 .f32) (xo17 : Vec F S1x512 .f32) (xo18 : Vec F S1x512 .f32) (xo19 : Vec F S1x128 .f32) (y : S1x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19).2.2.2.2.2.2.1 S1x512.size (by sl_kernel_rfl) y

/-- What case B leaves in output 18's staging buffer: its pieces read back over junk. -/
def out0_B_18 (hc0 : ¬cond0_0 i) (hc1 : cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) (xo13 : Vec F S1x128x512 .f32) (xo14 : Vec F S1x128x512 .f32) (xo15 : Vec F S1x512x128 .f32) (xo16 : Vec F S1x512x128 .f32) (xo17 : Vec F S1x512 .f32) (xo18 : Vec F S1x512 .f32) (xo19 : Vec F S1x128 .f32) : Vec F S1x512 .f32 :=
  VO0_18.read (Elt F) (VO0_18.writes (Elt F) VO0_18.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19).2.2.2.2.2.2.1)

/-- Case B's pieces for output 19 tile its block (1 store of `S1x128`), so they cover it. -/
theorem cover0_B_19 (hc0 : ¬cond0_0 i) (hc1 : cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) (xo13 : Vec F S1x128x512 .f32) (xo14 : Vec F S1x128x512 .f32) (xo15 : Vec F S1x512x128 .f32) (xo16 : Vec F S1x512x128 .f32) (xo17 : Vec F S1x512 .f32) (xo18 : Vec F S1x512 .f32) (xo19 : Vec F S1x128 .f32) (y : S1x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19).2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19).2.2.2.2.2.2.2.1 S1x128.size (by sl_kernel_rfl) y

/-- What case B leaves in output 19's staging buffer: its pieces read back over junk. -/
def out0_B_19 (hc0 : ¬cond0_0 i) (hc1 : cond0_1 i)
    (x0 : Vec F S2048x128 .bf16) (x1 : Vec F S2048x128 .f32) (x2 : Vec F S2048x128 .bf16) (x3 : Vec F S2048x512 .f32) (x4 : Vec F S2048x512 .f32) (x5 : Vec F S1x128x512 .bf16) (x6 : Vec F S1x128x512 .bf16) (x7 : Vec F S1x512x128 .bf16) (x8 : Vec F S1x512x128 .bf16) (x9 : Vec F S1x512 .f32) (x10 : Vec F S1x512 .f32) (x11 : Vec F S1x128 .f32) (xo13 : Vec F S1x128x512 .f32) (xo14 : Vec F S1x128x512 .f32) (xo15 : Vec F S1x512x128 .f32) (xo16 : Vec F S1x512x128 .f32) (xo17 : Vec F S1x512 .f32) (xo18 : Vec F S1x512 .f32) (xo19 : Vec F S1x128 .f32) : Vec F S1x128 .f32 :=
  VO0_19.read (Elt F) (VO0_19.writes (Elt F) VO0_19.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 hc1 x0 x1 x2 x3 x4 x5 x6 x7 x8 x9 x10 x11 xo13 xo14 xo15 xo16 xo17 xo18 xo19).2.2.2.2.2.2.2.1)

end Cert.KernelIdeal.Gen

end
-- ==== Proof.IFrame.lean ====
/- What the outputs hold after each grid point, and the kernel's frame. -/
module

public import proofs.«01_k».proof.Proof.IOuts
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## What the outputs hold after each point -/

/-- What a point of case A leaves. -/
abbrev ptA (c : Dev nD) (t : Fin cfg0.N) (h0 : t.val % 2 = 0) (h1 : ¬t.val % 2 = 1) : Vec F S2048x128 .f32 × Vec F S1x128x512 .f32 × Vec F S1x128x512 .f32 × Vec F S1x512x128 .f32 × Vec F S1x512x128 .f32 × Vec F S1x512 .f32 × Vec F S1x512 .f32 × Vec F S1x128 .f32 :=
  (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))

/-- What a point of case B leaves, over what the point before left. -/
abbrev ptB (c : Dev nD) (t : Fin cfg0.N) (h0 : ¬t.val % 2 = 0) (h1 : t.val % 2 = 1) (p : Vec F S2048x128 .f32 × Vec F S1x128x512 .f32 × Vec F S1x128x512 .f32 × Vec F S1x512x128 .f32 × Vec F S1x512x128 .f32 × Vec F S1x512 .f32 × Vec F S1x512 .f32 × Vec F S1x128 .f32) : Vec F S2048x128 .f32 × Vec F S1x128x512 .f32 × Vec F S1x128x512 .f32 × Vec F S1x512x128 .f32 × Vec F S1x512x128 .f32 × Vec F S1x512 .f32 × Vec F S1x512 .f32 × Vec F S1x128 .f32 :=
  (out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.1 p.2.2.1 p.2.2.2.1 p.2.2.2.2.1 p.2.2.2.2.2.1 p.2.2.2.2.2.2.1 p.2.2.2.2.2.2.2, out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.1 p.2.2.1 p.2.2.2.1 p.2.2.2.2.1 p.2.2.2.2.2.1 p.2.2.2.2.2.2.1 p.2.2.2.2.2.2.2, out0_B_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.1 p.2.2.1 p.2.2.2.1 p.2.2.2.2.1 p.2.2.2.2.2.1 p.2.2.2.2.2.2.1 p.2.2.2.2.2.2.2, out0_B_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.1 p.2.2.1 p.2.2.2.1 p.2.2.2.2.1 p.2.2.2.2.2.1 p.2.2.2.2.2.2.1 p.2.2.2.2.2.2.2, out0_B_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.1 p.2.2.1 p.2.2.2.1 p.2.2.2.2.1 p.2.2.2.2.2.1 p.2.2.2.2.2.2.1 p.2.2.2.2.2.2.2, out0_B_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.1 p.2.2.1 p.2.2.2.1 p.2.2.2.2.1 p.2.2.2.2.2.1 p.2.2.2.2.2.2.1 p.2.2.2.2.2.2.2, out0_B_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.1 p.2.2.1 p.2.2.2.1 p.2.2.2.2.1 p.2.2.2.2.2.1 p.2.2.2.2.2.2.1 p.2.2.2.2.2.2.2, out0_B_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) p.2.1 p.2.2.1 p.2.2.2.1 p.2.2.2.2.1 p.2.2.2.2.2.1 p.2.2.2.2.2.2.1 p.2.2.2.2.2.2.2)

/-- THE ACCUMULATION. What the outputs' staging buffers hold after the body at position `n` (a tuple, in window order):
    the case the closed forms select at `n`, run at the point's memrefs and input blocks, an output it reads before covering
    at what this leaves at `n - 1` (its buffer is not written back between: `before0_W_κ`); an output it leaves idle whose contents another case keeps stays
    what this leaves at `n - 1`, carried. An assignment of the conditions no point meets is no case (`False.elim`). -/
def outsAt0 (c : Dev nD) : (n : ℕ) → n < cfg0.N → Vec F S2048x128 .f32 × Vec F S1x128x512 .f32 × Vec F S1x128x512 .f32 × Vec F S1x512x128 .f32 × Vec F S1x512x128 .f32 × Vec F S1x512 .f32 × Vec F S1x512 .f32 × Vec F S1x128 .f32
  | 0, hn => ptA m c ⟨0, hn⟩ (Nat.zero_mod _) (by (try dsimp only); omega)
  | n + 1, hn =>
    if h0 : (n + 1) % 2 = 0 then
      if h1 : (n + 1) % 2 = 1 then
        False.elim (by have hN : n + 1 < 16 := lt_of_lt_of_eq hn (show cfg0.N = 16 from N_0); omega)
      else
        ptA m c ⟨n + 1, hn⟩ h0 h1
    else
      if h1 : (n + 1) % 2 = 1 then
        ptB m c ⟨n + 1, hn⟩ h0 h1 (outsAt0 c n (Nat.lt_of_succ_lt hn))
      else
        False.elim (by have hN : n + 1 < 16 := lt_of_lt_of_eq hn (show cfg0.N = 16 from N_0); omega)

/-- `outsAt0` at a point of case A: that case's contents. -/
theorem outsAt0_A (c : Dev nD) (t : Fin cfg0.N) (h0 : t.val % 2 = 0) (h1 : ¬t.val % 2 = 1) :
    outsAt0 m c t.val t.isLt = ptA m c t h0 h1 := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 2 = 0) (h1 : t.val % 2 = 1) :
    outsAt0 m c t.val t.isLt = ptB m c t h0 h1 (outsAt0 m c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t.val t.isLt).1
    | ⟨13, _⟩ => (outsAt0 m c t.val t.isLt).2.1
    | ⟨14, _⟩ => (outsAt0 m c t.val t.isLt).2.2.1
    | ⟨15, _⟩ => (outsAt0 m c t.val t.isLt).2.2.2.1
    | ⟨16, _⟩ => (outsAt0 m c t.val t.isLt).2.2.2.2.1
    | ⟨17, _⟩ => (outsAt0 m c t.val t.isLt).2.2.2.2.2.1
    | ⟨18, _⟩ => (outsAt0 m c t.val t.isLt).2.2.2.2.2.2.1
    | ⟨19, _⟩ => (outsAt0 m c t.val t.isLt).2.2.2.2.2.2.2
    | ⟨_ + 20, h⟩ => absurd h (Nat.not_lt.2 (Nat.le_add_left _ _))
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t.val t.isLt).1 := by dsimp only [dats]
theorem after0_13 (c : Dev nD) (t : Fin cfg0.N) : (dats m 0 c).after 13 t = (outsAt0 m c t.val t.isLt).2.1 := by dsimp only [dats]
theorem after0_14 (c : Dev nD) (t : Fin cfg0.N) : (dats m 0 c).after 14 t = (outsAt0 m c t.val t.isLt).2.2.1 := by dsimp only [dats]
theorem after0_15 (c : Dev nD) (t : Fin cfg0.N) : (dats m 0 c).after 15 t = (outsAt0 m c t.val t.isLt).2.2.2.1 := by dsimp only [dats]
theorem after0_16 (c : Dev nD) (t : Fin cfg0.N) : (dats m 0 c).after 16 t = (outsAt0 m c t.val t.isLt).2.2.2.2.1 := by dsimp only [dats]
theorem after0_17 (c : Dev nD) (t : Fin cfg0.N) : (dats m 0 c).after 17 t = (outsAt0 m c t.val t.isLt).2.2.2.2.2.1 := by dsimp only [dats]
theorem after0_18 (c : Dev nD) (t : Fin cfg0.N) : (dats m 0 c).after 18 t = (outsAt0 m c t.val t.isLt).2.2.2.2.2.2.1 := by dsimp only [dats]
theorem after0_19 (c : Dev nD) (t : Fin cfg0.N) : (dats m 0 c).after 19 t = (outsAt0 m c t.val t.isLt).2.2.2.2.2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-- Output 13's contents CARRY through the points that leave it idle: at such a point, its buffer not fresh, the proof data's
    `after` is the point before's (the case there stores nothing into the window and its term says so; a case that stores
    into it is not idle there by `liveAt0_13_κ`) — the hypothesis of Lib/Pipeline/TableIdle.lean `Dat.before_out_traj`. -/
theorem hcarry0_13 (c : Dev nD) : ∀ (t : Fin cfg0.N) (_ : t.val ≠ 0), cfg0.idle 13 (grid0.coords t) = true → cfg0.fresh 13 t.val = false →
    (dats m 0 c).after 13 t = (dats m 0 c).after 13 ⟨t.val - 1, by omega⟩ := by
  intro t _ hi _
  have hN : t.val < 16 := lt_of_lt_of_eq t.isLt (show cfg0.N = 16 from N_0)
  rw [after0_13, after0_13]
  by_cases h0 : t.val % 2 = 0
  · by_cases h1 : t.val % 2 = 1
    · exfalso; omega
    · rw [liveAt0_13_A t ((hcond0_0 t).mpr h0) (fun h => h1 ((hcond0_1 t).mp h))] at hi
      exact absurd hi Bool.false_ne_true
  · by_cases h1 : t.val % 2 = 1
    · rw [liveAt0_13_B t (fun h => h0 ((hcond0_0 t).mp h)) ((hcond0_1 t).mpr h1)] at hi
      exact absurd hi Bool.false_ne_true
    · exfalso; omega

/-- Output 14's contents CARRY through the points that leave it idle: at such a point, its buffer not fresh, the proof data's
    `after` is the point before's (the case there stores nothing into the window and its term says so; a case that stores
    into it is not idle there by `liveAt0_14_κ`) — the hypothesis of Lib/Pipeline/TableIdle.lean `Dat.before_out_traj`. -/
theorem hcarry0_14 (c : Dev nD) : ∀ (t : Fin cfg0.N) (_ : t.val ≠ 0), cfg0.idle 14 (grid0.coords t) = true → cfg0.fresh 14 t.val = false →
    (dats m 0 c).after 14 t = (dats m 0 c).after 14 ⟨t.val - 1, by omega⟩ := by
  intro t _ hi _
  have hN : t.val < 16 := lt_of_lt_of_eq t.isLt (show cfg0.N = 16 from N_0)
  rw [after0_14, after0_14]
  by_cases h0 : t.val % 2 = 0
  · by_cases h1 : t.val % 2 = 1
    · exfalso; omega
    · rw [liveAt0_14_A t ((hcond0_0 t).mpr h0) (fun h => h1 ((hcond0_1 t).mp h))] at hi
      exact absurd hi Bool.false_ne_true
  · by_cases h1 : t.val % 2 = 1
    · rw [liveAt0_14_B t (fun h => h0 ((hcond0_0 t).mp h)) ((hcond0_1 t).mpr h1)] at hi
      exact absurd hi Bool.false_ne_true
    · exfalso; omega

/-- Output 15's contents CARRY through the points that leave it idle: at such a point, its buffer not fresh, the proof data's
    `after` is the point before's (the case there stores nothing into the window and its term says so; a case that stores
    into it is not idle there by `liveAt0_15_κ`) — the hypothesis of Lib/Pipeline/TableIdle.lean `Dat.before_out_traj`. -/
theorem hcarry0_15 (c : Dev nD) : ∀ (t : Fin cfg0.N) (_ : t.val ≠ 0), cfg0.idle 15 (grid0.coords t) = true → cfg0.fresh 15 t.val = false →
    (dats m 0 c).after 15 t = (dats m 0 c).after 15 ⟨t.val - 1, by omega⟩ := by
  intro t _ hi _
  have hN : t.val < 16 := lt_of_lt_of_eq t.isLt (show cfg0.N = 16 from N_0)
  rw [after0_15, after0_15]
  by_cases h0 : t.val % 2 = 0
  · by_cases h1 : t.val % 2 = 1
    · exfalso; omega
    · rw [liveAt0_15_A t ((hcond0_0 t).mpr h0) (fun h => h1 ((hcond0_1 t).mp h))] at hi
      exact absurd hi Bool.false_ne_true
  · by_cases h1 : t.val % 2 = 1
    · rw [liveAt0_15_B t (fun h => h0 ((hcond0_0 t).mp h)) ((hcond0_1 t).mpr h1)] at hi
      exact absurd hi Bool.false_ne_true
    · exfalso; omega

/-- Output 16's contents CARRY through the points that leave it idle: at such a point, its buffer not fresh, the proof data's
    `after` is the point before's (the case there stores nothing into the window and its term says so; a case that stores
    into it is not idle there by `liveAt0_16_κ`) — the hypothesis of Lib/Pipeline/TableIdle.lean `Dat.before_out_traj`. -/
theorem hcarry0_16 (c : Dev nD) : ∀ (t : Fin cfg0.N) (_ : t.val ≠ 0), cfg0.idle 16 (grid0.coords t) = true → cfg0.fresh 16 t.val = false →
    (dats m 0 c).after 16 t = (dats m 0 c).after 16 ⟨t.val - 1, by omega⟩ := by
  intro t _ hi _
  have hN : t.val < 16 := lt_of_lt_of_eq t.isLt (show cfg0.N = 16 from N_0)
  rw [after0_16, after0_16]
  by_cases h0 : t.val % 2 = 0
  · by_cases h1 : t.val % 2 = 1
    · exfalso; omega
    · rw [liveAt0_16_A t ((hcond0_0 t).mpr h0) (fun h => h1 ((hcond0_1 t).mp h))] at hi
      exact absurd hi Bool.false_ne_true
  · by_cases h1 : t.val % 2 = 1
    · rw [liveAt0_16_B t (fun h => h0 ((hcond0_0 t).mp h)) ((hcond0_1 t).mpr h1)] at hi
      exact absurd hi Bool.false_ne_true
    · exfalso; omega

/-- Output 17's contents CARRY through the points that leave it idle: at such a point, its buffer not fresh, the proof data's
    `after` is the point before's (the case there stores nothing into the window and its term says so; a case that stores
    into it is not idle there by `liveAt0_17_κ`) — the hypothesis of Lib/Pipeline/TableIdle.lean `Dat.before_out_traj`. -/
theorem hcarry0_17 (c : Dev nD) : ∀ (t : Fin cfg0.N) (_ : t.val ≠ 0), cfg0.idle 17 (grid0.coords t) = true → cfg0.fresh 17 t.val = false →
    (dats m 0 c).after 17 t = (dats m 0 c).after 17 ⟨t.val - 1, by omega⟩ := by
  intro t _ hi _
  have hN : t.val < 16 := lt_of_lt_of_eq t.isLt (show cfg0.N = 16 from N_0)
  rw [after0_17, after0_17]
  by_cases h0 : t.val % 2 = 0
  · by_cases h1 : t.val % 2 = 1
    · exfalso; omega
    · rw [liveAt0_17_A t ((hcond0_0 t).mpr h0) (fun h => h1 ((hcond0_1 t).mp h))] at hi
      exact absurd hi Bool.false_ne_true
  · by_cases h1 : t.val % 2 = 1
    · rw [liveAt0_17_B t (fun h => h0 ((hcond0_0 t).mp h)) ((hcond0_1 t).mpr h1)] at hi
      exact absurd hi Bool.false_ne_true
    · exfalso; omega

/-- Output 18's contents CARRY through the points that leave it idle: at such a point, its buffer not fresh, the proof data's
    `after` is the point before's (the case there stores nothing into the window and its term says so; a case that stores
    into it is not idle there by `liveAt0_18_κ`) — the hypothesis of Lib/Pipeline/TableIdle.lean `Dat.before_out_traj`. -/
theorem hcarry0_18 (c : Dev nD) : ∀ (t : Fin cfg0.N) (_ : t.val ≠ 0), cfg0.idle 18 (grid0.coords t) = true → cfg0.fresh 18 t.val = false →
    (dats m 0 c).after 18 t = (dats m 0 c).after 18 ⟨t.val - 1, by omega⟩ := by
  intro t _ hi _
  have hN : t.val < 16 := lt_of_lt_of_eq t.isLt (show cfg0.N = 16 from N_0)
  rw [after0_18, after0_18]
  by_cases h0 : t.val % 2 = 0
  · by_cases h1 : t.val % 2 = 1
    · exfalso; omega
    · rw [liveAt0_18_A t ((hcond0_0 t).mpr h0) (fun h => h1 ((hcond0_1 t).mp h))] at hi
      exact absurd hi Bool.false_ne_true
  · by_cases h1 : t.val % 2 = 1
    · rw [liveAt0_18_B t (fun h => h0 ((hcond0_0 t).mp h)) ((hcond0_1 t).mpr h1)] at hi
      exact absurd hi Bool.false_ne_true
    · exfalso; omega

/-- Output 19's contents CARRY through the points that leave it idle: at such a point, its buffer not fresh, the proof data's
    `after` is the point before's (the case there stores nothing into the window and its term says so; a case that stores
    into it is not idle there by `liveAt0_19_κ`) — the hypothesis of Lib/Pipeline/TableIdle.lean `Dat.before_out_traj`. -/
theorem hcarry0_19 (c : Dev nD) : ∀ (t : Fin cfg0.N) (_ : t.val ≠ 0), cfg0.idle 19 (grid0.coords t) = true → cfg0.fresh 19 t.val = false →
    (dats m 0 c).after 19 t = (dats m 0 c).after 19 ⟨t.val - 1, by omega⟩ := by
  intro t _ hi _
  have hN : t.val < 16 := lt_of_lt_of_eq t.isLt (show cfg0.N = 16 from N_0)
  rw [after0_19, after0_19]
  by_cases h0 : t.val % 2 = 0
  · by_cases h1 : t.val % 2 = 1
    · exfalso; omega
    · rw [liveAt0_19_A t ((hcond0_0 t).mpr h0) (fun h => h1 ((hcond0_1 t).mp h))] at hi
      exact absurd hi Bool.false_ne_true
  · by_cases h1 : t.val % 2 = 1
    · rw [liveAt0_19_B t (fun h => h0 ((hcond0_0 t).mp h)) ((hcond0_1 t).mpr h1)] at hi
      exact absurd hi Bool.false_ne_true
    · exfalso; omega
/-- At a point of case B output 13's current staging buffer holds what the point before left: the buffer is not fresh
    there (`notFresh0_13_B`: stored into since the region's entry or the last write-back, carried through the points that
    leave it idle by `hcarry0_13`; Lib/Pipeline/TableIdle.lean `Dat.before_out_traj`). -/
theorem before0_13_B (c : Dev nD) (t : Fin cfg0.N) (h0 : ¬t.val % 2 = 0) (h1 : t.val % 2 = 1) (d) :
    (dats m 0 c).before 13 t d = (outsAt0 m c (t.val - 1) (Nat.lt_of_le_of_lt (Nat.sub_le _ _) t.isLt)).2.1 := by
  rw [Dat.before_out_traj _ 13 rfl (fun _ _ => rfl) (hcarry0_13 m c) t.val t rfl d,
    if_neg (by rw [notFresh0_13_B t (fun h => h0 ((hcond0_0 t).mp h)) ((hcond0_1 t).mpr h1)]; exact Bool.false_ne_true)]
  dsimp only [dats]
/-- At a point of case B output 14's current staging buffer holds what the point before left: the buffer is not fresh
    there (`notFresh0_14_B`: stored into since the region's entry or the last write-back, carried through the points that
    leave it idle by `hcarry0_14`; Lib/Pipeline/TableIdle.lean `Dat.before_out_traj`). -/
theorem before0_14_B (c : Dev nD) (t : Fin cfg0.N) (h0 : ¬t.val % 2 = 0) (h1 : t.val % 2 = 1) (d) :
    (dats m 0 c).before 14 t d = (outsAt0 m c (t.val - 1) (Nat.lt_of_le_of_lt (Nat.sub_le _ _) t.isLt)).2.2.1 := by
  rw [Dat.before_out_traj _ 14 rfl (fun _ _ => rfl) (hcarry0_14 m c) t.val t rfl d,
    if_neg (by rw [notFresh0_14_B t (fun h => h0 ((hcond0_0 t).mp h)) ((hcond0_1 t).mpr h1)]; exact Bool.false_ne_true)]
  dsimp only [dats]
/-- At a point of case B output 15's current staging buffer holds what the point before left: the buffer is not fresh
    there (`notFresh0_15_B`: stored into since the region's entry or the last write-back, carried through the points that
    leave it idle by `hcarry0_15`; Lib/Pipeline/TableIdle.lean `Dat.before_out_traj`). -/
theorem before0_15_B (c : Dev nD) (t : Fin cfg0.N) (h0 : ¬t.val % 2 = 0) (h1 : t.val % 2 = 1) (d) :
    (dats m 0 c).before 15 t d = (outsAt0 m c (t.val - 1) (Nat.lt_of_le_of_lt (Nat.sub_le _ _) t.isLt)).2.2.2.1 := by
  rw [Dat.before_out_traj _ 15 rfl (fun _ _ => rfl) (hcarry0_15 m c) t.val t rfl d,
    if_neg (by rw [notFresh0_15_B t (fun h => h0 ((hcond0_0 t).mp h)) ((hcond0_1 t).mpr h1)]; exact Bool.false_ne_true)]
  dsimp only [dats]
/-- At a point of case B output 16's current staging buffer holds what the point before left: the buffer is not fresh
    there (`notFresh0_16_B`: stored into since the region's entry or the last write-back, carried through the points that
    leave it idle by `hcarry0_16`; Lib/Pipeline/TableIdle.lean `Dat.before_out_traj`). -/
theorem before0_16_B (c : Dev nD) (t : Fin cfg0.N) (h0 : ¬t.val % 2 = 0) (h1 : t.val % 2 = 1) (d) :
    (dats m 0 c).before 16 t d = (outsAt0 m c (t.val - 1) (Nat.lt_of_le_of_lt (Nat.sub_le _ _) t.isLt)).2.2.2.2.1 := by
  rw [Dat.before_out_traj _ 16 rfl (fun _ _ => rfl) (hcarry0_16 m c) t.val t rfl d,
    if_neg (by rw [notFresh0_16_B t (fun h => h0 ((hcond0_0 t).mp h)) ((hcond0_1 t).mpr h1)]; exact Bool.false_ne_true)]
  dsimp only [dats]
/-- At a point of case B output 17's current staging buffer holds what the point before left: the buffer is not fresh
    there (`notFresh0_17_B`: stored into since the region's entry or the last write-back, carried through the points that
    leave it idle by `hcarry0_17`; Lib/Pipeline/TableIdle.lean `Dat.before_out_traj`). -/
theorem before0_17_B (c : Dev nD) (t : Fin cfg0.N) (h0 : ¬t.val % 2 = 0) (h1 : t.val % 2 = 1) (d) :
    (dats m 0 c).before 17 t d = (outsAt0 m c (t.val - 1) (Nat.lt_of_le_of_lt (Nat.sub_le _ _) t.isLt)).2.2.2.2.2.1 := by
  rw [Dat.before_out_traj _ 17 rfl (fun _ _ => rfl) (hcarry0_17 m c) t.val t rfl d,
    if_neg (by rw [notFresh0_17_B t (fun h => h0 ((hcond0_0 t).mp h)) ((hcond0_1 t).mpr h1)]; exact Bool.false_ne_true)]
  dsimp only [dats]
/-- At a point of case B output 18's current staging buffer holds what the point before left: the buffer is not fresh
    there (`notFresh0_18_B`: stored into since the region's entry or the last write-back, carried through the points that
    leave it idle by `hcarry0_18`; Lib/Pipeline/TableIdle.lean `Dat.before_out_traj`). -/
theorem before0_18_B (c : Dev nD) (t : Fin cfg0.N) (h0 : ¬t.val % 2 = 0) (h1 : t.val % 2 = 1) (d) :
    (dats m 0 c).before 18 t d = (outsAt0 m c (t.val - 1) (Nat.lt_of_le_of_lt (Nat.sub_le _ _) t.isLt)).2.2.2.2.2.2.1 := by
  rw [Dat.before_out_traj _ 18 rfl (fun _ _ => rfl) (hcarry0_18 m c) t.val t rfl d,
    if_neg (by rw [notFresh0_18_B t (fun h => h0 ((hcond0_0 t).mp h)) ((hcond0_1 t).mpr h1)]; exact Bool.false_ne_true)]
  dsimp only [dats]
/-- At a point of case B output 19's current staging buffer holds what the point before left: the buffer is not fresh
    there (`notFresh0_19_B`: stored into since the region's entry or the last write-back, carried through the points that
    leave it idle by `hcarry0_19`; Lib/Pipeline/TableIdle.lean `Dat.before_out_traj`). -/
theorem before0_19_B (c : Dev nD) (t : Fin cfg0.N) (h0 : ¬t.val % 2 = 0) (h1 : t.val % 2 = 1) (d) :
    (dats m 0 c).before 19 t d = (outsAt0 m c (t.val - 1) (Nat.lt_of_le_of_lt (Nat.sub_le _ _) t.isLt)).2.2.2.2.2.2.2 := by
  rw [Dat.before_out_traj _ 19 rfl (fun _ _ => rfl) (hcarry0_19 m c) t.val t rfl d,
    if_neg (by rw [notFresh0_19_B t (fun h => h0 ((hcond0_0 t).mp h)) ((hcond0_1 t).mpr h1)]; exact Bool.false_ne_true)]
  dsimp only [dats]

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t)

set_option maxHeartbeats 4000000 in
/-- The body at any point: the inputs' memrefs hold their blocks (`before0_W`); the closed forms say which case the point is in (`by_cases`), an output the case reads before covering holds what the point before left (`before0_W_κ`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 16 := lt_of_lt_of_eq t.isLt (show cfg0.N = 16 from N_0)
  by_cases h0 : t.val % 2 = 0
  · by_cases h1 : t.val % 2 = 1
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13_A t ((hcond0_0 t).mpr h0) (fun h => h1 ((hcond0_1 t).mp h))], after0_13]
      rw [show (dats m 0 c).leavesExact 14 t = owns (c : Thread nD τ) (ms0_14 t) fullShare ((dats m 0 c).after 14 t) from by
      unfold Dat.leavesExact; rw [liveAt0_14_A t ((hcond0_0 t).mpr h0) (fun h => h1 ((hcond0_1 t).mp h))], after0_14]
      rw [show (dats m 0 c).leavesExact 15 t = owns (c : Thread nD τ) (ms0_15 t) fullShare ((dats m 0 c).after 15 t) from by
      unfold Dat.leavesExact; rw [liveAt0_15_A t ((hcond0_0 t).mpr h0) (fun h => h1 ((hcond0_1 t).mp h))], after0_15]
      rw [show (dats m 0 c).leavesExact 16 t = owns (c : Thread nD τ) (ms0_16 t) fullShare ((dats m 0 c).after 16 t) from by
      unfold Dat.leavesExact; rw [liveAt0_16_A t ((hcond0_0 t).mpr h0) (fun h => h1 ((hcond0_1 t).mp h))], after0_16]
      rw [show (dats m 0 c).leavesExact 17 t = owns (c : Thread nD τ) (ms0_17 t) fullShare ((dats m 0 c).after 17 t) from by
      unfold Dat.leavesExact; rw [liveAt0_17_A t ((hcond0_0 t).mpr h0) (fun h => h1 ((hcond0_1 t).mp h))], after0_17]
      rw [show (dats m 0 c).leavesExact 18 t = owns (c : Thread nD τ) (ms0_18 t) fullShare ((dats m 0 c).after 18 t) from by
      unfold Dat.leavesExact; rw [liveAt0_18_A t ((hcond0_0 t).mpr h0) (fun h => h1 ((hcond0_1 t).mp h))], after0_18]
      rw [show (dats m 0 c).leavesExact 19 t = owns (c : Thread nD τ) (ms0_19 t) fullShare ((dats m 0 c).after 19 t) from by
      unfold Dat.leavesExact; rw [liveAt0_19_A t ((hcond0_0 t).mpr h0) (fun h => h1 ((hcond0_1 t).mp h))], after0_19]
      rw [outsAt0_A m c t h0 h1, ptA]
      unfold out0_A_12 out0_A_13 out0_A_14 out0_A_15 out0_A_16 out0_A_17 out0_A_18 out0_A_19; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun0_A c (grid0.coords t) _ _ _ _ _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [HS0]; · iexact HS0
      isplitl [HS1]; · iexact HS1
      iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_A_12 c _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_A_13 c _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H19
      ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _)
  · by_cases h1 : t.val % 2 = 1
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      rw [show (dats m 0 c).leavesExact 10 t = owns (c : Thread nD τ) (ms0_10 t) fullShare ((dats m 0 c).after 10 t) from by
      unfold Dat.leavesExact; rw [liveAt0_10 t], after0_10]
      rw [show (dats m 0 c).leavesExact 11 t = owns (c : Thread nD τ) (ms0_11 t) fullShare ((dats m 0 c).after 11 t) from by
      unfold Dat.leavesExact; rw [liveAt0_11 t], after0_11]
      rw [show (dats m 0 c).leavesExact 12 t = owns (c : Thread nD τ) (ms0_12 t) fullShare ((dats m 0 c).after 12 t) from by
      unfold Dat.leavesExact; rw [liveAt0_12 t], after0_12]
      rw [show (dats m 0 c).leavesExact 13 t = owns (c : Thread nD τ) (ms0_13 t) fullShare ((dats m 0 c).after 13 t) from by
      unfold Dat.leavesExact; rw [liveAt0_13_B t (fun h => h0 ((hcond0_0 t).mp h)) ((hcond0_1 t).mpr h1)], after0_13]
      rw [show (dats m 0 c).leavesExact 14 t = owns (c : Thread nD τ) (ms0_14 t) fullShare ((dats m 0 c).after 14 t) from by
      unfold Dat.leavesExact; rw [liveAt0_14_B t (fun h => h0 ((hcond0_0 t).mp h)) ((hcond0_1 t).mpr h1)], after0_14]
      rw [show (dats m 0 c).leavesExact 15 t = owns (c : Thread nD τ) (ms0_15 t) fullShare ((dats m 0 c).after 15 t) from by
      unfold Dat.leavesExact; rw [liveAt0_15_B t (fun h => h0 ((hcond0_0 t).mp h)) ((hcond0_1 t).mpr h1)], after0_15]
      rw [show (dats m 0 c).leavesExact 16 t = owns (c : Thread nD τ) (ms0_16 t) fullShare ((dats m 0 c).after 16 t) from by
      unfold Dat.leavesExact; rw [liveAt0_16_B t (fun h => h0 ((hcond0_0 t).mp h)) ((hcond0_1 t).mpr h1)], after0_16]
      rw [show (dats m 0 c).leavesExact 17 t = owns (c : Thread nD τ) (ms0_17 t) fullShare ((dats m 0 c).after 17 t) from by
      unfold Dat.leavesExact; rw [liveAt0_17_B t (fun h => h0 ((hcond0_0 t).mp h)) ((hcond0_1 t).mpr h1)], after0_17]
      rw [show (dats m 0 c).leavesExact 18 t = owns (c : Thread nD τ) (ms0_18 t) fullShare ((dats m 0 c).after 18 t) from by
      unfold Dat.leavesExact; rw [liveAt0_18_B t (fun h => h0 ((hcond0_0 t).mp h)) ((hcond0_1 t).mpr h1)], after0_18]
      rw [show (dats m 0 c).leavesExact 19 t = owns (c : Thread nD τ) (ms0_19 t) fullShare ((dats m 0 c).after 19 t) from by
      unfold Dat.leavesExact; rw [liveAt0_19_B t (fun h => h0 ((hcond0_0 t).mp h)) ((hcond0_1 t).mpr h1)], after0_19]
      rw [outsAt0_B m c t h0 h1, ptB]
      simp only [before0_13_B m c t h0 h1, before0_14_B m c t h0 h1, before0_15_B m c t h0 h1, before0_16_B m c t h0 h1, before0_17_B m c t h0 h1, before0_18_B m c t h0 h1, before0_19_B m c t h0 h1]
      unfold out0_B_12 out0_B_13 out0_B_14 out0_B_15 out0_B_16 out0_B_17 out0_B_18 out0_B_19; (try dsimp only)
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
      iapply ((kernelRun0_B c (grid0.coords t) _ _ _ _ _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _ _ _ _ _ _ _).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexists _; iexact H12
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [HS0]; · iexact HS0
      isplitl [HS1]; · iexact HS1
      iintro ⟨H0, H1, H2, H3, H4, H5, H6, H7, H8, H9, H10, H11, ⟨%e12, H12⟩, ⟨%e13, H13⟩, ⟨%e14, H14⟩, ⟨%e15, H15⟩, ⟨%e16, H16⟩, ⟨%e17, H17⟩, ⟨%e18, H18⟩, ⟨%e19, H19⟩, HS0, HS1⟩
      isplitl [HS0 HS1 Hg]
      · isplitl [HS0 HS1]
        · isplitl [HS0]
          · iexact HS0
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]
      · unfold owns; iexists _; isplitr
        swap; · iexact H12
        ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H13]
      · unfold owns; iexists _; isplitr
        swap; · iexact H13
        ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H14]
      · unfold owns; iexists _; isplitr
        swap; · iexact H14
        ipureintro; exact View.read_writes_of_cover _ _ _ _ _ (cover0_B_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H15]
      · unfold owns; iexists _; isplitr
        swap; · iexact H15
        ipureintro; exact View.read_writes_of_cover _ _ _ _ _ (cover0_B_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H16]
      · unfold owns; iexists _; isplitr
        swap; · iexact H16
        ipureintro; exact View.read_writes_of_cover _ _ _ _ _ (cover0_B_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H17]
      · unfold owns; iexists _; isplitr
        swap; · iexact H17
        ipureintro; exact View.read_writes_of_cover _ _ _ _ _ (cover0_B_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      isplitl [H18]
      · unfold owns; iexists _; isplitr
        swap; · iexact H18
        ipureintro; exact View.read_writes_of_cover _ _ _ _ _ (cover0_B_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
      unfold owns; iexists _; isplitr
      swap; · iexact H19
      ipureintro; exact View.read_writes_of_cover _ _ _ _ _ (cover0_B_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
    · exfalso; omega

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- For any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

/-- THE FRAME: `Cert.quiescent_KernelIdeal`'s statement (Defs.lean) at any `F` — Proof.lean cites it at `Bits`:
    `theorem Cert.Proof.claim : Cert.Claim := ⟨Cert.KernelIdeal.Gen.facts, fun m ρ _ => Cert.KernelIdeal.Gen.frame m ρ⟩`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (unchanged m ρ) ((θ_run defs _ _).mono (fun _ h => h.2) (run_main_quiescent m ρ))

end Cert.KernelIdeal.Gen

end
-- ==== Proof.Pay.lean ====
module
public import proofs.«01_k».proof.Proof.Spec
public import proofs.«01_k».proof.Proof.Gen.KernelIdeal.Skeleton
public import Idealize.ShloMosaic.Lib.Pipeline.ValueKit
public import Idealize.ShloMosaic.Lib.WritesUnit
@[expose] public section
set_option maxRecDepth 16384
noncomputable section
open Idealize.ShloMosaic Idealize.ShloMosaic.TcCoe Idealize.SL.Sem
open Idealize.ShloMosaic.Pipeline (Dat)
namespace Cert.KernelIdeal.S5
open Cert.KernelIdeal Cert.KernelIdeal.Gen Cert.S5

/-- The kernel's gelu gradient times the incoming gradient. -/
theorem pay14_at (x0 x1) (r : Fin 2048) (l : Fin 128) (a y : ℝ) (h0 : x0 (ix2 r l) = ((a : ℝ) : EReal)) (h1 : x1 (ix2 r l) = ((y : ℝ) : EReal)) :
    k0_pay14 (F := Ideal) x0 x1 (ix2 r l) = ((a * gg y : ℝ) : EReal) := by
  have e1 : Named.named (F := Ideal) (φ := .f32) κ "gelu_a" 0x3D372713#32 = ((8943 / 200000 : ℝ) : EReal) := IdealRules.named_const.ideal_named_scalar _ _ _ _ rfl
  have e2 : Named.named (F := Ideal) (φ := .f32) κ "gelu_3a" 0x3E095D4F#32 = ((26829 / 200000 : ℝ) : EReal) := IdealRules.named_const.ideal_named_scalar _ _ _ _ rfl
  unfold k0_pay14
  pointwise! []
  rw [h0, h1]
  simp only [e1, e2, half_val, gC_val]
  simp only [← EReal.coe_one, ← EReal.coe_mul, ← EReal.coe_add, ← EReal.coe_sub, Ideal.tanh_coe]
  rfl

theorem pay17_at (v33 v41) (r : Fin 2048) (s : Fin 512) (f g : Fin 128 → ℝ) (hf : ∀ k : Fin 128, v33 (ix2 r k) = ((f k : ℝ) : EReal)) (hg : ∀ k : Fin 128, v41 (ix3 0 s k) = ((g k : ℝ) : EReal)) :
    k0_pay17 (F := Ideal) v33 v41 (ix2 r s) = ((-∑ k : Fin 128, f k * g k : ℝ) : EReal) := by
  have e : k0_pay17 (F := Ideal) v33 v41 (ix2 r s) = 0 - ∑ k : Fin 128, v33 (ix2 r k) * v41 (ix3 0 s k) := by
    pointwise [k0_pay17]
  rw [e, zero_sub, EReal.coe_neg, coe_sum]
  refine congrArg Neg.neg ?_
  exact Finset.sum_congr rfl fun k _ => by rw [hf, hg, EReal.coe_mul]

theorem pay29_at (v2 v57) (l : Fin 128) (s : Fin 512) (f g : Fin 2048 → ℝ) (hf : ∀ k : Fin 2048, v2 (ix2 k l) = ((f k : ℝ) : EReal)) (hg : ∀ k : Fin 2048, v57 (ix2 k s) = ((g k : ℝ) : EReal)) :
    k0_pay29 (F := Ideal) v2 v57 (ix2 l s) = ((∑ k : Fin 2048, f k * g k : ℝ) : EReal) := by
  have e : k0_pay29 (F := Ideal) v2 v57 (ix2 l s) = ∑ k : Fin 2048, v2 (ix2 k l) * v57 (ix2 k s) := by
    pointwise [k0_pay29]
  rw [e, coe_sum]

  exact Finset.sum_congr rfl fun k _ => by rw [hf, hg, EReal.coe_mul]

theorem pay30_at (v2 v57) (l : Fin 128) (s : Fin 512) (f g : Fin 2048 → ℝ) (hf : ∀ k : Fin 2048, v2 (ix2 k l) = ((f k : ℝ) : EReal)) (hg : ∀ k : Fin 2048, v57 (ix2 k s) = ((g k : ℝ) : EReal)) :
    k0_pay30 (F := Ideal) v2 v57 (ix2 l s) = ((∑ k : Fin 2048, f k * g k : ℝ) : EReal) := by
  have e : k0_pay30 (F := Ideal) v2 v57 (ix2 l s) = ∑ k : Fin 2048, v2 (ix2 k l) * v57 (ix2 k s) := by
    pointwise [k0_pay30]
  rw [e, coe_sum]

  exact Finset.sum_congr rfl fun k _ => by rw [hf, hg, EReal.coe_mul]

theorem pay31_at (v33 v59) (s : Fin 512) (l : Fin 128) (f g : Fin 2048 → ℝ) (hf : ∀ k : Fin 2048, v59 (ix2 k s) = ((f k : ℝ) : EReal)) (hg : ∀ k : Fin 2048, v33 (ix2 k l) = ((g k : ℝ) : EReal)) :
    k0_pay31 (F := Ideal) v33 v59 (ix2 s l) = ((∑ k : Fin 2048, f k * g k : ℝ) : EReal) := by
  have e : k0_pay31 (F := Ideal) v33 v59 (ix2 s l) = ∑ k : Fin 2048, v59 (ix2 k s) * v33 (ix2 k l) := by
    pointwise [k0_pay31]
  rw [e, coe_sum]

  exact Finset.sum_congr rfl fun k _ => by rw [hf, hg, EReal.coe_mul]

theorem pay32_at (v33 v60) (s : Fin 512) (l : Fin 128) (f g : Fin 2048 → ℝ) (hf : ∀ k : Fin 2048, v60 (ix2 k s) = ((f k : ℝ) : EReal)) (hg : ∀ k : Fin 2048, v33 (ix2 k l) = ((g k : ℝ) : EReal)) :
    k0_pay32 (F := Ideal) v33 v60 (ix2 s l) = ((-∑ k : Fin 2048, f k * g k : ℝ) : EReal) := by
  have e : k0_pay32 (F := Ideal) v33 v60 (ix2 s l) = 0 - ∑ k : Fin 2048, v60 (ix2 k s) * v33 (ix2 k l) := by
    pointwise [k0_pay32]
  rw [e, zero_sub, EReal.coe_neg, coe_sum]
  refine congrArg Neg.neg ?_
  exact Finset.sum_congr rfl fun k _ => by rw [hf, hg, EReal.coe_mul]

theorem pay33_at (v2 v33) (l : Fin 128) (f g : Fin 2048 → ℝ) (hf : ∀ k : Fin 2048, v33 (ix2 k l) = ((f k : ℝ) : EReal)) (hg : ∀ k : Fin 2048, v2 (ix2 k l) = ((g k : ℝ) : EReal)) :
    k0_pay33 (F := Ideal) v2 v33 (ix2 0 l) = ((∑ k : Fin 2048, f k * g k : ℝ) : EReal) := by
  have e : k0_pay33 (F := Ideal) v2 v33 (ix2 0 l) = ∑ k : Fin 2048, v33 (ix2 k l) * v2 (ix2 k l) := by
    pointwise [k0_pay33]
  rw [e, coe_sum]

  exact Finset.sum_congr rfl fun k _ => by rw [hf, hg, EReal.coe_mul]

theorem pay34_at (v57 v100) (r : Fin 2048) (l : Fin 128) (f g : Fin 512 → ℝ) (hf : ∀ k : Fin 512, v57 (ix2 r k) = ((f k : ℝ) : EReal)) (hg : ∀ k : Fin 512, v100 (ix3 0 l k) = ((g k : ℝ) : EReal)) :
    k0_pay34 (F := Ideal) v57 v100 (ix2 r l) = ((∑ k : Fin 512, f k * g k : ℝ) : EReal) := by
  have e : k0_pay34 (F := Ideal) v57 v100 (ix2 r l) = ∑ k : Fin 512, v57 (ix2 r k) * v100 (ix3 0 l k) := by
    pointwise [k0_pay34]
  rw [e, coe_sum]

  exact Finset.sum_congr rfl fun k _ => by rw [hf, hg, EReal.coe_mul]

theorem pay35_at (v57 v100) (r : Fin 2048) (l : Fin 128) (f g : Fin 512 → ℝ) (hf : ∀ k : Fin 512, v57 (ix2 r k) = ((f k : ℝ) : EReal)) (hg : ∀ k : Fin 512, v100 (ix3 0 l k) = ((g k : ℝ) : EReal)) :
    k0_pay35 (F := Ideal) v57 v100 (ix2 r l) = ((∑ k : Fin 512, f k * g k : ℝ) : EReal) := by
  have e : k0_pay35 (F := Ideal) v57 v100 (ix2 r l) = ∑ k : Fin 512, v57 (ix2 r k) * v100 (ix3 0 l k) := by
    pointwise [k0_pay35]
  rw [e, coe_sum]

  exact Finset.sum_congr rfl fun k _ => by rw [hf, hg, EReal.coe_mul]

theorem pay15_at (x0 x1) (x7 : FVec Ideal S1x512x128 .bf16) (r : Fin 2048) (s : Fin 512) (f g : Fin 128 → ℝ) (hf : ∀ k : Fin 128, k0_pay14 (F := Ideal) x0 x1 (ix2 r k) = ((f k : ℝ) : EReal))
    (hg : ∀ k : Fin 128, x7 (ix3 0 s k) = ((g k : ℝ) : EReal)) :
    k0_pay15 (F := Ideal) x0 x1 x7 (ix2 r s) = ((∑ k : Fin 128, f k * g k : ℝ) : EReal) := by
  unfold k0_pay15
  generalize k0_pay14 (F := Ideal) x0 x1 = v at hf ⊢
  (try dsimp only)
  have e : (matmul dot_S2048x128_S512x128_S2048x512_1_1_0_0_n_n none (truncf .bf16 v bitsLt_bf16_f32) (shapeCast S512x128 x7 shapeCasts_S1x512x128_S512x128) (constant S2048x512 .f32 0x00000000#32) : FVec Ideal S2048x512 .f32) (ix2 r s) = ∑ k : Fin 128, v (ix2 r k) * x7 (ix3 0 s k) := by
    pointwise []
  rw [e, coe_sum]
  exact Finset.sum_congr rfl fun k _ => by rw [hf, hg, EReal.coe_mul]
theorem pay16_eq (v) : k0_pay16 (F := Ideal) v = v := shapeCast_self _ _
theorem pay13_at (v) (i : S2048x128.Idx) : k0_pay13 (F := Ideal) v i = v i := by pointwise [k0_pay13]
theorem sge_one : ∀ r : Fin 2048, IntOp.cmpi CmpIPredicate.sge (BitVec.ofNat 32 r.val) 1#32 = if r.val = 0 then 0#1 else 1#1 := by decide +kernel
theorem pay25_at (v : Vec Ideal S2048x512 .f32) (r : Fin 2048) (s : Fin 512) :
    k0_pay25 (F := Ideal) v (ix2 r s) = if h : r.val = 0 then 0 else v (ix2 ⟨r.val - 1, by omega⟩ s) := by
  pointwise! [k0_pay25]
  rw [sge_one r]
  by_cases h : r.val = 0
  · rw [if_pos h, dif_pos h]; rfl
  · rw [if_neg h, dif_neg h]
    have e : (r.val + 2048 - 1) % 2048 = r.val - 1 := by omega
    show v _ = v _
    congr 2
    exact Fin.ext e
theorem pay26_eq (v) : k0_pay26 (F := Ideal) v = k0_pay25 v := rfl
theorem pay27_at (a b c d) (s : Fin 512) (f g h k : Fin 2048 → ℝ) (hf : ∀ r, a (ix2 r s) = ((f r : ℝ) : EReal)) (hg : ∀ r, b (ix2 r s) = ((g r : ℝ) : EReal))
    (hh : ∀ r, k0_pay26 (F := Ideal) c (ix2 r s) = ((h r : ℝ) : EReal)) (hk : ∀ r, d (ix2 r s) = ((k r : ℝ) : EReal)) :
    k0_pay27 (F := Ideal) a b c d (ix2 0 s) = ((∑ r : Fin 2048, (f r * k r + g r * h r) : ℝ) : EReal) := by
  unfold k0_pay27
  generalize k0_pay26 (F := Ideal) c = v at hh ⊢
  (try dsimp only)
  have e : (shapeCast S1x512 (multiReduction .add [0] S512 (addf (mulf a d) (mulf b v)) 0x00000000#32 reduces_S2048x512_S512 (.inl rfl) rfl) shapeCasts_S512_S1x512 : FVec Ideal S1x512 .f32) (ix2 0 s)
      = ∑ r : Fin 2048, (a (ix2 r s) * d (ix2 r s) + b (ix2 r s) * v (ix2 r s)) := by pointwise []
  rw [e, coe_sum]
  exact Finset.sum_congr rfl fun r _ => by rw [hf, hg, hh, hk, EReal.coe_add, EReal.coe_mul, EReal.coe_mul]
theorem pay28_at (a b c d) (s : Fin 512) (f g h k : Fin 2048 → ℝ) (hf : ∀ r, a (ix2 r s) = ((f r : ℝ) : EReal)) (hg : ∀ r, b (ix2 r s) = ((g r : ℝ) : EReal))
    (hh : ∀ r, k0_pay26 (F := Ideal) c (ix2 r s) = ((h r : ℝ) : EReal)) (hk : ∀ r, d (ix2 r s) = ((k r : ℝ) : EReal)) :
    k0_pay28 (F := Ideal) a b c d (ix2 0 s) = ((∑ r : Fin 2048, (g r * k r - f r * h r) : ℝ) : EReal) := by
  unfold k0_pay28
  generalize k0_pay26 (F := Ideal) c = v at hh ⊢
  (try dsimp only)
  have e : (shapeCast S1x512 (multiReduction .add [0] S512 (subf (mulf b d) (mulf a v)) 0x00000000#32 reduces_S2048x512_S512 (.inl rfl) rfl) shapeCasts_S512_S1x512 : FVec Ideal S1x512 .f32) (ix2 0 s)
      = ∑ r : Fin 2048, (b (ix2 r s) * d (ix2 r s) - a (ix2 r s) * v (ix2 r s)) := by pointwise []
  rw [e, coe_sum]
  exact Finset.sum_congr rfl fun r _ => by rw [hf, hg, hh, hk, EReal.coe_sub, EReal.coe_mul, EReal.coe_mul]
theorem pay1_at (a b c d) (r : Fin 2048) (l : Fin 128) : k0_pay1 (F := Ideal) a b c d (ix2 r l) = b (ix2 r l) + c (ix2 r l) + d (ix2 0 l) * a (ix2 r l) := by
  pointwise! [k0_pay1]
theorem pay2_at (a) (l : Fin 128) (s : Fin 512) : k0_pay2 (F := Ideal) a (ix3 0 l s) = a (ix2 l s) := by pointwise [k0_pay2]
theorem pay3_at (a) (l : Fin 128) (s : Fin 512) : k0_pay3 (F := Ideal) a (ix3 0 l s) = a (ix2 l s) := by pointwise [k0_pay3]
theorem pay4_at (a) (s : Fin 512) (l : Fin 128) : k0_pay4 (F := Ideal) a (ix3 0 s l) = a (ix2 s l) := by pointwise [k0_pay4]
theorem pay5_at (a) (s : Fin 512) (l : Fin 128) : k0_pay5 (F := Ideal) a (ix3 0 s l) = a (ix2 s l) := by pointwise [k0_pay5]
theorem pay6_at (a b) (s : Fin 512) (l : Fin 128) : k0_pay6 (F := Ideal) a b (ix3 0 s l) = b (ix3 0 s l) + a (ix2 s l) := by pointwise [k0_pay6]
theorem pay7_at (a b) (l : Fin 128) : k0_pay7 (F := Ideal) a b (ix2 0 l) = b (ix2 0 l) + a (ix2 0 l) := by pointwise [k0_pay7]
theorem pay8_at (a b) (s : Fin 512) : k0_pay8 (F := Ideal) a b (ix2 0 s) = b (ix2 0 s) + a (ix2 0 s) := by pointwise [k0_pay8]
theorem pay9_at (a b) (s : Fin 512) : k0_pay9 (F := Ideal) a b (ix2 0 s) = b (ix2 0 s) + a (ix2 0 s) := by pointwise [k0_pay9]
theorem pay10_at (a b) (l : Fin 128) (s : Fin 512) : k0_pay10 (F := Ideal) a b (ix3 0 l s) = b (ix3 0 l s) + a (ix2 l s) := by pointwise [k0_pay10]
theorem pay11_at (a b) (l : Fin 128) (s : Fin 512) : k0_pay11 (F := Ideal) a b (ix3 0 l s) = b (ix3 0 l s) + a (ix2 l s) := by pointwise [k0_pay11]
theorem pay12_at (a b) (s : Fin 512) (l : Fin 128) : k0_pay12 (F := Ideal) a b (ix3 0 s l) = b (ix3 0 s l) + a (ix2 s l) := by pointwise [k0_pay12]

end Cert.KernelIdeal.S5
end
-- ==== Proof.Blocks.lean ====
module
public import proofs.«01_k».proof.Proof.Pay
public import proofs.«01_k».proof.Proof.IFrame
public import Idealize.ShloMosaic.Lib.Claim
public import Idealize.ShloMosaic.Lib.Pipeline.ValueKit
public import Idealize.ShloMosaic.Lib.WritesUnit
@[expose] public section
set_option maxRecDepth 16384
noncomputable section
open Idealize.ShloMosaic Idealize.ShloMosaic.TcCoe Idealize.SL.Sem
open Idealize.ShloMosaic.Pipeline (Dat)
namespace Cert.KernelIdeal.S5
open Cert.KernelIdeal Cert.KernelIdeal.Gen Cert.S5

variable (m : (ℓ : Loc nD τ sig) → Buf (Elt Ideal) ℓ)
theorem idx0 : ∀ t : Fin cfg0.N, win0_0.index t = ![t.val % 2, t.val / 2] := (by decide +kernel : ∀ t : Fin grid0.N, _)
theorem idx1 : ∀ t : Fin cfg0.N, win0_1.index t = ![t.val % 2, t.val / 2] := (by decide +kernel : ∀ t : Fin grid0.N, _)
theorem idx2 : ∀ t : Fin cfg0.N, win0_2.index t = ![t.val % 2, t.val / 2] := (by decide +kernel : ∀ t : Fin grid0.N, _)
theorem idx3 : ∀ t : Fin cfg0.N, win0_3.index t = ![t.val % 2, t.val / 2] := (by decide +kernel : ∀ t : Fin grid0.N, _)
theorem idx4 : ∀ t : Fin cfg0.N, win0_4.index t = ![t.val % 2, t.val / 2] := (by decide +kernel : ∀ t : Fin grid0.N, _)
theorem idx5 : ∀ t : Fin cfg0.N, win0_5.index t = ![t.val / 2, 0, 0] := (by decide +kernel : ∀ t : Fin grid0.N, _)
theorem idx6 : ∀ t : Fin cfg0.N, win0_6.index t = ![t.val / 2, 0, 0] := (by decide +kernel : ∀ t : Fin grid0.N, _)
theorem idx7 : ∀ t : Fin cfg0.N, win0_7.index t = ![t.val / 2, 0, 0] := (by decide +kernel : ∀ t : Fin grid0.N, _)
theorem idx8 : ∀ t : Fin cfg0.N, win0_8.index t = ![t.val / 2, 0, 0] := (by decide +kernel : ∀ t : Fin grid0.N, _)
theorem idx9 : ∀ t : Fin cfg0.N, win0_9.index t = ![0, t.val / 2] := (by decide +kernel : ∀ t : Fin grid0.N, _)
theorem idx10 : ∀ t : Fin cfg0.N, win0_10.index t = ![0, t.val / 2] := (by decide +kernel : ∀ t : Fin grid0.N, _)
theorem idx11 : ∀ t : Fin cfg0.N, win0_11.index t = ![0, t.val / 2] := (by decide +kernel : ∀ t : Fin grid0.N, _)
theorem idx12 : ∀ t : Fin cfg0.N, win0_12.index t = ![t.val % 2, t.val / 2] := (by decide +kernel : ∀ t : Fin grid0.N, _)
theorem idx13 : ∀ t : Fin cfg0.N, win0_13.index t = ![t.val / 2, 0, 0] := (by decide +kernel : ∀ t : Fin grid0.N, _)
theorem idx14 : ∀ t : Fin cfg0.N, win0_14.index t = ![t.val / 2, 0, 0] := (by decide +kernel : ∀ t : Fin grid0.N, _)
theorem idx15 : ∀ t : Fin cfg0.N, win0_15.index t = ![t.val / 2, 0, 0] := (by decide +kernel : ∀ t : Fin grid0.N, _)
theorem idx16 : ∀ t : Fin cfg0.N, win0_16.index t = ![t.val / 2, 0, 0] := (by decide +kernel : ∀ t : Fin grid0.N, _)
theorem idx17 : ∀ t : Fin cfg0.N, win0_17.index t = ![0, t.val / 2] := (by decide +kernel : ∀ t : Fin grid0.N, _)
theorem idx18 : ∀ t : Fin cfg0.N, win0_18.index t = ![0, t.val / 2] := (by decide +kernel : ∀ t : Fin grid0.N, _)
theorem idx19 : ∀ t : Fin cfg0.N, win0_19.index t = ![0, t.val / 2] := (by decide +kernel : ∀ t : Fin grid0.N, _)
theorem tlt (t : Fin cfg0.N) : t.val < 16 := t.isLt
theorem blk0 (c : Dev nD) (t : Fin cfg0.N) (r : Fin 2048) (l : Fin 128) :
    iblk m c 0 t (ix2 r l) = V m c main_arg0 (ix2 ⟨2048 * (t.val % 2) + r.val, by omega⟩ ⟨128 * (t.val / 2) + l.val, by have := tlt t; omega⟩) := by
  blk_ext [iblk, V, idx0 t]
theorem blk1 (c : Dev nD) (t : Fin cfg0.N) (r : Fin 2048) (l : Fin 128) :
    iblk m c 1 t (ix2 r l) = V m c main_arg1 (ix2 ⟨2048 * (t.val % 2) + r.val, by omega⟩ ⟨128 * (t.val / 2) + l.val, by have := tlt t; omega⟩) := by
  blk_ext [iblk, V, idx1 t]
theorem blk2 (c : Dev nD) (t : Fin cfg0.N) (r : Fin 2048) (l : Fin 128) :
    iblk m c 2 t (ix2 r l) = V m c main_arg2 (ix2 ⟨2048 * (t.val % 2) + r.val, by omega⟩ ⟨128 * (t.val / 2) + l.val, by have := tlt t; omega⟩) := by
  blk_ext [iblk, V, idx2 t]
theorem blk3 (c : Dev nD) (t : Fin cfg0.N) (r : Fin 2048) (l : Fin 512) :
    iblk m c 3 t (ix2 r l) = V m c main_arg3 (ix2 ⟨2048 * (t.val % 2) + r.val, by omega⟩ ⟨512 * (t.val / 2) + l.val, by have := tlt t; omega⟩) := by
  blk_ext [iblk, V, idx3 t]
theorem blk4 (c : Dev nD) (t : Fin cfg0.N) (r : Fin 2048) (l : Fin 512) :
    iblk m c 4 t (ix2 r l) = V m c main_arg4 (ix2 ⟨2048 * (t.val % 2) + r.val, by omega⟩ ⟨512 * (t.val / 2) + l.val, by have := tlt t; omega⟩) := by
  blk_ext [iblk, V, idx4 t]
theorem blk5 (c : Dev nD) (t : Fin cfg0.N) (a : Fin 128) (b : Fin 512) :
    iblk m c 5 t (ix3 0 a b) = V m c main_v15 (ix3 ⟨t.val / 2, by have := tlt t; omega⟩ a b) := by
  blk_ext [iblk, V, idx5 t]
theorem blk6 (c : Dev nD) (t : Fin cfg0.N) (a : Fin 128) (b : Fin 512) :
    iblk m c 6 t (ix3 0 a b) = V m c main_v31 (ix3 ⟨t.val / 2, by have := tlt t; omega⟩ a b) := by
  blk_ext [iblk, V, idx6 t]
theorem blk7 (c : Dev nD) (t : Fin cfg0.N) (a : Fin 512) (b : Fin 128) :
    iblk m c 7 t (ix3 0 a b) = V m c main_v47 (ix3 ⟨t.val / 2, by have := tlt t; omega⟩ a b) := by
  blk_ext [iblk, V, idx7 t]
theorem blk8 (c : Dev nD) (t : Fin cfg0.N) (a : Fin 512) (b : Fin 128) :
    iblk m c 8 t (ix3 0 a b) = V m c main_v63 (ix3 ⟨t.val / 2, by have := tlt t; omega⟩ a b) := by
  blk_ext [iblk, V, idx8 t]
theorem blk9 (c : Dev nD) (t : Fin cfg0.N) (b : Fin 512) :
    iblk m c 9 t (ix2 0 b) = V m c main_v64 (ix2 0 ⟨512 * (t.val / 2) + b.val, by have := tlt t; omega⟩) := by
  blk_ext [iblk, V, idx9 t]
theorem blk10 (c : Dev nD) (t : Fin cfg0.N) (b : Fin 512) :
    iblk m c 10 t (ix2 0 b) = V m c main_v65 (ix2 0 ⟨512 * (t.val / 2) + b.val, by have := tlt t; omega⟩) := by
  blk_ext [iblk, V, idx10 t]
theorem blk11 (c : Dev nD) (t : Fin cfg0.N) (b : Fin 128) :
    iblk m c 11 t (ix2 0 b) = V m c main_v66 (ix2 0 ⟨128 * (t.val / 2) + b.val, by have := tlt t; omega⟩) := by
  blk_ext [iblk, V, idx11 t]

end Cert.KernelIdeal.S5
end
-- ==== Proof.Vals.lean ====
module
public import proofs.«01_k».proof.Proof.Pay
public import proofs.«01_k».proof.Proof.Blocks
public import proofs.«01_k».proof.Proof.IFrame
public import Idealize.ShloMosaic.Lib.Claim
public import Idealize.ShloMosaic.Lib.Pipeline.ValueKit
public import Idealize.ShloMosaic.Lib.WritesUnit
@[expose] public section
set_option maxRecDepth 16384
noncomputable section
open Idealize.ShloMosaic Idealize.ShloMosaic.TcCoe Idealize.SL.Sem
open Idealize.ShloMosaic.Pipeline (Dat)
namespace Cert.KernelIdeal.S5
open Cert.KernelIdeal Cert.KernelIdeal.Gen Cert.S5
theorem eye8 : ∀ x y : Fin 8, IntOp.cmpi CmpIPredicate.eq (IntOp.addi (BitVec.ofNat 32 x.val) 0#32) (BitVec.ofNat 32 y.val) = if y.val = x.val then 1#1 else 0#1 := by decide +kernel
theorem eye_val (x y : ℕ) (hx : x < 8) (hy : y < 8) :
    (FloatOps.uitofp FTy.f32 (IntOp.cmpi CmpIPredicate.eq (IntOp.addi (BitVec.ofNat 32 x) 0#32) (BitVec.ofNat 32 y)) : Ideal .f32) = ((if y = x then 1 else 0 : ℝ) : EReal) := by
  have h := eye8 ⟨x, hx⟩ ⟨y, hy⟩
  dsimp only at h
  rw [h]
  by_cases e : y = x
  · rw [if_pos e, if_pos e]; simp [FloatOps.uitofp]
  · rw [if_neg e, if_neg e]; simp [FloatOps.uitofp]
theorem mask_mul (a : ℝ) (p : Prop) [Decidable p] : ((a : ℝ) : EReal) * ((if p then 1 else 0 : ℝ) : EReal) = ((if p then a else 0 : ℝ) : EReal) := by
  rw [← EReal.coe_mul]; by_cases h : p <;> simp [h]

theorem sumC (X : ℕ → ℕ → ℝ) (Y : ℕ → ℕ → ℕ → ℝ) (i j s : ℕ) (hs : s < 512) :
    ∑ k : Fin 128, X i (128 * j + k.val) * (if k.val / 16 = s / 64 then Y (8 * j + s / 64) (k.val % 16) (s % 64) else 0)
      = ∑ h : Fin 16, X i (16 * ((512 * j + s) / 64) + h.val) * Y ((512 * j + s) / 64) h.val ((512 * j + s) % 64) := by
  refine (sum_block 8 16 (by omega) (fun k => X i (128 * j + k)) (fun h => Y (8 * j + s / 64) h (s % 64)) (s / 64) (by omega)).trans ?_
  have e1 : (512 * j + s) / 64 = 8 * j + s / 64 := by omega
  have e2 : (512 * j + s) % 64 = s % 64 := by omega
  refine Finset.sum_congr rfl fun h _ => ?_
  rw [e1, e2]
  have e3 : 16 * (8 * j + s / 64) + h.val = 128 * j + (16 * (s / 64) + h.val) := by omega
  rw [e3]
theorem sumB (X : ℕ → ℝ) (Y : ℕ → ℕ → ℕ → ℝ) (j l : ℕ) (hl : l < 128) :
    ∑ k : Fin 512, X (512 * j + k.val) * (if k.val / 64 = l / 16 then Y (8 * j + l / 16) (k.val % 64) (l % 16) else 0)
      = ∑ p : Fin 64, X (64 * ((128 * j + l) / 16) + p.val) * Y ((128 * j + l) / 16) p.val ((128 * j + l) % 16) := by
  refine (sum_block 8 64 (by omega) (fun k => X (512 * j + k)) (fun h => Y (8 * j + l / 16) h (l % 16)) (l / 16) (by omega)).trans ?_
  have e1 : (128 * j + l) / 16 = 8 * j + l / 16 := by omega
  have e2 : (128 * j + l) % 16 = l % 16 := by omega
  refine Finset.sum_congr rfl fun h _ => ?_
  rw [e1, e2]
  have e3 : 64 * (8 * j + l / 16) + h.val = 512 * j + (64 * (l / 16) + h.val) := by omega
  rw [e3]

section
variable (m : (ℓ : Loc nD τ sig) → Buf (Elt Ideal) ℓ)
variable (D : Data) (c : Dev nD) (hD : Fits D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))
include hD
theorem mat15 (j : Fin 8) (a : Fin 128) (b : Fin 512) :
    V m c main_v15 (ix3 j a b) = ((if b.val / 64 = a.val / 16 then D.br (8 * j.val + a.val / 16) (b.val % 64) (a.val % 16) else 0 : ℝ) : EReal) := by
  rw [Nat.mul_comm 8 j.val]
  entry_read
  pointwise! []
  have e := eye_val (a.val / 16) (b.val / 64) (by omega) (by omega)
  have e' := hD.br ⟨j.val * 8 + a.val / 16, by omega⟩ ⟨b.val % 64, by omega⟩ ⟨a.val % 16, by omega⟩
  exact (congrArg₂ (fun x y : EReal => x * y) e' e).trans (mask_mul _ _)
theorem mat31 (j : Fin 8) (a : Fin 128) (b : Fin 512) :
    V m c main_v31 (ix3 j a b) = ((if b.val / 64 = a.val / 16 then D.bi (8 * j.val + a.val / 16) (b.val % 64) (a.val % 16) else 0 : ℝ) : EReal) := by
  rw [Nat.mul_comm 8 j.val]
  entry_read
  pointwise! []
  have e := eye_val (a.val / 16) (b.val / 64) (by omega) (by omega)
  have e' := hD.bi ⟨j.val * 8 + a.val / 16, by omega⟩ ⟨b.val % 64, by omega⟩ ⟨a.val % 16, by omega⟩
  exact (congrArg₂ (fun x y : EReal => x * y) e' e).trans (mask_mul _ _)
theorem mat47 (j : Fin 8) (a : Fin 512) (b : Fin 128) :
    V m c main_v47 (ix3 j a b) = ((if b.val / 16 = a.val / 64 then D.cr (8 * j.val + a.val / 64) (b.val % 16) (a.val % 64) else 0 : ℝ) : EReal) := by
  rw [Nat.mul_comm 8 j.val]
  entry_read
  pointwise! []
  have e := eye_val (a.val / 64) (b.val / 16) (by omega) (by omega)
  have e' := hD.cr ⟨j.val * 8 + a.val / 64, by omega⟩ ⟨b.val % 16, by omega⟩ ⟨a.val % 64, by omega⟩
  exact (congrArg₂ (fun x y : EReal => x * y) e' e).trans (mask_mul _ _)
theorem mat63 (j : Fin 8) (a : Fin 512) (b : Fin 128) :
    V m c main_v63 (ix3 j a b) = ((if b.val / 16 = a.val / 64 then D.ci (8 * j.val + a.val / 64) (b.val % 16) (a.val % 64) else 0 : ℝ) : EReal) := by
  rw [Nat.mul_comm 8 j.val]
  entry_read
  pointwise! []
  have e := eye_val (a.val / 64) (b.val / 16) (by omega) (by omega)
  have e' := hD.ci ⟨j.val * 8 + a.val / 64, by omega⟩ ⟨b.val % 16, by omega⟩ ⟨a.val % 64, by omega⟩
  exact (congrArg₂ (fun x y : EReal => x * y) e' e).trans (mask_mul _ _)
theorem row64 (n : Fin 4096) : V m c main_v64 (ix2 0 n) = ((D.ar (n.val / 64) (n.val % 64) : ℝ) : EReal) := by
  entry_read
  pointwise! []
  exact hD.ar _ _
theorem row65 (n : Fin 4096) : V m c main_v65 (ix2 0 n) = ((D.ai (n.val / 64) (n.val % 64) : ℝ) : EReal) := by
  entry_read
  pointwise! []
  exact hD.ai _ _
theorem row66 (n : Fin 1024) : V m c main_v66 (ix2 0 n) = ((D.d n.val : ℝ) : EReal) := by
  entry_read
  pointwise! []
  exact hD.d _
variable (t : Fin cfg0.N)
theorem val0 (r : Fin 2048) (l : Fin 128) : iblk m c 0 t (ix2 r l) = ((D.dz (2048 * (t.val % 2) + r.val) (128 * (t.val / 2) + l.val) : ℝ) : EReal) := by
  rw [blk0, V_main_arg0]
  exact hD.dz ⟨2048 * (t.val % 2) + r.val, by omega⟩ ⟨128 * (t.val / 2) + l.val, by have := tlt t; omega⟩
theorem val1 (r : Fin 2048) (l : Fin 128) : iblk m c 1 t (ix2 r l) = ((D.y (2048 * (t.val % 2) + r.val) (128 * (t.val / 2) + l.val) : ℝ) : EReal) := by
  rw [blk1, V_main_arg1]
  exact hD.y ⟨2048 * (t.val % 2) + r.val, by omega⟩ ⟨128 * (t.val / 2) + l.val, by have := tlt t; omega⟩
theorem val2 (r : Fin 2048) (l : Fin 128) : iblk m c 2 t (ix2 r l) = ((D.u (2048 * (t.val % 2) + r.val) (128 * (t.val / 2) + l.val) : ℝ) : EReal) := by
  rw [blk2, V_main_arg2]
  exact hD.u ⟨2048 * (t.val % 2) + r.val, by omega⟩ ⟨128 * (t.val / 2) + l.val, by have := tlt t; omega⟩
theorem val3 (r : Fin 2048) (l : Fin 512) : iblk m c 3 t (ix2 r l) = ((D.sr (2048 * (t.val % 2) + r.val) (512 * (t.val / 2) + l.val) : ℝ) : EReal) := by
  rw [blk3, V_main_arg3]
  exact hD.sr ⟨2048 * (t.val % 2) + r.val, by omega⟩ ⟨512 * (t.val / 2) + l.val, by have := tlt t; omega⟩
theorem val4 (r : Fin 2048) (l : Fin 512) : iblk m c 4 t (ix2 r l) = ((D.si (2048 * (t.val % 2) + r.val) (512 * (t.val / 2) + l.val) : ℝ) : EReal) := by
  rw [blk4, V_main_arg4]
  exact hD.si ⟨2048 * (t.val % 2) + r.val, by omega⟩ ⟨512 * (t.val / 2) + l.val, by have := tlt t; omega⟩
theorem val5 (a : Fin 128) (b : Fin 512) :
    iblk m c 5 t (ix3 0 a b) = ((if b.val / 64 = a.val / 16 then D.br (8 * (t.val / 2) + a.val / 16) (b.val % 64) (a.val % 16) else 0 : ℝ) : EReal) := by
  rw [blk5]
  exact mat15 m D c hD ⟨t.val / 2, by have := tlt t; omega⟩ a b
theorem val6 (a : Fin 128) (b : Fin 512) :
    iblk m c 6 t (ix3 0 a b) = ((if b.val / 64 = a.val / 16 then D.bi (8 * (t.val / 2) + a.val / 16) (b.val % 64) (a.val % 16) else 0 : ℝ) : EReal) := by
  rw [blk6]
  exact mat31 m D c hD ⟨t.val / 2, by have := tlt t; omega⟩ a b
theorem val7 (a : Fin 512) (b : Fin 128) :
    iblk m c 7 t (ix3 0 a b) = ((if b.val / 16 = a.val / 64 then D.cr (8 * (t.val / 2) + a.val / 64) (b.val % 16) (a.val % 64) else 0 : ℝ) : EReal) := by
  rw [blk7]
  exact mat47 m D c hD ⟨t.val / 2, by have := tlt t; omega⟩ a b
theorem val8 (a : Fin 512) (b : Fin 128) :
    iblk m c 8 t (ix3 0 a b) = ((if b.val / 16 = a.val / 64 then D.ci (8 * (t.val / 2) + a.val / 64) (b.val % 16) (a.val % 64) else 0 : ℝ) : EReal) := by
  rw [blk8]
  exact mat63 m D c hD ⟨t.val / 2, by have := tlt t; omega⟩ a b
theorem val9 (b : Fin 512) :
    iblk m c 9 t (ix2 0 b) = ((D.ar ((512 * (t.val / 2) + b.val) / 64) ((512 * (t.val / 2) + b.val) % 64) : ℝ) : EReal) := by
  rw [blk9]
  exact row64 m D c hD ⟨512 * (t.val / 2) + b.val, by have := tlt t; omega⟩
theorem val10 (b : Fin 512) :
    iblk m c 10 t (ix2 0 b) = ((D.ai ((512 * (t.val / 2) + b.val) / 64) ((512 * (t.val / 2) + b.val) % 64) : ℝ) : EReal) := by
  rw [blk10]
  exact row65 m D c hD ⟨512 * (t.val / 2) + b.val, by have := tlt t; omega⟩
theorem val11 (b : Fin 128) : iblk m c 11 t (ix2 0 b) = ((D.d (128 * (t.val / 2) + b.val) : ℝ) : EReal) := by
  rw [blk11]
  exact row66 m D c hD ⟨128 * (t.val / 2) + b.val, by have := tlt t; omega⟩
/-- The read-out's gradient, and the scan's two inputs. -/
theorem vdy (r : Fin 2048) (l : Fin 128) :
    k0_pay14 (F := Ideal) (iblk m c 0 t) (iblk m c 1 t) (ix2 r l) = ((D.dy (2048 * (t.val % 2) + r.val) (128 * (t.val / 2) + l.val) : ℝ) : EReal) :=
  pay14_at _ _ r l _ _ (val0 m D c hD t r l) (val1 m D c hD t r l)
theorem vsre (r : Fin 2048) (s : Fin 512) :
    k0_pay15 (F := Ideal) (iblk m c 0 t) (iblk m c 1 t) (iblk m c 7 t) (ix2 r s) = ((D.dsre (t.val % 2) r.val (512 * (t.val / 2) + s.val) : ℝ) : EReal) :=
  (pay15_at _ _ _ r s _ _ (fun k => vdy m D c hD t r k) (fun k => val7 m D c hD t s k)).trans
    (congrArg _ (sumC D.dy D.cr _ _ s.val s.isLt))
theorem vsim (r : Fin 2048) (s : Fin 512) :
    k0_pay17 (F := Ideal) (k0_pay14 (iblk m c 0 t) (iblk m c 1 t)) (iblk m c 8 t) (ix2 r s) = ((D.dsim (t.val % 2) r.val (512 * (t.val / 2) + s.val) : ℝ) : EReal) :=
  (pay17_at _ _ r s _ _ (fun k => vdy m D c hD t r k) (fun k => val8 m D c hD t s k)).trans
    (congrArg (fun x : ℝ => ((-x : ℝ) : EReal)) (sumC D.dy D.ci _ _ s.val s.isLt))
end

end Cert.KernelIdeal.S5
end
-- ==== Proof.Loop.lean ====
module
public import proofs.«01_k».proof.Proof.IFrame
public import proofs.«01_k».proof.Proof.Spec
public import Idealize.ShloMosaic.Lib.Pipeline.ValueKit
public import Idealize.ShloMosaic.Lib.WritesUnit
@[expose] public section
set_option maxRecDepth 16384
noncomputable section
open Idealize.ShloMosaic Idealize.ShloMosaic.TcCoe Idealize.SL.Sem
open Idealize.ShloMosaic.Pipeline (Dat)
namespace Cert.KernelIdeal.S5
open Cert.KernelIdeal Cert.KernelIdeal.Gen Cert.S5

theorem pay20_at (y : S1x512.Idx) : k0_pay20 (F := Ideal) y = 0 := by
  pointwise [k0_pay20]
theorem pay21_at (v50 v52 a b) (row : Vec Ideal S1x512 .f32) (s : Fin 512) :
    k0_pay21 (F := Ideal) v50 v52 a b row (ix2 0 s) = row (ix2 0 s) + v50 (ix2 0 s) * a (ix2 0 s) + v52 (ix2 0 s) * b (ix2 0 s) := by
  pointwise! [k0_pay21, k0_pay18, k0_pay19]
theorem pay22_at (v50 v52 a b) (row : Vec Ideal S1x512 .f32) (s : Fin 512) :
    k0_pay22 (F := Ideal) v50 v52 a b row (ix2 0 s) = row (ix2 0 s) - v52 (ix2 0 s) * a (ix2 0 s) + v50 (ix2 0 s) * b (ix2 0 s) := by
  pointwise! [k0_pay22, k0_pay18, k0_pay19]
theorem pay23_eq (v50 v52 a b) (row : Vec Ideal S1x512 .f32) :
    k0_pay23 (F := Ideal) v50 v52 a b row = k0_pay21 v50 v52 a b row := shapeCast_self _ _
theorem pay24_eq (v50 v52 a b) (row : Vec Ideal S1x512 .f32) :
    k0_pay24 (F := Ideal) v50 v52 a b row = k0_pay22 v50 v52 a b row := shapeCast_self _ _
theorem trips_eq : k0_t1_loop.trips = 2048 := by decide +kernel

section
variable (v22 v23 : View sig .tc .vmem S2048x512 .f32) (v50 v52 : Vec Ideal S1x512 .f32) (AR AI : Fin 512 → ℝ) (gre gim : Fin 512 → ℕ → ℝ)

/-- The carried row and the two buffers after `k` positions. -/
def Inv (k : ℕ) (acc : FVec Ideal S1x512 .f32 × FVec Ideal S1x512 .f32) (f22 : BufTy.Contents (Elt Ideal) v22.ty) (f23 : BufTy.Contents (Elt Ideal) v23.ty) : Prop :=
  (∀ s : Fin 512, acc.1 (ix2 0 s) = (((back (AR s) (AI s) (gre s) (gim s) k).1 : ℝ) : EReal))
  ∧ (∀ s : Fin 512, acc.2 (ix2 0 s) = (((back (AR s) (AI s) (gre s) (gim s) k).2 : ℝ) : EReal))
  ∧ (∀ (r : Fin 2048) (s : Fin 512), v22.read (Elt Ideal) f22 (ix2 r s)
      = (((if 2048 ≤ r.val + k then (back (AR s) (AI s) (gre s) (gim s) (2048 - r.val)).1 else gre s r.val) : ℝ) : EReal))
  ∧ (∀ (r : Fin 2048) (s : Fin 512), v23.read (Elt Ideal) f23 (ix2 r s)
      = (((if 2048 ≤ r.val + k then (back (AR s) (AI s) (gre s) (gim s) (2048 - r.val)).2 else gim s r.val) : ℝ) : EReal))

theorem readAt_row (v : View sig .tc .vmem S2048x512 .f32) (f : BufTy.Contents (Elt Ideal) v.ty) (k : Fin k0_t1_loop.trips) (hk : 2047 - k.val < 2048) (s : Fin 512) :
    v.readAt (Elt Ideal) (Rect.unit (s := S2048x512) (k0_off1 k) S1x512.size (k0_off1_inb k)).toLoadRect f (ix2 0 s)
      = v.read (Elt Ideal) f (ix2 ⟨2047 - k.val, hk⟩ s) := by
  refine (View.ld_unit_apply_of (v.read (Elt Ideal) f) _ _ _ _ (ix2 ⟨2047 - k.val, hk⟩ s) ?_)
  have e := k0_off1_eq k
  exact Fin.forall_fin_two.mpr ⟨by rw [congrFun e 0]; rfl, by rw [congrFun e 1]; exact (Nat.zero_add _).symm⟩

theorem step_value (k : Fin k0_t1_loop.trips) (acc : FVec Ideal S1x512 .f32 × FVec Ideal S1x512 .f32)
    (G22 : BufTy.Contents (Elt Ideal) v22.ty) (G23 : BufTy.Contents (Elt Ideal) v23.ty) (L22 L23 : List (View.Piece (Elt Ideal) S2048x512 .f32))
    (h50 : ∀ s, v50 (ix2 0 s) = ((AR s : ℝ) : EReal)) (h52 : ∀ s, v52 (ix2 0 s) = ((AI s : ℝ) : EReal))
    (hi : Inv v22 v23 AR AI gre gim k.val acc (v22.writes (Elt Ideal) G22 L22) (v23.writes (Elt Ideal) G23 L23))
    (w22 w23 : Vec Ideal S1x512 .f32)
    (e22 : w22 = v22.readAt (Elt Ideal) (Rect.unit (s := S2048x512) (k0_off1 k) S1x512.size (k0_off1_inb k)).toLoadRect (v22.writes (Elt Ideal) G22 L22))
    (e23 : w23 = v23.readAt (Elt Ideal) (Rect.unit (s := S2048x512) (k0_off1 k) S1x512.size (k0_off1_inb k)).toLoadRect (v23.writes (Elt Ideal) G23 L23)) :
    Inv v22 v23 AR AI gre gim (k.val + 1) (k0_pay21 v50 v52 acc.1 acc.2 w22, k0_pay22 v50 v52 acc.1 acc.2 w23)
      (v22.writes (Elt Ideal) G22 (⟨Rect.unit (s := S2048x512) (k0_off1 k) S1x512.size (k0_off1_inb k), k0_pay23 v50 v52 acc.1 acc.2 w22⟩ :: L22))
      (v23.writes (Elt Ideal) G23 (⟨Rect.unit (s := S2048x512) (k0_off1 k) S1x512.size (k0_off1_inb k), k0_pay24 v50 v52 acc.1 acc.2 w23⟩ :: L23)) := by
  obtain ⟨i1, i2, i3, i4⟩ := hi
  have hkt : k.val < 2048 := lt_of_lt_of_eq k.isLt trips_eq
  have hk2 : 2047 - k.val < 2048 := by omega
  have r22 : ∀ s, w22 (ix2 0 s) = ((gre s (2047 - k.val) : ℝ) : EReal) := fun s => by
    rw [e22]
    refine (readAt_row v22 _ k hk2 s).trans ((i3 _ s).trans ?_)
    rw [if_neg (by show ¬ 2048 ≤ 2047 - k.val + k.val; omega)]
  have r23 : ∀ s, w23 (ix2 0 s) = ((gim s (2047 - k.val) : ℝ) : EReal) := fun s => by
    rw [e23]
    refine (readAt_row v23 _ k hk2 s).trans ((i4 _ s).trans ?_)
    rw [if_neg (by show ¬ 2048 ≤ 2047 - k.val + k.val; omega)]
  have j1 : ∀ s, k0_pay21 v50 v52 acc.1 acc.2 w22 (ix2 0 s) = (((back (AR s) (AI s) (gre s) (gim s) (k.val + 1)).1 : ℝ) : EReal) := by
    intro s
    refine (pay21_at v50 v52 acc.1 acc.2 w22 s).trans ?_
    rw [r22, h50, h52, i1, i2]
    simp only [back, EReal.coe_add, EReal.coe_mul]
  have j2 : ∀ s, k0_pay22 v50 v52 acc.1 acc.2 w23 (ix2 0 s) = (((back (AR s) (AI s) (gre s) (gim s) (k.val + 1)).2 : ℝ) : EReal) := by
    intro s
    refine (pay22_at v50 v52 acc.1 acc.2 w23 s).trans ?_
    rw [r23, h50, h52, i1, i2]
    simp only [back, EReal.coe_add, EReal.coe_mul, EReal.coe_sub]
  refine ⟨j1, j2, fun r s => ?_, fun r s => ?_⟩
  · rcases Nat.lt_trichotomy r.val (2047 - k.val) with h | h | h
    · refine (View.read_writes_cons_rows_of_not_mem v22 _ (size := S1x512.size) _ _ _ (ix2 r s) (k0_off1_eq k) rfl (Or.inl h)).trans ((i3 r s).trans ?_)
      rw [if_neg (by omega), if_neg (by omega)]
    · refine (View.read_writes_cons_rows_of_mem v22 _ (size := S1x512.size) _ _ _ (ix2 r s) (ix2 0 s) (k0_off1_eq k) h rfl).trans ?_
      rw [pay23_eq]
      refine (j1 s).trans ?_
      rw [if_pos (by omega), show 2048 - r.val = k.val + 1 by omega]
    · refine (View.read_writes_cons_rows_of_not_mem v22 _ (size := S1x512.size) _ _ _ (ix2 r s) (k0_off1_eq k) rfl (Or.inr (by show 2047 - k.val + 1 ≤ r.val; omega))).trans ((i3 r s).trans ?_)
      rw [if_pos (by omega), if_pos (by omega)]
  · rcases Nat.lt_trichotomy r.val (2047 - k.val) with h | h | h
    · refine (View.read_writes_cons_rows_of_not_mem v23 _ (size := S1x512.size) _ _ _ (ix2 r s) (k0_off1_eq k) rfl (Or.inl h)).trans ((i4 r s).trans ?_)
      rw [if_neg (by omega), if_neg (by omega)]
    · refine (View.read_writes_cons_rows_of_mem v23 _ (size := S1x512.size) _ _ _ (ix2 r s) (ix2 0 s) (k0_off1_eq k) h rfl).trans ?_
      rw [pay24_eq]
      refine (j2 s).trans ?_
      rw [if_pos (by omega), show 2048 - r.val = k.val + 1 by omega]
    · refine (View.read_writes_cons_rows_of_not_mem v23 _ (size := S1x512.size) _ _ _ (ix2 r s) (k0_off1_eq k) rfl (Or.inr (by show 2047 - k.val + 1 ≤ r.val; omega))).trans ((i4 r s).trans ?_)
      rw [if_pos (by omega), if_pos (by omega)]
end

section
variable (c : Dev nD) (i : grid0.Coords) (arg2 : Memref sig .tc .vmem S2048x128 .bf16) (harg2 : arg2.IsWhole) (arg3 : Memref sig .tc .vmem S2048x128 .f32) (harg3 : arg3.IsWhole) (arg4 : Memref sig .tc .vmem S2048x128 .bf16) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x512x128 .bf16) (harg9 : arg9.IsWhole) (arg10 : Memref sig .tc .vmem S1x512x128 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x128 .f32) (harg13 : arg13.IsWhole) (arg14 : Memref sig .tc .vmem S2048x128 .f32) (harg14 : arg14.IsWhole) (arg15 : Memref sig .tc .vmem S1x128x512 .f32) (harg15 : arg15.IsWhole) (arg16 : Memref sig .tc .vmem S1x128x512 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x128 .f32) (harg21 : arg21.IsWhole) (arg22 : Memref sig .tc .vmem S2048x512 .f32) (harg22 : arg22.IsWhole) (arg23 : Memref sig .tc .vmem S2048x512 .f32) (harg23 : arg23.IsWhole) (v33 : FVec Ideal S2048x128 .f32) (v37 : FVec Ideal S2048x512 .f32) (v50 : Vec Ideal S1x512 .f32) (v52 : Vec Ideal S1x512 .f32)

theorem tripR_eq (k) (acc : FVec Ideal S1x512 .f32 × FVec Ideal S1x512 .f32) (f22 f23) :
    tripR_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v33 v37 v50 v52 k acc f22 f23
      = (k0_pay21 v50 v52 acc.1 acc.2 (arg22.view.readAt (Elt Ideal) (Rect.unit (s := S2048x512) (k0_off1 k) S1x512.size (k0_off1_inb k)).toLoadRect f22),
         k0_pay22 v50 v52 acc.1 acc.2 (arg23.view.readAt (Elt Ideal) (Rect.unit (s := S2048x512) (k0_off1 k) S1x512.size (k0_off1_inb k)).toLoadRect f23)) := by
  unfold tripR_k0_t1 trip_k0_t1; dsimp only

theorem tripL_eq (k) (acc : FVec Ideal S1x512 .f32 × FVec Ideal S1x512 .f32) (f22 f23) :
    tripL_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v33 v37 v50 v52 k acc f22 f23
      = ([⟨Rect.unit (s := S2048x512) (k0_off1 k) S1x512.size (k0_off1_inb k), k0_pay23 v50 v52 acc.1 acc.2 (arg22.view.readAt (Elt Ideal) (Rect.unit (s := S2048x512) (k0_off1 k) S1x512.size (k0_off1_inb k)).toLoadRect f22)⟩],
         [⟨Rect.unit (s := S2048x512) (k0_off1 k) S1x512.size (k0_off1_inb k), k0_pay24 v50 v52 acc.1 acc.2 (arg23.view.readAt (Elt Ideal) (Rect.unit (s := S2048x512) (k0_off1 k) S1x512.size (k0_off1_inb k)).toLoadRect f23)⟩]) := by
  unfold tripL_k0_t1 trip_k0_t1; dsimp only

set_option maxHeartbeats 1000000 in
/-- What the loop leaves after `k` trips. -/
theorem loop_value (AR AI : Fin 512 → ℝ) (gre gim : Fin 512 → ℕ → ℝ)
    (G22 : BufTy.Contents (Elt Ideal) arg22.view.ty) (G23 : BufTy.Contents (Elt Ideal) arg23.view.ty)
    (h50 : ∀ s, v50 (ix2 0 s) = ((AR s : ℝ) : EReal)) (h52 : ∀ s, v52 (ix2 0 s) = ((AI s : ℝ) : EReal))
    (h22 : ∀ (r : Fin 2048) s, arg22.view.read (Elt Ideal) G22 (ix2 r s) = ((gre s r.val : ℝ) : EReal))
    (h23 : ∀ (r : Fin 2048) s, arg23.view.read (Elt Ideal) G23 (ix2 r s) = ((gim s r.val : ℝ) : EReal)) (k : ℕ) :
      k ≤ 2048 → ∀ st, st = st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v33 v37 v50 v52 G22 G23 (k0_pay20, k0_pay20) k →
      Inv arg22.view arg23.view AR AI gre gim k st.1 (arg22.view.writes (Elt Ideal) G22 st.2.1) (arg23.view.writes (Elt Ideal) G23 st.2.2) := by
  induction k with
  | zero =>
    rintro _ st rfl
    refine ⟨fun s => ?_, fun s => ?_, fun r s => ?_, fun r s => ?_⟩
    · exact (pay20_at (ix2 0 s)).trans (by simp [back])
    · exact (pay20_at (ix2 0 s)).trans (by simp [back])
    · rw [if_neg (by omega)]; exact h22 r s
    · rw [if_neg (by omega)]; exact h23 r s
  | succ k ih =>
    intro hk st e
    have hkt : k < k0_t1_loop.trips := by rw [trips_eq]; omega
    have e2 := e.trans (st_k0_t1_succ Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v33 v37 v50 v52 G22 G23 (k0_pay20 (F := Ideal), k0_pay20) ⟨k, hkt⟩)
    rw [tripR_eq, tripL_eq] at e2
    have ih := ih (by omega) _ rfl
    generalize st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v33 v37 v50 v52 G22 G23 (k0_pay20 (F := Ideal), k0_pay20) k = prev at e2 ih
    subst e2
    exact step_value arg22.view arg23.view v50 v52 AR AI gre gim ⟨k, hkt⟩ prev.1 G22 G23 prev.2.1 prev.2.2 h50 h52 ih _ _ rfl rfl
end
end Cert.KernelIdeal.S5
end
-- ==== Proof.Scratch.lean ====
module
public import proofs.«01_k».proof.Proof.Vals
public import proofs.«01_k».proof.Proof.Loop
public import proofs.«01_k».proof.Proof.IFrame
public import Idealize.ShloMosaic.Lib.Claim
public import Idealize.ShloMosaic.Lib.Pipeline.ValueKit
public import Idealize.ShloMosaic.Lib.WritesUnit
@[expose] public section
set_option maxRecDepth 16384
noncomputable section
open Idealize.ShloMosaic Idealize.ShloMosaic.TcCoe Idealize.SL.Sem
open Idealize.ShloMosaic.Pipeline (Dat)
namespace Cert.KernelIdeal.S5
open Cert.KernelIdeal Cert.KernelIdeal.Gen Cert.S5

theorem read_whole (v : View sig .tc .vmem S2048x512 .f32) (f : BufTy.Contents (Elt Ideal) v.ty) (inb) (w : FVec Ideal S2048x512 .f32) (r : Fin 2048) (s : Fin 512) :
    v.read (Elt Ideal) (v.writes (Elt Ideal) f [⟨(Rect.unit (s := S2048x512) ![0, 0] S2048x512.size inb), w⟩]) (ix2 r s) = w (ix2 r s) :=
  View.read_writes_cons_rows_of_mem v f (size := S2048x512.size) inb w [] (ix2 r s) (ix2 r s) rfl (Nat.zero_add _).symm rfl
theorem readAt_whole (v : View sig .tc .vmem S2048x512 .f32) (f : BufTy.Contents (Elt Ideal) v.ty) (inb) (r : Fin 2048) (s : Fin 512) :
    v.readAt (Elt Ideal) (Rect.unit (s := S2048x512) ![0, 0] S2048x512.size inb).toLoadRect f (ix2 r s) = v.read (Elt Ideal) f (ix2 r s) :=
  View.ld_unit_apply_of (v.read (Elt Ideal) f) _ _ _ _ (ix2 r s) (Fin.forall_fin_two.mpr ⟨(Nat.zero_add _).symm, (Nat.zero_add _).symm⟩)

section
variable (c : Dev nD) (i : grid0.Coords) (arg2 : Memref sig .tc .vmem S2048x128 .bf16) (harg2 : arg2.IsWhole) (arg3 : Memref sig .tc .vmem S2048x128 .f32) (harg3 : arg3.IsWhole) (arg4 : Memref sig .tc .vmem S2048x128 .bf16) (harg4 : arg4.IsWhole) (arg5 : Memref sig .tc .vmem S2048x512 .f32) (harg5 : arg5.IsWhole) (arg6 : Memref sig .tc .vmem S2048x512 .f32) (harg6 : arg6.IsWhole) (arg7 : Memref sig .tc .vmem S1x128x512 .bf16) (harg7 : arg7.IsWhole) (arg8 : Memref sig .tc .vmem S1x128x512 .bf16) (harg8 : arg8.IsWhole) (arg9 : Memref sig .tc .vmem S1x512x128 .bf16) (harg9 : arg9.IsWhole) (arg10 : Memref sig .tc .vmem S1x512x128 .bf16) (harg10 : arg10.IsWhole) (arg11 : Memref sig .tc .vmem S1x512 .f32) (harg11 : arg11.IsWhole) (arg12 : Memref sig .tc .vmem S1x512 .f32) (harg12 : arg12.IsWhole) (arg13 : Memref sig .tc .vmem S1x128 .f32) (harg13 : arg13.IsWhole) (arg14 : Memref sig .tc .vmem S2048x128 .f32) (harg14 : arg14.IsWhole) (arg15 : Memref sig .tc .vmem S1x128x512 .f32) (harg15 : arg15.IsWhole) (arg16 : Memref sig .tc .vmem S1x128x512 .f32) (harg16 : arg16.IsWhole) (arg17 : Memref sig .tc .vmem S1x512x128 .f32) (harg17 : arg17.IsWhole) (arg18 : Memref sig .tc .vmem S1x512x128 .f32) (harg18 : arg18.IsWhole) (arg19 : Memref sig .tc .vmem S1x512 .f32) (harg19 : arg19.IsWhole) (arg20 : Memref sig .tc .vmem S1x512 .f32) (harg20 : arg20.IsWhole) (arg21 : Memref sig .tc .vmem S1x128 .f32) (harg21 : arg21.IsWhole) (arg22 : Memref sig .tc .vmem S2048x512 .f32) (harg22 : arg22.IsWhole) (arg23 : Memref sig .tc .vmem S2048x512 .f32) (harg23 : arg23.IsWhole) (v33 : FVec Ideal S2048x128 .f32) (v37 : FVec Ideal S2048x512 .f32) (v50 : Vec Ideal S1x512 .f32) (v52 : Vec Ideal S1x512 .f32)

/-- What the two buffers hold after the loop. -/
theorem scr_value (AR AI : Fin 512 → ℝ) (gre gim : Fin 512 → ℕ → ℝ) (w22 w23 : FVec Ideal S2048x512 .f32)
    (h50 : ∀ s, v50 (ix2 0 s) = ((AR s : ℝ) : EReal)) (h52 : ∀ s, v52 (ix2 0 s) = ((AI s : ℝ) : EReal))
    (h22 : ∀ (r : Fin 2048) s, w22 (ix2 r s) = ((gre s r.val : ℝ) : EReal))
    (h23 : ∀ (r : Fin 2048) s, w23 (ix2 r s) = ((gim s r.val : ℝ) : EReal)) (inb) (n : ℕ) (hn : n = 2048)
    (st) (hst : st = st_k0_t1 Variants.none c none i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v33 v37 v50 v52
      (arg22.view.writes (Elt Ideal) arg22.view.junk [⟨(Rect.unit (s := S2048x512) ![0, 0] S2048x512.size inb), w22⟩]) (arg23.view.writes (Elt Ideal) arg23.view.junk [⟨(Rect.unit (s := S2048x512) ![0, 0] S2048x512.size inb), w23⟩]) (k0_pay20, k0_pay20) n) :
    (∀ (r : Fin 2048) (s : Fin 512), arg22.view.readCov (st.2.1 ++ [⟨(Rect.unit (s := S2048x512) ![0, 0] S2048x512.size inb), w22⟩]) (Rect.unit (s := S2048x512) ![0, 0] S2048x512.size inb).toLoadRect (ix2 r s)
      = (((back (AR s) (AI s) (gre s) (gim s) (2048 - r.val)).1 : ℝ) : EReal))
    ∧ (∀ (r : Fin 2048) (s : Fin 512), arg23.view.readCov (st.2.2 ++ [⟨(Rect.unit (s := S2048x512) ![0, 0] S2048x512.size inb), w23⟩]) (Rect.unit (s := S2048x512) ![0, 0] S2048x512.size inb).toLoadRect (ix2 r s)
      = (((back (AR s) (AI s) (gre s) (gim s) (2048 - r.val)).2 : ℝ) : EReal)) := by
  subst hn
  obtain ⟨_, _, h3, h4⟩ := loop_value c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 v33 v37 v50 v52 AR AI gre gim _ _ h50 h52
    (fun r s => (read_whole arg22.view arg22.view.junk inb w22 r s).trans (h22 r s))
    (fun r s => (read_whole arg23.view arg23.view.junk inb w23 r s).trans (h23 r s)) 2048 le_rfl st hst
  clear hst
  refine ⟨fun r s => ?_, fun r s => ?_⟩
  · show arg22.view.readAt (Elt Ideal) (Rect.unit (s := S2048x512) ![0, 0] S2048x512.size inb).toLoadRect (arg22.view.writes (Elt Ideal) arg22.view.junk (st.2.1 ++ [⟨(Rect.unit (s := S2048x512) ![0, 0] S2048x512.size inb), w22⟩])) (ix2 r s) = _
    rw [View.writes_append]
    refine (readAt_whole _ _ inb r s).trans ((h3 r s).trans ?_)
    rw [if_pos (by omega)]
  · show arg23.view.readAt (Elt Ideal) (Rect.unit (s := S2048x512) ![0, 0] S2048x512.size inb).toLoadRect (arg23.view.writes (Elt Ideal) arg23.view.junk (st.2.2 ++ [⟨(Rect.unit (s := S2048x512) ![0, 0] S2048x512.size inb), w23⟩])) (ix2 r s) = _
    rw [View.writes_append]
    refine (readAt_whole _ _ inb r s).trans ((h4 r s).trans ?_)
    rw [if_pos (by omega)]
end
end Cert.KernelIdeal.S5
end
-- ==== Proof.Parts.lean ====
module
public import proofs.«01_k».proof.Proof.Vals
public import proofs.«01_k».proof.Proof.Scratch
public import proofs.«01_k».proof.Proof.IFrame
public import Idealize.ShloMosaic.Lib.Claim
public import Idealize.ShloMosaic.Lib.Pipeline.ValueKit
public import Idealize.ShloMosaic.Lib.WritesUnit
@[expose] public section
set_option maxRecDepth 16384
noncomputable section
open Idealize.ShloMosaic Idealize.ShloMosaic.TcCoe Idealize.SL.Sem
open Idealize.ShloMosaic.Pipeline (Dat)
namespace Cert.KernelIdeal.S5
open Cert.KernelIdeal Cert.KernelIdeal.Gen Cert.S5

section
variable (m : (ℓ : Loc nD τ sig) → Buf (Elt Ideal) ℓ) (c : Dev nD) (t : Fin cfg0.N)
/-- The loop's state after all positions. -/
def loopEnd := st_k0_t1 (F := Ideal) Variants.none c none (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (k0_pay14 (iblk m c 0 t) (iblk m c 1 t)) (k0_pay15 (iblk m c 0 t) (iblk m c 1 t) (iblk m c 7 t)) (iblk m c 9 t) (iblk m c 10 t)
  ((View.whole cc0_scratch0).writes (Elt Ideal) (View.whole cc0_scratch0).junk [⟨(Rect.unit (s := S2048x512) ![0, 0] S2048x512.size inb_S2048x512_S2048x512_0_0), (k0_pay16 (k0_pay15 (iblk m c 0 t) (iblk m c 1 t) (iblk m c 7 t)))⟩])
  ((View.whole cc0_scratch1).writes (Elt Ideal) (View.whole cc0_scratch1).junk [⟨(Rect.unit (s := S2048x512) ![0, 0] S2048x512.size inb_S2048x512_S2048x512_0_0), (k0_pay17 (k0_pay14 (iblk m c 0 t) (iblk m c 1 t)) (iblk m c 8 t))⟩]) (k0_pay20, k0_pay20) (Scf.trips (0#32) (Scalar.addi 0#32 2048#32) 1#32)
/-- The two buffers read back. -/
def buf22 : FVec Ideal S2048x512 .f32 := (View.whole cc0_scratch0).readCov ((loopEnd m c t).2.1 ++ [⟨(Rect.unit (s := S2048x512) ![0, 0] S2048x512.size inb_S2048x512_S2048x512_0_0), (k0_pay16 (k0_pay15 (iblk m c 0 t) (iblk m c 1 t) (iblk m c 7 t)))⟩]) (Rect.unit (s := S2048x512) ![0, 0] S2048x512.size inb_S2048x512_S2048x512_0_0).toLoadRect
def buf23 : FVec Ideal S2048x512 .f32 := (View.whole cc0_scratch1).readCov ((loopEnd m c t).2.2 ++ [⟨(Rect.unit (s := S2048x512) ![0, 0] S2048x512.size inb_S2048x512_S2048x512_0_0), (k0_pay17 (k0_pay14 (iblk m c 0 t) (iblk m c 1 t)) (iblk m c 8 t))⟩]) (Rect.unit (s := S2048x512) ![0, 0] S2048x512.size inb_S2048x512_S2048x512_0_0).toLoadRect
variable (D : Data) (hD : Fits D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))
include hD
theorem buf_at : (∀ (r : Fin 2048) (s : Fin 512), buf22 m c t (ix2 r s) = ((D.gre (t.val % 2) r.val (512 * (t.val / 2) + s.val) : ℝ) : EReal))
    ∧ (∀ (r : Fin 2048) (s : Fin 512), buf23 m c t (ix2 r s) = ((D.gim (t.val % 2) r.val (512 * (t.val / 2) + s.val) : ℝ) : EReal)) :=
  scr_value c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) _ _ _ _
    (fun s => D.ar ((512 * (t.val / 2) + s.val) / 64) ((512 * (t.val / 2) + s.val) % 64)) (fun s => D.ai ((512 * (t.val / 2) + s.val) / 64) ((512 * (t.val / 2) + s.val) % 64))
    (fun s r => D.dsre (t.val % 2) r (512 * (t.val / 2) + s.val)) (fun s r => D.dsim (t.val % 2) r (512 * (t.val / 2) + s.val)) (k0_pay16 (k0_pay15 (iblk m c 0 t) (iblk m c 1 t) (iblk m c 7 t))) (k0_pay17 (k0_pay14 (iblk m c 0 t) (iblk m c 1 t)) (iblk m c 8 t))
    (fun s => val9 m D c hD t s) (fun s => val10 m D c hD t s) (fun r s => (congrFun (pay16_eq _) _).trans (vsre m D c hD t r s)) (fun r s => vsim m D c hD t r s)
    inb_S2048x512_S2048x512_0_0 _ (by decide +kernel) (loopEnd m c t) rfl
theorem prer (r : Fin 2048) (s : Fin 512) : k0_pay25 (F := Ideal) (iblk m c 3 t) (ix2 r s) = ((Data.pre D.sr (t.val % 2) r.val (512 * (t.val / 2) + s.val) : ℝ) : EReal) := by
  rw [pay25_at]
  unfold Data.pre
  by_cases h : r.val = 0
  · rw [dif_pos h, if_pos h]; rfl
  · rw [dif_neg h, if_neg h]; exact val3 m D c hD t _ s
theorem prei (r : Fin 2048) (s : Fin 512) : k0_pay26 (F := Ideal) (iblk m c 4 t) (ix2 r s) = ((Data.pre D.si (t.val % 2) r.val (512 * (t.val / 2) + s.val) : ℝ) : EReal) := by
  rw [pay26_eq, pay25_at]
  unfold Data.pre
  by_cases h : r.val = 0
  · rw [dif_pos h, if_pos h]; rfl
  · rw [dif_neg h, if_neg h]; exact val4 m D c hD t _ s
theorem part13 (l : Fin 128) (s : Fin 512) : k0_pay29 (F := Ideal) (k0_pay13 (iblk m c 2 t)) (buf22 m c t) (ix2 l s) = ((D.dbre (t.val % 2) (128 * (t.val / 2) + l.val) (512 * (t.val / 2) + s.val) : ℝ) : EReal) :=
  pay29_at _ _ l s (fun k => D.u (2048 * (t.val % 2) + k.val) (128 * (t.val / 2) + l.val)) (fun k => D.gre (t.val % 2) k.val (512 * (t.val / 2) + s.val)) (fun k => (pay13_at _ _).trans (val2 m D c hD t k l)) (fun k => (buf_at m c t D hD).1 k s)
theorem part14 (l : Fin 128) (s : Fin 512) : k0_pay30 (F := Ideal) (k0_pay13 (iblk m c 2 t)) (buf23 m c t) (ix2 l s) = ((D.dbim (t.val % 2) (128 * (t.val / 2) + l.val) (512 * (t.val / 2) + s.val) : ℝ) : EReal) :=
  pay30_at _ _ l s (fun k => D.u (2048 * (t.val % 2) + k.val) (128 * (t.val / 2) + l.val)) (fun k => D.gim (t.val % 2) k.val (512 * (t.val / 2) + s.val)) (fun k => (pay13_at _ _).trans (val2 m D c hD t k l)) (fun k => (buf_at m c t D hD).2 k s)
theorem part15 (s : Fin 512) (l : Fin 128) : k0_pay31 (F := Ideal) (k0_pay14 (iblk m c 0 t) (iblk m c 1 t)) (iblk m c 3 t) (ix2 s l) = ((D.dcre (t.val % 2) (512 * (t.val / 2) + s.val) (128 * (t.val / 2) + l.val) : ℝ) : EReal) :=
  pay31_at _ _ s l (fun k => D.sr (2048 * (t.val % 2) + k.val) (512 * (t.val / 2) + s.val)) (fun k => D.dy (2048 * (t.val % 2) + k.val) (128 * (t.val / 2) + l.val)) (fun k => val3 m D c hD t k s) (fun k => vdy m D c hD t k l)
theorem part16 (s : Fin 512) (l : Fin 128) : k0_pay32 (F := Ideal) (k0_pay14 (iblk m c 0 t) (iblk m c 1 t)) (iblk m c 4 t) (ix2 s l) = ((D.dcim (t.val % 2) (512 * (t.val / 2) + s.val) (128 * (t.val / 2) + l.val) : ℝ) : EReal) :=
  pay32_at _ _ s l (fun k => D.si (2048 * (t.val % 2) + k.val) (512 * (t.val / 2) + s.val)) (fun k => D.dy (2048 * (t.val % 2) + k.val) (128 * (t.val / 2) + l.val)) (fun k => val4 m D c hD t k s) (fun k => vdy m D c hD t k l)
theorem part17 (s : Fin 512) : k0_pay27 (F := Ideal) (buf22 m c t) (buf23 m c t) (iblk m c 4 t) (k0_pay25 (iblk m c 3 t)) (ix2 0 s) = ((D.dar (t.val % 2) (512 * (t.val / 2) + s.val) : ℝ) : EReal) :=
  pay27_at _ _ _ _ s (fun k => D.gre (t.val % 2) k.val (512 * (t.val / 2) + s.val)) (fun k => D.gim (t.val % 2) k.val (512 * (t.val / 2) + s.val)) (fun k => Data.pre D.si (t.val % 2) k.val (512 * (t.val / 2) + s.val)) (fun k => Data.pre D.sr (t.val % 2) k.val (512 * (t.val / 2) + s.val)) (fun k => (buf_at m c t D hD).1 k s) (fun k => (buf_at m c t D hD).2 k s) (fun k => prei m c t D hD k s) (fun k => prer m c t D hD k s)
theorem part18 (s : Fin 512) : k0_pay28 (F := Ideal) (buf22 m c t) (buf23 m c t) (iblk m c 4 t) (k0_pay25 (iblk m c 3 t)) (ix2 0 s) = ((D.dai (t.val % 2) (512 * (t.val / 2) + s.val) : ℝ) : EReal) :=
  pay28_at _ _ _ _ s (fun k => D.gre (t.val % 2) k.val (512 * (t.val / 2) + s.val)) (fun k => D.gim (t.val % 2) k.val (512 * (t.val / 2) + s.val)) (fun k => Data.pre D.si (t.val % 2) k.val (512 * (t.val / 2) + s.val)) (fun k => Data.pre D.sr (t.val % 2) k.val (512 * (t.val / 2) + s.val)) (fun k => (buf_at m c t D hD).1 k s) (fun k => (buf_at m c t D hD).2 k s) (fun k => prei m c t D hD k s) (fun k => prer m c t D hD k s)
theorem part19 (l : Fin 128) : k0_pay33 (F := Ideal) (k0_pay13 (iblk m c 2 t)) (k0_pay14 (iblk m c 0 t) (iblk m c 1 t)) (ix2 0 l) = ((D.dd (t.val % 2) (128 * (t.val / 2) + l.val) : ℝ) : EReal) :=
  pay33_at _ _ l (fun k => D.dy (2048 * (t.val % 2) + k.val) (128 * (t.val / 2) + l.val)) (fun k => D.u (2048 * (t.val % 2) + k.val) (128 * (t.val / 2) + l.val)) (fun k => vdy m D c hD t k l) (fun k => (pay13_at _ _).trans (val2 m D c hD t k l))
theorem part34 (r : Fin 2048) (l : Fin 128) : k0_pay34 (F := Ideal) (buf22 m c t) (iblk m c 5 t) (ix2 r l)
    = ((∑ p : Fin 64, D.gre (t.val % 2) r.val (64 * ((128 * (t.val / 2) + l.val) / 16) + p.val) * D.br ((128 * (t.val / 2) + l.val) / 16) p.val ((128 * (t.val / 2) + l.val) % 16) : ℝ) : EReal) :=
  (pay34_at _ _ r l (fun k => D.gre (t.val % 2) r.val (512 * (t.val / 2) + k.val)) _ (fun k => (buf_at m c t D hD).1 r k) (fun k => val5 m D c hD t l k)).trans
    (congrArg _ (sumB (fun n => D.gre (t.val % 2) r.val n) D.br _ l.val l.isLt))
theorem part35 (r : Fin 2048) (l : Fin 128) : k0_pay35 (F := Ideal) (buf23 m c t) (iblk m c 6 t) (ix2 r l)
    = ((∑ p : Fin 64, D.gim (t.val % 2) r.val (64 * ((128 * (t.val / 2) + l.val) / 16) + p.val) * D.bi ((128 * (t.val / 2) + l.val) / 16) p.val ((128 * (t.val / 2) + l.val) % 16) : ℝ) : EReal) :=
  (pay35_at _ _ r l (fun k => D.gim (t.val % 2) r.val (512 * (t.val / 2) + k.val)) _ (fun k => (buf_at m c t D hD).2 r k) (fun k => val6 m D c hD t l k)).trans
    (congrArg _ (sumB (fun n => D.gim (t.val % 2) r.val n) D.bi _ l.val l.isLt))
theorem part12 (r : Fin 2048) (l : Fin 128) :
    k0_pay1 (F := Ideal) (k0_pay14 (iblk m c 0 t) (iblk m c 1 t)) (k0_pay34 (buf22 m c t) (iblk m c 5 t)) (k0_pay35 (buf23 m c t) (iblk m c 6 t)) (iblk m c 11 t) (ix2 r l) = ((D.dh (t.val % 2) r.val (128 * (t.val / 2) + l.val) : ℝ) : EReal) := by
  rw [pay1_at, part34 m c t D hD, part35 m c t D hD, vdy m D c hD, val11 m D c hD, ← EReal.coe_mul, ← EReal.coe_add, ← EReal.coe_add]
  rfl
end
end Cert.KernelIdeal.S5
end
-- ==== Proof.Wins.lean ====
module
public import proofs.«01_k».proof.Proof.Vals
public import proofs.«01_k».proof.Proof.Parts
public import proofs.«01_k».proof.Proof.IFrame
public import Idealize.ShloMosaic.Lib.Claim
public import Idealize.ShloMosaic.Lib.Pipeline.ValueKit
public import Idealize.ShloMosaic.Lib.WritesUnit
@[expose] public section
set_option maxRecDepth 16384
noncomputable section
open Idealize.ShloMosaic Idealize.ShloMosaic.TcCoe Idealize.SL.Sem
open Idealize.ShloMosaic.Pipeline (Dat)
namespace Cert.KernelIdeal.S5
open Cert.KernelIdeal Cert.KernelIdeal.Gen Cert.S5

section
variable (m : (ℓ : Loc nD τ sig) → Buf (Elt Ideal) ℓ) (c : Dev nD) (D : Data) (hD : Fits D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))) (t : Fin cfg0.N) (j : ℕ)
include hD
theorem o12 (r : Fin 2048) (l : Fin 128) : (outsAt0 m c t.val t.isLt).1 (ix2 r l) = ((D.dh (t.val % 2) r.val (128 * (t.val / 2) + l.val) : ℝ) : EReal) := by
  by_cases h : t.val % 2 = 0
  · rw [outsAt0_A m c t h (by omega), ptA]
    frame_out
    exact part12 m c t D hD r l
  · rw [outsAt0_B m c t h (by omega), ptB]
    frame_out
    exact part12 m c t D hD r l
theorem oA13 (hj : t.val = 2 * j) (l : Fin 128) (s : Fin 512) : (outsAt0 m c t.val t.isLt).2.1 (ix3 0 l s) = ((D.dbre 0 (128 * j + l.val) (512 * j + s.val) : ℝ) : EReal) := by
  have e := part13 m c t D hD l s
  rw [show t.val % 2 = 0 by omega, show t.val / 2 = j by omega] at e
  rw [outsAt0_A m c t (by omega) (by omega), ptA]
  frame_out
  exact (pay2_at _ l s).trans e
theorem oB13 (hj : t.val = 2 * j + 1) (l : Fin 128) (s : Fin 512) : (outsAt0 m c t.val t.isLt).2.1 (ix3 0 l s) = ((D.dbre 0 (128 * j + l.val) (512 * j + s.val) + D.dbre 1 (128 * j + l.val) (512 * j + s.val) : ℝ) : EReal) := by
  have e := part13 m c t D hD l s
  have e' := oA13 m c D hD ⟨t.val - 1, by omega⟩ j (by show t.val - 1 = _; omega) l s
  rw [show t.val % 2 = 1 by omega, show t.val / 2 = j by omega] at e
  rw [outsAt0_B m c t (by omega) (by omega), ptB]
  frame_out
  rw [EReal.coe_add]
  exact (pay10_at _ _ l s).trans (congrArg₂ (fun x y : EReal => x + y) e' e)
theorem oA14 (hj : t.val = 2 * j) (l : Fin 128) (s : Fin 512) : (outsAt0 m c t.val t.isLt).2.2.1 (ix3 0 l s) = ((D.dbim 0 (128 * j + l.val) (512 * j + s.val) : ℝ) : EReal) := by
  have e := part14 m c t D hD l s
  rw [show t.val % 2 = 0 by omega, show t.val / 2 = j by omega] at e
  rw [outsAt0_A m c t (by omega) (by omega), ptA]
  frame_out
  exact (pay3_at _ l s).trans e
theorem oB14 (hj : t.val = 2 * j + 1) (l : Fin 128) (s : Fin 512) : (outsAt0 m c t.val t.isLt).2.2.1 (ix3 0 l s) = ((D.dbim 0 (128 * j + l.val) (512 * j + s.val) + D.dbim 1 (128 * j + l.val) (512 * j + s.val) : ℝ) : EReal) := by
  have e := part14 m c t D hD l s
  have e' := oA14 m c D hD ⟨t.val - 1, by omega⟩ j (by show t.val - 1 = _; omega) l s
  rw [show t.val % 2 = 1 by omega, show t.val / 2 = j by omega] at e
  rw [outsAt0_B m c t (by omega) (by omega), ptB]
  frame_out
  rw [EReal.coe_add]
  exact (pay11_at _ _ l s).trans (congrArg₂ (fun x y : EReal => x + y) e' e)
theorem oA15 (hj : t.val = 2 * j) (s : Fin 512) (l : Fin 128) : (outsAt0 m c t.val t.isLt).2.2.2.1 (ix3 0 s l) = ((D.dcre 0 (512 * j + s.val) (128 * j + l.val) : ℝ) : EReal) := by
  have e := part15 m c t D hD s l
  rw [show t.val % 2 = 0 by omega, show t.val / 2 = j by omega] at e
  rw [outsAt0_A m c t (by omega) (by omega), ptA]
  frame_out
  exact (pay4_at _ s l).trans e
theorem oB15 (hj : t.val = 2 * j + 1) (s : Fin 512) (l : Fin 128) : (outsAt0 m c t.val t.isLt).2.2.2.1 (ix3 0 s l) = ((D.dcre 0 (512 * j + s.val) (128 * j + l.val) + D.dcre 1 (512 * j + s.val) (128 * j + l.val) : ℝ) : EReal) := by
  have e := part15 m c t D hD s l
  have e' := oA15 m c D hD ⟨t.val - 1, by omega⟩ j (by show t.val - 1 = _; omega) s l
  rw [show t.val % 2 = 1 by omega, show t.val / 2 = j by omega] at e
  rw [outsAt0_B m c t (by omega) (by omega), ptB]
  frame_out
  rw [EReal.coe_add]
  exact (pay12_at _ _ s l).trans (congrArg₂ (fun x y : EReal => x + y) e' e)
theorem oA16 (hj : t.val = 2 * j) (s : Fin 512) (l : Fin 128) : (outsAt0 m c t.val t.isLt).2.2.2.2.1 (ix3 0 s l) = ((D.dcim 0 (512 * j + s.val) (128 * j + l.val) : ℝ) : EReal) := by
  have e := part16 m c t D hD s l
  rw [show t.val % 2 = 0 by omega, show t.val / 2 = j by omega] at e
  rw [outsAt0_A m c t (by omega) (by omega), ptA]
  frame_out
  exact (pay5_at _ s l).trans e
theorem oB16 (hj : t.val = 2 * j + 1) (s : Fin 512) (l : Fin 128) : (outsAt0 m c t.val t.isLt).2.2.2.2.1 (ix3 0 s l) = ((D.dcim 0 (512 * j + s.val) (128 * j + l.val) + D.dcim 1 (512 * j + s.val) (128 * j + l.val) : ℝ) : EReal) := by
  have e := part16 m c t D hD s l
  have e' := oA16 m c D hD ⟨t.val - 1, by omega⟩ j (by show t.val - 1 = _; omega) s l
  rw [show t.val % 2 = 1 by omega, show t.val / 2 = j by omega] at e
  rw [outsAt0_B m c t (by omega) (by omega), ptB]
  frame_out
  rw [EReal.coe_add]
  exact (pay6_at _ _ s l).trans (congrArg₂ (fun x y : EReal => x + y) e' e)
theorem oA17 (hj : t.val = 2 * j) (s : Fin 512) : (outsAt0 m c t.val t.isLt).2.2.2.2.2.1 (ix2 0 s) = ((D.dar 0 (512 * j + s.val) : ℝ) : EReal) := by
  have e := part17 m c t D hD s
  rw [show t.val % 2 = 0 by omega, show t.val / 2 = j by omega] at e
  rw [outsAt0_A m c t (by omega) (by omega), ptA]
  frame_out
  exact e
theorem oB17 (hj : t.val = 2 * j + 1) (s : Fin 512) : (outsAt0 m c t.val t.isLt).2.2.2.2.2.1 (ix2 0 s) = ((D.dar 0 (512 * j + s.val) + D.dar 1 (512 * j + s.val) : ℝ) : EReal) := by
  have e := part17 m c t D hD s
  have e' := oA17 m c D hD ⟨t.val - 1, by omega⟩ j (by show t.val - 1 = _; omega) s
  rw [show t.val % 2 = 1 by omega, show t.val / 2 = j by omega] at e
  rw [outsAt0_B m c t (by omega) (by omega), ptB]
  frame_out
  rw [EReal.coe_add]
  exact (pay8_at _ _ s).trans (congrArg₂ (fun x y : EReal => x + y) e' e)
theorem oA18 (hj : t.val = 2 * j) (s : Fin 512) : (outsAt0 m c t.val t.isLt).2.2.2.2.2.2.1 (ix2 0 s) = ((D.dai 0 (512 * j + s.val) : ℝ) : EReal) := by
  have e := part18 m c t D hD s
  rw [show t.val % 2 = 0 by omega, show t.val / 2 = j by omega] at e
  rw [outsAt0_A m c t (by omega) (by omega), ptA]
  frame_out
  exact e
theorem oB18 (hj : t.val = 2 * j + 1) (s : Fin 512) : (outsAt0 m c t.val t.isLt).2.2.2.2.2.2.1 (ix2 0 s) = ((D.dai 0 (512 * j + s.val) + D.dai 1 (512 * j + s.val) : ℝ) : EReal) := by
  have e := part18 m c t D hD s
  have e' := oA18 m c D hD ⟨t.val - 1, by omega⟩ j (by show t.val - 1 = _; omega) s
  rw [show t.val % 2 = 1 by omega, show t.val / 2 = j by omega] at e
  rw [outsAt0_B m c t (by omega) (by omega), ptB]
  frame_out
  rw [EReal.coe_add]
  exact (pay9_at _ _ s).trans (congrArg₂ (fun x y : EReal => x + y) e' e)
theorem oA19 (hj : t.val = 2 * j) (l : Fin 128) : (outsAt0 m c t.val t.isLt).2.2.2.2.2.2.2 (ix2 0 l) = ((D.dd 0 (128 * j + l.val) : ℝ) : EReal) := by
  have e := part19 m c t D hD l
  rw [show t.val % 2 = 0 by omega, show t.val / 2 = j by omega] at e
  rw [outsAt0_A m c t (by omega) (by omega), ptA]
  frame_out
  exact e
theorem oB19 (hj : t.val = 2 * j + 1) (l : Fin 128) : (outsAt0 m c t.val t.isLt).2.2.2.2.2.2.2 (ix2 0 l) = ((D.dd 0 (128 * j + l.val) + D.dd 1 (128 * j + l.val) : ℝ) : EReal) := by
  have e := part19 m c t D hD l
  have e' := oA19 m c D hD ⟨t.val - 1, by omega⟩ j (by show t.val - 1 = _; omega) l
  rw [show t.val % 2 = 1 by omega, show t.val / 2 = j by omega] at e
  rw [outsAt0_B m c t (by omega) (by omega), ptB]
  frame_out
  rw [EReal.coe_add]
  exact (pay7_at _ _ l).trans (congrArg₂ (fun x y : EReal => x + y) e' e)
end
end Cert.KernelIdeal.S5
end
-- ==== Proof.Fins.lean ====
module
public import proofs.«01_k».proof.Proof.Vals
public import proofs.«01_k».proof.Proof.Wins
public import proofs.«01_k».proof.Proof.IFrame
public import Idealize.ShloMosaic.Lib.Claim
public import Idealize.ShloMosaic.Lib.Pipeline.ValueKit
public import Idealize.ShloMosaic.Lib.WritesUnit
@[expose] public section
set_option maxRecDepth 16384
noncomputable section
open Idealize.ShloMosaic Idealize.ShloMosaic.TcCoe Idealize.SL.Sem
open Idealize.ShloMosaic.Pipeline (Dat)
namespace Cert.KernelIdeal.S5
open Cert.KernelIdeal Cert.KernelIdeal.Gen Cert.S5

variable (m : (ℓ : Loc nD τ sig) → Buf (Elt Ideal) ℓ) (c : Dev nD) (D : Data) (hD : Fits D (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))
include hD
theorem fin12 : (dats m 0 c).arrAt 12 cfg0.N = fun i : S4096x1024.Idx => ((D.dh ((i 0).val / 2048) ((i 0).val % 2048) (i 1).val : ℝ) : EReal) := by
  refine (dats m 0 c).arrAt_eq_of_covers 12 _ (by decide +kernel) fun t hf y => ?_
  blk_simp
  rw [after0_12, idx12 t]
  obtain ⟨r, l, rfl⟩ : ∃ (r : Fin 2048) (l : Fin 128), y = ix2 r l := ⟨y 0, y 1, funext (Fin.forall_fin_two.mpr ⟨rfl, rfl⟩)⟩
  refine (o12 m c D hD t r l).trans ?_
  show _ = ((D.dh ((t.val % 2 * 2048 + r.val) / 2048) ((t.val % 2 * 2048 + r.val) % 2048) (t.val / 2 * 128 + l.val) : ℝ) : EReal)
  rw [show (t.val % 2 * 2048 + r.val) / 2048 = t.val % 2 by omega, show (t.val % 2 * 2048 + r.val) % 2048 = r.val by omega, Nat.mul_comm (t.val / 2) 128]
theorem fin13 : (dats m 0 c).arrAt 13 cfg0.N = fun i : S8x128x512.Idx => ((D.dbre 0 (128 * (i 0).val + (i 1).val) (512 * (i 0).val + (i 2).val) + D.dbre 1 (128 * (i 0).val + (i 1).val) (512 * (i 0).val + (i 2).val) : ℝ) : EReal) := by
  refine (dats m 0 c).arrAt_eq_of_covers 13 _ (by decide +kernel) fun t hf y => ?_
  have ht := (by decide +kernel : ∀ t : Fin cfg0.N, (cfg0.win 13).flush t = true → t.val % 2 = 1) t hf
  blk_simp
  rw [after0_13, idx13 t]
  obtain ⟨z, a, b, rfl⟩ : ∃ (z : Fin 1) (a : Fin 128) (b : Fin 512), y = ix3 z a b := ⟨y 0, y 1, y 2, by funext a; match a with | 0 => rfl | 1 => rfl | 2 => rfl⟩
  obtain rfl : z = 0 := Subsingleton.elim _ _
  refine (oB13 m c D hD t (t.val / 2) (by omega) a b).trans ?_
  show _ = ((D.dbre 0 (128 * (t.val / 2) + (0 * 128 + a.val)) (512 * (t.val / 2) + (0 * 512 + b.val)) + D.dbre 1 (128 * (t.val / 2) + (0 * 128 + a.val)) (512 * (t.val / 2) + (0 * 512 + b.val)) : ℝ) : EReal)
  rw [Nat.zero_mul, Nat.zero_add, Nat.zero_add]
theorem fin14 : (dats m 0 c).arrAt 14 cfg0.N = fun i : S8x128x512.Idx => ((D.dbim 0 (128 * (i 0).val + (i 1).val) (512 * (i 0).val + (i 2).val) + D.dbim 1 (128 * (i 0).val + (i 1).val) (512 * (i 0).val + (i 2).val) : ℝ) : EReal) := by
  refine (dats m 0 c).arrAt_eq_of_covers 14 _ (by decide +kernel) fun t hf y => ?_
  have ht := (by decide +kernel : ∀ t : Fin cfg0.N, (cfg0.win 14).flush t = true → t.val % 2 = 1) t hf
  blk_simp
  rw [after0_14, idx14 t]
  obtain ⟨z, a, b, rfl⟩ : ∃ (z : Fin 1) (a : Fin 128) (b : Fin 512), y = ix3 z a b := ⟨y 0, y 1, y 2, by funext a; match a with | 0 => rfl | 1 => rfl | 2 => rfl⟩
  obtain rfl : z = 0 := Subsingleton.elim _ _
  refine (oB14 m c D hD t (t.val / 2) (by omega) a b).trans ?_
  show _ = ((D.dbim 0 (128 * (t.val / 2) + (0 * 128 + a.val)) (512 * (t.val / 2) + (0 * 512 + b.val)) + D.dbim 1 (128 * (t.val / 2) + (0 * 128 + a.val)) (512 * (t.val / 2) + (0 * 512 + b.val)) : ℝ) : EReal)
  rw [Nat.zero_mul, Nat.zero_add, Nat.zero_add]
theorem fin15 : (dats m 0 c).arrAt 15 cfg0.N = fun i : S8x512x128.Idx => ((D.dcre 0 (512 * (i 0).val + (i 1).val) (128 * (i 0).val + (i 2).val) + D.dcre 1 (512 * (i 0).val + (i 1).val) (128 * (i 0).val + (i 2).val) : ℝ) : EReal) := by
  refine (dats m 0 c).arrAt_eq_of_covers 15 _ (by decide +kernel) fun t hf y => ?_
  have ht := (by decide +kernel : ∀ t : Fin cfg0.N, (cfg0.win 15).flush t = true → t.val % 2 = 1) t hf
  blk_simp
  rw [after0_15, idx15 t]
  obtain ⟨z, a, b, rfl⟩ : ∃ (z : Fin 1) (a : Fin 512) (b : Fin 128), y = ix3 z a b := ⟨y 0, y 1, y 2, by funext a; match a with | 0 => rfl | 1 => rfl | 2 => rfl⟩
  obtain rfl : z = 0 := Subsingleton.elim _ _
  refine (oB15 m c D hD t (t.val / 2) (by omega) a b).trans ?_
  show _ = ((D.dcre 0 (512 * (t.val / 2) + (0 * 512 + a.val)) (128 * (t.val / 2) + (0 * 128 + b.val)) + D.dcre 1 (512 * (t.val / 2) + (0 * 512 + a.val)) (128 * (t.val / 2) + (0 * 128 + b.val)) : ℝ) : EReal)
  rw [Nat.zero_mul, Nat.zero_add, Nat.zero_add]
theorem fin16 : (dats m 0 c).arrAt 16 cfg0.N = fun i : S8x512x128.Idx => ((D.dcim 0 (512 * (i 0).val + (i 1).val) (128 * (i 0).val + (i 2).val) + D.dcim 1 (512 * (i 0).val + (i 1).val) (128 * (i 0).val + (i 2).val) : ℝ) : EReal) := by
  refine (dats m 0 c).arrAt_eq_of_covers 16 _ (by decide +kernel) fun t hf y => ?_
  have ht := (by decide +kernel : ∀ t : Fin cfg0.N, (cfg0.win 16).flush t = true → t.val % 2 = 1) t hf
  blk_simp
  rw [after0_16, idx16 t]
  obtain ⟨z, a, b, rfl⟩ : ∃ (z : Fin 1) (a : Fin 512) (b : Fin 128), y = ix3 z a b := ⟨y 0, y 1, y 2, by funext a; match a with | 0 => rfl | 1 => rfl | 2 => rfl⟩
  obtain rfl : z = 0 := Subsingleton.elim _ _
  refine (oB16 m c D hD t (t.val / 2) (by omega) a b).trans ?_
  show _ = ((D.dcim 0 (512 * (t.val / 2) + (0 * 512 + a.val)) (128 * (t.val / 2) + (0 * 128 + b.val)) + D.dcim 1 (512 * (t.val / 2) + (0 * 512 + a.val)) (128 * (t.val / 2) + (0 * 128 + b.val)) : ℝ) : EReal)
  rw [Nat.zero_mul, Nat.zero_add, Nat.zero_add]
theorem fin17 : (dats m 0 c).arrAt 17 cfg0.N = fun i : S1x4096.Idx => ((D.dar 0 (i 1).val + D.dar 1 (i 1).val : ℝ) : EReal) := by
  refine (dats m 0 c).arrAt_eq_of_covers 17 _ (by decide +kernel) fun t hf y => ?_
  have ht := (by decide +kernel : ∀ t : Fin cfg0.N, (cfg0.win 17).flush t = true → t.val % 2 = 1) t hf
  blk_simp
  rw [after0_17, idx17 t]
  obtain ⟨z, b, rfl⟩ : ∃ (z : Fin 1) (b : Fin 512), y = ix2 z b := ⟨y 0, y 1, funext (Fin.forall_fin_two.mpr ⟨rfl, rfl⟩)⟩
  obtain rfl : z = 0 := Subsingleton.elim _ _
  refine (oB17 m c D hD t (t.val / 2) (by omega) b).trans ?_
  show _ = ((D.dar 0 (t.val / 2 * 512 + b.val) + D.dar 1 (t.val / 2 * 512 + b.val) : ℝ) : EReal)
  rw [Nat.mul_comm (t.val / 2) 512]
theorem fin18 : (dats m 0 c).arrAt 18 cfg0.N = fun i : S1x4096.Idx => ((D.dai 0 (i 1).val + D.dai 1 (i 1).val : ℝ) : EReal) := by
  refine (dats m 0 c).arrAt_eq_of_covers 18 _ (by decide +kernel) fun t hf y => ?_
  have ht := (by decide +kernel : ∀ t : Fin cfg0.N, (cfg0.win 18).flush t = true → t.val % 2 = 1) t hf
  blk_simp
  rw [after0_18, idx18 t]
  obtain ⟨z, b, rfl⟩ : ∃ (z : Fin 1) (b : Fin 512), y = ix2 z b := ⟨y 0, y 1, funext (Fin.forall_fin_two.mpr ⟨rfl, rfl⟩)⟩
  obtain rfl : z = 0 := Subsingleton.elim _ _
  refine (oB18 m c D hD t (t.val / 2) (by omega) b).trans ?_
  show _ = ((D.dai 0 (t.val / 2 * 512 + b.val) + D.dai 1 (t.val / 2 * 512 + b.val) : ℝ) : EReal)
  rw [Nat.mul_comm (t.val / 2) 512]
theorem fin19 : (dats m 0 c).arrAt 19 cfg0.N = fun i : S1x1024.Idx => ((D.dd 0 (i 1).val + D.dd 1 (i 1).val : ℝ) : EReal) := by
  refine (dats m 0 c).arrAt_eq_of_covers 19 _ (by decide +kernel) fun t hf y => ?_
  have ht := (by decide +kernel : ∀ t : Fin cfg0.N, (cfg0.win 19).flush t = true → t.val % 2 = 1) t hf
  blk_simp
  rw [after0_19, idx19 t]
  obtain ⟨z, b, rfl⟩ : ∃ (z : Fin 1) (b : Fin 128), y = ix2 z b := ⟨y 0, y 1, funext (Fin.forall_fin_two.mpr ⟨rfl, rfl⟩)⟩
  obtain rfl : z = 0 := Subsingleton.elim _ _
  refine (oB19 m c D hD t (t.val / 2) (by omega) b).trans ?_
  show _ = ((D.dd 0 (t.val / 2 * 128 + b.val) + D.dd 1 (t.val / 2 * 128 + b.val) : ℝ) : EReal)
  rw [Nat.mul_comm (t.val / 2) 128]
end Cert.KernelIdeal.S5
end
-- ==== Proof.RefDefs.lean ====
module
public import proofs.«01_k».proof.Proof.Spec
public import proofs.«01_k».proof.Proof.Gen.ReferenceIdeal.Step
public import Idealize.ShloMosaic.Lib.Pipeline.ValueKit
@[expose] public section
set_option maxRecDepth 16384
noncomputable section
open Idealize.ShloMosaic Idealize.ShloMosaic.TcCoe
namespace Cert.ReferenceIdeal.S5
open Cert.ReferenceIdeal Cert.ReferenceIdeal.Gen Cert.ReferenceIdeal.Step Cert.S5
/-- The gradient at the read-out, as the reference computes it. -/
def DYR (main_arg0 : FVec Ideal S4096x1024 .bf16) (main_arg1 : FVec Ideal S4096x1024 .f32) : FVec Ideal S4096x1024 .f32 :=
  addf (addf (mulf (broadcastInDim S4096x1024 ![] bcast_S_S4096x1024 (constant S_ .f32 0x3F4C422A#32)) (mulf (mulf (mulf (broadcastInDim S4096x1024 ![] bcast_S_S4096x1024 (constant S_ .f32 0x3F000000#32)) (main_arg1)) (extf .f32 (main_arg0) bitsLt_bf16_f32)) (mulf (addf (broadcastInDim S4096x1024 ![] bcast_S_S4096x1024 (constant S_ .f32 0x3F800000#32)) (Host.tanh (mulf (broadcastInDim S4096x1024 ![] bcast_S_S4096x1024 (constant S_ .f32 0x3F4C422A#32)) (addf (main_arg1) (Host.divf (mulf (broadcastInDim S4096x1024 ![] bcast_S_S4096x1024 (constant S_ .f32 0x472EAB00#32)) (mulf (mulf (main_arg1) (main_arg1)) (main_arg1))) (broadcastInDim S4096x1024 ![] bcast_S_S4096x1024 (constant S_ .f32 0x49742400#32))))))) (subf (broadcastInDim S4096x1024 ![] bcast_S_S4096x1024 (constant S_ .f32 0x3F800000#32)) (Host.tanh (mulf (broadcastInDim S4096x1024 ![] bcast_S_S4096x1024 (constant S_ .f32 0x3F4C422A#32)) (addf (main_arg1) (Host.divf (mulf (broadcastInDim S4096x1024 ![] bcast_S_S4096x1024 (constant S_ .f32 0x472EAB00#32)) (mulf (mulf (main_arg1) (main_arg1)) (main_arg1))) (broadcastInDim S4096x1024 ![] bcast_S_S4096x1024 (constant S_ .f32 0x49742400#32)))))))))) (mulf (mulf (broadcastInDim S4096x1024 ![] bcast_S_S4096x1024 (constant S_ .f32 0x472EAB00#32)) (Host.divf (mulf (broadcastInDim S4096x1024 ![] bcast_S_S4096x1024 (constant S_ .f32 0x3F4C422A#32)) (mulf (mulf (mulf (broadcastInDim S4096x1024 ![] bcast_S_S4096x1024 (constant S_ .f32 0x3F000000#32)) (main_arg1)) (extf .f32 (main_arg0) bitsLt_bf16_f32)) (mulf (addf (broadcastInDim S4096x1024 ![] bcast_S_S4096x1024 (constant S_ .f32 0x3F800000#32)) (Host.tanh (mulf (broadcastInDim S4096x1024 ![] bcast_S_S4096x1024 (constant S_ .f32 0x3F4C422A#32)) (addf (main_arg1) (Host.divf (mulf (broadcastInDim S4096x1024 ![] bcast_S_S4096x1024 (constant S_ .f32 0x472EAB00#32)) (mulf (mulf (main_arg1) (main_arg1)) (main_arg1))) (broadcastInDim S4096x1024 ![] bcast_S_S4096x1024 (constant S_ .f32 0x49742400#32))))))) (subf (broadcastInDim S4096x1024 ![] bcast_S_S4096x1024 (constant S_ .f32 0x3F800000#32)) (Host.tanh (mulf (broadcastInDim S4096x1024 ![] bcast_S_S4096x1024 (constant S_ .f32 0x3F4C422A#32)) (addf (main_arg1) (Host.divf (mulf (broadcastInDim S4096x1024 ![] bcast_S_S4096x1024 (constant S_ .f32 0x472EAB00#32)) (mulf (mulf (main_arg1) (main_arg1)) (main_arg1))) (broadcastInDim S4096x1024 ![] bcast_S_S4096x1024 (constant S_ .f32 0x49742400#32)))))))))) (broadcastInDim S4096x1024 ![] bcast_S_S4096x1024 (constant S_ .f32 0x49742400#32)))) (mulf (broadcastInDim S4096x1024 ![] bcast_S_S4096x1024 (constant S_ .f32 0x40400000#32)) (mulf (main_arg1) (main_arg1))))) (mulf (broadcastInDim S4096x1024 ![] bcast_S_S4096x1024 (constant S_ .f32 0x3F000000#32)) (mulf (extf .f32 (main_arg0) bitsLt_bf16_f32) (addf (broadcastInDim S4096x1024 ![] bcast_S_S4096x1024 (constant S_ .f32 0x3F800000#32)) (Host.tanh (mulf (broadcastInDim S4096x1024 ![] bcast_S_S4096x1024 (constant S_ .f32 0x3F4C422A#32)) (addf (main_arg1) (Host.divf (mulf (broadcastInDim S4096x1024 ![] bcast_S_S4096x1024 (constant S_ .f32 0x472EAB00#32)) (mulf (mulf (main_arg1) (main_arg1)) (main_arg1))) (broadcastInDim S4096x1024 ![] bcast_S_S4096x1024 (constant S_ .f32 0x49742400#32)))))))))
theorem DYR_eq (a0 a1 a5 a6 a9 a10) : A_main_v37 (F := Ideal) a0 a1 a5 a6 a9 a10 = DYR a0 a1 := rfl
/-- The state's gradient of the last loop state, one position per row, in the order of the positions. -/
def GRE (s : State Ideal) : FVec Ideal S2x2048x64x64 .f32 := shapeCast _ (transpose S2x2048x4096 [1, 0, 2] (Host.reverse [0] (s.main_v71_7)) transposes_S2048x2x4096_S2x2048x4096_1_0_2) shapeCasts_S2x2048x4096_S2x2048x64x64
def GIM (s : State Ideal) : FVec Ideal S2x2048x64x64 .f32 := shapeCast _ (transpose S2x2048x4096 [1, 0, 2] (Host.reverse [0] (s.main_v71_8)) transposes_S2048x2x4096_S2x2048x4096_1_0_2) shapeCasts_S2x2048x4096_S2x2048x64x64
def r197 (main_arg7 : FVec Ideal S64x64x16 .f32) (main_arg8 : FVec Ideal S64x64x16 .f32) (main_arg11 : FVec Ideal S1024 .f32) (dy : FVec Ideal S4096x1024 .f32) (gre : FVec Ideal S2x2048x64x64 .f32) (gim : FVec Ideal S2x2048x64x64 .f32) : FVec Ideal S4096x1024 .f32 :=
  shapeCast _ (addf (addf (transpose S2x2048x64x16 [1, 2, 0, 3] (Host.dotGeneral dot_S64x64x2x2048_S64x64x16_S64x2x2048x16_1_1_23_2_0_0 none (transpose S64x64x2x2048 [2, 3, 0, 1] gim transposes_S2x2048x64x64_S64x64x2x2048_2_3_0_1) (main_arg8)) transposes_S64x2x2048x16_S2x2048x64x16_1_2_0_3) (transpose S2x2048x64x16 [1, 2, 0, 3] (Host.dotGeneral dot_S64x64x2x2048_S64x64x16_S64x2x2048x16_1_1_23_2_0_0 none (transpose S64x64x2x2048 [2, 3, 0, 1] gre transposes_S2x2048x64x64_S64x64x2x2048_2_3_0_1) (main_arg7)) transposes_S64x2x2048x16_S2x2048x64x16_1_2_0_3)) (mulf (broadcastInDim S2x2048x64x16 ![0, 1, 2, 3] bcast_S1x1x64x16_S2x2048x64x16_0_1_2_3 (broadcastInDim S1x1x64x16 ![2, 3] bcast_S64x16_S1x1x64x16_2_3 (shapeCast _ (main_arg11) shapeCasts_S1024_S64x16))) (shapeCast _ dy shapeCasts_S4096x1024_S2x2048x64x16))) shapeCasts_S2x2048x64x16_S4096x1024
theorem R197_eq (s : State Ideal) (main_arg0 : FVec Ideal S4096x1024 .bf16) (main_arg1 : FVec Ideal S4096x1024 .f32) (main_arg7 : FVec Ideal S64x64x16 .f32) (main_arg8 : FVec Ideal S64x64x16 .f32) (main_arg11 : FVec Ideal S1024 .f32) : R_main_v197 s main_arg0 main_arg1 main_arg7 main_arg8 main_arg11 = r197 main_arg7 main_arg8 main_arg11 (DYR main_arg0 main_arg1) (GRE s) (GIM s) := rfl
def r208 (main_arg2 : FVec Ideal S4096x1024 .bf16) (gre : FVec Ideal S2x2048x64x64 .f32) : FVec Ideal S8x128x512 .f32 :=
  shapeCast _ (select (broadcastInDim S8x8x16x8x64 ![1, 2, 3, 4] bcast_S8x1x8x1_S8x8x16x8x64_1_2_3_4 (cmpi .eq (broadcastInDim S8x1x8x1 ![0, 1, 2, 3] bcast_S8x1x1x1_S8x1x8x1_0_1_2_3 (broadcastInDim S8x1x1x1 ![0] bcast_S8_S8x1x1x1_0 (iotaInDim S8 32 0))) (broadcastInDim S8x1x8x1 ![0, 1, 2, 3] bcast_S1x1x8x1_S8x1x8x1_0_1_2_3 (broadcastInDim S1x1x8x1 ![2] bcast_S8_S1x1x8x1_2 (iotaInDim S8 32 0))))) (broadcastInDim S8x8x16x8x64 ![0, 1, 2, 3, 4] bcast_S8x8x16x1x64_S8x8x16x8x64_0_1_2_3_4 (shapeCast _ (transpose S64x16x64 [0, 2, 1] (Host.dotGeneral dot_S64x64x2x2048_S2x2048x64x16_S64x64x16_23_01_1_3_0_2 none (transpose S64x64x2x2048 [2, 3, 0, 1] gre transposes_S2x2048x64x64_S64x64x2x2048_2_3_0_1) (shapeCast _ (extf .f32 (main_arg2) bitsLt_bf16_f32) shapeCasts_S4096x1024_S2x2048x64x16)) transposes_S64x64x16_S64x16x64_0_2_1) shapeCasts_S64x16x64_S8x8x16x1x64)) (broadcastInDim S8x8x16x8x64 ![] bcast_S_S8x8x16x8x64 (id (constant S_ .f32 0x00000000#32)))) shapeCasts_S8x8x16x8x64_S8x128x512
theorem R208_eq (s : State Ideal) (main_arg2 : FVec Ideal S4096x1024 .bf16) : R_main_v208 s main_arg2 = r208 main_arg2 (GRE s) := rfl
def r219 (main_arg2 : FVec Ideal S4096x1024 .bf16) (gim : FVec Ideal S2x2048x64x64 .f32) : FVec Ideal S8x128x512 .f32 :=
  shapeCast _ (select (broadcastInDim S8x8x16x8x64 ![1, 2, 3, 4] bcast_S8x1x8x1_S8x8x16x8x64_1_2_3_4 (cmpi .eq (broadcastInDim S8x1x8x1 ![0, 1, 2, 3] bcast_S8x1x1x1_S8x1x8x1_0_1_2_3 (broadcastInDim S8x1x1x1 ![0] bcast_S8_S8x1x1x1_0 (iotaInDim S8 32 0))) (broadcastInDim S8x1x8x1 ![0, 1, 2, 3] bcast_S1x1x8x1_S8x1x8x1_0_1_2_3 (broadcastInDim S1x1x8x1 ![2] bcast_S8_S1x1x8x1_2 (iotaInDim S8 32 0))))) (broadcastInDim S8x8x16x8x64 ![0, 1, 2, 3, 4] bcast_S8x8x16x1x64_S8x8x16x8x64_0_1_2_3_4 (shapeCast _ (transpose S64x16x64 [0, 2, 1] (Host.dotGeneral dot_S64x64x2x2048_S2x2048x64x16_S64x64x16_23_01_1_3_0_2 none (transpose S64x64x2x2048 [2, 3, 0, 1] gim transposes_S2x2048x64x64_S64x64x2x2048_2_3_0_1) (shapeCast _ (extf .f32 (main_arg2) bitsLt_bf16_f32) shapeCasts_S4096x1024_S2x2048x64x16)) transposes_S64x64x16_S64x16x64_0_2_1) shapeCasts_S64x16x64_S8x8x16x1x64)) (broadcastInDim S8x8x16x8x64 ![] bcast_S_S8x8x16x8x64 (id (constant S_ .f32 0x00000000#32)))) shapeCasts_S8x8x16x8x64_S8x128x512
theorem R219_eq (s : State Ideal) (main_arg2 : FVec Ideal S4096x1024 .bf16) : R_main_v219 s main_arg2 = r219 main_arg2 (GIM s) := rfl
def r230 (main_arg3 : FVec Ideal S4096x4096 .f32) (dy : FVec Ideal S4096x1024 .f32) : FVec Ideal S8x512x128 .f32 :=
  shapeCast _ (select (broadcastInDim S8x8x64x8x16 ![1, 2, 3, 4] bcast_S8x1x8x1_S8x8x64x8x16_1_2_3_4 (cmpi .eq (broadcastInDim S8x1x8x1 ![0, 1, 2, 3] bcast_S8x1x1x1_S8x1x8x1_0_1_2_3 (broadcastInDim S8x1x1x1 ![0] bcast_S8_S8x1x1x1_0 (iotaInDim S8 32 0))) (broadcastInDim S8x1x8x1 ![0, 1, 2, 3] bcast_S1x1x8x1_S8x1x8x1_0_1_2_3 (broadcastInDim S1x1x8x1 ![2] bcast_S8_S1x1x8x1_2 (iotaInDim S8 32 0))))) (broadcastInDim S8x8x64x8x16 ![0, 1, 2, 3, 4] bcast_S8x8x64x1x16_S8x8x64x8x16_0_1_2_3_4 (shapeCast _ (transpose S64x64x16 [0, 2, 1] (Host.dotGeneral dot_S64x16x2x2048_S2x2048x64x64_S64x16x64_23_01_1_3_0_2 none (transpose S64x16x2x2048 [2, 3, 0, 1] (shapeCast _ dy shapeCasts_S4096x1024_S2x2048x64x16) transposes_S2x2048x64x16_S64x16x2x2048_2_3_0_1) (shapeCast _ (main_arg3) shapeCasts_S4096x4096_S2x2048x64x64)) transposes_S64x16x64_S64x64x16_0_2_1) shapeCasts_S64x64x16_S8x8x64x1x16)) (broadcastInDim S8x8x64x8x16 ![] bcast_S_S8x8x64x8x16 (id (constant S_ .f32 0x00000000#32)))) shapeCasts_S8x8x64x8x16_S8x512x128
theorem R230_eq (s : State Ideal) (main_arg0 : FVec Ideal S4096x1024 .bf16) (main_arg1 : FVec Ideal S4096x1024 .f32) (main_arg3 : FVec Ideal S4096x4096 .f32) : R_main_v230 s main_arg0 main_arg1 main_arg3 = r230 main_arg3 (DYR main_arg0 main_arg1) := rfl
def r241 (main_arg4 : FVec Ideal S4096x4096 .f32) (dy : FVec Ideal S4096x1024 .f32) : FVec Ideal S8x512x128 .f32 :=
  shapeCast _ (select (broadcastInDim S8x8x64x8x16 ![1, 2, 3, 4] bcast_S8x1x8x1_S8x8x64x8x16_1_2_3_4 (cmpi .eq (broadcastInDim S8x1x8x1 ![0, 1, 2, 3] bcast_S8x1x1x1_S8x1x8x1_0_1_2_3 (broadcastInDim S8x1x1x1 ![0] bcast_S8_S8x1x1x1_0 (iotaInDim S8 32 0))) (broadcastInDim S8x1x8x1 ![0, 1, 2, 3] bcast_S1x1x8x1_S8x1x8x1_0_1_2_3 (broadcastInDim S1x1x8x1 ![2] bcast_S8_S1x1x8x1_2 (iotaInDim S8 32 0))))) (broadcastInDim S8x8x64x8x16 ![0, 1, 2, 3, 4] bcast_S8x8x64x1x16_S8x8x64x8x16_0_1_2_3_4 (shapeCast _ (transpose S64x64x16 [0, 2, 1] (Host.dotGeneral dot_S64x16x2x2048_S2x2048x64x64_S64x16x64_23_01_1_3_0_2 none (transpose S64x16x2x2048 [2, 3, 0, 1] (Host.negf (shapeCast _ dy shapeCasts_S4096x1024_S2x2048x64x16)) transposes_S2x2048x64x16_S64x16x2x2048_2_3_0_1) (shapeCast _ (main_arg4) shapeCasts_S4096x4096_S2x2048x64x64)) transposes_S64x16x64_S64x64x16_0_2_1) shapeCasts_S64x64x16_S8x8x64x1x16)) (broadcastInDim S8x8x64x8x16 ![] bcast_S_S8x8x64x8x16 (id (constant S_ .f32 0x00000000#32)))) shapeCasts_S8x8x64x8x16_S8x512x128
theorem R241_eq (s : State Ideal) (main_arg0 : FVec Ideal S4096x1024 .bf16) (main_arg1 : FVec Ideal S4096x1024 .f32) (main_arg4 : FVec Ideal S4096x4096 .f32) : R_main_v241 s main_arg0 main_arg1 main_arg4 = r241 main_arg4 (DYR main_arg0 main_arg1) := rfl
def r242 (main_arg3 : FVec Ideal S4096x4096 .f32) (main_arg4 : FVec Ideal S4096x4096 .f32) (gre : FVec Ideal S2x2048x64x64 .f32) (gim : FVec Ideal S2x2048x64x64 .f32) : FVec Ideal S1x4096 .f32 :=
  shapeCast _ (addf (Host.reduceAdd (shapeCast _ (Host.reduceAdd (mulf gim (concatenate S2x2048x64x64 1 [⟨S2x1x64x64, (broadcastInDim S2x1x64x64 ![] bcast_S_S2x1x64x64 (constant S_ .f32 0x00000000#32))⟩, ⟨S2x2047x64x64, (extractStridedSlice S2x2047x64x64 ![0, 0, 0, 0] (shapeCast _ (main_arg4) shapeCasts_S4096x4096_S2x2048x64x64) slices_S2x2048x64x64_S2x2047x64x64_0_0_0_0)⟩] concatenates_S2x1x64x64_S2x2047x64x64_S2x2048x64x64_d1)) (constant S_ .f32 0x00000000#32) reducesTo_S2x2048x64x64_S64x64_d0_1 h_S_) shapeCasts_S64x64_S1x1x64x64) (constant S_ .f32 0x00000000#32) reducesTo_S1x1x64x64_S64x64_d0_1 h_S_) (Host.reduceAdd (shapeCast _ (Host.reduceAdd (mulf gre (concatenate S2x2048x64x64 1 [⟨S2x1x64x64, (broadcastInDim S2x1x64x64 ![] bcast_S_S2x1x64x64 (constant S_ .f32 0x00000000#32))⟩, ⟨S2x2047x64x64, (extractStridedSlice S2x2047x64x64 ![0, 0, 0, 0] (shapeCast _ (main_arg3) shapeCasts_S4096x4096_S2x2048x64x64) slices_S2x2048x64x64_S2x2047x64x64_0_0_0_0)⟩] concatenates_S2x1x64x64_S2x2047x64x64_S2x2048x64x64_d1)) (constant S_ .f32 0x00000000#32) reducesTo_S2x2048x64x64_S64x64_d0_1 h_S_) shapeCasts_S64x64_S1x1x64x64) (constant S_ .f32 0x00000000#32) reducesTo_S1x1x64x64_S64x64_d0_1 h_S_)) shapeCasts_S64x64_S1x4096
theorem R242_eq (s : State Ideal) (main_arg3 : FVec Ideal S4096x4096 .f32) (main_arg4 : FVec Ideal S4096x4096 .f32) : R_main_v242 s main_arg3 main_arg4 = r242 main_arg3 main_arg4 (GRE s) (GIM s) := rfl
def r243 (main_arg3 : FVec Ideal S4096x4096 .f32) (main_arg4 : FVec Ideal S4096x4096 .f32) (gre : FVec Ideal S2x2048x64x64 .f32) (gim : FVec Ideal S2x2048x64x64 .f32) : FVec Ideal S1x4096 .f32 :=
  shapeCast _ (addf (Host.reduceAdd (shapeCast _ (Host.reduceAdd (mulf gim (concatenate S2x2048x64x64 1 [⟨S2x1x64x64, (broadcastInDim S2x1x64x64 ![] bcast_S_S2x1x64x64 (constant S_ .f32 0x00000000#32))⟩, ⟨S2x2047x64x64, (extractStridedSlice S2x2047x64x64 ![0, 0, 0, 0] (shapeCast _ (main_arg3) shapeCasts_S4096x4096_S2x2048x64x64) slices_S2x2048x64x64_S2x2047x64x64_0_0_0_0)⟩] concatenates_S2x1x64x64_S2x2047x64x64_S2x2048x64x64_d1)) (constant S_ .f32 0x00000000#32) reducesTo_S2x2048x64x64_S64x64_d0_1 h_S_) shapeCasts_S64x64_S1x1x64x64) (constant S_ .f32 0x00000000#32) reducesTo_S1x1x64x64_S64x64_d0_1 h_S_) (Host.reduceAdd (shapeCast _ (Host.reduceAdd (mulf (Host.negf gre) (concatenate S2x2048x64x64 1 [⟨S2x1x64x64, (broadcastInDim S2x1x64x64 ![] bcast_S_S2x1x64x64 (constant S_ .f32 0x00000000#32))⟩, ⟨S2x2047x64x64, (extractStridedSlice S2x2047x64x64 ![0, 0, 0, 0] (shapeCast _ (main_arg4) shapeCasts_S4096x4096_S2x2048x64x64) slices_S2x2048x64x64_S2x2047x64x64_0_0_0_0)⟩] concatenates_S2x1x64x64_S2x2047x64x64_S2x2048x64x64_d1)) (constant S_ .f32 0x00000000#32) reducesTo_S2x2048x64x64_S64x64_d0_1 h_S_) shapeCasts_S64x64_S1x1x64x64) (constant S_ .f32 0x00000000#32) reducesTo_S1x1x64x64_S64x64_d0_1 h_S_)) shapeCasts_S64x64_S1x4096
theorem R243_eq (s : State Ideal) (main_arg3 : FVec Ideal S4096x4096 .f32) (main_arg4 : FVec Ideal S4096x4096 .f32) : R_main_v243 s main_arg3 main_arg4 = r243 main_arg3 main_arg4 (GRE s) (GIM s) := rfl
def r244 (main_arg2 : FVec Ideal S4096x1024 .bf16) (dy : FVec Ideal S4096x1024 .f32) : FVec Ideal S1x1024 .f32 :=
  shapeCast _ (shapeCast _ (Host.reduceAdd (shapeCast _ (Host.reduceAdd (mulf (shapeCast _ dy shapeCasts_S4096x1024_S2x2048x64x16) (shapeCast _ (extf .f32 (main_arg2) bitsLt_bf16_f32) shapeCasts_S4096x1024_S2x2048x64x16)) (constant S_ .f32 0x00000000#32) reducesTo_S2x2048x64x16_S64x16_d0_1 h_S_) shapeCasts_S64x16_S1x1x64x16) (constant S_ .f32 0x00000000#32) reducesTo_S1x1x64x16_S64x16_d0_1 h_S_) shapeCasts_S64x16_S1024) shapeCasts_S1024_S1x1024
theorem R244_eq (s : State Ideal) (main_arg0 : FVec Ideal S4096x1024 .bf16) (main_arg1 : FVec Ideal S4096x1024 .f32) (main_arg2 : FVec Ideal S4096x1024 .bf16) : R_main_v244 s main_arg0 main_arg1 main_arg2 = r244 main_arg2 (DYR main_arg0 main_arg1) := rfl
def x65 (main_arg9 : FVec Ideal S64x16x64 .f32) (dy : FVec Ideal S4096x1024 .f32) : FVec Ideal S2048x2x4096 .f32 :=
  Host.reverse [0] (shapeCast _ (transpose S2048x2x64x64 [1, 0, 2, 3] (transpose S2x2048x64x64 [1, 2, 0, 3] (Host.dotGeneral dot_S64x16x2x2048_S64x16x64_S64x2x2048x64_1_1_23_2_0_0 none (transpose S64x16x2x2048 [2, 3, 0, 1] (shapeCast _ dy shapeCasts_S4096x1024_S2x2048x64x16) transposes_S2x2048x64x16_S64x16x2x2048_2_3_0_1) (main_arg9)) transposes_S64x2x2048x64_S2x2048x64x64_1_2_0_3) transposes_S2x2048x64x64_S2048x2x64x64_1_0_2_3) shapeCasts_S2048x2x64x64_S2048x2x4096)
theorem A65_eq (main_arg0 : FVec Ideal S4096x1024 .bf16) (main_arg1 : FVec Ideal S4096x1024 .f32) (main_arg5 : FVec Ideal S64x64 .f32) (main_arg6 : FVec Ideal S64x64 .f32) (main_arg9 : FVec Ideal S64x16x64 .f32) (main_arg10 : FVec Ideal S64x16x64 .f32) : A_main_v65 (F := Ideal) main_arg0 main_arg1 main_arg5 main_arg6 main_arg9 main_arg10 = x65 main_arg9 (DYR main_arg0 main_arg1) := rfl
def x68 (main_arg10 : FVec Ideal S64x16x64 .f32) (dy : FVec Ideal S4096x1024 .f32) : FVec Ideal S2048x2x4096 .f32 :=
  Host.reverse [0] (shapeCast _ (transpose S2048x2x64x64 [1, 0, 2, 3] (transpose S2x2048x64x64 [1, 2, 0, 3] (Host.dotGeneral dot_S64x16x2x2048_S64x16x64_S64x2x2048x64_1_1_23_2_0_0 none (transpose S64x16x2x2048 [2, 3, 0, 1] (Host.negf (shapeCast _ dy shapeCasts_S4096x1024_S2x2048x64x16)) transposes_S2x2048x64x16_S64x16x2x2048_2_3_0_1) (main_arg10)) transposes_S64x2x2048x64_S2x2048x64x64_1_2_0_3) transposes_S2x2048x64x64_S2048x2x64x64_1_0_2_3) shapeCasts_S2048x2x64x64_S2048x2x4096)
theorem A68_eq (main_arg0 : FVec Ideal S4096x1024 .bf16) (main_arg1 : FVec Ideal S4096x1024 .f32) (main_arg5 : FVec Ideal S64x64 .f32) (main_arg6 : FVec Ideal S64x64 .f32) (main_arg9 : FVec Ideal S64x16x64 .f32) (main_arg10 : FVec Ideal S64x16x64 .f32) : A_main_v68 (F := Ideal) main_arg0 main_arg1 main_arg5 main_arg6 main_arg9 main_arg10 = x68 main_arg10 (DYR main_arg0 main_arg1) := rfl
end Cert.ReferenceIdeal.S5
end
-- ==== Proof.RefRed.lean ====
/- Facts about the reference's sums, its loop body and its shifted states, at an index. -/
module
public import proofs.«01_k».proof.Proof.Spec
public import proofs.«01_k».proof.Proof.RefDefs
public import Idealize.ShloMosaic.Lib.Pipeline.ValueKit
@[expose] public section
set_option maxRecDepth 16384
noncomputable section
open Idealize.ShloMosaic Idealize.ShloMosaic.TcCoe
namespace Cert.ReferenceIdeal.S5
open Cert.ReferenceIdeal Cert.ReferenceIdeal.Gen Cert.ReferenceIdeal.Step Cert.S5
/-- A sum over the first two axes of four. -/
theorem fiber01 {n0 n1 n2 n3 : ℕ} (h : (⟨4, ![n0, n1, n2, n3]⟩ : Shape).ReducesTo [0, 1] ⟨2, ![n2, n3]⟩) (x : Fin n2) (y : Fin n3) (i : (⟨4, ![n0, n1, n2, n3]⟩ : Shape).Idx) :
    h.drop i = ix2 x y ↔ ∃ k : Fin n0 × Fin n1, ix4 k.1 k.2 x y = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e ⟨0, Nat.zero_lt_two⟩)).symm
    | ⟨3, _⟩ => exact (congrArg Fin.val (congrFun e ⟨1, Nat.one_lt_two⟩)).symm
  · rintro ⟨k, rfl⟩
    funext b
    apply Fin.ext
    match b with
    | ⟨0, _⟩ => rfl
    | ⟨1, _⟩ => rfl

theorem red01 {n0 n1 n2 n3 : ℕ} (h : (⟨4, ![n0, n1, n2, n3]⟩ : Shape).ReducesTo [0, 1] ⟨2, ![n2, n3]⟩) (v : (⟨4, ![n0, n1, n2, n3]⟩ : Shape).Idx → EReal) (z : EReal) (x : Fin n2) (y : Fin n3) :
    Ideal.hostReduceAdd h v z (ix2 x y) = z + ∑ b : Fin n0, ∑ r : Fin n1, v (ix4 b r x y) := by
  refine congrArg (z + ·) ?_
  refine (Finset.sum_filter_eq_sum_of_fiber _ (fun k : Fin n0 × Fin n1 => ix4 k.1 k.2 x y)
    (fun _ _ e => Prod.ext (congrFun e 0) (congrFun e 1)) (fiber01 h x y) v).trans ?_
  simp only [Fintype.sum_prod_type]

def zz : FVec Ideal S_ .f32 := constant S_ .f32 0x00000000#32
theorem zz_at (i) : zz i = 0 := by
  show Ideal.ofBits .f32 0x00000000#32 = 0
  simp [Ideal.ofBits, Ideal.ieee]

theorem hra {s t u : Shape} {φ : FTy} {axes : List (Fin s.rank)} (x : FVec Ideal s φ) (init : FVec Ideal u φ) (h : s.ReducesTo axes t) (hu : 0 < u.numel) (j : t.Idx) :
    Host.reduceAdd x init h hu j = Ideal.hostReduceAdd h x (init (Shape.Idx.first hu)) j := rfl

def sumG (v : FVec Ideal S2x2048x64x64 .f32) : FVec Ideal S64x64 .f32 :=
  Host.reduceAdd (shapeCast _ (Host.reduceAdd v zz reducesTo_S2x2048x64x64_S64x64_d0_1 h_S_) shapeCasts_S64x64_S1x1x64x64) zz reducesTo_S1x1x64x64_S64x64_d0_1 h_S_
theorem sumG_at (v) (g p : Fin 64) : sumG v (ix2 g p) = ∑ b : Fin 2, ∑ r : Fin 2048, v (ix4 b r g p) := by
  unfold sumG
  rw [hra, red01, zz_at, zero_add, Fin.sum_univ_one, Fin.sum_univ_one]
  have e : ∀ w : FVec Ideal S64x64 .f32, (shapeCast S1x1x64x64 w shapeCasts_S64x64_S1x1x64x64) (ix4 0 0 g p) = w (ix2 g p) := by
    intro w
    pointwise! []
  rw [e, hra, red01, zz_at, zero_add]
def sumD (v : FVec Ideal S2x2048x64x16 .f32) : FVec Ideal S64x16 .f32 :=
  Host.reduceAdd (shapeCast _ (Host.reduceAdd v zz reducesTo_S2x2048x64x16_S64x16_d0_1 h_S_) shapeCasts_S64x16_S1x1x64x16) zz reducesTo_S1x1x64x16_S64x16_d0_1 h_S_
theorem sumD_at (v) (g : Fin 64) (p : Fin 16) : sumD v (ix2 g p) = ∑ b : Fin 2, ∑ r : Fin 2048, v (ix4 b r g p) := by
  unfold sumD
  rw [hra, red01, zz_at, zero_add, Fin.sum_univ_one, Fin.sum_univ_one]
  have e : ∀ w : FVec Ideal S64x16 .f32, (shapeCast S1x1x64x16 w shapeCasts_S64x16_S1x1x64x16) (ix4 0 0 g p) = w (ix2 g p) := by
    intro w
    pointwise! []
  rw [e, hra, red01, zz_at, zero_add]

/-- The states one position earlier, zero before the first. -/
def shf (a : FVec Ideal S4096x4096 .f32) : FVec Ideal S2x2048x64x64 .f32 :=
  concatenate S2x2048x64x64 1 [⟨S2x1x64x64, (broadcastInDim S2x1x64x64 ![] bcast_S_S2x1x64x64 zz)⟩, ⟨S2x2047x64x64, (extractStridedSlice S2x2047x64x64 ![0, 0, 0, 0] (shapeCast _ a shapeCasts_S4096x4096_S2x2048x64x64) slices_S2x2048x64x64_S2x2047x64x64_0_0_0_0)⟩] concatenates_S2x1x64x64_S2x2047x64x64_S2x2048x64x64_d1
theorem r242_eq (a3 a4 gre gim) : r242 a3 a4 gre gim = shapeCast _ (addf (sumG (mulf gim (shf a4))) (sumG (mulf gre (shf a3)))) shapeCasts_S64x64_S1x4096 := rfl
theorem r243_eq (a3 a4 gre gim) : r243 a3 a4 gre gim = shapeCast _ (addf (sumG (mulf gim (shf a3))) (sumG (mulf (Host.negf gre) (shf a4)))) shapeCasts_S64x64_S1x4096 := rfl
theorem r244_eq (a2 dy) : r244 a2 dy = shapeCast _ (shapeCast _ (sumD (mulf (shapeCast _ dy shapeCasts_S4096x1024_S2x2048x64x16) (shapeCast _ (extf .f32 a2 bitsLt_bf16_f32) shapeCasts_S4096x1024_S2x2048x64x16))) shapeCasts_S64x16_S1024) shapeCasts_S1024_S1x1024 := rfl

theorem shf_at (D : Data) (x : ℕ → ℕ → ℝ) (a) (ha : ∀ (t : Fin 4096) (n : Fin 4096), a (ix2 t n) = ((x t.val n.val : ℝ) : EReal)) (b : Fin 2) (r : Fin 2048) (g p : Fin 64) :
    shf a (ix4 b r g p) = ((Data.pre x b.val r.val (64 * g.val + p.val) : ℝ) : EReal) := by
  pointwise! [shf]
  rw [zz_at]
  unfold Data.pre
  by_cases h : r.val = 0
  · rw [dif_pos (by omega), if_pos h]; rfl
  · rw [dif_neg (by omega), if_neg h, ha]
    rw [mul_comm 2048 b.val, mul_comm 64 g.val]
theorem st0 (j : Fin 2048) : (BitVec.ofNat 32 j.val).toInt = (j.val : ℤ) := by
  have h := j.isLt
  rw [BitVec.toInt_eq_toNat_cond, BitVec.toNat_ofNat]
  have e : j.val % 2 ^ 32 = j.val := by omega
  rw [e]; split <;> omega
theorem cs (ht) (st : Fin 3 → ℤ) (j : Fin 2048) (h0 : st 0 = (j.val : ℤ)) (h1 : st 1 = 0) (h2 : st 2 = 0) :
    Host.clampedStart S2048x2x4096 S1x2x4096 ht st 0 = j.val ∧ Host.clampedStart S2048x2x4096 S1x2x4096 ht st 1 = 0 ∧ Host.clampedStart S2048x2x4096 S1x2x4096 ht st 2 = 0 :=
  ⟨Host.clampedStart_of_le ht st 0 j.val h0 (by show j.val + 1 ≤ 2048; omega),
   Host.clampedStart_of_le ht st 1 0 h1 (by show 0 + 2 ≤ 2; omega),
   Host.clampedStart_of_le ht st 2 0 h2 (by show 0 + 4096 ≤ 4096; omega)⟩
theorem ds_at (x : FVec Ideal S2048x2x4096 .f32) (st : Fin 3 → ℤ) (j : Fin 2048) (h0 : st 0 = (j.val : ℤ)) (h1 : st 1 = 0) (h2 : st 2 = 0) (h) (b : Fin 2) (n : Fin 4096) :
    Host.dynamicSlice S1x2x4096 x st h (ix3 0 b n) = x (ix3 j b n) := by
  obtain ⟨c0, c1, c2⟩ := cs h.1 st j h0 h1 h2
  rw [Host.dynamicSlice_apply]
  refine congrArg x ?_
  funext a
  apply Fin.ext
  match a with
  | ⟨0, _⟩ => exact c0
  | ⟨1, _⟩ => exact (congrArg (· + b.val) c1).trans (Nat.zero_add _)
  | ⟨2, _⟩ => exact (congrArg (· + n.val) c2).trans (Nat.zero_add _)
theorem dus_at (x : FVec Ideal S2048x2x4096 .f32) (w : FVec Ideal S1x2x4096 .f32) (st : Fin 3 → ℤ) (j : Fin 2048) (h0 : st 0 = (j.val : ℤ)) (h1 : st 1 = 0) (h2 : st 2 = 0) (h) (i : Fin 2048) (b : Fin 2) (n : Fin 4096) :
    Host.dynamicUpdateSlice x w st h (ix3 i b n) = if i = j then w (ix3 0 b n) else x (ix3 i b n) := by
  obtain ⟨c0, c1, c2⟩ := cs h.1 st j h0 h1 h2
  rw [Host.dynamicUpdateSlice_apply]
  by_cases e : i = j
  · rw [if_pos e, dif_pos]
    · refine congrArg w ?_
      funext a
      apply Fin.ext
      match a with
      | ⟨0, _⟩ => exact (congrArg (i.val - ·) c0).trans (by rw [e]; exact Nat.sub_self _)
      | ⟨1, _⟩ => exact (congrArg (b.val - ·) c1).trans (Nat.sub_zero _)
      | ⟨2, _⟩ => exact (congrArg (n.val - ·) c2).trans (Nat.sub_zero _)
    · intro a
      match a with
      | ⟨0, _⟩ => exact ⟨(le_of_eq c0).trans (by rw [e]; exact Nat.le_refl _), lt_of_lt_of_eq (by rw [e]; exact Nat.lt_succ_self _) (congrArg (· + 1) c0).symm⟩
      | ⟨1, _⟩ => exact ⟨(le_of_eq c1).trans (Nat.zero_le _), lt_of_lt_of_eq (by show b.val < 0 + 2; omega) (congrArg (· + 2) c1).symm⟩
      | ⟨2, _⟩ => exact ⟨(le_of_eq c2).trans (Nat.zero_le _), lt_of_lt_of_eq (by show n.val < 0 + 4096; omega) (congrArg (· + 4096) c2).symm⟩
  · rw [if_neg e, dif_neg]
    intro hh
    have h3 := hh 0
    have h4 : j.val ≤ i.val := (le_of_eq c0.symm).trans h3.1
    have h5 : i.val < j.val + 1 := lt_of_lt_of_eq h3.2 (congrArg (· + 1) c0)
    exact e (Fin.ext (by omega))

theorem row_at (w : FVec Ideal S1x2x4096 .f32) (b : Fin 2) (n : Fin 4096) : (shapeCast S2x4096 w shapeCasts_S1x2x4096_S2x4096) (ix2 b n) = w (ix3 0 b n) := by
  pointwise! []
theorem unrow_at (w : FVec Ideal S2x4096 .f32) (b : Fin 2) (n : Fin 4096) : (broadcastInDim S1x2x4096 ![1, 2] bcast_S2x4096_S1x2x4096_1_2 w) (ix3 0 b n) = w (ix2 b n) := by
  pointwise! []
theorem b3_at (j : Fin 2048) (s : State Ideal) (b : Fin 2) (n : Fin 4096) : b3 j.val s (ix2 b n) = s.main_v71_0 (ix3 j b n) := by
  unfold b3 b2
  rw [row_at]
  exact ds_at _ _ j (st0 j) rfl rfl _ b n
theorem b7_at (j : Fin 2048) (s : State Ideal) (b : Fin 2) (n : Fin 4096) : b7 j.val s (ix2 b n) = s.main_v71_1 (ix3 j b n) := by
  unfold b7 b6
  rw [row_at]
  exact ds_at _ _ j (st0 j) rfl rfl _ b n
theorem b33_at (j : Fin 2048) (s : State Ideal) (b : Fin 2) (n : Fin 4096) : b33 j.val s (ix2 b n)
    = s.main_v71_0 (ix3 j b n) + (s.main_v71_3 (ix1 n) * s.main_v71_6 (ix2 b n) + s.main_v71_2 (ix1 n) * s.main_v71_5 (ix2 b n)) := by
  rw [← b3_at]
  pointwise! [b8,b9,b10,b11,b12,b13,b14,b15,b16,b17,b18,b19,b20,b21,b22,b23,b24,b25,b26,b27,b28,b29,b30,b31,b32,b33]
theorem b34_at (j : Fin 2048) (s : State Ideal) (b : Fin 2) (n : Fin 4096) : b34 j.val s (ix2 b n)
    = s.main_v71_1 (ix3 j b n) + (s.main_v71_2 (ix1 n) * s.main_v71_6 (ix2 b n) + s.main_v71_3 (ix1 n) * -(s.main_v71_5 (ix2 b n))) := by
  rw [← b7_at]
  pointwise! [b8,b9,b10,b11,b12,b13,b14,b15,b16,b17,b18,b19,b20,b21,b22,b23,b24,b25,b26,b27,b28,b29,b34]
theorem b38_at (j : Fin 2048) (s : State Ideal) (i : Fin 2048) (b : Fin 2) (n : Fin 4096) : b38 j.val s (ix3 i b n)
    = if i = j then b33 j.val s (ix2 b n) else s.main_v71_7 (ix3 i b n) := by
  unfold b38
  exact (dus_at _ _ _ j (st0 j) rfl rfl _ i b n).trans (by rw [b35, unrow_at])
theorem b42_at (j : Fin 2048) (s : State Ideal) (i : Fin 2048) (b : Fin 2) (n : Fin 4096) : b42 j.val s (ix3 i b n)
    = if i = j then b34 j.val s (ix2 b n) else s.main_v71_8 (ix3 i b n) := by
  unfold b42
  exact (dus_at _ _ _ j (st0 j) rfl rfl _ i b n).trans (by rw [b39, unrow_at])
end Cert.ReferenceIdeal.S5
end
-- ==== Proof.RefVal.lean ====
/- The reference's loop, trip by trip: its state is the gradient of the state of the scan. -/
module
public import proofs.«01_k».proof.Proof.Spec
public import proofs.«01_k».proof.Proof.RefRed
public import Idealize.ShloMosaic.Lib.Pipeline.ValueKit
@[expose] public section
set_option maxRecDepth 16384
noncomputable section
open Idealize.ShloMosaic Idealize.ShloMosaic.TcCoe
namespace Cert.ReferenceIdeal.S5
open Cert.ReferenceIdeal Cert.ReferenceIdeal.Gen Cert.ReferenceIdeal.Step Cert.S5
variable {D : Data}
/-- The read-out's gradient. -/
def isDy (D : Data) (dy : FVec Ideal S4096x1024 .f32) : Prop := ∀ (t : Fin 4096) (c : Fin 1024), dy (ix2 t c) = ((D.dy t.val c.val : ℝ) : EReal)
def isG (x : ℕ → ℕ → ℕ → ℝ) (G : FVec Ideal S2x2048x64x64 .f32) : Prop :=
  ∀ (b : Fin 2) (r : Fin 2048) (g p : Fin 64), G (ix4 b r g p) = ((x b.val r.val (64 * g.val + p.val) : ℝ) : EReal)

theorem dy_real (z y th : ℝ) : gC * (1 / 2 * y * z * ((1 + th) * (1 - th))) + 44715 * (gC * (1 / 2 * y * z * ((1 + th) * (1 - th))) * (1 / 1000000)) * (3 * (y * y)) + 1 / 2 * (z * (1 + th))
    = z * (1 / 2 * (1 + th) + 1 / 2 * y * (1 - th * th) * gC * (1 + 26829 / 200000 * y * y)) := by ring
theorem dy_at (a0 a1) (hz : ∀ (t : Fin 4096) (c : Fin 1024), a0 (ix2 t c) = ((D.dz t.val c.val : ℝ) : EReal))
    (hy : ∀ (t : Fin 4096) (c : Fin 1024), a1 (ix2 t c) = ((D.y t.val c.val : ℝ) : EReal)) : isDy D (DYR a0 a1) := by
  intro t c
  unfold DYR Data.dy
  pointwise! []
  rw [hz, hy]
  generalize D.dz t.val c.val = z
  generalize D.y t.val c.val = y
  rw [show (1061962282#32 : BitVec 32) = 0x3F4C422A#32 from rfl, show (1056964608#32 : BitVec 32) = 0x3F000000#32 from rfl, show (1194240768#32 : BitVec 32) = 0x472EAB00#32 from rfl,
    show (1232348160#32 : BitVec 32) = 0x49742400#32 from rfl, show (1077936128#32 : BitVec 32) = 0x40400000#32 from rfl, half_val, num_val, den_val, gC_val, three_val]
  simp only [Ideal.div_coe (show (1000000 : ℝ) ≠ 0 by norm_num), ← EReal.coe_one, ← EReal.coe_mul, ← EReal.coe_add, ← EReal.coe_sub, Ideal.tanh_coe]
  congr 1
  have e : gC * (y + 44715 * (y * y * y) * (1 / 1000000)) = gC * (y + 8943 / 200000 * y * y * y) := by ring
  rw [e]
  exact dy_real z y _

theorem xr_at (a9 dy) (hd : isDy D dy) (hc : ∀ (g : Fin 64) (h : Fin 16) (p : Fin 64), a9 (ix3 g h p) = ((D.cr g.val h.val p.val : ℝ) : EReal)) (j : Fin 2048) (b : Fin 2) (n : Fin 4096) :
    x65 a9 dy (ix3 j b n) = ((D.dsre b.val (2047 - j.val) n.val : ℝ) : EReal) := by
  unfold Data.dsre
  pointwise! [x65]
  simp only [List.mem_singleton, Fin.reduceEq, if_false, if_true, hd _ _, hc _ _ _]
  rw [coe_sum]
  refine Finset.sum_congr rfl fun h _ => ?_
  rw [EReal.coe_mul]
  refine congrArg₂ (fun x y : EReal => x * y) (congrArg (fun x : ℝ => (x : EReal)) (congrArg₂ D.dy ?_ ?_)) rfl
  · show b.val * 2048 + (2048 - (j.val + 1)) = _
    omega
  · show n.val / 64 * 16 + h.val = _
    omega
theorem xi_at (a9 dy) (hd : isDy D dy) (hc : ∀ (g : Fin 64) (h : Fin 16) (p : Fin 64), a9 (ix3 g h p) = ((D.ci g.val h.val p.val : ℝ) : EReal)) (j : Fin 2048) (b : Fin 2) (n : Fin 4096) :
    x68 a9 dy (ix3 j b n) = ((D.dsim b.val (2047 - j.val) n.val : ℝ) : EReal) := by
  unfold Data.dsim
  pointwise! [x68]
  simp only [List.mem_singleton, Fin.reduceEq, if_false, if_true, hd _ _, hc _ _ _]
  rw [← Finset.sum_neg_distrib, coe_sum]
  refine Finset.sum_congr rfl fun h _ => ?_
  rw [← neg_mul, EReal.coe_mul, EReal.coe_neg]
  refine congrArg₂ (fun x y : EReal => x * y) (congrArg (fun x : ℝ => -(x : EReal)) (congrArg₂ D.dy ?_ ?_)) rfl
  · show b.val * 2048 + (2048 - (j.val + 1)) = _
    omega
  · show n.val / 64 * 16 + h.val = _
    omega

/-- What the loop's state holds after `k` trips. -/
structure Inv (D : Data) (k : ℕ) (s : State Ideal) : Prop where
  x0 : ∀ (j : Fin 2048) (b : Fin 2) (n : Fin 4096), s.main_v71_0 (ix3 j b n) = ((D.dsre b.val (2047 - j.val) n.val : ℝ) : EReal)
  x1 : ∀ (j : Fin 2048) (b : Fin 2) (n : Fin 4096), s.main_v71_1 (ix3 j b n) = ((D.dsim b.val (2047 - j.val) n.val : ℝ) : EReal)
  x2 : ∀ n : Fin 4096, s.main_v71_2 (ix1 n) = ((D.ar (n.val / 64) (n.val % 64) : ℝ) : EReal)
  x3 : ∀ n : Fin 4096, s.main_v71_3 (ix1 n) = ((D.ai (n.val / 64) (n.val % 64) : ℝ) : EReal)
  x5 : ∀ (b : Fin 2) (n : Fin 4096), s.main_v71_5 (ix2 b n) = (((D.g b.val n.val k).1 : ℝ) : EReal)
  x6 : ∀ (b : Fin 2) (n : Fin 4096), s.main_v71_6 (ix2 b n) = (((D.g b.val n.val k).2 : ℝ) : EReal)
  x7 : ∀ (i : Fin 2048) (b : Fin 2) (n : Fin 4096), i.val < k → s.main_v71_7 (ix3 i b n) = (((D.g b.val n.val (i.val + 1)).1 : ℝ) : EReal)
  x8 : ∀ (i : Fin 2048) (b : Fin 2) (n : Fin 4096), i.val < k → s.main_v71_8 (ix3 i b n) = (((D.g b.val n.val (i.val + 1)).2 : ℝ) : EReal)

theorem inv_step (k : ℕ) (hk : k < 2048) (s : State Ideal) (h : Inv D k s) : Inv D (k + 1) (step k s) := by
  have e5 : ∀ (b : Fin 2) (n : Fin 4096), b33 k s (ix2 b n) = (((D.g b.val n.val (k + 1)).1 : ℝ) : EReal) := by
    intro b n
    rw [b33_at ⟨k, hk⟩ s b n, h.x0, h.x2, h.x3, h.x5, h.x6]
    simp only [← EReal.coe_mul, ← EReal.coe_add]
    congr 1
    show _ = D.dsre b.val (2047 - k) n.val + D.ar (n.val / 64) (n.val % 64) * (D.g b.val n.val k).1 + D.ai (n.val / 64) (n.val % 64) * (D.g b.val n.val k).2
    ring
  have e6 : ∀ (b : Fin 2) (n : Fin 4096), b34 k s (ix2 b n) = (((D.g b.val n.val (k + 1)).2 : ℝ) : EReal) := by
    intro b n
    rw [b34_at ⟨k, hk⟩ s b n, h.x1, h.x2, h.x3, h.x5, h.x6]
    simp only [← EReal.coe_neg, ← EReal.coe_mul, ← EReal.coe_add]
    congr 1
    show _ = D.dsim b.val (2047 - k) n.val - D.ai (n.val / 64) (n.val % 64) * (D.g b.val n.val k).1 + D.ar (n.val / 64) (n.val % 64) * (D.g b.val n.val k).2
    ring
  refine ⟨h.x0, h.x1, h.x2, h.x3, ?_, ?_, ?_, ?_⟩
  · rw [step_main_v71_5]; exact e5
  · rw [step_main_v71_6]; exact e6
  · intro i b n hi
    rw [step_main_v71_7, b38_at ⟨k, hk⟩ s i b n]
    by_cases e : i = ⟨k, hk⟩
    · rw [if_pos e, e5, e]
    · rw [if_neg e]
      exact h.x7 i b n (lt_of_le_of_ne (Nat.lt_succ_iff.mp hi) (fun q => e (Fin.ext q)))
  · intro i b n hi
    rw [step_main_v71_8, b42_at ⟨k, hk⟩ s i b n]
    by_cases e : i = ⟨k, hk⟩
    · rw [if_pos e, e6, e]
    · rw [if_neg e]
      exact h.x8 i b n (lt_of_le_of_ne (Nat.lt_succ_iff.mp hi) (fun q => e (Fin.ext q)))

theorem flat_at (w : FVec Ideal S64x64 .f32) (n : Fin 4096) : (shapeCast S4096 w shapeCasts_S64x64_S4096) (ix1 n) = w (ix2 ⟨n.val / 64, by omega⟩ ⟨n.val % 64, by omega⟩) := by
  pointwise! []
theorem zero_at (b : Fin 2) (n : Fin 4096) : K_main_v62 (F := Ideal) (ix2 b n) = ((0 : ℝ) : EReal) := by
  unfold K_main_v62 K_main_cst_11
  pointwise! []

theorem inv_init (a0 a1 a2 a3 a4 a5 a6 a7 a8 a9 a10 a11) (hD : Fits D a0 a1 a2 a3 a4 a5 a6 a7 a8 a9 a10 a11) : Inv D 0 (init (F := Ideal) a0 a1 a5 a6 a9 a10) := by
  have hd := dy_at (D := D) a0 a1 hD.dz hD.y
  refine ⟨?_, ?_, ?_, ?_, ?_, ?_, ?_, ?_⟩
  · intro j b n
    exact (congrFun (A65_eq a0 a1 a5 a6 a9 a10) _).trans (xr_at a9 _ hd hD.cr j b n)
  · intro j b n
    exact (congrFun (A68_eq a0 a1 a5 a6 a9 a10) _).trans (xi_at a10 _ hd hD.ci j b n)
  · intro n
    exact (flat_at a5 n).trans (hD.ar _ _)
  · intro n
    exact (flat_at a6 n).trans (hD.ai _ _)
  · exact zero_at
  · exact zero_at
  · intro i b n hi; exact absurd hi (Nat.not_lt_zero _)
  · intro i b n hi; exact absurd hi (Nat.not_lt_zero _)

theorem inv_all (it : ℕ → State Ideal) (hi : Inv D 0 (it 0)) (hs : ∀ n, it (n + 1) = step n (it n)) : ∀ k, k ≤ 2048 → Inv D k (it k)
  | 0, _ => hi
  | k + 1, hk => by
    rw [hs k]
    exact inv_step k hk _ (inv_all it hi hs k (Nat.le_of_succ_le hk))

theorem gre_at (s : State Ideal) (h : Inv D 2048 s) : isG D.gre (GRE s) := by
  intro b r g p
  unfold GRE
  pointwise! []
  refine (h.x7 r.rev b ⟨g.val * 64 + p.val, by omega⟩ (Fin.isLt _)).trans ?_
  unfold Data.gre
  have e : r.rev.val + 1 = 2048 - r.val := by rw [Fin.val_rev]; omega
  rw [e]
  show _ = (((D.g b.val (64 * g.val + p.val) (2048 - r.val)).1 : ℝ) : EReal)
  rw [mul_comm 64 g.val]
theorem gim_at (s : State Ideal) (h : Inv D 2048 s) : isG D.gim (GIM s) := by
  intro b r g p
  unfold GIM
  pointwise! []
  refine (h.x8 r.rev b ⟨g.val * 64 + p.val, by omega⟩ (Fin.isLt _)).trans ?_
  unfold Data.gim
  have e : r.rev.val + 1 = 2048 - r.val := by rw [Fin.val_rev]; omega
  rw [e]
  show _ = (((D.g b.val (64 * g.val + p.val) (2048 - r.val)).2 : ℝ) : EReal)
  rw [mul_comm 64 g.val]
end Cert.ReferenceIdeal.S5
end
-- ==== Proof.RefRes.lean ====
/- The reference's results at an index. -/
module
public import proofs.«01_k».proof.Proof.Spec
public import proofs.«01_k».proof.Proof.RefVal
public import Idealize.ShloMosaic.Lib.Pipeline.ValueKit
@[expose] public section
set_option maxRecDepth 16384
noncomputable section
open Idealize.ShloMosaic Idealize.ShloMosaic.TcCoe
namespace Cert.ReferenceIdeal.S5
open Cert.ReferenceIdeal Cert.ReferenceIdeal.Gen Cert.ReferenceIdeal.Step Cert.S5
variable {D : Data}
theorem sel_of (x y : ℕ) (h : x = y) (A B : EReal) : Scalar.select (IntOp.cmpi CmpIPredicate.eq (BitVec.ofNat 32 x) (BitVec.ofNat 32 y)) A B = A := by
  subst h
  simp [Scalar.select, IntOp.cmpi]
theorem mul_eq {x y : EReal} {a b : ℝ} (hx : x = (a : EReal)) (hy : y = (b : EReal)) : x * y = ((a * b : ℝ) : EReal) := by
  rw [hx, hy, EReal.coe_mul]
theorem sum_eq {ι : Type} [Fintype ι] {f : ι → EReal} {g : ι → ℝ} (h : ∀ i, f i = ((g i : ℝ) : EReal)) : ∑ i, f i = ((∑ i, g i : ℝ) : EReal) := by
  rw [coe_sum]; exact Finset.sum_congr rfl fun i _ => h i
theorem two_eq {f : Fin 2 → Fin 2048 → EReal} {g : ℕ → Fin 2048 → ℝ} (h : ∀ b r, f b r = ((g b.val r : ℝ) : EReal)) :
    ∑ b, ∑ r, f b r = (((∑ r, g 0 r) + (∑ r, g 1 r) : ℝ) : EReal) := by
  rw [Fin.sum_univ_two, EReal.coe_add]
  exact congrArg₂ (fun x y : EReal => x + y) (sum_eq fun r => h 0 r) (sum_eq fun r => h 1 r)

theorem isDy.at {dy} (hd : isDy D dy) (t : Fin 4096) (c : Fin 1024) (t' c' : ℕ) (ht : t.val = t') (hc : c.val = c') : dy (ix2 t c) = ((D.dy t' c' : ℝ) : EReal) := by
  subst ht hc; exact hd t c
theorem isG.at {x G} (hG : isG x G) (b : Fin 2) (r : Fin 2048) (g p : Fin 64) (r' n : ℕ) (hr : r.val = r') (hn : 64 * g.val + p.val = n) : G (ix4 b r g p) = ((x b.val r' n : ℝ) : EReal) := by
  subst hr hn; exact hG b r g p
theorem at2 {m n : ℕ} {a : (⟨2, ![m, n]⟩ : Shape).Idx → EReal} {x : ℕ → ℕ → ℝ} (h : ∀ (t : Fin m) (c : Fin n), a (ix2 t c) = ((x t.val c.val : ℝ) : EReal)) (t : Fin m) (c : Fin n) (t' c' : ℕ) (ht : t.val = t') (hc : c.val = c') :
    a (ix2 t c) = ((x t' c' : ℝ) : EReal) := by
  subst ht hc; exact h t c

theorem r197_at {a7 a8 a11 dy gre gim} (hd : isDy D dy) (h1 : isG D.gre gre) (h2 : isG D.gim gim)
    (hb : ∀ (g p : Fin 64) (h : Fin 16), a7 (ix3 g p h) = ((D.br g.val p.val h.val : ℝ) : EReal))
    (hi : ∀ (g p : Fin 64) (h : Fin 16), a8 (ix3 g p h) = ((D.bi g.val p.val h.val : ℝ) : EReal))
    (hs : ∀ c : Fin 1024, a11 (ix1 c) = ((D.d c.val : ℝ) : EReal)) (t : Fin 4096) (c : Fin 1024) :
    r197 a7 a8 a11 dy gre gim (ix2 t c) = ((D.dh (t.val / 2048) (t.val % 2048) c.val : ℝ) : EReal) := by
  pointwise! [r197]
  unfold Data.dh
  rw [EReal.coe_add, EReal.coe_add]
  refine congrArg₂ (fun x y : EReal => x + y) ?_ ?_
  · rw [add_comm]
    refine congrArg₂ (fun x y : EReal => x + y) ?_ ?_
    · exact sum_eq fun p => mul_eq (h1.at _ _ _ p _ _ rfl rfl) (hb _ p _)
    · exact sum_eq fun p => mul_eq (h2.at _ _ _ p _ _ rfl rfl) (hi _ p _)
  · exact mul_eq (hs c) (hd.at t c _ _ (Nat.div_add_mod _ _).symm rfl)

theorem rB_at {G : FVec Ideal S2x2048x64x64 .f32} {a2 : FVec Ideal S4096x1024 .bf16} {x : ℕ → ℕ → ℕ → ℝ} (hG : isG x G)
    (hu : ∀ (t : Fin 4096) (c : Fin 1024), a2 (ix2 t c) = ((D.u t.val c.val : ℝ) : EReal)) (j : Fin 8) (l : Fin 128) (s : Fin 512) (hm : l.val / 16 = s.val / 64) :
    r208 a2 G (ix3 j l s) = (((∑ r : Fin 2048, D.u (2048 * 0 + r.val) (128 * j.val + l.val) * x 0 r.val (512 * j.val + s.val)) + (∑ r : Fin 2048, D.u (2048 * 1 + r.val) (128 * j.val + l.val) * x 1 r.val (512 * j.val + s.val)) : ℝ) : EReal) := by
  pointwise! [r208]
  refine (sel_of _ _ hm _ _).trans ?_
  refine two_eq (g := fun b r => D.u (2048 * b + r.val) (128 * j.val + l.val) * x b r.val (512 * j.val + s.val)) fun b r => ?_
  refine (mul_comm _ _).trans ?_
  exact mul_eq (at2 hu _ _ _ _ (by show b.val * 2048 + r.val = _; omega) (by show (j.val * 8 + l.val / 16) * 16 + l.val % 16 = _; omega))
    (hG.at b r _ _ _ _ rfl (by show 64 * (j.val * 8 + l.val / 16) + s.val % 64 = _; omega))
theorem r219_eq (a2 G) : r219 a2 G = r208 a2 G := rfl

theorem r230_at {a3 : FVec Ideal S4096x4096 .f32} {dy} (hd : isDy D dy) (hx : ∀ (t : Fin 4096) (c : Fin 4096), a3 (ix2 t c) = ((D.sr t.val c.val : ℝ) : EReal)) (j : Fin 8) (s : Fin 512) (l : Fin 128) (hm : l.val / 16 = s.val / 64) :
    r230 a3 dy (ix3 j s l) = ((D.dcre 0 (512 * j.val + s.val) (128 * j.val + l.val) + D.dcre 1 (512 * j.val + s.val) (128 * j.val + l.val) : ℝ) : EReal) := by
  pointwise! [r230]
  refine (sel_of _ _ hm.symm _ _).trans ?_
  refine two_eq (g := fun b r => D.sr (2048 * b + r.val) (512 * j.val + s.val) * D.dy (2048 * b + r.val) (128 * j.val + l.val)) fun b r => ?_
  refine (mul_comm _ _).trans ?_
  exact mul_eq (at2 hx _ _ _ _ (by show b.val * 2048 + r.val = _; omega) (by show (j.val * 8 + s.val / 64) * 64 + s.val % 64 = _; omega))
    (hd.at _ _ _ _ (by show b.val * 2048 + r.val = _; omega) (by show (j.val * 8 + s.val / 64) * 16 + l.val % 16 = _; omega))
theorem r241_at {a4 : FVec Ideal S4096x4096 .f32} {dy} (hd : isDy D dy) (hx : ∀ (t : Fin 4096) (c : Fin 4096), a4 (ix2 t c) = ((D.si t.val c.val : ℝ) : EReal)) (j : Fin 8) (s : Fin 512) (l : Fin 128) (hm : l.val / 16 = s.val / 64) :
    r241 a4 dy (ix3 j s l) = ((D.dcim 0 (512 * j.val + s.val) (128 * j.val + l.val) + D.dcim 1 (512 * j.val + s.val) (128 * j.val + l.val) : ℝ) : EReal) := by
  pointwise! [r241]
  refine (sel_of _ _ hm.symm _ _).trans ?_
  unfold Data.dcim
  rw [← Finset.sum_neg_distrib, ← Finset.sum_neg_distrib]
  refine two_eq (g := fun b r => -(D.si (2048 * b + r.val) (512 * j.val + s.val) * D.dy (2048 * b + r.val) (128 * j.val + l.val))) fun b r => ?_
  refine (EReal.neg_mul _ _).trans (Eq.trans ?_ (EReal.coe_neg _).symm)
  exact congrArg (fun x : EReal => -x) ((mul_comm _ _).trans <| mul_eq (at2 hx _ _ _ _ (by show b.val * 2048 + r.val = _; omega) (by show (j.val * 8 + s.val / 64) * 64 + s.val % 64 = _; omega))
    (hd.at _ _ _ _ (by show b.val * 2048 + r.val = _; omega) (by show (j.val * 8 + s.val / 64) * 16 + l.val % 16 = _; omega)))

theorem flat2_at (X Y) (n : Fin 4096) : (shapeCast S1x4096 (addf (sumG X) (sumG Y)) shapeCasts_S64x64_S1x4096) (ix2 0 n)
    = sumG X (ix2 ⟨n.val / 64, by omega⟩ ⟨n.val % 64, by omega⟩) + sumG Y (ix2 ⟨n.val / 64, by omega⟩ ⟨n.val % 64, by omega⟩) := by
  pointwise! []
theorem flat1_at (X : FVec Ideal S2x2048x64x16 .f32) (n : Fin 1024) : (shapeCast S1x1024 (shapeCast _ (sumD X) shapeCasts_S64x16_S1024) shapeCasts_S1024_S1x1024) (ix2 0 n)
    = sumD X (ix2 ⟨n.val / 16, by omega⟩ ⟨n.val % 16, by omega⟩) := by
  pointwise! []
theorem prod_at (a : FVec Ideal S4096x1024 .bf16) (dy) (b : Fin 2) (r : Fin 2048) (g  : Fin 64) (h : Fin 16) : (mulf (shapeCast _ dy shapeCasts_S4096x1024_S2x2048x64x16) (shapeCast _ (extf .f32 a bitsLt_bf16_f32) shapeCasts_S4096x1024_S2x2048x64x16)) (ix4 b r g h)
    = dy (ix2 ⟨b.val * 2048 + r.val, by omega⟩ ⟨g.val * 16 + h.val, by omega⟩) * a (ix2 ⟨b.val * 2048 + r.val, by omega⟩ ⟨g.val * 16 + h.val, by omega⟩) := by
  pointwise! []
theorem mulf_ix (X Y : FVec Ideal S2x2048x64x64 .f32) (i) : mulf X Y i = X i * Y i := rfl
theorem negf_ix (X : FVec Ideal S2x2048x64x64 .f32) (i) : Host.negf X i = -X i := rfl

theorem r242_at {a3 a4 gre gim} (h1 : isG D.gre gre) (h2 : isG D.gim gim) (hr : ∀ (t : Fin 4096) (c : Fin 4096), a3 (ix2 t c) = ((D.sr t.val c.val : ℝ) : EReal))
    (hi : ∀ (t : Fin 4096) (c : Fin 4096), a4 (ix2 t c) = ((D.si t.val c.val : ℝ) : EReal)) (n : Fin 4096) :
    r242 a3 a4 gre gim (ix2 0 n) = ((D.dar 0 n.val + D.dar 1 n.val : ℝ) : EReal) := by
  rw [r242_eq, flat2_at, sumG_at, sumG_at, ← Finset.sum_add_distrib]
  simp only [← Finset.sum_add_distrib]
  refine two_eq (g := fun b r => D.gre b r.val n.val * Data.pre D.sr b r.val n.val + D.gim b r.val n.val * Data.pre D.si b r.val n.val) fun b r => ?_
  have hn : 64 * (n.val / 64) + n.val % 64 = n.val := Nat.div_add_mod _ _
  have e3 := shf_at D D.sr a3 hr b r ⟨n.val / 64, by omega⟩ ⟨n.val % 64, by omega⟩
  have e4 := shf_at D D.si a4 hi b r ⟨n.val / 64, by omega⟩ ⟨n.val % 64, by omega⟩
  have e1 := h1 b r ⟨n.val / 64, by omega⟩ ⟨n.val % 64, by omega⟩
  have e2 := h2 b r ⟨n.val / 64, by omega⟩ ⟨n.val % 64, by omega⟩
  simp only [hn] at e1 e2 e3 e4
  rw [mulf_ix, mulf_ix, e1, e2, e3, e4, add_comm, ← EReal.coe_mul, ← EReal.coe_mul, ← EReal.coe_add]
theorem r243_at {a3 a4 gre gim} (h1 : isG D.gre gre) (h2 : isG D.gim gim) (hr : ∀ (t : Fin 4096) (c : Fin 4096), a3 (ix2 t c) = ((D.sr t.val c.val : ℝ) : EReal))
    (hi : ∀ (t : Fin 4096) (c : Fin 4096), a4 (ix2 t c) = ((D.si t.val c.val : ℝ) : EReal)) (n : Fin 4096) :
    r243 a3 a4 gre gim (ix2 0 n) = ((D.dai 0 n.val + D.dai 1 n.val : ℝ) : EReal) := by
  rw [r243_eq, flat2_at, sumG_at, sumG_at, ← Finset.sum_add_distrib]
  simp only [← Finset.sum_add_distrib]
  refine two_eq (g := fun b r => D.gim b r.val n.val * Data.pre D.sr b r.val n.val - D.gre b r.val n.val * Data.pre D.si b r.val n.val) fun b r => ?_
  have hn : 64 * (n.val / 64) + n.val % 64 = n.val := Nat.div_add_mod _ _
  have e3 := shf_at D D.sr a3 hr b r ⟨n.val / 64, by omega⟩ ⟨n.val % 64, by omega⟩
  have e4 := shf_at D D.si a4 hi b r ⟨n.val / 64, by omega⟩ ⟨n.val % 64, by omega⟩
  have e1 := h1 b r ⟨n.val / 64, by omega⟩ ⟨n.val % 64, by omega⟩
  have e2 := h2 b r ⟨n.val / 64, by omega⟩ ⟨n.val % 64, by omega⟩
  simp only [hn] at e1 e2 e3 e4
  rw [mulf_ix, mulf_ix, negf_ix, e1, e2, e3, e4, ← EReal.coe_neg, ← EReal.coe_mul, ← EReal.coe_mul, ← EReal.coe_add, neg_mul, ← sub_eq_add_neg]
theorem r244_at {a2 : FVec Ideal S4096x1024 .bf16} {dy} (hd : isDy D dy) (hu : ∀ (t : Fin 4096) (c : Fin 1024), a2 (ix2 t c) = ((D.u t.val c.val : ℝ) : EReal)) (n : Fin 1024) :
    r244 a2 dy (ix2 0 n) = ((D.dd 0 n.val + D.dd 1 n.val : ℝ) : EReal) := by
  rw [r244_eq, flat1_at, sumD_at]
  refine two_eq (g := fun b r => D.dy (2048 * b + r.val) n.val * D.u (2048 * b + r.val) n.val) fun b r => ?_
  rw [prod_at]
  exact mul_eq (hd.at _ _ _ _ (by show b.val * 2048 + r.val = _; omega) (by show n.val / 16 * 16 + n.val % 16 = _; omega))
    (at2 hu _ _ _ _ (by show b.val * 2048 + r.val = _; omega) (by show n.val / 16 * 16 + n.val % 16 = _; omega))
end Cert.ReferenceIdeal.S5
end
-- ==== Proof.RStep.lean ====
/- The reference's run as an iteration of its loop's step: the generated text, with two steps of its proof put differently. -/
module

public import proofs.«01_k».proof.Proof.Gen.ReferenceIdeal.Run
public import proofs.«01_k».proof.Proof.Gen.ReferenceIdeal.Step

@[expose] public section

noncomputable section

namespace Cert.ReferenceIdeal.StepRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

variable (V0 : Valuation τ sig (Elt F)) (s : State F) (j : ℕ)

/-- The valuation holds the state, the set-up values and the trip's number. -/
structure Holds : Prop where
  f_5 : V0 (Proc.devRef .tc main_v71_5) = s.main_v71_5
  f_6 : V0 (Proc.devRef .tc main_v71_6) = s.main_v71_6
  f_7 : V0 (Proc.devRef .tc main_v71_7) = s.main_v71_7
  f_8 : V0 (Proc.devRef .tc main_v71_8) = s.main_v71_8
  f_0 : V0 (Proc.devRef .tc main_v71_0) = s.main_v71_0
  f_1 : V0 (Proc.devRef .tc main_v71_1) = s.main_v71_1
  f_2 : V0 (Proc.devRef .tc main_v71_2) = s.main_v71_2
  f_3 : V0 (Proc.devRef .tc main_v71_3) = s.main_v71_3
  n_4 : V0 (Proc.devRef .tc main_v71_4) = constantI S_ 32 (BitVec.ofNat 32 j)

variable {V0 s j}

set_option maxRecDepth 8192 in
theorem al_0 (h : Holds V0 s j) : (constantI S_ 32 0#32 : (Proc.devRef .tc main_while0b_call2_c : DevRef τ sig).ty.Contents (Elt F)) = Cert.ReferenceIdeal.Step.b0 j s := by
  unfold Cert.ReferenceIdeal.Step.b0
  rfl
set_option maxRecDepth 8192 in
theorem al_1 (h : Holds V0 s j) : (constantI S_ 32 0#32 : (Proc.devRef .tc main_while0b_call2_c_0 : DevRef τ sig).ty.Contents (Elt F)) = Cert.ReferenceIdeal.Step.b1 j s := by
  unfold Cert.ReferenceIdeal.Step.b1
  rfl
set_option maxRecDepth 8192 in
theorem al_2 (h : Holds V0 s j) : (Host.dynamicSlice S1x2x4096 (V0 (Proc.devRef .tc main_v71_0)) (fun k => (((![V0 (Proc.devRef .tc main_v71_4), constantI S_ 32 0#32, constantI S_ 32 0#32] : Fin 3 → (⟨S_, .i32⟩ : BufTy).Contents (Elt F))) k (Shape.Idx.first h_S_)).toInt) sliceFits_S2048x2x4096_S1x2x4096 : (Proc.devRef .tc main_while0b_call2_v0 : DevRef τ sig).ty.Contents (Elt F)) = Cert.ReferenceIdeal.Step.b2 j s := by
  unfold Cert.ReferenceIdeal.Step.b2
  rw [← al_0 h, ← al_1 h, h.f_0, h.n_4]
  try rfl
set_option maxRecDepth 8192 in
theorem al_3 (h : Holds V0 s j) : (shapeCast S2x4096 (Host.dynamicSlice S1x2x4096 (V0 (Proc.devRef .tc main_v71_0)) (fun k => (((![V0 (Proc.devRef .tc main_v71_4), constantI S_ 32 0#32, constantI S_ 32 0#32] : Fin 3 → (⟨S_, .i32⟩ : BufTy).Contents (Elt F))) k (Shape.Idx.first h_S_)).toInt) sliceFits_S2048x2x4096_S1x2x4096) shapeCasts_S1x2x4096_S2x4096 : (Proc.devRef .tc main_while0b_v245 : DevRef τ sig).ty.Contents (Elt F)) = Cert.ReferenceIdeal.Step.b3 j s := by
  unfold Cert.ReferenceIdeal.Step.b3
  rw [← al_2 h]
  try rfl
set_option maxRecDepth 8192 in
theorem al_4 (h : Holds V0 s j) : (constantI S_ 32 0#32 : (Proc.devRef .tc main_while0b_call3_c : DevRef τ sig).ty.Contents (Elt F)) = Cert.ReferenceIdeal.Step.b4 j s := by
  unfold Cert.ReferenceIdeal.Step.b4
  rfl
set_option maxRecDepth 8192 in
theorem al_5 (h : Holds V0 s j) : (constantI S_ 32 0#32 : (Proc.devRef .tc main_while0b_call3_c_0 : DevRef τ sig).ty.Contents (Elt F)) = Cert.ReferenceIdeal.Step.b5 j s := by
  unfold Cert.ReferenceIdeal.Step.b5
  rfl
set_option maxRecDepth 8192 in
theorem al_6 (h : Holds V0 s j) : (Host.dynamicSlice S1x2x4096 (V0 (Proc.devRef .tc main_v71_1)) (fun k => (((![V0 (Proc.devRef .tc main_v71_4), constantI S_ 32 0#32, constantI S_ 32 0#32] : Fin 3 → (⟨S_, .i32⟩ : BufTy).Contents (Elt F))) k (Shape.Idx.first h_S_)).toInt) sliceFits_S2048x2x4096_S1x2x4096 : (Proc.devRef .tc main_while0b_call3_v0 : DevRef τ sig).ty.Contents (Elt F)) = Cert.ReferenceIdeal.Step.b6 j s := by
  unfold Cert.ReferenceIdeal.Step.b6
  rw [← al_4 h, ← al_5 h, h.f_1, h.n_4]
  try rfl
set_option maxRecDepth 8192 in
theorem al_7 (h : Holds V0 s j) : (shapeCast S2x4096 (Host.dynamicSlice S1x2x4096 (V0 (Proc.devRef .tc main_v71_1)) (fun k => (((![V0 (Proc.devRef .tc main_v71_4), constantI S_ 32 0#32, constantI S_ 32 0#32] : Fin 3 → (⟨S_, .i32⟩ : BufTy).Contents (Elt F))) k (Shape.Idx.first h_S_)).toInt) sliceFits_S2048x2x4096_S1x2x4096) shapeCasts_S1x2x4096_S2x4096 : (Proc.devRef .tc main_while0b_v246 : DevRef τ sig).ty.Contents (Elt F)) = Cert.ReferenceIdeal.Step.b7 j s := by
  unfold Cert.ReferenceIdeal.Step.b7
  rw [← al_6 h]
  try rfl
set_option maxRecDepth 8192 in
theorem al_8 (h : Holds V0 s j) : (res_main_while0b_v247 V0 : (Proc.devRef .tc main_while0b_v247 : DevRef τ sig).ty.Contents (Elt F)) = Cert.ReferenceIdeal.Step.b8 j s := by
  unfold res_main_while0b_v247 Cert.ReferenceIdeal.Step.b8
  rw [h.f_2]
  try rfl
set_option maxRecDepth 8192 in
theorem al_9 (h : Holds V0 s j) : (broadcastInDim S2x4096 ![0, 1] bcast_S1x4096_S2x4096_0_1 (res_main_while0b_v247 V0) : (Proc.devRef .tc main_while0b_v248 : DevRef τ sig).ty.Contents (Elt F)) = Cert.ReferenceIdeal.Step.b9 j s := by
  unfold Cert.ReferenceIdeal.Step.b9
  rw [← al_8 h]
  try rfl
set_option maxRecDepth 8192 in
theorem al_10 (h : Holds V0 s j) : (mulf (broadcastInDim S2x4096 ![0, 1] bcast_S1x4096_S2x4096_0_1 (res_main_while0b_v247 V0)) (V0 (Proc.devRef .tc main_v71_5)) : (Proc.devRef .tc main_while0b_v249 : DevRef τ sig).ty.Contents (Elt F)) = Cert.ReferenceIdeal.Step.b10 j s := by
  unfold Cert.ReferenceIdeal.Step.b10
  rw [← al_9 h, h.f_5]
  try rfl
set_option maxRecDepth 8192 in
theorem al_11 (h : Holds V0 s j) : (res_main_while0b_v250 V0 : (Proc.devRef .tc main_while0b_v250 : DevRef τ sig).ty.Contents (Elt F)) = Cert.ReferenceIdeal.Step.b11 j s := by
  unfold res_main_while0b_v250 Cert.ReferenceIdeal.Step.b11
  rw [h.f_3]
  try rfl
set_option maxRecDepth 8192 in
theorem al_12 (h : Holds V0 s j) : (broadcastInDim S2x4096 ![0, 1] bcast_S1x4096_S2x4096_0_1 (res_main_while0b_v250 V0) : (Proc.devRef .tc main_while0b_v251 : DevRef τ sig).ty.Contents (Elt F)) = Cert.ReferenceIdeal.Step.b12 j s := by
  unfold Cert.ReferenceIdeal.Step.b12
  rw [← al_11 h]
  try rfl
set_option maxRecDepth 8192 in
theorem al_13 (h : Holds V0 s j) : (mulf (broadcastInDim S2x4096 ![0, 1] bcast_S1x4096_S2x4096_0_1 (res_main_while0b_v250 V0)) (V0 (Proc.devRef .tc main_v71_6)) : (Proc.devRef .tc main_while0b_v252 : DevRef τ sig).ty.Contents (Elt F)) = Cert.ReferenceIdeal.Step.b13 j s := by
  unfold Cert.ReferenceIdeal.Step.b13
  rw [← al_12 h, h.f_6]
  try rfl
set_option maxRecDepth 8192 in
theorem al_14 (h : Holds V0 s j) : (subf (mulf (broadcastInDim S2x4096 ![0, 1] bcast_S1x4096_S2x4096_0_1 (res_main_while0b_v247 V0)) (V0 (Proc.devRef .tc main_v71_5))) (mulf (broadcastInDim S2x4096 ![0, 1] bcast_S1x4096_S2x4096_0_1 (res_main_while0b_v250 V0)) (V0 (Proc.devRef .tc main_v71_6))) : (Proc.devRef .tc main_while0b_v253 : DevRef τ sig).ty.Contents (Elt F)) = Cert.ReferenceIdeal.Step.b14 j s := by
  unfold Cert.ReferenceIdeal.Step.b14
  rw [← al_10 h, ← al_13 h]
  try rfl
set_option maxRecDepth 8192 in
theorem al_15 (h : Holds V0 s j) : (res_main_while0b_v254 V0 : (Proc.devRef .tc main_while0b_v254 : DevRef τ sig).ty.Contents (Elt F)) = Cert.ReferenceIdeal.Step.b15 j s := by
  unfold res_main_while0b_v254 Cert.ReferenceIdeal.Step.b15
  rw [h.f_2]
  try rfl
set_option maxRecDepth 8192 in
theorem al_16 (h : Holds V0 s j) : (broadcastInDim S2x4096 ![0, 1] bcast_S1x4096_S2x4096_0_1 (res_main_while0b_v254 V0) : (Proc.devRef .tc main_while0b_v255 : DevRef τ sig).ty.Contents (Elt F)) = Cert.ReferenceIdeal.Step.b16 j s := by
  unfold Cert.ReferenceIdeal.Step.b16
  rw [← al_15 h]
  try rfl
set_option maxRecDepth 8192 in
theorem al_17 (h : Holds V0 s j) : (mulf (broadcastInDim S2x4096 ![0, 1] bcast_S1x4096_S2x4096_0_1 (res_main_while0b_v254 V0)) (V0 (Proc.devRef .tc main_v71_6)) : (Proc.devRef .tc main_while0b_v256 : DevRef τ sig).ty.Contents (Elt F)) = Cert.ReferenceIdeal.Step.b17 j s := by
  unfold Cert.ReferenceIdeal.Step.b17
  rw [← al_16 h, h.f_6]
  try rfl
set_option maxRecDepth 8192 in
theorem al_18 (h : Holds V0 s j) : (res_main_while0b_v257 V0 : (Proc.devRef .tc main_while0b_v257 : DevRef τ sig).ty.Contents (Elt F)) = Cert.ReferenceIdeal.Step.b18 j s := by
  unfold res_main_while0b_v257 Cert.ReferenceIdeal.Step.b18
  rw [h.f_3]
  try rfl
set_option maxRecDepth 8192 in
theorem al_19 (h : Holds V0 s j) : (broadcastInDim S2x4096 ![0, 1] bcast_S1x4096_S2x4096_0_1 (res_main_while0b_v257 V0) : (Proc.devRef .tc main_while0b_v258 : DevRef τ sig).ty.Contents (Elt F)) = Cert.ReferenceIdeal.Step.b19 j s := by
  unfold Cert.ReferenceIdeal.Step.b19
  rw [← al_18 h]
  try rfl
set_option maxRecDepth 8192 in
theorem al_20 (h : Holds V0 s j) : (mulf (broadcastInDim S2x4096 ![0, 1] bcast_S1x4096_S2x4096_0_1 (res_main_while0b_v257 V0)) (V0 (Proc.devRef .tc main_v71_5)) : (Proc.devRef .tc main_while0b_v259 : DevRef τ sig).ty.Contents (Elt F)) = Cert.ReferenceIdeal.Step.b20 j s := by
  unfold Cert.ReferenceIdeal.Step.b20
  rw [← al_19 h, h.f_5]
  try rfl
set_option maxRecDepth 8192 in
theorem al_21 (h : Holds V0 s j) : (addf (mulf (broadcastInDim S2x4096 ![0, 1] bcast_S1x4096_S2x4096_0_1 (res_main_while0b_v254 V0)) (V0 (Proc.devRef .tc main_v71_6))) (mulf (broadcastInDim S2x4096 ![0, 1] bcast_S1x4096_S2x4096_0_1 (res_main_while0b_v257 V0)) (V0 (Proc.devRef .tc main_v71_5))) : (Proc.devRef .tc main_while0b_v260 : DevRef τ sig).ty.Contents (Elt F)) = Cert.ReferenceIdeal.Step.b21 j s := by
  unfold Cert.ReferenceIdeal.Step.b21
  rw [← al_17 h, ← al_20 h]
  try rfl
set_option maxRecDepth 8192 in
theorem al_22 (h : Holds V0 s j) : (broadcastInDim S2x4096 ![0, 1] bcast_S1x4096_S2x4096_0_1 (res_main_while0b_v257 V0) : (Proc.devRef .tc main_while0b_v261 : DevRef τ sig).ty.Contents (Elt F)) = Cert.ReferenceIdeal.Step.b22 j s := by
  unfold Cert.ReferenceIdeal.Step.b22
  rw [← al_18 h]
  try rfl
set_option maxRecDepth 8192 in
theorem al_23 (h : Holds V0 s j) : (mulf (broadcastInDim S2x4096 ![0, 1] bcast_S1x4096_S2x4096_0_1 (res_main_while0b_v257 V0)) (V0 (Proc.devRef .tc main_v71_6)) : (Proc.devRef .tc main_while0b_v262 : DevRef τ sig).ty.Contents (Elt F)) = Cert.ReferenceIdeal.Step.b23 j s := by
  unfold Cert.ReferenceIdeal.Step.b23
  rw [← al_22 h, h.f_6]
  try rfl
set_option maxRecDepth 8192 in
theorem al_24 (h : Holds V0 s j) : (broadcastInDim S2x4096 ![0, 1] bcast_S1x4096_S2x4096_0_1 (res_main_while0b_v254 V0) : (Proc.devRef .tc main_while0b_v263 : DevRef τ sig).ty.Contents (Elt F)) = Cert.ReferenceIdeal.Step.b24 j s := by
  unfold Cert.ReferenceIdeal.Step.b24
  rw [← al_15 h]
  try rfl
set_option maxRecDepth 8192 in
theorem al_25 (h : Holds V0 s j) : (mulf (broadcastInDim S2x4096 ![0, 1] bcast_S1x4096_S2x4096_0_1 (res_main_while0b_v254 V0)) (V0 (Proc.devRef .tc main_v71_6)) : (Proc.devRef .tc main_while0b_v264 : DevRef τ sig).ty.Contents (Elt F)) = Cert.ReferenceIdeal.Step.b25 j s := by
  unfold Cert.ReferenceIdeal.Step.b25
  rw [← al_24 h, h.f_6]
  try rfl
set_option maxRecDepth 8192 in
theorem al_26 (h : Holds V0 s j) : (Host.negf (V0 (Proc.devRef .tc main_v71_5)) : (Proc.devRef .tc main_while0b_v265 : DevRef τ sig).ty.Contents (Elt F)) = Cert.ReferenceIdeal.Step.b26 j s := by
  unfold Cert.ReferenceIdeal.Step.b26
  rw [h.f_5]
  try rfl
set_option maxRecDepth 8192 in
theorem al_27 (h : Holds V0 s j) : (broadcastInDim S2x4096 ![0, 1] bcast_S1x4096_S2x4096_0_1 (res_main_while0b_v250 V0) : (Proc.devRef .tc main_while0b_v266 : DevRef τ sig).ty.Contents (Elt F)) = Cert.ReferenceIdeal.Step.b27 j s := by
  unfold Cert.ReferenceIdeal.Step.b27
  rw [← al_11 h]
  try rfl
set_option maxRecDepth 8192 in
theorem al_28 (h : Holds V0 s j) : (mulf (broadcastInDim S2x4096 ![0, 1] bcast_S1x4096_S2x4096_0_1 (res_main_while0b_v250 V0)) (Host.negf (V0 (Proc.devRef .tc main_v71_5))) : (Proc.devRef .tc main_while0b_v267 : DevRef τ sig).ty.Contents (Elt F)) = Cert.ReferenceIdeal.Step.b28 j s := by
  unfold Cert.ReferenceIdeal.Step.b28
  rw [← al_27 h, ← al_26 h]
  try rfl
set_option maxRecDepth 8192 in
theorem al_29 (h : Holds V0 s j) : (addf (mulf (broadcastInDim S2x4096 ![0, 1] bcast_S1x4096_S2x4096_0_1 (res_main_while0b_v254 V0)) (V0 (Proc.devRef .tc main_v71_6))) (mulf (broadcastInDim S2x4096 ![0, 1] bcast_S1x4096_S2x4096_0_1 (res_main_while0b_v250 V0)) (Host.negf (V0 (Proc.devRef .tc main_v71_5)))) : (Proc.devRef .tc main_while0b_v268 : DevRef τ sig).ty.Contents (Elt F)) = Cert.ReferenceIdeal.Step.b29 j s := by
  unfold Cert.ReferenceIdeal.Step.b29
  rw [← al_25 h, ← al_28 h]
  try rfl
set_option maxRecDepth 8192 in
theorem al_30 (h : Holds V0 s j) : (broadcastInDim S2x4096 ![0, 1] bcast_S1x4096_S2x4096_0_1 (res_main_while0b_v247 V0) : (Proc.devRef .tc main_while0b_v269 : DevRef τ sig).ty.Contents (Elt F)) = Cert.ReferenceIdeal.Step.b30 j s := by
  unfold Cert.ReferenceIdeal.Step.b30
  rw [← al_8 h]
  try rfl
set_option maxRecDepth 8192 in
theorem al_31 (h : Holds V0 s j) : (mulf (broadcastInDim S2x4096 ![0, 1] bcast_S1x4096_S2x4096_0_1 (res_main_while0b_v247 V0)) (V0 (Proc.devRef .tc main_v71_5)) : (Proc.devRef .tc main_while0b_v270 : DevRef τ sig).ty.Contents (Elt F)) = Cert.ReferenceIdeal.Step.b31 j s := by
  unfold Cert.ReferenceIdeal.Step.b31
  rw [← al_30 h, h.f_5]
  try rfl
set_option maxRecDepth 8192 in
theorem al_32 (h : Holds V0 s j) : (addf (mulf (broadcastInDim S2x4096 ![0, 1] bcast_S1x4096_S2x4096_0_1 (res_main_while0b_v257 V0)) (V0 (Proc.devRef .tc main_v71_6))) (mulf (broadcastInDim S2x4096 ![0, 1] bcast_S1x4096_S2x4096_0_1 (res_main_while0b_v247 V0)) (V0 (Proc.devRef .tc main_v71_5))) : (Proc.devRef .tc main_while0b_v271 : DevRef τ sig).ty.Contents (Elt F)) = Cert.ReferenceIdeal.Step.b32 j s := by
  unfold Cert.ReferenceIdeal.Step.b32
  rw [← al_23 h, ← al_31 h]
  try rfl
set_option maxRecDepth 8192 in
theorem al_33 (h : Holds V0 s j) : (res_main_while0b_v272 V0 : (Proc.devRef .tc main_while0b_v272 : DevRef τ sig).ty.Contents (Elt F)) = Cert.ReferenceIdeal.Step.b33 j s := by
  unfold res_main_while0b_v272 Cert.ReferenceIdeal.Step.b33
  rw [← al_3 h, ← al_32 h]
  try rfl
set_option maxRecDepth 8192 in
theorem al_34 (h : Holds V0 s j) : (res_main_while0b_v273 V0 : (Proc.devRef .tc main_while0b_v273 : DevRef τ sig).ty.Contents (Elt F)) = Cert.ReferenceIdeal.Step.b34 j s := by
  unfold res_main_while0b_v273 Cert.ReferenceIdeal.Step.b34
  rw [← al_7 h, ← al_29 h]
  try rfl
set_option maxRecDepth 8192 in
theorem al_35 (h : Holds V0 s j) : (broadcastInDim S1x2x4096 ![1, 2] bcast_S2x4096_S1x2x4096_1_2 (res_main_while0b_v272 V0) : (Proc.devRef .tc main_while0b_call4_v0 : DevRef τ sig).ty.Contents (Elt F)) = Cert.ReferenceIdeal.Step.b35 j s := by
  unfold Cert.ReferenceIdeal.Step.b35
  rw [← al_33 h]
  try rfl
set_option maxRecDepth 8192 in
theorem al_36 (h : Holds V0 s j) : (constantI S_ 32 0#32 : (Proc.devRef .tc main_while0b_call4_c : DevRef τ sig).ty.Contents (Elt F)) = Cert.ReferenceIdeal.Step.b36 j s := by
  unfold Cert.ReferenceIdeal.Step.b36
  rfl
set_option maxRecDepth 8192 in
theorem al_37 (h : Holds V0 s j) : (constantI S_ 32 0#32 : (Proc.devRef .tc main_while0b_call4_c_0 : DevRef τ sig).ty.Contents (Elt F)) = Cert.ReferenceIdeal.Step.b37 j s := by
  unfold Cert.ReferenceIdeal.Step.b37
  rfl
set_option maxRecDepth 8192 in
theorem al_38 (h : Holds V0 s j) : (Host.dynamicUpdateSlice (V0 (Proc.devRef .tc main_v71_7)) (broadcastInDim S1x2x4096 ![1, 2] bcast_S2x4096_S1x2x4096_1_2 (res_main_while0b_v272 V0)) (fun k => (((![V0 (Proc.devRef .tc main_v71_4), constantI S_ 32 0#32, constantI S_ 32 0#32] : Fin 3 → (⟨S_, .i32⟩ : BufTy).Contents (Elt F))) k (Shape.Idx.first h_S_)).toInt) updateFits_S2048x2x4096_S1x2x4096 : (Proc.devRef .tc main_while0b_v274 : DevRef τ sig).ty.Contents (Elt F)) = Cert.ReferenceIdeal.Step.b38 j s := by
  unfold Cert.ReferenceIdeal.Step.b38
  rw [← al_35 h, ← al_36 h, ← al_37 h, h.f_7, h.n_4]
  try rfl
set_option maxRecDepth 8192 in
theorem al_39 (h : Holds V0 s j) : (broadcastInDim S1x2x4096 ![1, 2] bcast_S2x4096_S1x2x4096_1_2 (res_main_while0b_v273 V0) : (Proc.devRef .tc main_while0b_call5_v0 : DevRef τ sig).ty.Contents (Elt F)) = Cert.ReferenceIdeal.Step.b39 j s := by
  unfold Cert.ReferenceIdeal.Step.b39
  rw [← al_34 h]
  try rfl
set_option maxRecDepth 8192 in
theorem al_40 (h : Holds V0 s j) : (constantI S_ 32 0#32 : (Proc.devRef .tc main_while0b_call5_c : DevRef τ sig).ty.Contents (Elt F)) = Cert.ReferenceIdeal.Step.b40 j s := by
  unfold Cert.ReferenceIdeal.Step.b40
  rfl
set_option maxRecDepth 8192 in
theorem al_41 (h : Holds V0 s j) : (constantI S_ 32 0#32 : (Proc.devRef .tc main_while0b_call5_c_0 : DevRef τ sig).ty.Contents (Elt F)) = Cert.ReferenceIdeal.Step.b41 j s := by
  unfold Cert.ReferenceIdeal.Step.b41
  rfl
set_option maxRecDepth 8192 in
theorem al_42 (h : Holds V0 s j) : (Host.dynamicUpdateSlice (V0 (Proc.devRef .tc main_v71_8)) (broadcastInDim S1x2x4096 ![1, 2] bcast_S2x4096_S1x2x4096_1_2 (res_main_while0b_v273 V0)) (fun k => (((![V0 (Proc.devRef .tc main_v71_4), constantI S_ 32 0#32, constantI S_ 32 0#32] : Fin 3 → (⟨S_, .i32⟩ : BufTy).Contents (Elt F))) k (Shape.Idx.first h_S_)).toInt) updateFits_S2048x2x4096_S1x2x4096 : (Proc.devRef .tc main_while0b_v275 : DevRef τ sig).ty.Contents (Elt F)) = Cert.ReferenceIdeal.Step.b42 j s := by
  unfold Cert.ReferenceIdeal.Step.b42
  rw [← al_39 h, ← al_40 h, ← al_41 h, h.f_8, h.n_4]
  try rfl

/-! One trip's step of the carried values is `step`, field by field; a counter steps to the next number. -/

theorem step_5 (h : Holds V0 s j) : step_main_v71_5 V0 = (step j s).main_v71_5 := by
  unfold step_main_v71_5 Cert.ReferenceIdeal.Step.step
  show id (res_main_while0b_v272 V0) = _
  rw [al_33 h]
  try rfl
theorem step_6 (h : Holds V0 s j) : step_main_v71_6 V0 = (step j s).main_v71_6 := by
  unfold step_main_v71_6 Cert.ReferenceIdeal.Step.step
  show id (res_main_while0b_v273 V0) = _
  rw [al_34 h]
  try rfl
theorem step_7 (h : Holds V0 s j) : step_main_v71_7 V0 = (step j s).main_v71_7 := by
  unfold step_main_v71_7 Cert.ReferenceIdeal.Step.step
  show id (Host.dynamicUpdateSlice (V0 (Proc.devRef .tc main_v71_7)) (broadcastInDim S1x2x4096 ![1, 2] bcast_S2x4096_S1x2x4096_1_2 (res_main_while0b_v272 V0)) (fun k => (((![V0 (Proc.devRef .tc main_v71_4), constantI S_ 32 0#32, constantI S_ 32 0#32] : Fin 3 → (⟨S_, .i32⟩ : BufTy).Contents (Elt F))) k (Shape.Idx.first h_S_)).toInt) updateFits_S2048x2x4096_S1x2x4096) = _
  exact al_38 h
theorem step_8 (h : Holds V0 s j) : step_main_v71_8 V0 = (step j s).main_v71_8 := by
  unfold step_main_v71_8 Cert.ReferenceIdeal.Step.step
  show id (Host.dynamicUpdateSlice (V0 (Proc.devRef .tc main_v71_8)) (broadcastInDim S1x2x4096 ![1, 2] bcast_S2x4096_S1x2x4096_1_2 (res_main_while0b_v273 V0)) (fun k => (((![V0 (Proc.devRef .tc main_v71_4), constantI S_ 32 0#32, constantI S_ 32 0#32] : Fin 3 → (⟨S_, .i32⟩ : BufTy).Contents (Elt F))) k (Shape.Idx.first h_S_)).toInt) updateFits_S2048x2x4096_S1x2x4096) = _
  exact al_42 h
theorem step_4 (h : Holds V0 s j) : step_main_v71_4 V0 = constantI S_ 32 (BitVec.ofNat 32 (j + 1)) := by
  unfold step_main_v71_4
  rw [h.n_4]
  funext i
  show BitVec.ofNat 32 j + 1#32 = BitVec.ofNat 32 (j + 1)
  simp only [BitVec.ofNat_add]

set_option maxRecDepth 8192 in
theorem out_main_v197_holds (h : Holds V0 s j) {x_main_arg0 : (⟨S4096x1024, .bf16⟩ : BufTy).Contents (Elt F)} (h_main_arg0 : V0 (Proc.devRef .tc main_arg0) = x_main_arg0) {x_main_arg1 : (⟨S4096x1024, .f32⟩ : BufTy).Contents (Elt F)} (h_main_arg1 : V0 (Proc.devRef .tc main_arg1) = x_main_arg1) {x_main_arg7 : (⟨S64x64x16, .f32⟩ : BufTy).Contents (Elt F)} (h_main_arg7 : V0 (Proc.devRef .tc main_arg7) = x_main_arg7) {x_main_arg8 : (⟨S64x64x16, .f32⟩ : BufTy).Contents (Elt F)} (h_main_arg8 : V0 (Proc.devRef .tc main_arg8) = x_main_arg8) {x_main_arg11 : (⟨S1024, .f32⟩ : BufTy).Contents (Elt F)} (h_main_arg11 : V0 (Proc.devRef .tc main_arg11) = x_main_arg11) : out_main_v197 V0 = Cert.ReferenceIdeal.Step.R_main_v197 s x_main_arg0 x_main_arg1 x_main_arg7 x_main_arg8 x_main_arg11 := by
  unfold out_main_v197 Cert.ReferenceIdeal.Step.R_main_v197
  rw [h.f_8, h.f_7, h_main_arg0, h_main_arg1, h_main_arg7, h_main_arg8, h_main_arg11]
  try rfl

set_option maxRecDepth 8192 in
theorem out_main_v208_holds (h : Holds V0 s j) {x_main_arg2 : (⟨S4096x1024, .bf16⟩ : BufTy).Contents (Elt F)} (h_main_arg2 : V0 (Proc.devRef .tc main_arg2) = x_main_arg2) : out_main_v208 V0 = Cert.ReferenceIdeal.Step.R_main_v208 s x_main_arg2 := by
  unfold out_main_v208 Cert.ReferenceIdeal.Step.R_main_v208
  rw [h.f_7, h_main_arg2]
  try rfl

set_option maxRecDepth 8192 in
theorem out_main_v219_holds (h : Holds V0 s j) {x_main_arg2 : (⟨S4096x1024, .bf16⟩ : BufTy).Contents (Elt F)} (h_main_arg2 : V0 (Proc.devRef .tc main_arg2) = x_main_arg2) : out_main_v219 V0 = Cert.ReferenceIdeal.Step.R_main_v219 s x_main_arg2 := by
  unfold out_main_v219 Cert.ReferenceIdeal.Step.R_main_v219
  rw [h.f_8, h_main_arg2]
  try rfl

set_option maxRecDepth 8192 in
theorem out_main_v230_holds (h : Holds V0 s j) {x_main_arg0 : (⟨S4096x1024, .bf16⟩ : BufTy).Contents (Elt F)} (h_main_arg0 : V0 (Proc.devRef .tc main_arg0) = x_main_arg0) {x_main_arg1 : (⟨S4096x1024, .f32⟩ : BufTy).Contents (Elt F)} (h_main_arg1 : V0 (Proc.devRef .tc main_arg1) = x_main_arg1) {x_main_arg3 : (⟨S4096x4096, .f32⟩ : BufTy).Contents (Elt F)} (h_main_arg3 : V0 (Proc.devRef .tc main_arg3) = x_main_arg3) : out_main_v230 V0 = Cert.ReferenceIdeal.Step.R_main_v230 s x_main_arg0 x_main_arg1 x_main_arg3 := by
  unfold out_main_v230 Cert.ReferenceIdeal.Step.R_main_v230
  rw [h_main_arg0, h_main_arg1, h_main_arg3]
  try rfl

set_option maxRecDepth 8192 in
theorem out_main_v241_holds (h : Holds V0 s j) {x_main_arg0 : (⟨S4096x1024, .bf16⟩ : BufTy).Contents (Elt F)} (h_main_arg0 : V0 (Proc.devRef .tc main_arg0) = x_main_arg0) {x_main_arg1 : (⟨S4096x1024, .f32⟩ : BufTy).Contents (Elt F)} (h_main_arg1 : V0 (Proc.devRef .tc main_arg1) = x_main_arg1) {x_main_arg4 : (⟨S4096x4096, .f32⟩ : BufTy).Contents (Elt F)} (h_main_arg4 : V0 (Proc.devRef .tc main_arg4) = x_main_arg4) : out_main_v241 V0 = Cert.ReferenceIdeal.Step.R_main_v241 s x_main_arg0 x_main_arg1 x_main_arg4 := by
  unfold out_main_v241 Cert.ReferenceIdeal.Step.R_main_v241
  rw [h_main_arg0, h_main_arg1, h_main_arg4]
  try rfl

set_option maxRecDepth 8192 in
theorem out_main_v242_holds (h : Holds V0 s j) {x_main_arg3 : (⟨S4096x4096, .f32⟩ : BufTy).Contents (Elt F)} (h_main_arg3 : V0 (Proc.devRef .tc main_arg3) = x_main_arg3) {x_main_arg4 : (⟨S4096x4096, .f32⟩ : BufTy).Contents (Elt F)} (h_main_arg4 : V0 (Proc.devRef .tc main_arg4) = x_main_arg4) : out_main_v242 V0 = Cert.ReferenceIdeal.Step.R_main_v242 s x_main_arg3 x_main_arg4 := by
  unfold out_main_v242 Cert.ReferenceIdeal.Step.R_main_v242
  rw [h.f_8, h.f_7, h_main_arg3, h_main_arg4]
  try rfl

set_option maxRecDepth 8192 in
theorem out_main_v243_holds (h : Holds V0 s j) {x_main_arg3 : (⟨S4096x4096, .f32⟩ : BufTy).Contents (Elt F)} (h_main_arg3 : V0 (Proc.devRef .tc main_arg3) = x_main_arg3) {x_main_arg4 : (⟨S4096x4096, .f32⟩ : BufTy).Contents (Elt F)} (h_main_arg4 : V0 (Proc.devRef .tc main_arg4) = x_main_arg4) : out_main_v243 V0 = Cert.ReferenceIdeal.Step.R_main_v243 s x_main_arg3 x_main_arg4 := by
  unfold out_main_v243 Cert.ReferenceIdeal.Step.R_main_v243
  rw [h.f_8, h.f_7, h_main_arg3, h_main_arg4]
  try rfl

set_option maxRecDepth 8192 in
theorem out_main_v244_holds (h : Holds V0 s j) {x_main_arg0 : (⟨S4096x1024, .bf16⟩ : BufTy).Contents (Elt F)} (h_main_arg0 : V0 (Proc.devRef .tc main_arg0) = x_main_arg0) {x_main_arg1 : (⟨S4096x1024, .f32⟩ : BufTy).Contents (Elt F)} (h_main_arg1 : V0 (Proc.devRef .tc main_arg1) = x_main_arg1) {x_main_arg2 : (⟨S4096x1024, .bf16⟩ : BufTy).Contents (Elt F)} (h_main_arg2 : V0 (Proc.devRef .tc main_arg2) = x_main_arg2) : out_main_v244 V0 = Cert.ReferenceIdeal.Step.R_main_v244 s x_main_arg0 x_main_arg1 x_main_arg2 := by
  unfold out_main_v244 Cert.ReferenceIdeal.Step.R_main_v244
  rw [h_main_arg0, h_main_arg1, h_main_arg2]
  try rfl

/-- One trip keeps the valuation holding: `step` of the state, the same set-up values, the next number. -/
theorem holds_step (h : Holds V0 s j) : Holds (STEP V0) (step j s) (j + 1) where
  f_5 := (STEP_main_v71_5 V0).trans (step_5 h)
  f_6 := (STEP_main_v71_6 V0).trans (step_6 h)
  f_7 := (STEP_main_v71_7 V0).trans (step_7 h)
  f_8 := (STEP_main_v71_8 V0).trans (step_8 h)
  n_4 := (STEP_main_v71_4 V0).trans (step_4 h)
  f_0 := (STEP_main_v71_0 V0).trans h.f_0
  f_1 := (STEP_main_v71_1 V0).trans h.f_1
  f_2 := (STEP_main_v71_2 V0).trans h.f_2
  f_3 := (STEP_main_v71_3 V0).trans h.f_3

/-- The state the first trip starts from, of the memory the run starts from. -/
abbrev initState (m : (ℓ : Loc nD τ sig) → Buf (Elt F) ℓ) (c : Dev nD) : State F :=
  init (m ((c.tc : Thread nD τ).loc main_arg0)) (m ((c.tc : Thread nD τ).loc main_arg1)) (m ((c.tc : Thread nD τ).loc main_arg5)) (m ((c.tc : Thread nD τ).loc main_arg6)) (m ((c.tc : Thread nD τ).loc main_arg9)) (m ((c.tc : Thread nD τ).loc main_arg10))

variable (m : (ℓ : Loc nD τ sig) → Buf (Elt F) ℓ) (c : Dev nD)

set_option maxRecDepth 65536 in
set_option maxHeartbeats 600000 in
/-- What @main's operations before the loop leave: the set-up values, number 0, the initial state. -/
theorem entry_holds : Holds (entryContents preI m c) (initState m c) 0 := by
  constructor <;> (simp only [entryContents, afterL_cons, afterL_nil]; after_reads_simp) <;> rfl

/-- Before the `k`-th condition the loop's valuation holds the `k`-th state of any sequence that starts at `initState` and goes
    on by `step`. -/
theorem holds_iter (it : ℕ → State F) (h0 : it 0 = initState m c) (hs : ∀ n, it (n + 1) = step n (it n)) :
    ∀ k, Holds (STEP^[k] (entryContents preI m c)) (it k) k
  | 0 => h0 ▸ entry_holds m c
  | k + 1 => by
    rw [Function.iterate_succ_apply', hs k]
    exact holds_step (holds_iter it h0 hs k)

/-- THE RESULTS as `step` iterated: every weakly fair execution of `ReferenceIdeal` terminates with each result at its field of state
    number 2048 of any per-core sequence of states that starts at `initState` and goes on by `step`, and every argument unchanged. -/
theorem run_iter (m : (ℓ : Loc nD τ sig) → Buf (Elt F) ℓ) (ρ : Dev nD → PrngReg) (it : Dev nD → ℕ → State F)
    (h0 : ∀ c, it c 0 = initState m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v197) = Cert.ReferenceIdeal.Step.R_main_v197 (it c 2048) (m ((c.tc : Thread nD τ).loc main_arg0)) (m ((c.tc : Thread nD τ).loc main_arg1)) (m ((c.tc : Thread nD τ).loc main_arg7)) (m ((c.tc : Thread nD τ).loc main_arg8)) (m ((c.tc : Thread nD τ).loc main_arg11))
      ∧ r.2.mem ((c.tc : Thread nD τ).loc main_v208) = Cert.ReferenceIdeal.Step.R_main_v208 (it c 2048) (m ((c.tc : Thread nD τ).loc main_arg2))
      ∧ r.2.mem ((c.tc : Thread nD τ).loc main_v219) = Cert.ReferenceIdeal.Step.R_main_v219 (it c 2048) (m ((c.tc : Thread nD τ).loc main_arg2))
      ∧ r.2.mem ((c.tc : Thread nD τ).loc main_v230) = Cert.ReferenceIdeal.Step.R_main_v230 (it c 2048) (m ((c.tc : Thread nD τ).loc main_arg0)) (m ((c.tc : Thread nD τ).loc main_arg1)) (m ((c.tc : Thread nD τ).loc main_arg3))
      ∧ r.2.mem ((c.tc : Thread nD τ).loc main_v241) = Cert.ReferenceIdeal.Step.R_main_v241 (it c 2048) (m ((c.tc : Thread nD τ).loc main_arg0)) (m ((c.tc : Thread nD τ).loc main_arg1)) (m ((c.tc : Thread nD τ).loc main_arg4))
      ∧ r.2.mem ((c.tc : Thread nD τ).loc main_v242) = Cert.ReferenceIdeal.Step.R_main_v242 (it c 2048) (m ((c.tc : Thread nD τ).loc main_arg3)) (m ((c.tc : Thread nD τ).loc main_arg4))
      ∧ r.2.mem ((c.tc : Thread nD τ).loc main_v243) = Cert.ReferenceIdeal.Step.R_main_v243 (it c 2048) (m ((c.tc : Thread nD τ).loc main_arg3)) (m ((c.tc : Thread nD τ).loc main_arg4))
      ∧ r.2.mem ((c.tc : Thread nD τ).loc main_v244) = Cert.ReferenceIdeal.Step.R_main_v244 (it c 2048) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c =>
    have hk := holds_iter m c (it c) (h0 c) (hs c) 2048
    ⟨(h c).1.trans (out_main_v197_holds hk (iter_main_arg0 m c 2048) (iter_main_arg1 m c 2048) (iter_main_arg7 m c 2048) (iter_main_arg8 m c 2048) (iter_main_arg11 m c 2048)), (h c).2.1.trans (out_main_v208_holds hk (iter_main_arg2 m c 2048)), (h c).2.2.1.trans (out_main_v219_holds hk (iter_main_arg2 m c 2048)), (h c).2.2.2.1.trans (out_main_v230_holds hk (iter_main_arg0 m c 2048) (iter_main_arg1 m c 2048) (iter_main_arg3 m c 2048)), (h c).2.2.2.2.1.trans (out_main_v241_holds hk (iter_main_arg0 m c 2048) (iter_main_arg1 m c 2048) (iter_main_arg4 m c 2048)), (h c).2.2.2.2.2.1.trans (out_main_v242_holds hk (iter_main_arg3 m c 2048) (iter_main_arg4 m c 2048)), (h c).2.2.2.2.2.2.1.trans (out_main_v243_holds hk (iter_main_arg3 m c 2048) (iter_main_arg4 m c 2048)), (h c).2.2.2.2.2.2.2.1.trans (out_main_v244_holds hk (iter_main_arg0 m c 2048) (iter_main_arg1 m c 2048) (iter_main_arg2 m c 2048)), (h c).2.2.2.2.2.2.2.2.1, (h c).2.2.2.2.2.2.2.2.2.1, (h c).2.2.2.2.2.2.2.2.2.2.1, (h c).2.2.2.2.2.2.2.2.2.2.2.1, (h c).2.2.2.2.2.2.2.2.2.2.2.2.1, (h c).2.2.2.2.2.2.2.2.2.2.2.2.2.1, (h c).2.2.2.2.2.2.2.2.2.2.2.2.2.2.1, (h c).2.2.2.2.2.2.2.2.2.2.2.2.2.2.2.1, (h c).2.2.2.2.2.2.2.2.2.2.2.2.2.2.2.2.1, (h c).2.2.2.2.2.2.2.2.2.2.2.2.2.2.2.2.2.1, (h c).2.2.2.2.2.2.2.2.2.2.2.2.2.2.2.2.2.2.1, (h c).2.2.2.2.2.2.2.2.2.2.2.2.2.2.2.2.2.2.2⟩) (Value.run m ρ)

end Cert.ReferenceIdeal.StepRun

end
-- ==== Proof.Runs.lean ====
/- The eight results as functions of the real arrays, and the two programs' runs ending with them. -/
module
public import proofs.«01_k».proof.Proof.Fins
public import proofs.«01_k».proof.Proof.RefRes
public import proofs.«01_k».proof.Proof.RStep
public import Idealize.ShloMosaic.Lib.Claim
@[expose] public section
set_option maxRecDepth 16384
noncomputable section
open Idealize.ShloMosaic Idealize.ShloMosaic.TcCoe Idealize.SL.Sem
namespace Cert.ReferenceIdeal.S5
open Cert.ReferenceIdeal.Step

/-- The reference's loop state after `n` trips. -/
def states (m : (ℓ : Loc Cert.ReferenceIdeal.nD Cert.ReferenceIdeal.τ Cert.ReferenceIdeal.sig) → Buf (Elt Ideal) ℓ) (c : Dev Cert.ReferenceIdeal.nD) : ℕ → State Ideal
  | 0 => Cert.ReferenceIdeal.StepRun.initState m c
  | n + 1 => step n (states m c n)
end Cert.ReferenceIdeal.S5
namespace Cert.S5
open Cert.KernelIdeal (S4096x1024 S8x128x512 S8x512x128 S1x4096 S1x1024)
def oh (D : Data) : S4096x1024.Idx → EReal := fun i : S4096x1024.Idx => ((D.dh ((i 0).val / 2048) ((i 0).val % 2048) (i 1).val : ℝ) : EReal)
def obre (D : Data) : S8x128x512.Idx → EReal := fun i : S8x128x512.Idx => ((D.dbre 0 (128 * (i 0).val + (i 1).val) (512 * (i 0).val + (i 2).val) + D.dbre 1 (128 * (i 0).val + (i 1).val) (512 * (i 0).val + (i 2).val) : ℝ) : EReal)
def obim (D : Data) : S8x128x512.Idx → EReal := fun i : S8x128x512.Idx => ((D.dbim 0 (128 * (i 0).val + (i 1).val) (512 * (i 0).val + (i 2).val) + D.dbim 1 (128 * (i 0).val + (i 1).val) (512 * (i 0).val + (i 2).val) : ℝ) : EReal)
def ocre (D : Data) : S8x512x128.Idx → EReal := fun i : S8x512x128.Idx => ((D.dcre 0 (512 * (i 0).val + (i 1).val) (128 * (i 0).val + (i 2).val) + D.dcre 1 (512 * (i 0).val + (i 1).val) (128 * (i 0).val + (i 2).val) : ℝ) : EReal)
def ocim (D : Data) : S8x512x128.Idx → EReal := fun i : S8x512x128.Idx => ((D.dcim 0 (512 * (i 0).val + (i 1).val) (128 * (i 0).val + (i 2).val) + D.dcim 1 (512 * (i 0).val + (i 1).val) (128 * (i 0).val + (i 2).val) : ℝ) : EReal)
def oar (D : Data) : S1x4096.Idx → EReal := fun i : S1x4096.Idx => ((D.dar 0 (i 1).val + D.dar 1 (i 1).val : ℝ) : EReal)
def oai (D : Data) : S1x4096.Idx → EReal := fun i : S1x4096.Idx => ((D.dai 0 (i 1).val + D.dai 1 (i 1).val : ℝ) : EReal)
def od (D : Data) : S1x1024.Idx → EReal := fun i : S1x1024.Idx => ((D.dd 0 (i 1).val + D.dd 1 (i 1).val : ℝ) : EReal)

/-- The kernel's run ends with the results at what the pipeline computes from its body. -/
theorem kernel_arr (m : (ℓ : Loc Cert.KernelIdeal.nD Cert.KernelIdeal.τ Cert.KernelIdeal.sig) → Buf (Elt Ideal) ℓ) (g : Dev Cert.KernelIdeal.nD → PrngReg) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v67_0) = (Cert.KernelIdeal.Gen.dats m 0 c).arrAt 12 Cert.KernelIdeal.cfg0.N
      ∧ r.2.mem ((c.tc : Thread Cert.KernelIdeal.nD Cert.KernelIdeal.τ).loc Cert.KernelIdeal.main_v67_1) = (Cert.KernelIdeal.Gen.dats m 0 c).arrAt 13 Cert.KernelIdeal.cfg0.N
      ∧ r.2.mem ((c.tc : Thread Cert.KernelIdeal.nD Cert.KernelIdeal.τ).loc Cert.KernelIdeal.main_v67_2) = (Cert.KernelIdeal.Gen.dats m 0 c).arrAt 14 Cert.KernelIdeal.cfg0.N
      ∧ r.2.mem ((c.tc : Thread Cert.KernelIdeal.nD Cert.KernelIdeal.τ).loc Cert.KernelIdeal.main_v67_3) = (Cert.KernelIdeal.Gen.dats m 0 c).arrAt 15 Cert.KernelIdeal.cfg0.N
      ∧ r.2.mem ((c.tc : Thread Cert.KernelIdeal.nD Cert.KernelIdeal.τ).loc Cert.KernelIdeal.main_v67_4) = (Cert.KernelIdeal.Gen.dats m 0 c).arrAt 16 Cert.KernelIdeal.cfg0.N
      ∧ r.2.mem ((c.tc : Thread Cert.KernelIdeal.nD Cert.KernelIdeal.τ).loc Cert.KernelIdeal.main_v67_5) = (Cert.KernelIdeal.Gen.dats m 0 c).arrAt 17 Cert.KernelIdeal.cfg0.N
      ∧ r.2.mem ((c.tc : Thread Cert.KernelIdeal.nD Cert.KernelIdeal.τ).loc Cert.KernelIdeal.main_v67_6) = (Cert.KernelIdeal.Gen.dats m 0 c).arrAt 18 Cert.KernelIdeal.cfg0.N
      ∧ r.2.mem ((c.tc : Thread Cert.KernelIdeal.nD Cert.KernelIdeal.τ).loc Cert.KernelIdeal.main_v67_7) = (Cert.KernelIdeal.Gen.dats m 0 c).arrAt 19 Cert.KernelIdeal.cfg0.N) :=
  (θ_run Cert.KernelIdeal.defs _ _).mono (fun r h c => ⟨(h c).1 12, (h c).1 13, (h c).1 14, (h c).1 15, (h c).1 16, (h c).1 17, (h c).1 18, (h c).1 19⟩) (Cert.KernelIdeal.Gen.run_main m g)

/-- The kernel's run ends with the results of the mathematics. -/
theorem kernel_run (m : (ℓ : Loc Cert.KernelIdeal.nD Cert.KernelIdeal.τ Cert.KernelIdeal.sig) → Buf (Elt Ideal) ℓ) (g : Dev Cert.KernelIdeal.nD → PrngReg) (D : Dev Cert.KernelIdeal.nD → Data)
    (hD : ∀ c : Dev Cert.KernelIdeal.nD, Fits (D c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v67_0) = oh (D c)
      ∧ r.2.mem ((c.tc : Thread Cert.KernelIdeal.nD Cert.KernelIdeal.τ).loc Cert.KernelIdeal.main_v67_1) = obre (D c)
      ∧ r.2.mem ((c.tc : Thread Cert.KernelIdeal.nD Cert.KernelIdeal.τ).loc Cert.KernelIdeal.main_v67_2) = obim (D c)
      ∧ r.2.mem ((c.tc : Thread Cert.KernelIdeal.nD Cert.KernelIdeal.τ).loc Cert.KernelIdeal.main_v67_3) = ocre (D c)
      ∧ r.2.mem ((c.tc : Thread Cert.KernelIdeal.nD Cert.KernelIdeal.τ).loc Cert.KernelIdeal.main_v67_4) = ocim (D c)
      ∧ r.2.mem ((c.tc : Thread Cert.KernelIdeal.nD Cert.KernelIdeal.τ).loc Cert.KernelIdeal.main_v67_5) = oar (D c)
      ∧ r.2.mem ((c.tc : Thread Cert.KernelIdeal.nD Cert.KernelIdeal.τ).loc Cert.KernelIdeal.main_v67_6) = oai (D c)
      ∧ r.2.mem ((c.tc : Thread Cert.KernelIdeal.nD Cert.KernelIdeal.τ).loc Cert.KernelIdeal.main_v67_7) = od (D c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) := by
  refine (θ_run Cert.KernelIdeal.defs _ _).mono (fun r h c => ?_) (θ_run_and (kernel_arr m g) (Cert.KernelIdeal.Gen.unchanged m g))
  obtain ⟨⟨h0, h1, h2, h3, h4, h5, h6, h7⟩, ha⟩ := And.intro (h.1 c) (h.2 c)
  exact ⟨h0.trans (Cert.KernelIdeal.S5.fin12 m c (D c) (hD c)), h1.trans (Cert.KernelIdeal.S5.fin13 m c (D c) (hD c)), h2.trans (Cert.KernelIdeal.S5.fin14 m c (D c) (hD c)), h3.trans (Cert.KernelIdeal.S5.fin15 m c (D c) (hD c)), h4.trans (Cert.KernelIdeal.S5.fin16 m c (D c) (hD c)), h5.trans (Cert.KernelIdeal.S5.fin17 m c (D c) (hD c)), h6.trans (Cert.KernelIdeal.S5.fin18 m c (D c) (hD c)), h7.trans (Cert.KernelIdeal.S5.fin19 m c (D c) (hD c)), ha⟩

/-- The reference's run ends with the results of the mathematics, where the groups agree. -/
theorem reference_run (m : (ℓ : Loc Cert.ReferenceIdeal.nD Cert.ReferenceIdeal.τ Cert.ReferenceIdeal.sig) → Buf (Elt Ideal) ℓ) (g : Dev Cert.ReferenceIdeal.nD → PrngReg) (D : Dev Cert.ReferenceIdeal.nD → Data)
    (hD : ∀ c : Dev Cert.ReferenceIdeal.nD, Fits (D c) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      (∀ (i : S4096x1024.Idx), r.2.mem ((c.tc : Thread Cert.ReferenceIdeal.nD Cert.ReferenceIdeal.τ).loc Cert.ReferenceIdeal.main_v197) i = oh (D c) i)
      ∧ (∀ (i : S8x128x512.Idx) (hm : (i 1).val / 16 = (i 2).val / 64), r.2.mem ((c.tc : Thread Cert.ReferenceIdeal.nD Cert.ReferenceIdeal.τ).loc Cert.ReferenceIdeal.main_v208) i = obre (D c) i)
      ∧ (∀ (i : S8x128x512.Idx) (hm : (i 1).val / 16 = (i 2).val / 64), r.2.mem ((c.tc : Thread Cert.ReferenceIdeal.nD Cert.ReferenceIdeal.τ).loc Cert.ReferenceIdeal.main_v219) i = obim (D c) i)
      ∧ (∀ (i : S8x512x128.Idx) (hm : (i 2).val / 16 = (i 1).val / 64), r.2.mem ((c.tc : Thread Cert.ReferenceIdeal.nD Cert.ReferenceIdeal.τ).loc Cert.ReferenceIdeal.main_v230) i = ocre (D c) i)
      ∧ (∀ (i : S8x512x128.Idx) (hm : (i 2).val / 16 = (i 1).val / 64), r.2.mem ((c.tc : Thread Cert.ReferenceIdeal.nD Cert.ReferenceIdeal.τ).loc Cert.ReferenceIdeal.main_v241) i = ocim (D c) i)
      ∧ (∀ (i : S1x4096.Idx), r.2.mem ((c.tc : Thread Cert.ReferenceIdeal.nD Cert.ReferenceIdeal.τ).loc Cert.ReferenceIdeal.main_v242) i = oar (D c) i)
      ∧ (∀ (i : S1x4096.Idx), r.2.mem ((c.tc : Thread Cert.ReferenceIdeal.nD Cert.ReferenceIdeal.τ).loc Cert.ReferenceIdeal.main_v243) i = oai (D c) i)
      ∧ (∀ (i : S1x1024.Idx), r.2.mem ((c.tc : Thread Cert.ReferenceIdeal.nD Cert.ReferenceIdeal.τ).loc Cert.ReferenceIdeal.main_v244) i = od (D c) i)
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)) := by
  have hi : ∀ c : Dev Cert.ReferenceIdeal.nD, Cert.ReferenceIdeal.S5.Inv (D c) 2048 (Cert.ReferenceIdeal.S5.states m c 2048) := fun c =>
    Cert.ReferenceIdeal.S5.inv_all (Cert.ReferenceIdeal.S5.states m c) (Cert.ReferenceIdeal.S5.inv_init _ _ _ _ _ _ _ _ _ _ _ _ (hD c)) (fun _ => rfl) 2048 (Nat.le_refl _)
  refine (θ_run Cert.ReferenceIdeal.defs _ _).mono (fun r h c => ?_) (Cert.ReferenceIdeal.StepRun.run_iter m g (Cert.ReferenceIdeal.S5.states m) (fun _ => rfl) (fun _ _ => rfl))
  obtain ⟨h0, h1, h2, h3, h4, h5, h6, h7, ha⟩ := h c
  have hd := Cert.ReferenceIdeal.S5.dy_at (D := D c) _ _ (hD c).dz (hD c).y
  have e1 := Cert.ReferenceIdeal.S5.gre_at _ (hi c)
  have e2 := Cert.ReferenceIdeal.S5.gim_at _ (hi c)
  refine ⟨fun i => ?_, fun i hm => ?_, fun i hm => ?_, fun i hm => ?_, fun i hm => ?_, fun i => ?_, fun i => ?_, fun i => ?_, ha⟩
  · rw [h0, Cert.ReferenceIdeal.S5.R197_eq]
    obtain ⟨t, c', rfl⟩ : ∃ t c', i = ix2 t c' := ⟨i 0, i 1, eq_ix2 i⟩
    exact Cert.ReferenceIdeal.S5.r197_at hd e1 e2 (hD c).br (hD c).bi (hD c).d t c'
  · rw [h1, Cert.ReferenceIdeal.S5.R208_eq]
    obtain ⟨j, x, y, rfl⟩ : ∃ j x y, i = ix3 j x y := ⟨i 0, i 1, i 2, eq_ix3 i⟩
    exact Cert.ReferenceIdeal.S5.rB_at e1 (hD c).u j x y hm
  · rw [h2, Cert.ReferenceIdeal.S5.R219_eq, Cert.ReferenceIdeal.S5.r219_eq]
    obtain ⟨j, x, y, rfl⟩ : ∃ j x y, i = ix3 j x y := ⟨i 0, i 1, i 2, eq_ix3 i⟩
    exact Cert.ReferenceIdeal.S5.rB_at e2 (hD c).u j x y hm
  · rw [h3, Cert.ReferenceIdeal.S5.R230_eq]
    obtain ⟨j, x, y, rfl⟩ : ∃ j x y, i = ix3 j x y := ⟨i 0, i 1, i 2, eq_ix3 i⟩
    exact Cert.ReferenceIdeal.S5.r230_at hd (hD c).sr j x y hm
  · rw [h4, Cert.ReferenceIdeal.S5.R241_eq]
    obtain ⟨j, x, y, rfl⟩ : ∃ j x y, i = ix3 j x y := ⟨i 0, i 1, i 2, eq_ix3 i⟩
    exact Cert.ReferenceIdeal.S5.r241_at hd (hD c).si j x y hm
  · rw [h5, Cert.ReferenceIdeal.S5.R242_eq]
    obtain ⟨t, n, rfl⟩ : ∃ t n, i = ix2 t n := ⟨i 0, i 1, eq_ix2 i⟩
    obtain rfl : t = 0 := Subsingleton.elim _ _
    exact Cert.ReferenceIdeal.S5.r242_at e1 e2 (hD c).sr (hD c).si n
  · rw [h6, Cert.ReferenceIdeal.S5.R243_eq]
    obtain ⟨t, n, rfl⟩ : ∃ t n, i = ix2 t n := ⟨i 0, i 1, eq_ix2 i⟩
    obtain rfl : t = 0 := Subsingleton.elim _ _
    exact Cert.ReferenceIdeal.S5.r243_at e1 e2 (hD c).sr (hD c).si n
  · rw [h7, Cert.ReferenceIdeal.S5.R244_eq]
    obtain ⟨t, n, rfl⟩ : ∃ t n, i = ix2 t n := ⟨i 0, i 1, eq_ix2 i⟩
    obtain rfl : t = 0 := Subsingleton.elim _ _
    exact Cert.ReferenceIdeal.S5.r244_at hd (hD c).u n
end Cert.S5
end
-- ==== Proof.Masks.lean ====
/- Where the mask is set, the two places lie in one group. -/
module
public import proofs.«01_k».proof.Proof.Spec
public import proofs.«01_k».proof.Proof.Gen.On_grouped
@[expose] public section
set_option maxRecDepth 16384
noncomputable section
open Idealize.ShloMosaic Idealize.ShloMosaic.TcCoe
namespace Cert.S5

/-- The quotient of two words, rounded down, as the mask computes it. -/
def fl (k x : BitVec 32) : BitVec 32 :=
  Scalar.select (IntOp.andi (IntOp.cmpi CmpIPredicate.ne (if x = 0 then (0 : BitVec 32) else if x.msb = true then -1 else 1) (if k = 0 then 0 else if k.msb = true then -1 else 1)) (IntOp.cmpi CmpIPredicate.ne (IntOp.remsi ArithUnit.host x k) 0#32))
    (IntOp.subi (IntOp.divsi ArithUnit.host x k) 1#32) (IntOp.divsi ArithUnit.host x k)
theorem fl16 : ∀ x : Fin 128, fl 16#32 (BitVec.ofNat 32 x.val) = BitVec.ofNat 32 (x.val / 16) := by decide +kernel
theorem fl64 : ∀ x : Fin 512, fl 64#32 (BitVec.ofNat 32 x.val) = BitVec.ofNat 32 (x.val / 64) := by decide +kernel
theorem eq_of {a b : ℕ} (ha : a < 8) (hb : b < 8) (h : IntOp.cmpi CmpIPredicate.eq (BitVec.ofNat 32 a) (BitVec.ofNat 32 b) = 1#1) : a = b := by
  have e := (by decide +kernel : ∀ x y : Fin 8, IntOp.cmpi CmpIPredicate.eq (BitVec.ofNat 32 x.val) (BitVec.ofNat 32 y.val) = 1#1 → x = y) ⟨a, ha⟩ ⟨b, hb⟩ h
  exact congrArg Fin.val e

variable (a0 a1 a2 a3 a4 a5 a6 a7 a8 a9 a10 a11)
theorem mask1_at (j : Fin 8) (l : Fin 128) (s : Fin 512) : (Cert.On_grouped.fn (F := Ideal) a0 a1 a2 a3 a4 a5 a6 a7 a8 a9 a10 a11).2.1 (ix3 j l s)
    = IntOp.cmpi CmpIPredicate.eq (fl 16#32 (BitVec.ofNat 32 l.val)) (fl 64#32 (BitVec.ofNat 32 s.val)) := by
  pointwise! [Cert.On_grouped.fn, Cert.On_grouped.fn_part1, Cert.On_grouped.fn_floor_divide, Cert.On_grouped.fn_where]
theorem mask2_at (j : Fin 8) (l : Fin 128) (s : Fin 512) : (Cert.On_grouped.fn (F := Ideal) a0 a1 a2 a3 a4 a5 a6 a7 a8 a9 a10 a11).2.2.1 (ix3 j l s)
    = IntOp.cmpi CmpIPredicate.eq (fl 16#32 (BitVec.ofNat 32 l.val)) (fl 64#32 (BitVec.ofNat 32 s.val)) := by
  pointwise! [Cert.On_grouped.fn, Cert.On_grouped.fn_part1, Cert.On_grouped.fn_floor_divide, Cert.On_grouped.fn_where]
theorem mask3_at (j : Fin 8) (s : Fin 512) (l : Fin 128) : (Cert.On_grouped.fn (F := Ideal) a0 a1 a2 a3 a4 a5 a6 a7 a8 a9 a10 a11).2.2.2.1 (ix3 j s l)
    = IntOp.cmpi CmpIPredicate.eq (fl 64#32 (BitVec.ofNat 32 s.val)) (fl 16#32 (BitVec.ofNat 32 l.val)) := by
  pointwise! [Cert.On_grouped.fn, Cert.On_grouped.fn_part1, Cert.On_grouped.fn_floor_divide_0, Cert.On_grouped.fn_where_1]
theorem mask4_at (j : Fin 8) (s : Fin 512) (l : Fin 128) : (Cert.On_grouped.fn (F := Ideal) a0 a1 a2 a3 a4 a5 a6 a7 a8 a9 a10 a11).2.2.2.2.1 (ix3 j s l)
    = IntOp.cmpi CmpIPredicate.eq (fl 64#32 (BitVec.ofNat 32 s.val)) (fl 16#32 (BitVec.ofNat 32 l.val)) := by
  pointwise! [Cert.On_grouped.fn, Cert.On_grouped.fn_part1, Cert.On_grouped.fn_floor_divide_0, Cert.On_grouped.fn_where_1]
theorem same_of {l : Fin 128} {s : Fin 512} (h : IntOp.cmpi CmpIPredicate.eq (fl 16#32 (BitVec.ofNat 32 l.val)) (fl 64#32 (BitVec.ofNat 32 s.val)) = 1#1) : l.val / 16 = s.val / 64 := by
  rw [fl16, fl64] at h
  exact eq_of (by omega) (by omega) h
theorem same_of' {l : Fin 128} {s : Fin 512} (h : IntOp.cmpi CmpIPredicate.eq (fl 64#32 (BitVec.ofNat 32 s.val)) (fl 16#32 (BitVec.ofNat 32 l.val)) = 1#1) : l.val / 16 = s.val / 64 := by
  rw [fl16, fl64] at h
  exact (eq_of (by omega) (by omega) h).symm
end Cert.S5
end
-- ==== Proof.Pre.lean ====
/- The precondition: every argument is a real number, so the arguments are real arrays. -/
module
public import proofs.«01_k».proof.Proof.Spec
public import proofs.«01_k».proof.Pre_finite
public import Idealize.ShloMosaic.Lib.ReduceAll
@[expose] public section
set_option maxRecDepth 16384
noncomputable section
open Idealize.ShloMosaic Idealize.ShloMosaic.TcCoe
namespace Cert.S5
open Cert.Pre_finite

/-- The side conditions of the precondition's operations. -/
instance preFacts : Cert.Pre_finite.Facts where
  bitsLt_bf16_f32 := by decide
  bcast_S_S4096x1024 := by decide
  reducesTo_S4096x1024_S_d0_1 := by decide
  h_S_ := by decide
  bcast_S_S4096x4096 := by decide
  reducesTo_S4096x4096_S_d0_1 := by decide
  bcast_S_S64x64 := by decide
  reducesTo_S64x64_S_d0_1 := by decide
  bcast_S_S64x64x16 := by decide
  reducesTo_S64x64x16_S_d0_1_2 := by decide
  bcast_S_S64x16x64 := by decide
  reducesTo_S64x16x64_S_d0_1_2 := by decide
  bcast_S_S1024 := by decide
  reducesTo_S1024_S_d0 := by decide
  bcast_S_S1 := by decide
  concatenates_S1_S1_S1_S1_S1_S1_S1_S1_S1_S1_S1_S1_S12_d0 := by decide
  reducesTo_S12_S_d0 := by decide

theorem top_val : Ideal.ofBits .f32 0x7F800000#32 = (⊤ : EReal) := by simp [Ideal.ofBits, Ideal.ieee]
theorem bot_val : Ideal.ofBits .f32 0xFF800000#32 = (⊥ : EReal) := by simp [Ideal.ofBits, Ideal.ieee]
theorem real_of (x : EReal) (h : IntOp.andi (Ideal.cmp .olt x (Ideal.ofBits .f32 0x7F800000#32)) (Ideal.cmp .ogt x (Ideal.ofBits .f32 0xFF800000#32)) = 1#1) : ((x.toReal : ℝ) : EReal) = x := by
  rw [top_val, bot_val] at h
  refine EReal.coe_toReal ?_ ?_
  · rintro rfl; revert h; simp [Ideal.cmp, IntOp.andi]
  · rintro rfl; revert h; simp [Ideal.cmp, IntOp.andi]
variable (x0 x1 x2 x3 x4 x5 x6 x7 x8 x9 x10 x11 : IVec S_ 1)
theorem cat0 : (concatenate S12 0 [⟨S1, broadcastInDim S1 ![] Facts.bcast_S_S1 x0⟩, ⟨S1, broadcastInDim S1 ![] Facts.bcast_S_S1 x1⟩, ⟨S1, broadcastInDim S1 ![] Facts.bcast_S_S1 x2⟩, ⟨S1, broadcastInDim S1 ![] Facts.bcast_S_S1 x3⟩, ⟨S1, broadcastInDim S1 ![] Facts.bcast_S_S1 x4⟩, ⟨S1, broadcastInDim S1 ![] Facts.bcast_S_S1 x5⟩, ⟨S1, broadcastInDim S1 ![] Facts.bcast_S_S1 x6⟩, ⟨S1, broadcastInDim S1 ![] Facts.bcast_S_S1 x7⟩, ⟨S1, broadcastInDim S1 ![] Facts.bcast_S_S1 x8⟩, ⟨S1, broadcastInDim S1 ![] Facts.bcast_S_S1 x9⟩, ⟨S1, broadcastInDim S1 ![] Facts.bcast_S_S1 x10⟩, ⟨S1, broadcastInDim S1 ![] Facts.bcast_S_S1 x11⟩] Facts.concatenates_S1_S1_S1_S1_S1_S1_S1_S1_S1_S1_S1_S1_S12_d0) (ix1 0) = x0 ix0 := by pointwise! []
theorem cat1 : (concatenate S12 0 [⟨S1, broadcastInDim S1 ![] Facts.bcast_S_S1 x0⟩, ⟨S1, broadcastInDim S1 ![] Facts.bcast_S_S1 x1⟩, ⟨S1, broadcastInDim S1 ![] Facts.bcast_S_S1 x2⟩, ⟨S1, broadcastInDim S1 ![] Facts.bcast_S_S1 x3⟩, ⟨S1, broadcastInDim S1 ![] Facts.bcast_S_S1 x4⟩, ⟨S1, broadcastInDim S1 ![] Facts.bcast_S_S1 x5⟩, ⟨S1, broadcastInDim S1 ![] Facts.bcast_S_S1 x6⟩, ⟨S1, broadcastInDim S1 ![] Facts.bcast_S_S1 x7⟩, ⟨S1, broadcastInDim S1 ![] Facts.bcast_S_S1 x8⟩, ⟨S1, broadcastInDim S1 ![] Facts.bcast_S_S1 x9⟩, ⟨S1, broadcastInDim S1 ![] Facts.bcast_S_S1 x10⟩, ⟨S1, broadcastInDim S1 ![] Facts.bcast_S_S1 x11⟩] Facts.concatenates_S1_S1_S1_S1_S1_S1_S1_S1_S1_S1_S1_S1_S12_d0) (ix1 1) = x1 ix0 := by pointwise! []
theorem cat2 : (concatenate S12 0 [⟨S1, broadcastInDim S1 ![] Facts.bcast_S_S1 x0⟩, ⟨S1, broadcastInDim S1 ![] Facts.bcast_S_S1 x1⟩, ⟨S1, broadcastInDim S1 ![] Facts.bcast_S_S1 x2⟩, ⟨S1, broadcastInDim S1 ![] Facts.bcast_S_S1 x3⟩, ⟨S1, broadcastInDim S1 ![] Facts.bcast_S_S1 x4⟩, ⟨S1, broadcastInDim S1 ![] Facts.bcast_S_S1 x5⟩, ⟨S1, broadcastInDim S1 ![] Facts.bcast_S_S1 x6⟩, ⟨S1, broadcastInDim S1 ![] Facts.bcast_S_S1 x7⟩, ⟨S1, broadcastInDim S1 ![] Facts.bcast_S_S1 x8⟩, ⟨S1, broadcastInDim S1 ![] Facts.bcast_S_S1 x9⟩, ⟨S1, broadcastInDim S1 ![] Facts.bcast_S_S1 x10⟩, ⟨S1, broadcastInDim S1 ![] Facts.bcast_S_S1 x11⟩] Facts.concatenates_S1_S1_S1_S1_S1_S1_S1_S1_S1_S1_S1_S1_S12_d0) (ix1 2) = x2 ix0 := by pointwise! []
theorem cat3 : (concatenate S12 0 [⟨S1, broadcastInDim S1 ![] Facts.bcast_S_S1 x0⟩, ⟨S1, broadcastInDim S1 ![] Facts.bcast_S_S1 x1⟩, ⟨S1, broadcastInDim S1 ![] Facts.bcast_S_S1 x2⟩, ⟨S1, broadcastInDim S1 ![] Facts.bcast_S_S1 x3⟩, ⟨S1, broadcastInDim S1 ![] Facts.bcast_S_S1 x4⟩, ⟨S1, broadcastInDim S1 ![] Facts.bcast_S_S1 x5⟩, ⟨S1, broadcastInDim S1 ![] Facts.bcast_S_S1 x6⟩, ⟨S1, broadcastInDim S1 ![] Facts.bcast_S_S1 x7⟩, ⟨S1, broadcastInDim S1 ![] Facts.bcast_S_S1 x8⟩, ⟨S1, broadcastInDim S1 ![] Facts.bcast_S_S1 x9⟩, ⟨S1, broadcastInDim S1 ![] Facts.bcast_S_S1 x10⟩, ⟨S1, broadcastInDim S1 ![] Facts.bcast_S_S1 x11⟩] Facts.concatenates_S1_S1_S1_S1_S1_S1_S1_S1_S1_S1_S1_S1_S12_d0) (ix1 3) = x3 ix0 := by pointwise! []
theorem cat4 : (concatenate S12 0 [⟨S1, broadcastInDim S1 ![] Facts.bcast_S_S1 x0⟩, ⟨S1, broadcastInDim S1 ![] Facts.bcast_S_S1 x1⟩, ⟨S1, broadcastInDim S1 ![] Facts.bcast_S_S1 x2⟩, ⟨S1, broadcastInDim S1 ![] Facts.bcast_S_S1 x3⟩, ⟨S1, broadcastInDim S1 ![] Facts.bcast_S_S1 x4⟩, ⟨S1, broadcastInDim S1 ![] Facts.bcast_S_S1 x5⟩, ⟨S1, broadcastInDim S1 ![] Facts.bcast_S_S1 x6⟩, ⟨S1, broadcastInDim S1 ![] Facts.bcast_S_S1 x7⟩, ⟨S1, broadcastInDim S1 ![] Facts.bcast_S_S1 x8⟩, ⟨S1, broadcastInDim S1 ![] Facts.bcast_S_S1 x9⟩, ⟨S1, broadcastInDim S1 ![] Facts.bcast_S_S1 x10⟩, ⟨S1, broadcastInDim S1 ![] Facts.bcast_S_S1 x11⟩] Facts.concatenates_S1_S1_S1_S1_S1_S1_S1_S1_S1_S1_S1_S1_S12_d0) (ix1 4) = x4 ix0 := by pointwise! []
theorem cat5 : (concatenate S12 0 [⟨S1, broadcastInDim S1 ![] Facts.bcast_S_S1 x0⟩, ⟨S1, broadcastInDim S1 ![] Facts.bcast_S_S1 x1⟩, ⟨S1, broadcastInDim S1 ![] Facts.bcast_S_S1 x2⟩, ⟨S1, broadcastInDim S1 ![] Facts.bcast_S_S1 x3⟩, ⟨S1, broadcastInDim S1 ![] Facts.bcast_S_S1 x4⟩, ⟨S1, broadcastInDim S1 ![] Facts.bcast_S_S1 x5⟩, ⟨S1, broadcastInDim S1 ![] Facts.bcast_S_S1 x6⟩, ⟨S1, broadcastInDim S1 ![] Facts.bcast_S_S1 x7⟩, ⟨S1, broadcastInDim S1 ![] Facts.bcast_S_S1 x8⟩, ⟨S1, broadcastInDim S1 ![] Facts.bcast_S_S1 x9⟩, ⟨S1, broadcastInDim S1 ![] Facts.bcast_S_S1 x10⟩, ⟨S1, broadcastInDim S1 ![] Facts.bcast_S_S1 x11⟩] Facts.concatenates_S1_S1_S1_S1_S1_S1_S1_S1_S1_S1_S1_S1_S12_d0) (ix1 5) = x5 ix0 := by pointwise! []
theorem cat6 : (concatenate S12 0 [⟨S1, broadcastInDim S1 ![] Facts.bcast_S_S1 x0⟩, ⟨S1, broadcastInDim S1 ![] Facts.bcast_S_S1 x1⟩, ⟨S1, broadcastInDim S1 ![] Facts.bcast_S_S1 x2⟩, ⟨S1, broadcastInDim S1 ![] Facts.bcast_S_S1 x3⟩, ⟨S1, broadcastInDim S1 ![] Facts.bcast_S_S1 x4⟩, ⟨S1, broadcastInDim S1 ![] Facts.bcast_S_S1 x5⟩, ⟨S1, broadcastInDim S1 ![] Facts.bcast_S_S1 x6⟩, ⟨S1, broadcastInDim S1 ![] Facts.bcast_S_S1 x7⟩, ⟨S1, broadcastInDim S1 ![] Facts.bcast_S_S1 x8⟩, ⟨S1, broadcastInDim S1 ![] Facts.bcast_S_S1 x9⟩, ⟨S1, broadcastInDim S1 ![] Facts.bcast_S_S1 x10⟩, ⟨S1, broadcastInDim S1 ![] Facts.bcast_S_S1 x11⟩] Facts.concatenates_S1_S1_S1_S1_S1_S1_S1_S1_S1_S1_S1_S1_S12_d0) (ix1 6) = x6 ix0 := by pointwise! []
theorem cat7 : (concatenate S12 0 [⟨S1, broadcastInDim S1 ![] Facts.bcast_S_S1 x0⟩, ⟨S1, broadcastInDim S1 ![] Facts.bcast_S_S1 x1⟩, ⟨S1, broadcastInDim S1 ![] Facts.bcast_S_S1 x2⟩, ⟨S1, broadcastInDim S1 ![] Facts.bcast_S_S1 x3⟩, ⟨S1, broadcastInDim S1 ![] Facts.bcast_S_S1 x4⟩, ⟨S1, broadcastInDim S1 ![] Facts.bcast_S_S1 x5⟩, ⟨S1, broadcastInDim S1 ![] Facts.bcast_S_S1 x6⟩, ⟨S1, broadcastInDim S1 ![] Facts.bcast_S_S1 x7⟩, ⟨S1, broadcastInDim S1 ![] Facts.bcast_S_S1 x8⟩, ⟨S1, broadcastInDim S1 ![] Facts.bcast_S_S1 x9⟩, ⟨S1, broadcastInDim S1 ![] Facts.bcast_S_S1 x10⟩, ⟨S1, broadcastInDim S1 ![] Facts.bcast_S_S1 x11⟩] Facts.concatenates_S1_S1_S1_S1_S1_S1_S1_S1_S1_S1_S1_S1_S12_d0) (ix1 7) = x7 ix0 := by pointwise! []
theorem cat8 : (concatenate S12 0 [⟨S1, broadcastInDim S1 ![] Facts.bcast_S_S1 x0⟩, ⟨S1, broadcastInDim S1 ![] Facts.bcast_S_S1 x1⟩, ⟨S1, broadcastInDim S1 ![] Facts.bcast_S_S1 x2⟩, ⟨S1, broadcastInDim S1 ![] Facts.bcast_S_S1 x3⟩, ⟨S1, broadcastInDim S1 ![] Facts.bcast_S_S1 x4⟩, ⟨S1, broadcastInDim S1 ![] Facts.bcast_S_S1 x5⟩, ⟨S1, broadcastInDim S1 ![] Facts.bcast_S_S1 x6⟩, ⟨S1, broadcastInDim S1 ![] Facts.bcast_S_S1 x7⟩, ⟨S1, broadcastInDim S1 ![] Facts.bcast_S_S1 x8⟩, ⟨S1, broadcastInDim S1 ![] Facts.bcast_S_S1 x9⟩, ⟨S1, broadcastInDim S1 ![] Facts.bcast_S_S1 x10⟩, ⟨S1, broadcastInDim S1 ![] Facts.bcast_S_S1 x11⟩] Facts.concatenates_S1_S1_S1_S1_S1_S1_S1_S1_S1_S1_S1_S1_S12_d0) (ix1 8) = x8 ix0 := by pointwise! []
theorem cat9 : (concatenate S12 0 [⟨S1, broadcastInDim S1 ![] Facts.bcast_S_S1 x0⟩, ⟨S1, broadcastInDim S1 ![] Facts.bcast_S_S1 x1⟩, ⟨S1, broadcastInDim S1 ![] Facts.bcast_S_S1 x2⟩, ⟨S1, broadcastInDim S1 ![] Facts.bcast_S_S1 x3⟩, ⟨S1, broadcastInDim S1 ![] Facts.bcast_S_S1 x4⟩, ⟨S1, broadcastInDim S1 ![] Facts.bcast_S_S1 x5⟩, ⟨S1, broadcastInDim S1 ![] Facts.bcast_S_S1 x6⟩, ⟨S1, broadcastInDim S1 ![] Facts.bcast_S_S1 x7⟩, ⟨S1, broadcastInDim S1 ![] Facts.bcast_S_S1 x8⟩, ⟨S1, broadcastInDim S1 ![] Facts.bcast_S_S1 x9⟩, ⟨S1, broadcastInDim S1 ![] Facts.bcast_S_S1 x10⟩, ⟨S1, broadcastInDim S1 ![] Facts.bcast_S_S1 x11⟩] Facts.concatenates_S1_S1_S1_S1_S1_S1_S1_S1_S1_S1_S1_S1_S12_d0) (ix1 9) = x9 ix0 := by pointwise! []
theorem cat10 : (concatenate S12 0 [⟨S1, broadcastInDim S1 ![] Facts.bcast_S_S1 x0⟩, ⟨S1, broadcastInDim S1 ![] Facts.bcast_S_S1 x1⟩, ⟨S1, broadcastInDim S1 ![] Facts.bcast_S_S1 x2⟩, ⟨S1, broadcastInDim S1 ![] Facts.bcast_S_S1 x3⟩, ⟨S1, broadcastInDim S1 ![] Facts.bcast_S_S1 x4⟩, ⟨S1, broadcastInDim S1 ![] Facts.bcast_S_S1 x5⟩, ⟨S1, broadcastInDim S1 ![] Facts.bcast_S_S1 x6⟩, ⟨S1, broadcastInDim S1 ![] Facts.bcast_S_S1 x7⟩, ⟨S1, broadcastInDim S1 ![] Facts.bcast_S_S1 x8⟩, ⟨S1, broadcastInDim S1 ![] Facts.bcast_S_S1 x9⟩, ⟨S1, broadcastInDim S1 ![] Facts.bcast_S_S1 x10⟩, ⟨S1, broadcastInDim S1 ![] Facts.bcast_S_S1 x11⟩] Facts.concatenates_S1_S1_S1_S1_S1_S1_S1_S1_S1_S1_S1_S1_S12_d0) (ix1 10) = x10 ix0 := by pointwise! []
theorem cat11 : (concatenate S12 0 [⟨S1, broadcastInDim S1 ![] Facts.bcast_S_S1 x0⟩, ⟨S1, broadcastInDim S1 ![] Facts.bcast_S_S1 x1⟩, ⟨S1, broadcastInDim S1 ![] Facts.bcast_S_S1 x2⟩, ⟨S1, broadcastInDim S1 ![] Facts.bcast_S_S1 x3⟩, ⟨S1, broadcastInDim S1 ![] Facts.bcast_S_S1 x4⟩, ⟨S1, broadcastInDim S1 ![] Facts.bcast_S_S1 x5⟩, ⟨S1, broadcastInDim S1 ![] Facts.bcast_S_S1 x6⟩, ⟨S1, broadcastInDim S1 ![] Facts.bcast_S_S1 x7⟩, ⟨S1, broadcastInDim S1 ![] Facts.bcast_S_S1 x8⟩, ⟨S1, broadcastInDim S1 ![] Facts.bcast_S_S1 x9⟩, ⟨S1, broadcastInDim S1 ![] Facts.bcast_S_S1 x10⟩, ⟨S1, broadcastInDim S1 ![] Facts.bcast_S_S1 x11⟩] Facts.concatenates_S1_S1_S1_S1_S1_S1_S1_S1_S1_S1_S1_S1_S12_d0) (ix1 11) = x11 ix0 := by pointwise! []
instance : Subsingleton S_.Idx := ⟨fun a b => funext fun k => k.elim0⟩
theorem real_S4096x1024 (x : FVec Ideal S4096x1024 .f32) (h : (Host.reduce IntOp.andi (andi (cmpf .olt x (broadcastInDim S4096x1024 ![] Facts.bcast_S_S4096x1024 (constant S_ .f32 0x7F800000#32))) (cmpf .ogt x (broadcastInDim S4096x1024 ![] Facts.bcast_S_S4096x1024 (constant S_ .f32 0xFF800000#32)))) (constantI S_ 1 1#1) Facts.reducesTo_S4096x1024_S_d0_1 Facts.h_S_ : IVec S_ 1) ix0 = 1#1) (i : S4096x1024.Idx) :
    x i = (((x i).toReal : ℝ) : EReal) :=
  (real_of (x i) (Host.reduce_andi_all (t := S_) _ _ _ _ _ h i)).symm
theorem real_S4096x4096 (x : FVec Ideal S4096x4096 .f32) (h : (Host.reduce IntOp.andi (andi (cmpf .olt x (broadcastInDim S4096x4096 ![] Facts.bcast_S_S4096x4096 (constant S_ .f32 0x7F800000#32))) (cmpf .ogt x (broadcastInDim S4096x4096 ![] Facts.bcast_S_S4096x4096 (constant S_ .f32 0xFF800000#32)))) (constantI S_ 1 1#1) Facts.reducesTo_S4096x4096_S_d0_1 Facts.h_S_ : IVec S_ 1) ix0 = 1#1) (i : S4096x4096.Idx) :
    x i = (((x i).toReal : ℝ) : EReal) :=
  (real_of (x i) (Host.reduce_andi_all (t := S_) _ _ _ _ _ h i)).symm
theorem real_S64x64 (x : FVec Ideal S64x64 .f32) (h : (Host.reduce IntOp.andi (andi (cmpf .olt x (broadcastInDim S64x64 ![] Facts.bcast_S_S64x64 (constant S_ .f32 0x7F800000#32))) (cmpf .ogt x (broadcastInDim S64x64 ![] Facts.bcast_S_S64x64 (constant S_ .f32 0xFF800000#32)))) (constantI S_ 1 1#1) Facts.reducesTo_S64x64_S_d0_1 Facts.h_S_ : IVec S_ 1) ix0 = 1#1) (i : S64x64.Idx) :
    x i = (((x i).toReal : ℝ) : EReal) :=
  (real_of (x i) (Host.reduce_andi_all (t := S_) _ _ _ _ _ h i)).symm
theorem real_S64x64x16 (x : FVec Ideal S64x64x16 .f32) (h : (Host.reduce IntOp.andi (andi (cmpf .olt x (broadcastInDim S64x64x16 ![] Facts.bcast_S_S64x64x16 (constant S_ .f32 0x7F800000#32))) (cmpf .ogt x (broadcastInDim S64x64x16 ![] Facts.bcast_S_S64x64x16 (constant S_ .f32 0xFF800000#32)))) (constantI S_ 1 1#1) Facts.reducesTo_S64x64x16_S_d0_1_2 Facts.h_S_ : IVec S_ 1) ix0 = 1#1) (i : S64x64x16.Idx) :
    x i = (((x i).toReal : ℝ) : EReal) :=
  (real_of (x i) (Host.reduce_andi_all (t := S_) _ _ _ _ _ h i)).symm
theorem real_S64x16x64 (x : FVec Ideal S64x16x64 .f32) (h : (Host.reduce IntOp.andi (andi (cmpf .olt x (broadcastInDim S64x16x64 ![] Facts.bcast_S_S64x16x64 (constant S_ .f32 0x7F800000#32))) (cmpf .ogt x (broadcastInDim S64x16x64 ![] Facts.bcast_S_S64x16x64 (constant S_ .f32 0xFF800000#32)))) (constantI S_ 1 1#1) Facts.reducesTo_S64x16x64_S_d0_1_2 Facts.h_S_ : IVec S_ 1) ix0 = 1#1) (i : S64x16x64.Idx) :
    x i = (((x i).toReal : ℝ) : EReal) :=
  (real_of (x i) (Host.reduce_andi_all (t := S_) _ _ _ _ _ h i)).symm
theorem real_S1024 (x : FVec Ideal S1024 .f32) (h : (Host.reduce IntOp.andi (andi (cmpf .olt x (broadcastInDim S1024 ![] Facts.bcast_S_S1024 (constant S_ .f32 0x7F800000#32))) (cmpf .ogt x (broadcastInDim S1024 ![] Facts.bcast_S_S1024 (constant S_ .f32 0xFF800000#32)))) (constantI S_ 1 1#1) Facts.reducesTo_S1024_S_d0 Facts.h_S_ : IVec S_ 1) ix0 = 1#1) (i : S1024.Idx) :
    x i = (((x i).toReal : ℝ) : EReal) :=
  (real_of (x i) (Host.reduce_andi_all (t := S_) _ _ _ _ _ h i)).symm
/-- The real arrays of twelve arrays. -/
def dataOf (a0 : FVec Ideal S4096x1024 .bf16) (a1 : FVec Ideal S4096x1024 .f32) (a2 : FVec Ideal S4096x1024 .bf16) (a3 : FVec Ideal S4096x4096 .f32) (a4 : FVec Ideal S4096x4096 .f32) (a5 : FVec Ideal S64x64 .f32) (a6 : FVec Ideal S64x64 .f32) (a7 : FVec Ideal S64x64x16 .f32) (a8 : FVec Ideal S64x64x16 .f32) (a9 : FVec Ideal S64x16x64 .f32) (a10 : FVec Ideal S64x16x64 .f32) (a11 : FVec Ideal S1024 .f32) : Data where
  dz i j := if h : i < 4096 ∧ j < 1024 then (a0 (ix2 ⟨i, h.1⟩ ⟨j, h.2⟩)).toReal else 0
  y i j := if h : i < 4096 ∧ j < 1024 then (a1 (ix2 ⟨i, h.1⟩ ⟨j, h.2⟩)).toReal else 0
  u i j := if h : i < 4096 ∧ j < 1024 then (a2 (ix2 ⟨i, h.1⟩ ⟨j, h.2⟩)).toReal else 0
  sr i j := if h : i < 4096 ∧ j < 4096 then (a3 (ix2 ⟨i, h.1⟩ ⟨j, h.2⟩)).toReal else 0
  si i j := if h : i < 4096 ∧ j < 4096 then (a4 (ix2 ⟨i, h.1⟩ ⟨j, h.2⟩)).toReal else 0
  ar i j := if h : i < 64 ∧ j < 64 then (a5 (ix2 ⟨i, h.1⟩ ⟨j, h.2⟩)).toReal else 0
  ai i j := if h : i < 64 ∧ j < 64 then (a6 (ix2 ⟨i, h.1⟩ ⟨j, h.2⟩)).toReal else 0
  br i j k := if h : i < 64 ∧ j < 64 ∧ k < 16 then (a7 (ix3 ⟨i, h.1⟩ ⟨j, h.2.1⟩ ⟨k, h.2.2⟩)).toReal else 0
  bi i j k := if h : i < 64 ∧ j < 64 ∧ k < 16 then (a8 (ix3 ⟨i, h.1⟩ ⟨j, h.2.1⟩ ⟨k, h.2.2⟩)).toReal else 0
  cr i j k := if h : i < 64 ∧ j < 16 ∧ k < 64 then (a9 (ix3 ⟨i, h.1⟩ ⟨j, h.2.1⟩ ⟨k, h.2.2⟩)).toReal else 0
  ci i j k := if h : i < 64 ∧ j < 16 ∧ k < 64 then (a10 (ix3 ⟨i, h.1⟩ ⟨j, h.2.1⟩ ⟨k, h.2.2⟩)).toReal else 0
  d i := if h : i < 1024 then (a11 (ix1 ⟨i, h⟩)).toReal else 0
theorem fits_of (a0 : FVec Ideal S4096x1024 .bf16) (a1 : FVec Ideal S4096x1024 .f32) (a2 : FVec Ideal S4096x1024 .bf16) (a3 : FVec Ideal S4096x4096 .f32) (a4 : FVec Ideal S4096x4096 .f32) (a5 : FVec Ideal S64x64 .f32) (a6 : FVec Ideal S64x64 .f32) (a7 : FVec Ideal S64x64x16 .f32) (a8 : FVec Ideal S64x64x16 .f32) (a9 : FVec Ideal S64x16x64 .f32) (a10 : FVec Ideal S64x16x64 .f32) (a11 : FVec Ideal S1024 .f32) (h : Cert.Pre_finite.fn (F := Ideal) a0 a1 a2 a3 a4 a5 a6 a7 a8 a9 a10 a11 ix0 = 1#1) : Fits (dataOf a0 a1 a2 a3 a4 a5 a6 a7 a8 a9 a10 a11) a0 a1 a2 a3 a4 a5 a6 a7 a8 a9 a10 a11 := by
  dsimp only [Cert.Pre_finite.fn, Cert.Pre_finite.fn_part1, Cert.Pre_finite.fn_part2, Cert.Pre_finite.fn_part3, Cert.Pre_finite.fn_part4, Cert.Pre_finite.fn_part5] at h
  have e := Host.reduce_andi_all (t := S_) _ _ _ _ _ h
  have e0 := real_S4096x1024 a0 ((cat0 _ _ _ _ _ _ _ _ _ _ _ _).symm.trans (e (ix1 0)))
  have e1 := real_S4096x1024 a1 ((cat1 _ _ _ _ _ _ _ _ _ _ _ _).symm.trans (e (ix1 1)))
  have e2 := real_S4096x1024 a2 ((cat2 _ _ _ _ _ _ _ _ _ _ _ _).symm.trans (e (ix1 2)))
  have e3 := real_S4096x4096 a3 ((cat3 _ _ _ _ _ _ _ _ _ _ _ _).symm.trans (e (ix1 3)))
  have e4 := real_S4096x4096 a4 ((cat4 _ _ _ _ _ _ _ _ _ _ _ _).symm.trans (e (ix1 4)))
  have e5 := real_S64x64 a5 ((cat5 _ _ _ _ _ _ _ _ _ _ _ _).symm.trans (e (ix1 5)))
  have e6 := real_S64x64 a6 ((cat6 _ _ _ _ _ _ _ _ _ _ _ _).symm.trans (e (ix1 6)))
  have e7 := real_S64x64x16 a7 ((cat7 _ _ _ _ _ _ _ _ _ _ _ _).symm.trans (e (ix1 7)))
  have e8 := real_S64x64x16 a8 ((cat8 _ _ _ _ _ _ _ _ _ _ _ _).symm.trans (e (ix1 8)))
  have e9 := real_S64x16x64 a9 ((cat9 _ _ _ _ _ _ _ _ _ _ _ _).symm.trans (e (ix1 9)))
  have e10 := real_S64x16x64 a10 ((cat10 _ _ _ _ _ _ _ _ _ _ _ _).symm.trans (e (ix1 10)))
  have e11 := real_S1024 a11 ((cat11 _ _ _ _ _ _ _ _ _ _ _ _).symm.trans (e (ix1 11)))
  refine ⟨?_, ?_, ?_, ?_, ?_, ?_, ?_, ?_, ?_, ?_, ?_, ?_⟩
  · intro i j; refine (e0 _).trans ?_; dsimp only [dataOf]; rw [dif_pos (show i.val < 4096 ∧ j.val < 1024 from ⟨i.isLt, j.isLt⟩)]
  · intro i j; refine (e1 _).trans ?_; dsimp only [dataOf]; rw [dif_pos (show i.val < 4096 ∧ j.val < 1024 from ⟨i.isLt, j.isLt⟩)]
  · intro i j; refine (e2 _).trans ?_; dsimp only [dataOf]; rw [dif_pos (show i.val < 4096 ∧ j.val < 1024 from ⟨i.isLt, j.isLt⟩)]
  · intro i j; refine (e3 _).trans ?_; dsimp only [dataOf]; rw [dif_pos (show i.val < 4096 ∧ j.val < 4096 from ⟨i.isLt, j.isLt⟩)]
  · intro i j; refine (e4 _).trans ?_; dsimp only [dataOf]; rw [dif_pos (show i.val < 4096 ∧ j.val < 4096 from ⟨i.isLt, j.isLt⟩)]
  · intro i j; refine (e5 _).trans ?_; dsimp only [dataOf]; rw [dif_pos (show i.val < 64 ∧ j.val < 64 from ⟨i.isLt, j.isLt⟩)]
  · intro i j; refine (e6 _).trans ?_; dsimp only [dataOf]; rw [dif_pos (show i.val < 64 ∧ j.val < 64 from ⟨i.isLt, j.isLt⟩)]
  · intro i j k; refine (e7 _).trans ?_; dsimp only [dataOf]; rw [dif_pos (show i.val < 64 ∧ j.val < 64 ∧ k.val < 16 from ⟨i.isLt, j.isLt, k.isLt⟩)]
  · intro i j k; refine (e8 _).trans ?_; dsimp only [dataOf]; rw [dif_pos (show i.val < 64 ∧ j.val < 64 ∧ k.val < 16 from ⟨i.isLt, j.isLt, k.isLt⟩)]
  · intro i j k; refine (e9 _).trans ?_; dsimp only [dataOf]; rw [dif_pos (show i.val < 64 ∧ j.val < 16 ∧ k.val < 64 from ⟨i.isLt, j.isLt, k.isLt⟩)]
  · intro i j k; refine (e10 _).trans ?_; dsimp only [dataOf]; rw [dif_pos (show i.val < 64 ∧ j.val < 16 ∧ k.val < 64 from ⟨i.isLt, j.isLt, k.isLt⟩)]
  · intro i; refine (e11 _).trans ?_; dsimp only [dataOf]; rw [dif_pos (show i.val < 1024 from i.isLt)]
end Cert.S5
end
-- ==== Proof.lean ====
/- The claim: the programs' frames, the two named constants, and the equality of the kernel's and the reference's
   results over the reals. The results of both runs are those of `Cert.S5` (Proof/Runs.lean). -/
module

public import proofs.«01_k».proof.Proof.Gen.DownDw.Frame
public import proofs.«01_k».proof.Proof.Gen.UpDw.Frame
public import proofs.«01_k».proof.Proof.Gen.DownDx.Frame
public import proofs.«01_k».proof.Proof.Gen.UpDx.Frame
public import proofs.«01_k».proof.Proof.Gen.Up.Frame
public import proofs.«01_k».proof.Proof.Gen.Down.Frame
public import proofs.«01_k».proof.Proof.Gen.Proj.Frame
public import proofs.«01_k».proof.Proof.Gen.ProjDx.Frame
public import proofs.«01_k».proof.Proof.Gen.ProjDw.Frame
public import proofs.«01_k».proof.Proof.Gen.ConvIn.Frame
public import proofs.«01_k».proof.Proof.Gen.ConvInDw.Frame
public import proofs.«01_k».proof.Proof.Gen.Query.Frame
public import proofs.«01_k».proof.Proof.Gen.Glu.Frame
public import proofs.«01_k».proof.Proof.Gen.GluDw.Frame
public import proofs.«01_k».proof.Proof.Gen.GluDx.Frame
public import proofs.«01_k».proof.Proof.Gen.ConvInDx.Frame
public import proofs.«01_k».proof.Proof.Gen.QueryDx.Frame
public import proofs.«01_k».proof.Proof.Gen.Kv.Frame
public import proofs.«01_k».proof.Proof.Gen.KvDx.Frame
public import proofs.«01_k».proof.Proof.Gen.KvDw.Frame
public import proofs.«01_k».proof.Proof.Gen.Pre_finite4
public import proofs.«01_k».proof.Proof.DownDwVal
public import proofs.«01_k».proof.Proof.UpDwVal
public import proofs.«01_k».proof.Proof.DownDxVal
public import proofs.«01_k».proof.Proof.UpDxVal
public import proofs.«01_k».proof.Proof.UpVal
public import proofs.«01_k».proof.Proof.DownVal
public import proofs.«01_k».proof.Proof.ProjVal
public import proofs.«01_k».proof.Proof.ProjDxVal
public import proofs.«01_k».proof.Proof.ProjDwVal
public import proofs.«01_k».proof.Proof.ConvInVal
public import proofs.«01_k».proof.Proof.ConvInDwVal
public import proofs.«01_k».proof.Proof.QueryVal
public import proofs.«01_k».proof.Proof.GluVal
public import proofs.«01_k».proof.Proof.GluDwVal
public import proofs.«01_k».proof.Proof.GluDxVal
public import proofs.«01_k».proof.Proof.ConvInDxVal
public import proofs.«01_k».proof.Proof.QueryDxVal
public import proofs.«01_k».proof.Proof.KvVal
public import proofs.«01_k».proof.Proof.KvDxVal
public import proofs.«01_k».proof.Proof.KvDwVal
public import proofs.«01_k».proof.Defs
public import proofs.«01_k».proof.Proof.Gen.Kernel
public import proofs.«01_k».proof.Proof.BFrame
public import proofs.«01_k».proof.Proof.IFrame
public import proofs.«01_k».proof.Proof.Runs
public import proofs.«01_k».proof.Proof.Masks
public import proofs.«01_k».proof.Proof.Pre
public import Idealize.ShloMosaic.Adequacy
public import Idealize.ShloMosaic.Init

@[expose] public section

noncomputable section

namespace Cert.Proof

open Idealize.ShloMosaic Idealize.SL.Sem Cert.S5

/-- The reference's frame: it declares no semaphore. -/
theorem reference_frame : Cert.quiescent_ReferenceIdeal := fun m g _ =>
  (θ_run Cert.ReferenceIdeal.defs _ _).mono (fun r h => ⟨fun c => (h c).2.2.2.2.2.2.2.2, sem_eq_zero_of_no_sems (by decide) r.2⟩)
    (Cert.ReferenceIdeal.Value.run (F := Ideal) m g)

/-- The real arrays of the kernel's arguments. -/
def dataAt (m : (ℓ : Loc Cert.KernelIdeal.nD Cert.KernelIdeal.τ Cert.KernelIdeal.sig) → Buf (Elt Ideal) ℓ) (c : Dev Cert.KernelIdeal.nD) : Data :=
  dataOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))

theorem algebraic : Cert.algebraic_KernelIdeal_ReferenceIdeal_on_grouped_pre_finite := by
  intro m g m' g' hpre hagree
  have hD : ∀ c : Dev Cert.KernelIdeal.nD, Fits (dataAt m c) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := fun c =>
    fits_of _ _ _ _ _ _ _ _ _ _ _ _ (congrFun (hpre c) ix0)
  refine ⟨fun c => oh (dataAt m c), fun c => obre (dataAt m c), fun c => obim (dataAt m c), fun c => ocre (dataAt m c), fun c => ocim (dataAt m c), fun c => oar (dataAt m c), fun c => oai (dataAt m c), fun c => od (dataAt m c), ?_, ?_⟩
  · refine (θ_run Cert.KernelIdeal.defs _ _).mono (fun r h c => ?_) (kernel_run m g (dataAt m) hD)
    obtain ⟨h0, h1, h2, h3, h4, h5, h6, h7, ha⟩ := h c
    exact ⟨fun i _ => congrFun h0 i, fun i _ => congrFun h1 i, fun i _ => congrFun h2 i, fun i _ => congrFun h3 i, fun i _ => congrFun h4 i, fun i _ => congrFun h5 i, fun i _ => congrFun h6 i, fun i _ => congrFun h7 i, ha⟩
  · have hD' : ∀ c : Dev Cert.ReferenceIdeal.nD, Fits (dataAt m c) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) (m' ((c.tc : Thread Cert.ReferenceIdeal.nD Cert.ReferenceIdeal.τ).loc Cert.ReferenceIdeal.main_arg10)) (m' ((c.tc : Thread Cert.ReferenceIdeal.nD Cert.ReferenceIdeal.τ).loc Cert.ReferenceIdeal.main_arg11)) := fun c => by
      obtain ⟨e0, e1, e2, e3, e4, e5, e6, e7, e8, e9, e10, e11⟩ := hagree c
      rw [e0, e1, e2, e3, e4, e5, e6, e7, e8, e9, e10, e11]
      exact hD c
    refine (θ_run Cert.ReferenceIdeal.defs _ _).mono (fun r h c => ?_) (reference_run m' g' (dataAt m) hD')
    obtain ⟨h0, h1, h2, h3, h4, h5, h6, h7, ha⟩ := h c
    refine ⟨fun i _ => h0 i, fun i hm => h1 i ?_, fun i hm => h2 i ?_, fun i hm => h3 i ?_, fun i hm => h4 i ?_, fun i _ => h5 i, fun i _ => h6 i, fun i _ => h7 i, ha⟩
    · exact same_of ((mask1_at (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (i 0) (i 1) (i 2)).symm.trans ((congrArg _ (eq_ix3 i).symm).trans hm))
    · exact same_of ((mask2_at (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (i 0) (i 1) (i 2)).symm.trans ((congrArg _ (eq_ix3 i).symm).trans hm))
    · exact same_of' ((mask3_at (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (i 0) (i 1) (i 2)).symm.trans ((congrArg _ (eq_ix3 i).symm).trans hm))
    · exact same_of' ((mask4_at (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (i 0) (i 1) (i 2)).symm.trans ((congrArg _ (eq_ix3 i).symm).trans hm))

/-- The plain program of the DownDw call: it declares no semaphore. -/
theorem DownDw_frame : Cert.quiescent_DownDwRefIdeal := fun m g _ =>
  (θ_run Cert.DownDwRefIdeal.defs _ _).mono (fun r h => ⟨fun c => (h c).2, sem_eq_zero_of_no_sems (by decide) r.2⟩)
    (Cert.DownDwRefIdeal.Value.run (F := Ideal) m g)
/-- The plain program of the UpDw call: it declares no semaphore. -/
theorem UpDw_frame : Cert.quiescent_UpDwRefIdeal := fun m g _ =>
  (θ_run Cert.UpDwRefIdeal.defs _ _).mono (fun r h => ⟨fun c => (h c).2, sem_eq_zero_of_no_sems (by decide) r.2⟩)
    (Cert.UpDwRefIdeal.Value.run (F := Ideal) m g)
/-- The plain program of the DownDx call: it declares no semaphore. -/
theorem DownDx_frame : Cert.quiescent_DownDxRefIdeal := fun m g _ =>
  (θ_run Cert.DownDxRefIdeal.defs _ _).mono (fun r h => ⟨fun c => (h c).2, sem_eq_zero_of_no_sems (by decide) r.2⟩)
    (Cert.DownDxRefIdeal.Value.run (F := Ideal) m g)
/-- The plain program of the UpDx call: it declares no semaphore. -/
theorem UpDx_frame : Cert.quiescent_UpDxRefIdeal := fun m g _ =>
  (θ_run Cert.UpDxRefIdeal.defs _ _).mono (fun r h => ⟨fun c => (h c).2.2.2, sem_eq_zero_of_no_sems (by decide) r.2⟩)
    (Cert.UpDxRefIdeal.Value.run (F := Ideal) m g)
/-- The plain program of the Up call: it declares no semaphore. -/
theorem Up_frame : Cert.quiescent_UpRefIdeal := fun m g _ =>
  (θ_run Cert.UpRefIdeal.defs _ _).mono (fun r h => ⟨fun c => (h c).2.2.2, sem_eq_zero_of_no_sems (by decide) r.2⟩)
    (Cert.UpRefIdeal.Value.run (F := Ideal) m g)
/-- The plain program of the Down call: it declares no semaphore. -/
theorem Down_frame : Cert.quiescent_DownRefIdeal := fun m g _ =>
  (θ_run Cert.DownRefIdeal.defs _ _).mono (fun r h => ⟨fun c => (h c).2, sem_eq_zero_of_no_sems (by decide) r.2⟩)
    (Cert.DownRefIdeal.Value.run (F := Ideal) m g)
/-- The plain program of the Proj call: it declares no semaphore. -/
theorem Proj_frame : Cert.quiescent_ProjRefIdeal := fun m g _ =>
  (θ_run Cert.ProjRefIdeal.defs _ _).mono (fun r h => ⟨fun c => (h c).2, sem_eq_zero_of_no_sems (by decide) r.2⟩)
    (Cert.ProjRefIdeal.Value.run (F := Ideal) m g)
/-- The plain program of the ProjDx call: it declares no semaphore. -/
theorem ProjDx_frame : Cert.quiescent_ProjDxRefIdeal := fun m g _ =>
  (θ_run Cert.ProjDxRefIdeal.defs _ _).mono (fun r h => ⟨fun c => (h c).2, sem_eq_zero_of_no_sems (by decide) r.2⟩)
    (Cert.ProjDxRefIdeal.Value.run (F := Ideal) m g)
/-- The plain program of the ProjDw call: it declares no semaphore. -/
theorem ProjDw_frame : Cert.quiescent_ProjDwRefIdeal := fun m g _ =>
  (θ_run Cert.ProjDwRefIdeal.defs _ _).mono (fun r h => ⟨fun c => (h c).2, sem_eq_zero_of_no_sems (by decide) r.2⟩)
    (Cert.ProjDwRefIdeal.Value.run (F := Ideal) m g)
/-- The plain program of the ConvIn call: it declares no semaphore. -/
theorem ConvIn_frame : Cert.quiescent_ConvInRefIdeal := fun m g _ =>
  (θ_run Cert.ConvInRefIdeal.defs _ _).mono (fun r h => ⟨fun c => (h c).2.2, sem_eq_zero_of_no_sems (by decide) r.2⟩)
    (Cert.ConvInRefIdeal.Value.run (F := Ideal) m g)
/-- The plain program of the ConvInDw call: it declares no semaphore. -/
theorem ConvInDw_frame : Cert.quiescent_ConvInDwRefIdeal := fun m g _ =>
  (θ_run Cert.ConvInDwRefIdeal.defs _ _).mono (fun r h => ⟨fun c => (h c).2, sem_eq_zero_of_no_sems (by decide) r.2⟩)
    (Cert.ConvInDwRefIdeal.Value.run (F := Ideal) m g)
/-- The plain program of the Query call: it declares no semaphore. -/
theorem Query_frame : Cert.quiescent_QueryRefIdeal := fun m g _ =>
  (θ_run Cert.QueryRefIdeal.defs _ _).mono (fun r h => ⟨fun c => (h c).2.2, sem_eq_zero_of_no_sems (by decide) r.2⟩)
    (Cert.QueryRefIdeal.Value.run (F := Ideal) m g)
/-- The plain program of the Glu call: it declares no semaphore. -/
theorem Glu_frame : Cert.quiescent_GluRefIdeal := fun m g _ =>
  (θ_run Cert.GluRefIdeal.defs _ _).mono (fun r h => ⟨fun c => (h c).2.2, sem_eq_zero_of_no_sems (by decide) r.2⟩)
    (Cert.GluRefIdeal.Value.run (F := Ideal) m g)
/-- The plain program of the GluDw call: it declares no semaphore. -/
theorem GluDw_frame : Cert.quiescent_GluDwRefIdeal := fun m g _ =>
  (θ_run Cert.GluDwRefIdeal.defs _ _).mono (fun r h => ⟨fun c => (h c).2, sem_eq_zero_of_no_sems (by decide) r.2⟩)
    (Cert.GluDwRefIdeal.Value.run (F := Ideal) m g)
/-- The plain program of the GluDx call: it declares no semaphore. -/
theorem GluDx_frame : Cert.quiescent_GluDxRefIdeal := fun m g _ =>
  (θ_run Cert.GluDxRefIdeal.defs _ _).mono (fun r h => ⟨fun c => (h c).2, sem_eq_zero_of_no_sems (by decide) r.2⟩)
    (Cert.GluDxRefIdeal.Value.run (F := Ideal) m g)
/-- The plain program of the ConvInDx call: it declares no semaphore. -/
theorem ConvInDx_frame : Cert.quiescent_ConvInDxRefIdeal := fun m g _ =>
  (θ_run Cert.ConvInDxRefIdeal.defs _ _).mono (fun r h => ⟨fun c => (h c).2.2.2, sem_eq_zero_of_no_sems (by decide) r.2⟩)
    (Cert.ConvInDxRefIdeal.Value.run (F := Ideal) m g)
/-- The plain program of the QueryDx call: it declares no semaphore. -/
theorem QueryDx_frame : Cert.quiescent_QueryDxRefIdeal := fun m g _ =>
  (θ_run Cert.QueryDxRefIdeal.defs _ _).mono (fun r h => ⟨fun c => (h c).2.2.2, sem_eq_zero_of_no_sems (by decide) r.2⟩)
    (Cert.QueryDxRefIdeal.Value.run (F := Ideal) m g)
/-- The plain program of the Kv call: it declares no semaphore. -/
theorem Kv_frame : Cert.quiescent_KvRefIdeal := fun m g _ =>
  (θ_run Cert.KvRefIdeal.defs _ _).mono (fun r h => ⟨fun c => (h c).2, sem_eq_zero_of_no_sems (by decide) r.2⟩)
    (Cert.KvRefIdeal.Value.run (F := Ideal) m g)
/-- The plain program of the KvDx call: it declares no semaphore. -/
theorem KvDx_frame : Cert.quiescent_KvDxRefIdeal := fun m g _ =>
  (θ_run Cert.KvDxRefIdeal.defs _ _).mono (fun r h => ⟨fun c => (h c).2, sem_eq_zero_of_no_sems (by decide) r.2⟩)
    (Cert.KvDxRefIdeal.Value.run (F := Ideal) m g)
/-- The plain program of the KvDw call: it declares no semaphore. -/
theorem KvDw_frame : Cert.quiescent_KvDwRefIdeal := fun m g _ =>
  (θ_run Cert.KvDwRefIdeal.defs _ _).mono (fun r h => ⟨fun c => (h c).2, sem_eq_zero_of_no_sems (by decide) r.2⟩)
    (Cert.KvDwRefIdeal.Value.run (F := Ideal) m g)

theorem claim : Cert.Claim := ⟨Cert.Kernel.Gen.facts, Cert.KernelIdeal.Gen.facts, Cert.ReferenceIdeal.Gen.facts,
  Cert.DownDw.Gen.facts, Cert.DownDwIdeal.Gen.facts, Cert.DownDwRefIdeal.Gen.facts,
  Cert.UpDw.Gen.facts, Cert.UpDwIdeal.Gen.facts, Cert.UpDwRefIdeal.Gen.facts,
  Cert.DownDx.Gen.facts, Cert.DownDxIdeal.Gen.facts, Cert.DownDxRefIdeal.Gen.facts,
  Cert.UpDx.Gen.facts, Cert.UpDxIdeal.Gen.facts, Cert.UpDxRefIdeal.Gen.facts,
  Cert.Up.Gen.facts, Cert.UpIdeal.Gen.facts, Cert.UpRefIdeal.Gen.facts,
  Cert.Down.Gen.facts, Cert.DownIdeal.Gen.facts, Cert.DownRefIdeal.Gen.facts,
  Cert.Proj.Gen.facts, Cert.ProjIdeal.Gen.facts, Cert.ProjRefIdeal.Gen.facts,
  Cert.ProjDx.Gen.facts, Cert.ProjDxIdeal.Gen.facts, Cert.ProjDxRefIdeal.Gen.facts,
  Cert.ProjDw.Gen.facts, Cert.ProjDwIdeal.Gen.facts, Cert.ProjDwRefIdeal.Gen.facts,
  Cert.ConvIn.Gen.facts, Cert.ConvInIdeal.Gen.facts, Cert.ConvInRefIdeal.Gen.facts,
  Cert.ConvInDw.Gen.facts, Cert.ConvInDwIdeal.Gen.facts, Cert.ConvInDwRefIdeal.Gen.facts,
  Cert.Query.Gen.facts, Cert.QueryIdeal.Gen.facts, Cert.QueryRefIdeal.Gen.facts,
  Cert.Glu.Gen.facts, Cert.GluIdeal.Gen.facts, Cert.GluRefIdeal.Gen.facts,
  Cert.GluDw.Gen.facts, Cert.GluDwIdeal.Gen.facts, Cert.GluDwRefIdeal.Gen.facts,
  Cert.GluDx.Gen.facts, Cert.GluDxIdeal.Gen.facts, Cert.GluDxRefIdeal.Gen.facts,
  Cert.ConvInDx.Gen.facts, Cert.ConvInDxIdeal.Gen.facts, Cert.ConvInDxRefIdeal.Gen.facts,
  Cert.QueryDx.Gen.facts, Cert.QueryDxIdeal.Gen.facts, Cert.QueryDxRefIdeal.Gen.facts,
  Cert.Kv.Gen.facts, Cert.KvIdeal.Gen.facts, Cert.KvRefIdeal.Gen.facts,
  Cert.KvDx.Gen.facts, Cert.KvDxIdeal.Gen.facts, Cert.KvDxRefIdeal.Gen.facts,
  Cert.KvDw.Gen.facts, Cert.KvDwIdeal.Gen.facts, Cert.KvDwRefIdeal.Gen.facts,
  Cert.S5.preFacts, Cert.Pre_finite4.Gen.facts, Cert.On_grouped.Gen.facts,
  fun m g _ => Cert.Kernel.Gen.frame m g, fun m g _ => Cert.KernelIdeal.Gen.frame m g, fun m g _ => Cert.KernelIdeal.Gen.frame m g,
  reference_frame, fun m g _ => reference_frame m g trivial,
  fun m g _ => Cert.DownDw.Gen.frame m g, fun m g _ => Cert.DownDwIdeal.Gen.frame m g, DownDw_frame,
  fun m g _ => Cert.UpDw.Gen.frame m g, fun m g _ => Cert.UpDwIdeal.Gen.frame m g, UpDw_frame,
  fun m g _ => Cert.DownDx.Gen.frame m g, fun m g _ => Cert.DownDxIdeal.Gen.frame m g, fun m g _ => Cert.DownDxIdeal.Gen.frame m g, DownDx_frame, fun m g _ => DownDx_frame m g trivial,
  fun m g _ => Cert.UpDx.Gen.frame m g, fun m g _ => Cert.UpDxIdeal.Gen.frame m g, UpDx_frame,
  fun m g _ => Cert.Up.Gen.frame m g, fun m g _ => Cert.UpIdeal.Gen.frame m g, Up_frame,
  fun m g _ => Cert.Down.Gen.frame m g, fun m g _ => Cert.DownIdeal.Gen.frame m g, Down_frame,
  fun m g _ => Cert.Proj.Gen.frame m g, fun m g _ => Cert.ProjIdeal.Gen.frame m g, Proj_frame,
  fun m g _ => Cert.ProjDx.Gen.frame m g, fun m g _ => Cert.ProjDxIdeal.Gen.frame m g, ProjDx_frame,
  fun m g _ => Cert.ProjDw.Gen.frame m g, fun m g _ => Cert.ProjDwIdeal.Gen.frame m g, ProjDw_frame,
  fun m g _ => Cert.ConvIn.Gen.frame m g, fun m g _ => Cert.ConvInIdeal.Gen.frame m g, ConvIn_frame,
  fun m g _ => Cert.ConvInDw.Gen.frame m g, fun m g _ => Cert.ConvInDwIdeal.Gen.frame m g, ConvInDw_frame,
  fun m g _ => Cert.Query.Gen.frame m g, fun m g _ => Cert.QueryIdeal.Gen.frame m g, Query_frame,
  fun m g _ => Cert.Glu.Gen.frame m g, fun m g _ => Cert.GluIdeal.Gen.frame m g, Glu_frame,
  fun m g _ => Cert.GluDw.Gen.frame m g, fun m g _ => Cert.GluDwIdeal.Gen.frame m g, GluDw_frame,
  fun m g _ => Cert.GluDx.Gen.frame m g, fun m g _ => Cert.GluDxIdeal.Gen.frame m g, GluDx_frame,
  fun m g _ => Cert.ConvInDx.Gen.frame m g, fun m g _ => Cert.ConvInDxIdeal.Gen.frame m g, ConvInDx_frame,
  fun m g _ => Cert.QueryDx.Gen.frame m g, fun m g _ => Cert.QueryDxIdeal.Gen.frame m g, QueryDx_frame,
  fun m g _ => Cert.Kv.Gen.frame m g, fun m g _ => Cert.KvIdeal.Gen.frame m g, Kv_frame,
  fun m g _ => Cert.KvDx.Gen.frame m g, fun m g _ => Cert.KvDxIdeal.Gen.frame m g, KvDx_frame,
  fun m g _ => Cert.KvDw.Gen.frame m g, fun m g _ => Cert.KvDwIdeal.Gen.frame m g, KvDw_frame,
  ⟨IdealRules.named_const.statement Cert.KernelIdeal.κ "gelu_a" .f32 0x3D372713#32 ((8943 / 200000 : ℝ) : EReal) rfl,
    IdealRules.named_const.statement Cert.KernelIdeal.κ "gelu_3a" .f32 0x3E095D4F#32 ((26829 / 200000 : ℝ) : EReal) rfl⟩,
  algebraic,
  trivial, Cert.DownDwIdeal.Ffn.algebraic,
  trivial, Cert.UpDwIdeal.Ffn.algebraic,
  trivial, Cert.DownDxIdeal.Ffn.algebraic,
  trivial, Cert.UpDxIdeal.Mm.algebraic,
  trivial, Cert.UpIdeal.Ffn.algebraic,
  trivial, Cert.DownIdeal.Ffn.algebraic,
  trivial, Cert.ProjIdeal.Mm.algebraic,
  trivial, Cert.ProjDxIdeal.Mm.algebraic,
  trivial, Cert.ProjDwIdeal.Mm.algebraic,
  trivial, Cert.ConvInIdeal.Mm.algebraic,
  trivial, Cert.ConvInDwIdeal.Mm.algebraic,
  trivial, Cert.QueryIdeal.Mm.algebraic,
  trivial, Cert.GluIdeal.Mm.algebraic,
  trivial, Cert.GluDwIdeal.Mm.algebraic,
  trivial, Cert.GluDxIdeal.Mm.algebraic,
  trivial, Cert.ConvInDxIdeal.Mm.algebraic,
  trivial, Cert.QueryDxIdeal.Mm.algebraic,
  trivial, Cert.KvIdeal.Mm.algebraic,
  trivial, Cert.KvDxIdeal.Mm.algebraic,
  trivial, Cert.KvDwIdeal.Mm.algebraic⟩

end Cert.Proof

end
